-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_1)) (v1 : (c : Dev Cert.Kernel2Ideal.nD) → Buf (Elt Ideal) ((c.tc : Thread Cert.Kernel2Ideal.nD Cert.Kernel2Ideal.τ).loc Cert.Kernel2Ideal.main_v7_0)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_1) = v0 c
          ∧ r.2.mem ((c.tc : Thread Cert.Kernel2Ideal.nD Cert.Kernel2Ideal.τ).loc Cert.Kernel2Ideal.main_v7_0) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v9) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_v73) = v2 c
          ∧ r.2.mem ((c.tc : Thread Cert.Reference2Ideal.nD Cert.Reference2Ideal.τ).loc Cert.Reference2Ideal.main_v48) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v11_1)) (v1 : (c : Dev Cert.Kernel5Ideal.nD) → Buf (Elt Ideal) ((c.tc : Thread Cert.Kernel5Ideal.nD Cert.Kernel5Ideal.τ).loc Cert.Kernel5Ideal.main_v12_4)) (v2 : (c : Dev Cert.Kernel5Ideal.nD) → Buf (Elt Ideal) ((c.tc : Thread Cert.Kernel5Ideal.nD Cert.Kernel5Ideal.τ).loc Cert.Kernel5Ideal.main_v14_0)) (v3 : (c : Dev Cert.Kernel5Ideal.nD) → Buf (Elt Ideal) ((c.tc : Thread Cert.Kernel5Ideal.nD Cert.Kernel5Ideal.τ).loc Cert.Kernel5Ideal.main_v15)) (v4 : (c : Dev Cert.Kernel5Ideal.nD) → Buf (Elt Ideal) ((c.tc : Thread Cert.Kernel5Ideal.nD Cert.Kernel5Ideal.τ).loc Cert.Kernel5Ideal.main_v16)) (v5 : (c : Dev Cert.Kernel5Ideal.nD) → Buf (Elt Ideal) ((c.tc : Thread Cert.Kernel5Ideal.nD Cert.Kernel5Ideal.τ).loc Cert.Kernel5Ideal.main_v13_4)) (v6 : (c : Dev Cert.Kernel5Ideal.nD) → Buf (Elt Ideal) ((c.tc : Thread Cert.Kernel5Ideal.nD Cert.Kernel5Ideal.τ).loc Cert.Kernel5Ideal.main_v13_5)) (v7 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_1) = v0 c
          ∧ r.2.mem ((c.tc : Thread Cert.Kernel5Ideal.nD Cert.Kernel5Ideal.τ).loc Cert.Kernel5Ideal.main_v12_4) = v1 c
          ∧ r.2.mem ((c.tc : Thread Cert.Kernel5Ideal.nD Cert.Kernel5Ideal.τ).loc Cert.Kernel5Ideal.main_v14_0) = v2 c
          ∧ r.2.mem ((c.tc : Thread Cert.Kernel5Ideal.nD Cert.Kernel5Ideal.τ).loc Cert.Kernel5Ideal.main_v15) = v3 c
          ∧ r.2.mem ((c.tc : Thread Cert.Kernel5Ideal.nD Cert.Kernel5Ideal.τ).loc Cert.Kernel5Ideal.main_v16) = v4 c
          ∧ r.2.mem ((c.tc : Thread Cert.Kernel5Ideal.nD Cert.Kernel5Ideal.τ).loc Cert.Kernel5Ideal.main_v13_4) = v5 c
          ∧ r.2.mem ((c.tc : Thread Cert.Kernel5Ideal.nD Cert.Kernel5Ideal.τ).loc Cert.Kernel5Ideal.main_v13_5) = v6 c
          ∧ r.2.mem ((c.tc : Thread Cert.Kernel5Ideal.nD Cert.Kernel5Ideal.τ).loc Cert.Kernel5Ideal.main_v17) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_v113) = v2 c
          ∧ r.2.mem ((c.tc : Thread Cert.Reference5Ideal.nD Cert.Reference5Ideal.τ).loc Cert.Reference5Ideal.main_v98) = v3 c
          ∧ r.2.mem ((c.tc : Thread Cert.Reference5Ideal.nD Cert.Reference5Ideal.τ).loc Cert.Reference5Ideal.main_v90) = v4 c
          ∧ r.2.mem ((c.tc : Thread Cert.Reference5Ideal.nD Cert.Reference5Ideal.τ).loc Cert.Reference5Ideal.main_v114) = v5 c
          ∧ r.2.mem ((c.tc : Thread Cert.Reference5Ideal.nD Cert.Reference5Ideal.τ).loc Cert.Reference5Ideal.main_v115) = v6 c
          ∧ r.2.mem ((c.tc : Thread Cert.Reference5Ideal.nD Cert.Reference5Ideal.τ).loc Cert.Reference5Ideal.main_v61) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Pre_finite2.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024 .f32) (main_arg5 : FVec F S8192x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x4096 .f32) (main_arg3 : FVec F S4096x1024 .f32) (main_arg4 : FVec F S1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_finite5.lean ====
abbrev S8192x1024 : Shape := ⟨2, ![8192, 1024]⟩
abbrev S1024 : Shape := ⟨1, ![1024]⟩
abbrev S1024x2304 : Shape := ⟨2, ![1024, 2304]⟩
abbrev S1024x2048 : Shape := ⟨2, ![1024, 2048]⟩
abbrev S2048 : Shape := ⟨1, ![2048]⟩
abbrev S1024x1024 : Shape := ⟨2, ![1024, 1024]⟩
abbrev S8192x2304 : Shape := ⟨2, ![8192, 2304]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2304 : S_.BroadcastsInDim S1024x2304 (![] : Fin 0 → Fin S1024x2304.rank)
  reducesTo_S1024x2304_S_d0_1 : S1024x2304.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x2304 : S_.BroadcastsInDim S8192x2304 (![] : Fin 0 → Fin S8192x2304.rank)
  reducesTo_S8192x2304_S_d0_1 : S8192x2304.ReducesTo [0, 1] S_

variable [Facts]

def fn_part3 {F : FTy → Type} [FloatOps F] (main_arg11 : FVec F S8192x2304 .f32) (main_arg12 : FVec F S8192x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S8192x2304 .f32 := Host.absf main_arg11
  let main_cst_20 : FVec F S_ .f32 := constant S_ .f32 0x7F800000#32
  let main_v55 : FVec F S8192x2304 .f32 := broadcastInDim S8192x2304 ![] bcast_S_S8192x2304 main_cst_20
  let main_v56 : IVec S8192x2304 1 := cmpf .olt main_v54 main_v55
  let main_c_21 : IVec S_ 1 := constantI S_ 1 1#1
  let main_v57 : IVec S_ 1 := (fun x v => Host.reduce IntOp.andi x v reducesTo_S8192x2304_S_d0_1 h_S_) main_v56 main_c_21
  let main_v58 : IVec S_ 1 := andi main_v53 main_v57
  let main_v59 : FVec F S8192x1024 .f32 := Host.absf main_arg12
  let main_cst_22 : FVec F S_ .f32 := constant S_ .f32 0x7F800000#32
  let main_v60 : FVec F S8192x1024 .f32 := broadcastInDim S8192x1024 ![] bcast_S_S8192x1024 main_cst_22
  let main_v61 : IVec S8192x1024 1 := cmpf .olt main_v59 main_v60
  let main_c_23 : IVec S_ 1 := constantI S_ 1 1#1
  let main_v62 : IVec S_ 1 := (fun x v => Host.reduce IntOp.andi x v reducesTo_S8192x1024_S_d0_1 h_S_) main_v61 main_c_23
  let main_v63 : IVec S_ 1 := andi main_v58 main_v62
  main_v63

def fn_part2 {F : FTy → Type} [FloatOps F] (main_arg7 : FVec F S1024x1024 .f32) (main_arg8 : FVec F S1024x1024 .f32) (main_arg9 : FVec F S1024x1024 .f32) (main_arg10 : FVec F S1024 .f32) (main_arg11 : FVec F S8192x2304 .f32) (main_arg12 : FVec F S8192x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S2048 .f32) (main_arg5 : FVec F S8192x1024 .f32) (main_arg6 : FVec F S8192x1024 .f32) (main_arg7 : FVec F S1024x1024 .f32) (main_arg8 : FVec F S1024x1024 .f32) (main_arg9 : FVec F S1024x1024 .f32) (main_arg10 : FVec F S1024 .f32) (main_arg11 : FVec F S8192x2304 .f32) (main_arg12 : FVec F S8192x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S1024 .f32) (main_arg2 : FVec F S1024x2304 .f32) (main_arg3 : FVec F S1024x2048 .f32) (main_arg4 : FVec F S2048 .f32) (main_arg5 : FVec F S8192x1024 .f32) (main_arg6 : FVec F S8192x1024 .f32) (main_arg7 : FVec F S1024x1024 .f32) (main_arg8 : FVec F S1024x1024 .f32) (main_arg9 : FVec F S1024x1024 .f32) (main_arg10 : FVec F S1024 .f32) (main_arg11 : FVec F S8192x2304 .f32) (main_arg12 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2304 .f32 := Host.absf main_arg2
  let main_cst_2 : FVec F S_ .f32 := constant S_ .f32 0x7F800000#32
  let main_v10 : FVec F S1024x2304 .f32 := broadcastInDim S1024x2304 ![] bcast_S_S1024x2304 main_cst_2
  let main_v11 : IVec S1024x2304 1 := cmpf .olt main_v9 main_v10
  let main_c_3 : IVec S_ 1 := constantI S_ 1 1#1
  let main_v12 : IVec S_ 1 := (fun x v => Host.reduce IntOp.andi x v reducesTo_S1024x2304_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_v13 main_v16
-- ==== Kernel.lean ====
abbrev S8192x8x96 : Shape := ⟨3, ![8192, 8, 96]⟩
abbrev S8192x8x64 : Shape := ⟨3, ![8192, 8, 64]⟩
abbrev S_ : Shape := ⟨0, ![]⟩
abbrev S8192x16x16 : Shape := ⟨3, ![8192, 16, 16]⟩
abbrev S8192x16x96 : Shape := ⟨3, ![8192, 16, 96]⟩
abbrev S8192x16x8 : Shape := ⟨3, ![8192, 16, 8]⟩
abbrev S8192x16x32 : Shape := ⟨3, ![8192, 16, 32]⟩
abbrev S8192x16x128 : Shape := ⟨3, ![8192, 16, 128]⟩
abbrev S8192x8x128 : Shape := ⟨3, ![8192, 8, 128]⟩
abbrev S8192x1024 : Shape := ⟨2, ![8192, 1024]⟩
abbrev S8192x8x1 : Shape := ⟨3, ![8192, 8, 1]⟩
abbrev S8192x8x63 : Shape := ⟨3, ![8192, 8, 63]⟩
abbrev S1024x128 : Shape := ⟨2, ![1024, 128]⟩
abbrev S8192x128 : Shape := ⟨2, ![8192, 128]⟩
abbrev S256x128 : Shape := ⟨2, ![256, 128]⟩
abbrev S256x8192 : Shape := ⟨2, ![256, 8192]⟩
abbrev S256 : Shape := ⟨1, ![256]⟩
abbrev S256x1 : Shape := ⟨2, ![256, 1]⟩
abbrev S1024x8192 : Shape := ⟨2, ![1024, 8192]⟩
abbrev S512x128 : Shape := ⟨2, ![512, 128]⟩
abbrev S128x8192 : Shape := ⟨2, ![128, 8192]⟩
abbrev S128x256 : Shape := ⟨2, ![128, 256]⟩
abbrev S8192x2048 : Shape := ⟨2, ![8192, 2048]⟩

abbrev nBuf : Space → Nat
  | .hbm => 61
  | .vmem => 28
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S8192x16x16, .f32⟩
  | .hbm, ⟨6, _⟩ => ⟨S8192x16x96, .f32⟩
  | .hbm, ⟨7, _⟩ => ⟨S8192x16x8, .f32⟩
  | .hbm, ⟨8, _⟩ => ⟨S8192x16x8, .f32⟩
  | .hbm, ⟨9, _⟩ => ⟨S8192x16x32, .f32⟩
  | .hbm, ⟨10, _⟩ => ⟨S8192x16x8, .f32⟩
  | .hbm, ⟨11, _⟩ => ⟨S8192x16x8, .f32⟩
  | .hbm, ⟨12, _⟩ => ⟨S8192x16x32, .f32⟩
  | .hbm, ⟨13, _⟩ => ⟨S8192x16x128, .f32⟩
  | .hbm, ⟨14, _⟩ => ⟨S8192x8x128, .f32⟩
  | .hbm, ⟨15, _⟩ => ⟨S8192x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x8x128, .f32⟩
  | .hbm, ⟨24, _⟩ => ⟨S8192x1024, .f32⟩
  | .hbm, ⟨25, _⟩ => ⟨S8192x1024, .bf16⟩
  | .hbm, ⟨26, _⟩ => ⟨S_, .f32⟩
  | .hbm, ⟨27, _⟩ => ⟨S8192x8x1, .f32⟩
  | .hbm, ⟨28, _⟩ => ⟨S_, .f32⟩
  | .hbm, ⟨29, _⟩ => ⟨S8192x8x63, .f32⟩
  | .hbm, ⟨30, _⟩ => ⟨S8192x8x128, .f32⟩
  | .hbm, ⟨31, _⟩ => ⟨S8192x1024, .f32⟩
  | .hbm, ⟨32, _⟩ => ⟨S8192x1024, .bf16⟩
  | .hbm, ⟨33, _⟩ => ⟨S_, .f32⟩
  | .hbm, ⟨34, _⟩ => ⟨S8192x8x64, .f32⟩
  | .hbm, ⟨35, _⟩ => ⟨S8192x8x128, .f32⟩
  | .hbm, ⟨36, _⟩ => ⟨S8192x1024, .f32⟩
  | .hbm, ⟨37, _⟩ => ⟨S8192x1024, .bf16⟩
  | .hbm, ⟨38, _⟩ => ⟨S8192x1024, .bf16⟩
  | .hbm, ⟨39, _⟩ => ⟨S8192x1024, .f32⟩
  | .hbm, ⟨40, _⟩ => ⟨S8192x1024, .f32⟩
  | .hbm, ⟨41, _⟩ => ⟨S1024x8192, .f32⟩
  | .hbm, ⟨42, _⟩ => ⟨S1024x8192, .f32⟩
  | .hbm, ⟨43, _⟩ => ⟨S8192x8x128, .bf16⟩
  | .hbm, ⟨44, _⟩ => ⟨S8192x8x64, .bf16⟩
  | .hbm, ⟨45, _⟩ => ⟨S8192x8x64, .f32⟩
  | .hbm, ⟨46, _⟩ => ⟨S8192x1024, .f32⟩
  | .hbm, ⟨47, _⟩ => ⟨S8192x2048, .f32⟩
  | .hbm, ⟨48, _⟩ => ⟨S8192x16x128, .f32⟩
  | .hbm, ⟨49, _⟩ => ⟨S8192x16x32, .f32⟩
  | .hbm, ⟨50, _⟩ => ⟨S8192x16x32, .f32⟩
  | .hbm, ⟨51, _⟩ => ⟨S8192x16x8, .f32⟩
  | .hbm, ⟨52, _⟩ => ⟨S8192x16x8, .f32⟩
  | .hbm, ⟨53, _⟩ => ⟨S8192x16x8, .f32⟩
  | .hbm, ⟨54, _⟩ => ⟨S8192x16x8, .f32⟩
  | .hbm, ⟨55, _⟩ => ⟨S8192x16x96, .f32⟩
  | .hbm, ⟨56, _⟩ => ⟨S8192x8x96, .f32⟩
  | .hbm, ⟨57, _⟩ => ⟨S8192x8x96, .f32⟩
  | .hbm, ⟨58, _⟩ => ⟨S8192x1024, .f32⟩
  | .hbm, ⟨59, _⟩ => ⟨S8192x8x128, .f32⟩
  | .hbm, ⟨60, _⟩ => ⟨S8192x8x64, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S8192x128, .bf16⟩
  | .local _ .vmem, ⟨19, _⟩ => ⟨S8192x128, .bf16⟩
  | .local _ .vmem, ⟨20, _⟩ => ⟨S8192x128, .bf16⟩
  | .local _ .vmem, ⟨21, _⟩ => ⟨S8192x128, .bf16⟩
  | .local _ .vmem, ⟨22, _⟩ => ⟨S512x128, .f32⟩
  | .local _ .vmem, ⟨23, _⟩ => ⟨S512x128, .f32⟩
  | .local _ .vmem, ⟨24, _⟩ => ⟨S128x8192, .f32⟩
  | .local _ .vmem, ⟨25, _⟩ => ⟨S128x8192, .f32⟩
  | .local _ .vmem, ⟨26, _⟩ => ⟨S128x8192, .f32⟩
  | .local _ .vmem, ⟨27, _⟩ => ⟨S128x8192, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 1, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S8192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S8192x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S128x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S128x8192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | _ => none
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 73
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .i1⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .i1⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x64x8192, .f32⟩
  | .hbm, ⟨47, _⟩ => ⟨S8192x8x64, .f32⟩
  | .hbm, ⟨48, _⟩ => ⟨S8x64x8192, .f32⟩
  | .hbm, ⟨49, _⟩ => ⟨S8x8192x8192, .f32⟩
  | .hbm, ⟨50, _⟩ => ⟨S8x64x8192, .f32⟩
  | .hbm, ⟨51, _⟩ => ⟨S8192x8x64, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192x8192, .f32⟩
  | .hbm, ⟨68, _⟩ => ⟨S8x8192x8192, .f32⟩
  | .hbm, ⟨69, _⟩ => ⟨S8x8192x96, .f32⟩
  | .hbm, ⟨70, _⟩ => ⟨S8192x8x96, .f32⟩
  | .hbm, ⟨71, _⟩ => ⟨S8x8192x96, .f32⟩
  | .hbm, ⟨72, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 22
  | .vmem => 44
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S8192x1024, .bf16⟩
  | .hbm, ⟨11, _⟩ => ⟨S8192x4096, .bf16⟩
  | .hbm, ⟨12, _⟩ => ⟨S8192x4096, .bf16⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S8192x4096, .bf16⟩
  | .hbm, ⟨17, _⟩ => ⟨S1x1024, .f32⟩
  | .hbm, ⟨18, _⟩ => ⟨S8192x1024, .f32⟩
  | .hbm, ⟨19, _⟩ => ⟨S1x1024, .f32⟩
  | .hbm, ⟨20, _⟩ => ⟨S1024, .f32⟩
  | .hbm, ⟨21, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S4096x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S4096x1024, .bf16⟩
  | .local _ .vmem, ⟨26, _⟩ => ⟨S512x4096, .bf16⟩
  | .local _ .vmem, ⟨27, _⟩ => ⟨S512x4096, .bf16⟩
  | .local _ .vmem, ⟨28, _⟩ => ⟨S512x1024, .bf16⟩
  | .local _ .vmem, ⟨29, _⟩ => ⟨S512x1024, .bf16⟩
  | .local _ .vmem, ⟨30, _⟩ => ⟨S512x4096, .bf16⟩
  | .local _ .vmem, ⟨31, _⟩ => ⟨S512x4096, .bf16⟩
  | .local _ .vmem, ⟨32, _⟩ => ⟨S1x1024, .f32⟩
  | .local _ .vmem, ⟨33, _⟩ => ⟨S512x4096, .bf16⟩
  | .local _ .vmem, ⟨34, _⟩ => ⟨S512x4096, .bf16⟩
  | .local _ .vmem, ⟨35, _⟩ => ⟨S1024x4096, .bf16⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5_0 : Ref sig .tc := ⟨.hbm, 13, rfl⟩
abbrev main_v5_1 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg6_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem4_1 : DmaSem sig := 40
abbrev cc3_sem5_0 : DmaSem sig := 41
abbrev cc3_sem5_1 : DmaSem sig := 42
abbrev cc3_sem6_0 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]
-- ==== Reference2Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 119
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .i1⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x4096, .f32⟩
  | .hbm, ⟨88, _⟩ => ⟨S8192x4096, .f32⟩
  | .hbm, ⟨89, _⟩ => ⟨S_, .f32⟩
  | .hbm, ⟨90, _⟩ => ⟨S8192x4096, .f32⟩
  | .hbm, ⟨91, _⟩ => ⟨S8192x4096, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S8192x1024, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_19 : Ref sig .tc := ⟨.hbm, 109, rfl⟩
abbrev main_v81 : Ref sig .tc := ⟨.hbm, 110, rfl⟩
abbrev main_v82 : Ref sig .tc := ⟨.hbm, 111, rfl⟩
abbrev main_cst_20 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S1024x4096 : Shape := ⟨2, ![1024, 4096]⟩
abbrev S1024x512 : Shape := ⟨2, ![1024, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x512, .bf16⟩
  | .local _ .vmem, ⟨3, _⟩ => ⟨S1024x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2304 : Shape := ⟨2, ![1024, 2304]⟩
abbrev S1024x2048 : Shape := ⟨2, ![1024, 2048]⟩
abbrev S2048 : Shape := ⟨1, ![2048]⟩
abbrev S1024x1024 : Shape := ⟨2, ![1024, 1024]⟩
abbrev S8192x2304 : Shape := ⟨2, ![8192, 2304]⟩
abbrev S1x1024 : Shape := ⟨2, ![1, 1024]⟩
abbrev S1x2048 : Shape := ⟨2, ![1, 2048]⟩
abbrev S8192x2048 : Shape := ⟨2, ![8192, 2048]⟩
abbrev S512x1024 : Shape := ⟨2, ![512, 1024]⟩
abbrev S512x2304 : Shape := ⟨2, ![512, 2304]⟩
abbrev S512x2048 : Shape := ⟨2, ![512, 2048]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1024x512 : Shape := ⟨2, ![1024, 512]⟩
abbrev S512x512 : Shape := ⟨2, ![512, 512]⟩
abbrev S1x512 : Shape := ⟨2, ![1, 512]⟩

abbrev nBuf : Space → Nat
  | .hbm => 45
  | .vmem => 76
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2304, .f32⟩
  | .hbm, ⟨3, _⟩ => ⟨S1024x2048, .f32⟩
  | .hbm, ⟨4, _⟩ => ⟨S2048, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S8192x2304, .f32⟩
  | .hbm, ⟨12, _⟩ => ⟨S8192x1024, .f32⟩
  | .hbm, ⟨13, _⟩ => ⟨S1x1024, .f32⟩
  | .hbm, ⟨14, _⟩ => ⟨S1x2048, .f32⟩
  | .hbm, ⟨15, _⟩ => ⟨S1x1024, .f32⟩
  | .hbm, ⟨16, _⟩ => ⟨S1024x2304, .bf16⟩
  | .hbm, ⟨17, _⟩ => ⟨S1024x2048, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S8192x1024, .bf16⟩
  | .hbm, ⟨22, _⟩ => ⟨S8192x1024, .bf16⟩
  | .hbm, ⟨23, _⟩ => ⟨S8192x2304, .bf16⟩
  | .hbm, ⟨24, _⟩ => ⟨S8192x1024, .bf16⟩
  | .hbm, ⟨25, _⟩ => ⟨S8192x2304, .f32⟩
  | .hbm, ⟨26, _⟩ => ⟨S8192x2048, .bf16⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8192x1024, .bf16⟩
  | .hbm, ⟨35, _⟩ => ⟨S8192x2048, .bf16⟩
  | .hbm, ⟨36, _⟩ => ⟨S8192x1024, .bf16⟩
  | .hbm, ⟨37, _⟩ => ⟨S8192x1024, .bf16⟩
  | .hbm, ⟨38, _⟩ => ⟨S1x1024, .f32⟩
  | .hbm, ⟨39, _⟩ => ⟨S1x2048, .f32⟩
  | .hbm, ⟨40, _⟩ => ⟨S8192x1024, .f32⟩
  | .hbm, ⟨41, _⟩ => ⟨S1x1024, .f32⟩
  | .hbm, ⟨42, _⟩ => ⟨S1024, .f32⟩
  | .hbm, ⟨43, _⟩ => ⟨S2048, .f32⟩
  | .hbm, ⟨44, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1024x2048, .bf16⟩
  | .local _ .vmem, ⟨5, _⟩ => ⟨S1x2048, .f32⟩
  | .local _ .vmem, ⟨6, _⟩ => ⟨S512x1024, .bf16⟩
  | .local _ .vmem, ⟨7, _⟩ => ⟨S512x1024, .bf16⟩
  | .local _ .vmem, ⟨8, _⟩ => ⟨S512x2304, .f32⟩
  | .local _ .vmem, ⟨9, _⟩ => ⟨S512x2304, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | .local _ .vmem, ⟨39, _⟩ => ⟨S1024x1024, .bf16⟩
  | .local _ .vmem, ⟨40, _⟩ => ⟨S512x2048, .bf16⟩
  | .local _ .vmem, ⟨41, _⟩ => ⟨S512x2048, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S1024x1024, .bf16⟩
  | .local _ .vmem, ⟨47, _⟩ => ⟨S1024x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S512x2048, .bf16⟩
  | .local _ .vmem, ⟨55, _⟩ => ⟨S512x2048, .bf16⟩
  | .local _ .vmem, ⟨56, _⟩ => ⟨S512x1024, .bf16⟩
  | .local _ .vmem, ⟨57, _⟩ => ⟨S512x1024, .bf16⟩
  | .local _ .vmem, ⟨58, _⟩ => ⟨S512x1024, .bf16⟩
  | .local _ .vmem, ⟨59, _⟩ => ⟨S512x1024, .bf16⟩
  | .local _ .vmem, ⟨60, _⟩ => ⟨S1x1024, .f32⟩
  | .local _ .vmem, ⟨61, _⟩ => ⟨S1x2048, .f32⟩
  | .local _ .vmem, ⟨62, _⟩ => ⟨S512x2304, .bf16⟩
  | .local _ .vmem, ⟨63, _⟩ => ⟨S512x2304, .bf16⟩
  | .local _ .vmem, ⟨64, _⟩ => ⟨S512x2048, .bf16⟩
  | .local _ .vmem, ⟨65, _⟩ => ⟨S512x2048, .bf16⟩
  | .local _ .vmem, ⟨66, _⟩ => ⟨S1024x2304, .bf16⟩
  | .local _ .vmem, ⟨67, _⟩ => ⟨S1024x2048, .bf16⟩
  | .local _ .vmem, ⟨68, _⟩ => ⟨S512x1024, .f32⟩
  | .local _ .vmem, ⟨69, _⟩ => ⟨S512x1024, .f32⟩
  | .local _ .vmem, ⟨70, _⟩ => ⟨S1x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v12_4 : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev main_v13_3 : Ref sig .tc := ⟨.hbm, 35, rfl⟩
abbrev main_v13_4 : Ref sig .tc := ⟨.hbm, 36, rfl⟩
abbrev main_v13_5 : Ref sig .tc := ⟨.hbm, 37, rfl⟩
abbrev main_v13_6 : Ref sig .tc := ⟨.hbm, 38, rfl⟩
abbrev main_v13_7 : Ref sig .tc := ⟨.hbm, 39, rfl⟩
abbrev main_v14_0 : Ref sig .tc := ⟨.hbm, 40, rfl⟩
abbrev main_v14_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg9_1 : Ref sig .tc := ⟨.vmem, 49, rfl⟩
abbrev cc2_stg10_0 : Ref sig .tc := ⟨.vmem, 50, rfl⟩
abbrev cc2_stg10_1 : Ref sig .tc := ⟨.vmem, 51, rfl⟩
abbrev cc2_stg11_0 : Ref sig .tc := ⟨.vmem, 52, rfl⟩
abbrev cc2_stg11_1 : Ref sig .tc := ⟨.vmem, 53, rfl⟩
abbrev cc2_stg12_0 : Ref sig .tc := ⟨.vmem, 54, rfl⟩
abbrev cc2_stg12_1 : Ref sig .tc := ⟨.vmem, 55, rfl⟩
abbrev cc2_stg13_0 : Ref sig .tc := ⟨.vmem, 56, rfl⟩
abbrev cc2_stg13_1 : Ref sig .tc := ⟨.vmem, 57, rfl⟩
abbrev cc2_stg14_0 : Ref sig .tc := ⟨.vmem, 58, rfl⟩
abbrev cc2_stg14_1 : Ref sig .tc := ⟨.vmem, 59, rfl⟩
abbrev cc2_stg15_0 : Ref sig .tc := ⟨.vmem, 60, rfl⟩
abbrev cc2_stg16_0 : Ref sig .tc := ⟨.vmem, 61, rfl⟩
abbrev cc3_stg0_0 : Ref sig .tc := ⟨.vmem, 62, rfl⟩
abbrev cc3_stg0_1 : Ref sig .tc := ⟨.vmem, 63, rfl⟩
abbrev cc3_stg1_0 : Ref sig .tc := ⟨.vmem, 64, rfl⟩
abbrev cc3_stg1_1 : Ref sig .tc := ⟨.vmem, 65, rfl⟩
abbrev cc3_stg2_0 : Ref sig .tc := ⟨.vmem, 66, rfl⟩
abbrev cc3_stg3_0 : Ref sig .tc := ⟨.vmem, 67, rfl⟩
abbrev cc3_stg4_0 : Ref sig .tc := ⟨.vmem, 68, rfl⟩
abbrev cc3_stg4_1 : Ref sig .tc := ⟨.vmem, 69, rfl⟩
abbrev cc3_stg5_0 : Ref sig .tc := ⟨.vmem, 70, rfl⟩
abbrev cc3_stg6_0 : Ref sig .tc := ⟨.vmem, 71, rfl⟩
abbrev cc3_stg6_1 : Ref sig .tc := ⟨.vmem, 72, rfl⟩
abbrev cc3_stg7_0 : Ref sig .tc := ⟨.vmem, 73, rfl⟩
abbrev cc3_stg7_1 : Ref sig .tc := ⟨.vmem, 74, rfl⟩
abbrev cc3_stg8_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem8_0 : DmaSem sig := 47
abbrev cc2_sem9_0 : DmaSem sig := 48
abbrev cc2_sem9_1 : DmaSem sig := 49
abbrev cc2_sem10_0 : DmaSem sig := 50
abbrev cc2_sem10_1 : DmaSem sig := 51
abbrev cc2_sem11_0 : DmaSem sig := 52
abbrev cc2_sem11_1 : DmaSem sig := 53
abbrev cc2_sem12_0 : DmaSem sig := 54
abbrev cc2_sem12_1 : DmaSem sig := 55
abbrev cc2_sem13_0 : DmaSem sig := 56
abbrev cc2_sem13_1 : DmaSem sig := 57
abbrev cc2_sem14_0 : DmaSem sig := 58
abbrev cc2_sem14_1 : DmaSem sig := 59
abbrev cc2_sem15_0 : DmaSem sig := 60
abbrev cc2_sem16_0 : DmaSem sig := 61
abbrev cc3_sem0_0 : DmaSem sig := 62
abbrev cc3_sem0_1 : DmaSem sig := 63
abbrev cc3_sem1_0 : DmaSem sig := 64
abbrev cc3_sem1_1 : DmaSem sig := 65
abbrev cc3_sem2_0 : DmaSem sig := 66
abbrev cc3_sem3_0 : DmaSem sig := 67
abbrev cc3_sem4_0 : DmaSem sig := 68
abbrev cc3_sem4_1 : DmaSem sig := 69
abbrev cc3_sem5_0 : DmaSem sig := 70
abbrev cc3_sem6_0 : DmaSem sig := 71
abbrev cc3_sem6_1 : DmaSem sig := 72
abbrev cc3_sem7_0 : DmaSem sig := 73
abbrev cc3_sem7_1 : DmaSem sig := 74
abbrev cc3_sem8_0 : DmaSem sig := 75

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x1024 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S512x2048 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S512x1024 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S512x1024 .bf16 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 1 → Memref sig .tc .vmem S1x1024 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x2048 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x2304 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x2304 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]
-- ==== Reference5Ideal.lean ====
abbrev S8192x1024 : Shape := ⟨2, ![8192, 1024]⟩
abbrev S1024 : Shape := ⟨1, ![1024]⟩
abbrev S1024x2304 : Shape := ⟨2, ![1024, 2304]⟩
abbrev S1024x2048 : Shape := ⟨2, ![1024, 2048]⟩
abbrev S2048 : Shape := ⟨1, ![2048]⟩
abbrev S1024x1024 : Shape := ⟨2, ![1024, 1024]⟩
abbrev S8192x2304 : Shape := ⟨2, ![8192, 2304]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩

abbrev nBuf : Space → Nat
  | .hbm => 154
  | .vmem => 0
  | .smem => 0
  | _ => 0

abbrev hbmTy0_0 (i : Nat) : BufTy := match i % 128 with
  | 0 => ⟨S8192x1024, .f32⟩
  | 1 => ⟨S1024, .f32⟩
  | 2 => ⟨S1024x2304, .f32⟩
  | 3 => ⟨S1024x2048, .f32⟩
  | 4 => ⟨S2048, .f32⟩
  | 5 => ⟨S8192x1024, .f32⟩
  | 6 => ⟨S8192x1024, .f32⟩
  | 7 => ⟨S1024x1024, .f32⟩
  | 8 => ⟨S1024x1024, .f32⟩
  | 9 => ⟨S1024x1024, .f32⟩
  | 10 => ⟨S1024, .f32⟩
  | 11 => ⟨S8192x2304, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x2048, .f32⟩
  | 34 => ⟨S1x2048, .f32⟩
  | 35 => ⟨S8192x2048, .f32⟩
  | 36 => ⟨S8192x2048, .f32⟩
  | 37 => ⟨S8192x2048, .f32⟩
  | 38 => ⟨S8192x2048, .f32⟩
  | 39 => ⟨S_, .f32⟩
  | 40 => ⟨S8192x2048, .f32⟩
  | 41 => ⟨S8192x2048, .f32⟩
  | 42 => ⟨S_, .f32⟩
  | 43 => ⟨S8192x2048, .f32⟩
  | 44 => ⟨S8192x2048, .f32⟩
  | 45 => ⟨S_, .f32⟩
  | 46 => ⟨S8192x2048, .f32⟩
  | 47 => ⟨S8192x2048, .f32⟩
  | 48 => ⟨S8192x2048, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x2304, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S_, .f32⟩
  | 87 => ⟨S1024, .f32⟩
  | 88 => ⟨S8192x1024, .f32⟩
  | 89 => ⟨S_, .f32⟩
  | 90 => ⟨S8192, .f32⟩
  | 91 => ⟨S8192x1, .f32⟩
  | 92 => ⟨S8192x1024, .f32⟩
  | 93 => ⟨S8192x1024, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S8192x2048, .f32⟩
  | 115 => ⟨S_, .f32⟩
  | 116 => ⟨S8192x2048, .f32⟩
  | 117 => ⟨S8192x2048, .f32⟩
  | 118 => ⟨S8192x2048, .f32⟩
  | 119 => ⟨S_, .f32⟩
  | 120 => ⟨S2048, .f32⟩
  | 121 => ⟨S1x2048, .f32⟩
  | 122 => ⟨S_, .f32⟩
  | 123 => ⟨S2048, .f32⟩
  | 124 => ⟨S8192x1024, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S_, .f32⟩
  | 5 => ⟨S1024, .f32⟩
  | 6 => ⟨S8192x1024, .f32⟩
  | 7 => ⟨S_, .f32⟩
  | 8 => ⟨S8192, .f32⟩
  | 9 => ⟨S8192x1, .f32⟩
  | 10 => ⟨S8192x1024, .f32⟩
  | 11 => ⟨S8192x1024, .f32⟩
  | 12 => ⟨S8192x1024, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .bf16⟩
  | 25 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_19 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_20 : Ref sig .tc := ⟨.hbm, 132, rfl⟩
abbrev main_v98 : Ref sig .tc := ⟨.hbm, 133, rfl⟩
abbrev main_v99 : Ref sig .tc := ⟨.hbm, 134, rfl⟩
abbrev main_cst_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_22 : Ref sig .tc := ⟨.hbm, 142, rfl⟩
abbrev main_v106 : Ref sig .tc := ⟨.hbm, 143, rfl⟩
abbrev main_v107 : Ref sig .tc := ⟨.hbm, 144, rfl⟩
abbrev main_cst_23 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩

abbrev nD : Nat := 1
abbrev τ : Topo := Topo.v7x

variable {F : FTy → Type} [FloatOps F]
-- ==== Kernel6.lean ====
abbrev S8192x1024 : Shape := ⟨2, ![8192, 1024]⟩
abbrev S8192x2304 : Shape := ⟨2, ![8192, 2304]⟩
abbrev S1024x2304 : Shape := ⟨2, ![1024, 2304]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2304, .f32⟩
  | .hbm, ⟨2, _⟩ => ⟨S8192x1024, .bf16⟩
  | .hbm, ⟨3, _⟩ => ⟨S8192x2304, .bf16⟩
  | .hbm, ⟨4, _⟩ => ⟨S1024x2304, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2304, .f32⟩
  | .hbm, ⟨2, _⟩ => ⟨S_, .f32⟩
  | .hbm, ⟨3, _⟩ => ⟨S1024x2304, .f32⟩
  | .hbm, ⟨4, _⟩ => ⟨S8192x2304, .f32⟩
  | .hbm, ⟨5, _⟩ => ⟨S2304x1024, .f32⟩
  | .hbm, ⟨6, _⟩ => ⟨S1024x2304, .f32⟩
  | .hbm, ⟨7, _⟩ => ⟨S1024x2304, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference9Ideal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel10.lean ====
abbrev S4096x1024 : Shape := ⟨2, ![4096, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x1024 : Shape := ⟨2, ![4096, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S216x128 : Shape := ⟨2, ![216, 128]⟩
abbrev S8x216x128 : Shape := ⟨3, ![8, 216, 128]⟩
abbrev S1x216x128 : Shape := ⟨3, ![1, 216, 128]⟩

abbrev nBuf : Space → Nat
  | .hbm => 8
  | .vmem => 8
  | .smem => 0
  | _ => 0

abbrev bufTy : (tb : Table) → Fin (tcTables nBuf tb) → BufTy
  | .hbm, ⟨0, _⟩ => ⟨S216x128, .f32⟩
  | .hbm, ⟨1, _⟩ => ⟨S8x216x128, .f32⟩
  | .hbm, ⟨2, _⟩ => ⟨S216x128, .f32⟩
  | .hbm, ⟨3, _⟩ => ⟨S216x128, .f32⟩
  | .hbm, ⟨4, _⟩ => ⟨S216x128, .f32⟩
  | .hbm, ⟨5, _⟩ => ⟨S216x128, .f32⟩
  | .hbm, ⟨6, _⟩ => ⟨S216x128, .f32⟩
  | .hbm, ⟨7, _⟩ => ⟨S216x128, .f32⟩
  | .local _ .vmem, ⟨0, _⟩ => ⟨S216x128, .f32⟩
  | .local _ .vmem, ⟨1, _⟩ => ⟨S8x216x128, .f32⟩
  | .local _ .vmem, ⟨2, _⟩ => ⟨S216x128, .f32⟩
  | .local _ .vmem, ⟨3, _⟩ => ⟨S216x128, .f32⟩
  | .local _ .vmem, ⟨4, _⟩ => ⟨S216x128, .f32⟩
  | .local _ .vmem, ⟨5, _⟩ => ⟨S216x128, .f32⟩
  | .local _ .vmem, ⟨6, _⟩ => ⟨S216x128, .f32⟩
  | .local _ .vmem, ⟨7, _⟩ => ⟨S216x128, .f32⟩
  | _, _ => ⟨S216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S216x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference11Ideal.lean ====
abbrev S216x128 : Shape := ⟨2, ![216, 128]⟩
abbrev S8x216x128 : Shape := ⟨3, ![8, 216, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S216x128, .f32⟩
  | .hbm, ⟨1, _⟩ => ⟨S8x216x128, .f32⟩
  | .hbm, ⟨2, _⟩ => ⟨S216x128, .f32⟩
  | .hbm, ⟨3, _⟩ => ⟨S216x128, .f32⟩
  | .hbm, ⟨4, _⟩ => ⟨S_, .f32⟩
  | .hbm, ⟨5, _⟩ => ⟨S216x128, .f32⟩
  | .hbm, ⟨6, _⟩ => ⟨S_, .f32⟩
  | .hbm, ⟨7, _⟩ => ⟨S216x128, .f32⟩
  | .hbm, ⟨8, _⟩ => ⟨S216x128, .f32⟩
  | .hbm, ⟨9, _⟩ => ⟨S_, .f32⟩
  | .hbm, ⟨10, _⟩ => ⟨S216x128, .f32⟩
  | .hbm, ⟨11, _⟩ => ⟨S216x128, .f32⟩
  | .hbm, ⟨12, _⟩ => ⟨S216x128, .f32⟩
  | .hbm, ⟨13, _⟩ => ⟨S_, .f32⟩
  | .hbm, ⟨14, _⟩ => ⟨S216x128, .f32⟩
  | .hbm, ⟨15, _⟩ => ⟨S216x128, .f32⟩
  | .hbm, ⟨16, _⟩ => ⟨S216x128, .f32⟩
  | .hbm, ⟨17, _⟩ => ⟨S_, .f32⟩
  | .hbm, ⟨18, _⟩ => ⟨S216x128, .f32⟩
  | .hbm, ⟨19, _⟩ => ⟨S216x128, .f32⟩
  | .hbm, ⟨20, _⟩ => ⟨S216x128, .f32⟩
  | .hbm, ⟨21, _⟩ => ⟨S_, .f32⟩
  | .hbm, ⟨22, _⟩ => ⟨S216x128, .f32⟩
  | .hbm, ⟨23, _⟩ => ⟨S216x128, .f32⟩
  | .hbm, ⟨24, _⟩ => ⟨S_, .f32⟩
  | .hbm, ⟨25, _⟩ => ⟨S216x128, .f32⟩
  | .hbm, ⟨26, _⟩ => ⟨S216x128, .f32⟩
  | .hbm, ⟨27, _⟩ => ⟨S216x128, .f32⟩
  | .hbm, ⟨28, _⟩ => ⟨S_, .f32⟩
  | .hbm, ⟨29, _⟩ => ⟨S216x128, .f32⟩
  | .hbm, ⟨30, _⟩ => ⟨S216x128, .f32⟩
  | .hbm, ⟨31, _⟩ => ⟨S216x128, .f32⟩
  | .hbm, ⟨32, _⟩ => ⟨S_, .f32⟩
  | .hbm, ⟨33, _⟩ => ⟨S216x128, .f32⟩
  | .hbm, ⟨34, _⟩ => ⟨S216x128, .f32⟩
  | .hbm, ⟨35, _⟩ => ⟨S216x128, .f32⟩
  | .hbm, ⟨36, _⟩ => ⟨S_, .f32⟩
  | .hbm, ⟨37, _⟩ => ⟨S216x128, .f32⟩
  | .hbm, ⟨38, _⟩ => ⟨S216x128, .f32⟩
  | _, _ => ⟨S216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S4096x872 : Shape := ⟨2, ![4096, 872]⟩
abbrev S256x872 : Shape := ⟨2, ![256, 872]⟩

abbrev nBuf : Space → Nat
  | .hbm => 9
  | .vmem => 18
  | .smem => 0
  | _ => 0

abbrev bufTy : (tb : Table) → Fin (tcTables nBuf tb) → BufTy
  | .hbm, ⟨0, _⟩ => ⟨S4096x872, .f32⟩
  | .hbm, ⟨1, _⟩ => ⟨S4096x872, .f32⟩
  | .hbm, ⟨2, _⟩ => ⟨S4096x872, .f32⟩
  | .hbm, ⟨3, _⟩ => ⟨S4096x872, .f32⟩
  | .hbm, ⟨4, _⟩ => ⟨S4096x872, .f32⟩
  | .hbm, ⟨5, _⟩ => ⟨S4096x872, .f32⟩
  | .hbm, ⟨6, _⟩ => ⟨S4096x872, .f32⟩
  | .hbm, ⟨7, _⟩ => ⟨S4096x872, .f32⟩
  | .hbm, ⟨8, _⟩ => ⟨S4096x872, .f32⟩
  | .local _ .vmem, ⟨0, _⟩ => ⟨S256x872, .f32⟩
  | .local _ .vmem, ⟨1, _⟩ => ⟨S256x872, .f32⟩
  | .local _ .vmem, ⟨2, _⟩ => ⟨S256x872, .f32⟩
  | .local _ .vmem, ⟨3, _⟩ => ⟨S256x872, .f32⟩
  | .local _ .vmem, ⟨4, _⟩ => ⟨S256x872, .f32⟩
  | .local _ .vmem, ⟨5, _⟩ => ⟨S256x872, .f32⟩
  | .local _ .vmem, ⟨6, _⟩ => ⟨S256x872, .f32⟩
  | .local _ .vmem, ⟨7, _⟩ => ⟨S256x872, .f32⟩
  | .local _ .vmem, ⟨8, _⟩ => ⟨S256x872, .f32⟩
  | .local _ .vmem, ⟨9, _⟩ => ⟨S256x872, .f32⟩
  | .local _ .vmem, ⟨10, _⟩ => ⟨S256x872, .f32⟩
  | .local _ .vmem, ⟨11, _⟩ => ⟨S256x872, .f32⟩
  | .local _ .vmem, ⟨12, _⟩ => ⟨S256x872, .f32⟩
  | .local _ .vmem, ⟨13, _⟩ => ⟨S256x872, .f32⟩
  | .local _ .vmem, ⟨14, _⟩ => ⟨S256x872, .f32⟩
  | .local _ .vmem, ⟨15, _⟩ => ⟨S256x872, .f32⟩
  | .local _ .vmem, ⟨16, _⟩ => ⟨S256x872, .f32⟩
  | .local _ .vmem, ⟨17, _⟩ => ⟨S256x872, .f32⟩
  | _, _ => ⟨S4096x872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x872 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x872 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x872 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x872 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x872 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x872 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x872 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x872 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x872 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x872 : Shape := ⟨2, ![4096, 872]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x872, .f32⟩
  | .hbm, ⟨1, _⟩ => ⟨S4096x872, .f32⟩
  | .hbm, ⟨2, _⟩ => ⟨S4096x872, .f32⟩
  | .hbm, ⟨3, _⟩ => ⟨S4096x872, .f32⟩
  | .hbm, ⟨4, _⟩ => ⟨S4096x872, .f32⟩
  | .hbm, ⟨5, _⟩ => ⟨S4096x872, .f32⟩
  | .hbm, ⟨6, _⟩ => ⟨S_, .f32⟩
  | .hbm, ⟨7, _⟩ => ⟨S4096x872, .f32⟩
  | .hbm, ⟨8, _⟩ => ⟨S4096x872, .f32⟩
  | .hbm, ⟨9, _⟩ => ⟨S_, .f32⟩
  | .hbm, ⟨10, _⟩ => ⟨S4096x872, .f32⟩
  | .hbm, ⟨11, _⟩ => ⟨S4096x872, .f32⟩
  | .hbm, ⟨12, _⟩ => ⟨S4096x872, .f32⟩
  | .hbm, ⟨13, _⟩ => ⟨S_, .f32⟩
  | .hbm, ⟨14, _⟩ => ⟨S4096x872, .f32⟩
  | .hbm, ⟨15, _⟩ => ⟨S4096x872, .f32⟩
  | .hbm, ⟨16, _⟩ => ⟨S4096x872, .f32⟩
  | .hbm, ⟨17, _⟩ => ⟨S_, .f32⟩
  | .hbm, ⟨18, _⟩ => ⟨S4096x872, .f32⟩
  | .hbm, ⟨19, _⟩ => ⟨S4096x872, .f32⟩
  | .hbm, ⟨20, _⟩ => ⟨S4096x872, .f32⟩
  | .hbm, ⟨21, _⟩ => ⟨S_, .f32⟩
  | .hbm, ⟨22, _⟩ => ⟨S4096x872, .f32⟩
  | .hbm, ⟨23, _⟩ => ⟨S4096x872, .f32⟩
  | .hbm, ⟨24, _⟩ => ⟨S_, .f32⟩
  | .hbm, ⟨25, _⟩ => ⟨S4096x872, .f32⟩
  | .hbm, ⟨26, _⟩ => ⟨S4096x872, .f32⟩
  | .hbm, ⟨27, _⟩ => ⟨S4096x872, .f32⟩
  | .hbm, ⟨28, _⟩ => ⟨S_, .f32⟩
  | .hbm, ⟨29, _⟩ => ⟨S4096x872, .f32⟩
  | .hbm, ⟨30, _⟩ => ⟨S4096x872, .f32⟩
  | .hbm, ⟨31, _⟩ => ⟨S4096x872, .f32⟩
  | .hbm, ⟨32, _⟩ => ⟨S_, .f32⟩
  | .hbm, ⟨33, _⟩ => ⟨S4096x872, .f32⟩
  | .hbm, ⟨34, _⟩ => ⟨S4096x872, .f32⟩
  | .hbm, ⟨35, _⟩ => ⟨S4096x872, .f32⟩
  | .hbm, ⟨36, _⟩ => ⟨S_, .f32⟩
  | .hbm, ⟨37, _⟩ => ⟨S4096x872, .f32⟩
  | .hbm, ⟨38, _⟩ => ⟨S4096x872, .f32⟩
  | _, _ => ⟨S4096x872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S1536x192 : Shape := ⟨2, ![1536, 192]⟩
abbrev S256x192 : Shape := ⟨2, ![256, 192]⟩

abbrev nBuf : Space → Nat
  | .hbm => 9
  | .vmem => 18
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S1536x192, .f32⟩
  | .hbm, ⟨6, _⟩ => ⟨S1536x192, .f32⟩
  | .hbm, ⟨7, _⟩ => ⟨S1536x192, .f32⟩
  | .hbm, ⟨8, _⟩ => ⟨S1536x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | _, _ => ⟨S1536x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1536x192 : Shape := ⟨2, ![1536, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1536x192, .f32⟩
  | .hbm, ⟨1, _⟩ => ⟨S1536x192, .f32⟩
  | .hbm, ⟨2, _⟩ => ⟨S1536x192, .f32⟩
  | .hbm, ⟨3, _⟩ => ⟨S1536x192, .f32⟩
  | .hbm, ⟨4, _⟩ => ⟨S1536x192, .f32⟩
  | .hbm, ⟨5, _⟩ => ⟨S1536x192, .f32⟩
  | .hbm, ⟨6, _⟩ => ⟨S_, .f32⟩
  | .hbm, ⟨7, _⟩ => ⟨S1536x192, .f32⟩
  | .hbm, ⟨8, _⟩ => ⟨S1536x192, .f32⟩
  | .hbm, ⟨9, _⟩ => ⟨S_, .f32⟩
  | .hbm, ⟨10, _⟩ => ⟨S1536x192, .f32⟩
  | .hbm, ⟨11, _⟩ => ⟨S1536x192, .f32⟩
  | .hbm, ⟨12, _⟩ => ⟨S1536x192, .f32⟩
  | .hbm, ⟨13, _⟩ => ⟨S_, .f32⟩
  | .hbm, ⟨14, _⟩ => ⟨S1536x192, .f32⟩
  | .hbm, ⟨15, _⟩ => ⟨S1536x192, .f32⟩
  | .hbm, ⟨16, _⟩ => ⟨S1536x192, .f32⟩
  | .hbm, ⟨17, _⟩ => ⟨S_, .f32⟩
  | .hbm, ⟨18, _⟩ => ⟨S1536x192, .f32⟩
  | .hbm, ⟨19, _⟩ => ⟨S1536x192, .f32⟩
  | .hbm, ⟨20, _⟩ => ⟨S1536x192, .f32⟩
  | .hbm, ⟨21, _⟩ => ⟨S_, .f32⟩
  | .hbm, ⟨22, _⟩ => ⟨S1536x192, .f32⟩
  | .hbm, ⟨23, _⟩ => ⟨S1536x192, .f32⟩
  | .hbm, ⟨24, _⟩ => ⟨S_, .f32⟩
  | .hbm, ⟨25, _⟩ => ⟨S1536x192, .f32⟩
  | .hbm, ⟨26, _⟩ => ⟨S1536x192, .f32⟩
  | .hbm, ⟨27, _⟩ => ⟨S1536x192, .f32⟩
  | .hbm, ⟨28, _⟩ => ⟨S_, .f32⟩
  | .hbm, ⟨29, _⟩ => ⟨S1536x192, .f32⟩
  | .hbm, ⟨30, _⟩ => ⟨S1536x192, .f32⟩
  | .hbm, ⟨31, _⟩ => ⟨S1536x192, .f32⟩
  | .hbm, ⟨32, _⟩ => ⟨S_, .f32⟩
  | .hbm, ⟨33, _⟩ => ⟨S1536x192, .f32⟩
  | .hbm, ⟨34, _⟩ => ⟨S1536x192, .f32⟩
  | .hbm, ⟨35, _⟩ => ⟨S1536x192, .f32⟩
  | .hbm, ⟨36, _⟩ => ⟨S_, .f32⟩
  | .hbm, ⟨37, _⟩ => ⟨S1536x192, .f32⟩
  | .hbm, ⟨38, _⟩ => ⟨S1536x192, .f32⟩
  | _, _ => ⟨S1536x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S1024x256 : Shape := ⟨2, ![1024, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S1024x256 : Shape := ⟨2, ![1024, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S2048x256 : Shape := ⟨2, ![2048, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2048x256 : Shape := ⟨2, ![2048, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S2048x256, .f32⟩
  | .hbm, ⟨8, _⟩ => ⟨S2048x256, .f32⟩
  | .hbm, ⟨9, _⟩ => ⟨S_, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S_, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S_, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S_, .f32⟩
  | .hbm, ⟨37, _⟩ => ⟨S2048x256, .f32⟩
  | .hbm, ⟨38, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S2048x256 : Shape := ⟨2, ![2048, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S2048x256 : Shape := ⟨2, ![2048, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S2048x256, .f32⟩
  | .hbm, ⟨8, _⟩ => ⟨S2048x256, .f32⟩
  | .hbm, ⟨9, _⟩ => ⟨S_, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S_, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S_, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S_, .f32⟩
  | .hbm, ⟨37, _⟩ => ⟨S2048x256, .f32⟩
  | .hbm, ⟨38, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S4096x1024 : Shape := ⟨2, ![4096, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S4096x1024 : Shape := ⟨2, ![4096, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference19Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference20Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S8192x384 : Shape := ⟨2, ![8192, 384]⟩
abbrev S8192x1024 : Shape := ⟨2, ![8192, 1024]⟩
abbrev S384x1024 : Shape := ⟨2, ![384, 1024]⟩
abbrev S2048x384 : Shape := ⟨2, ![2048, 384]⟩
abbrev S2048x512 : Shape := ⟨2, ![2048, 512]⟩
abbrev S384x512 : Shape := ⟨2, ![384, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S8192x384, .bf16⟩
  | .hbm, ⟨3, _⟩ => ⟨S8192x1024, .bf16⟩
  | .hbm, ⟨4, _⟩ => ⟨S384x1024, .bf16⟩
  | .local _ .vmem, ⟨0, _⟩ => ⟨S2048x384, .bf16⟩
  | .local _ .vmem, ⟨1, _⟩ => ⟨S2048x384, .bf16⟩
  | .local _ .vmem, ⟨2, _⟩ => ⟨S2048x512, .bf16⟩
  | .local _ .vmem, ⟨3, _⟩ => ⟨S2048x512, .bf16⟩
  | .local _ .vmem, ⟨4, _⟩ => ⟨S384x512, .bf16⟩
  | .local _ .vmem, ⟨5, _⟩ => ⟨S384x512, .bf16⟩
  | .local _ .vmem, ⟨6, _⟩ => ⟨S384x512, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference21Ideal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 8
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S_, .f32⟩
  | .hbm, ⟨3, _⟩ => ⟨S384x1024, .f32⟩
  | .hbm, ⟨4, _⟩ => ⟨S8192x1024, .f32⟩
  | .hbm, ⟨5, _⟩ => ⟨S1024x384, .f32⟩
  | .hbm, ⟨6, _⟩ => ⟨S384x1024, .f32⟩
  | .hbm, ⟨7, _⟩ => ⟨S384x1024, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference22Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference23Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S4x4096x872 : Shape := ⟨3, ![4, 4096, 872]⟩
abbrev S4096x872 : Shape := ⟨2, ![4096, 872]⟩
abbrev S4x512x872 : Shape := ⟨3, ![4, 512, 872]⟩
abbrev S512x872 : Shape := ⟨2, ![512, 872]⟩
abbrev S1x512x872 : Shape := ⟨3, ![1, 512, 872]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x872, .bf16⟩
  | .hbm, ⟨1, _⟩ => ⟨S4096x872, .f32⟩
  | .local _ .vmem, ⟨0, _⟩ => ⟨S4x512x872, .bf16⟩
  | .local _ .vmem, ⟨1, _⟩ => ⟨S4x512x872, .bf16⟩
  | .local _ .vmem, ⟨2, _⟩ => ⟨S512x872, .f32⟩
  | .local _ .vmem, ⟨3, _⟩ => ⟨S512x872, .f32⟩
  | _, _ => ⟨S4x4096x872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x872 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x872 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference24Ideal.lean ====
abbrev S4x4096x872 : Shape := ⟨3, ![4, 4096, 872]⟩
abbrev S_ : Shape := ⟨0, ![]⟩
abbrev S4096x872 : Shape := ⟨2, ![4096, 872]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x872, .bf16⟩
  | .hbm, ⟨1, _⟩ => ⟨S4x4096x872, .f32⟩
  | .hbm, ⟨2, _⟩ => ⟨S_, .f32⟩
  | .hbm, ⟨3, _⟩ => ⟨S4096x872, .f32⟩
  | _, _ => ⟨S4x4096x872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S4x1536x192 : Shape := ⟨3, ![4, 1536, 192]⟩
abbrev S1536x192 : Shape := ⟨2, ![1536, 192]⟩
abbrev S4x512x192 : Shape := ⟨3, ![4, 512, 192]⟩
abbrev S512x192 : Shape := ⟨2, ![512, 192]⟩
abbrev S1x512x192 : Shape := ⟨3, ![1, 512, 192]⟩

abbrev nBuf : Space → Nat
  | .hbm => 2
  | .vmem => 4
  | .smem => 0
  | _ => 0

abbrev bufTy : (tb : Table) → Fin (tcTables nBuf tb) → BufTy
  | .hbm, ⟨0, _⟩ => ⟨S4x1536x192, .bf16⟩
  | .hbm, ⟨1, _⟩ => ⟨S1536x192, .f32⟩
  | .local _ .vmem, ⟨0, _⟩ => ⟨S4x512x192, .bf16⟩
  | .local _ .vmem, ⟨1, _⟩ => ⟨S4x512x192, .bf16⟩
  | .local _ .vmem, ⟨2, _⟩ => ⟨S512x192, .f32⟩
  | .local _ .vmem, ⟨3, _⟩ => ⟨S512x192, .f32⟩
  | _, _ => ⟨S4x1536x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference25Ideal.lean ====
abbrev S4x1536x192 : Shape := ⟨3, ![4, 1536, 192]⟩
abbrev S_ : Shape := ⟨0, ![]⟩
abbrev S1536x192 : Shape := ⟨2, ![1536, 192]⟩

abbrev nBuf : Space → Nat
  | .hbm => 4
  | .vmem => 0
  | .smem => 0
  | _ => 0

abbrev bufTy : (tb : Table) → Fin (tcTables nBuf tb) → BufTy
  | .hbm, ⟨0, _⟩ => ⟨S4x1536x192, .bf16⟩
  | .hbm, ⟨1, _⟩ => ⟨S4x1536x192, .f32⟩
  | .hbm, ⟨2, _⟩ => ⟨S_, .f32⟩
  | .hbm, ⟨3, _⟩ => ⟨S1536x192, .f32⟩
  | _, _ => ⟨S4x1536x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S4x1024x256 : Shape := ⟨3, ![4, 1024, 256]⟩
abbrev S1024x256 : Shape := ⟨2, ![1024, 256]⟩
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x256, .bf16⟩
  | .hbm, ⟨1, _⟩ => ⟨S1024x256, .f32⟩
  | .local _ .vmem, ⟨0, _⟩ => ⟨S4x512x256, .bf16⟩
  | .local _ .vmem, ⟨1, _⟩ => ⟨S4x512x256, .bf16⟩
  | .local _ .vmem, ⟨2, _⟩ => ⟨S512x256, .f32⟩
  | .local _ .vmem, ⟨3, _⟩ => ⟨S512x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference26Ideal.lean ====
abbrev S4x1024x256 : Shape := ⟨3, ![4, 1024, 256]⟩
abbrev S_ : Shape := ⟨0, ![]⟩
abbrev S1024x256 : Shape := ⟨2, ![1024, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S4x1024x256, .f32⟩
  | .hbm, ⟨2, _⟩ => ⟨S_, .f32⟩
  | .hbm, ⟨3, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S4x2048x256 : Shape := ⟨3, ![4, 2048, 256]⟩
abbrev S2048x256 : Shape := ⟨2, ![2048, 256]⟩
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x256, .bf16⟩
  | .hbm, ⟨1, _⟩ => ⟨S2048x256, .f32⟩
  | .local _ .vmem, ⟨0, _⟩ => ⟨S4x512x256, .bf16⟩
  | .local _ .vmem, ⟨1, _⟩ => ⟨S4x512x256, .bf16⟩
  | .local _ .vmem, ⟨2, _⟩ => ⟨S512x256, .f32⟩
  | .local _ .vmem, ⟨3, _⟩ => ⟨S512x256, .f32⟩
  | _, _ => ⟨S4x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S4x2048x256 : Shape := ⟨3, ![4, 2048, 256]⟩
abbrev S_ : Shape := ⟨0, ![]⟩
abbrev S2048x256 : Shape := ⟨2, ![2048, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x256, .bf16⟩
  | .hbm, ⟨1, _⟩ => ⟨S4x2048x256, .f32⟩
  | .hbm, ⟨2, _⟩ => ⟨S_, .f32⟩
  | .hbm, ⟨3, _⟩ => ⟨S2048x256, .f32⟩
  | _, _ => ⟨S4x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S4x2048x256 : Shape := ⟨3, ![4, 2048, 256]⟩
abbrev S2048x256 : Shape := ⟨2, ![2048, 256]⟩
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x256, .bf16⟩
  | .hbm, ⟨1, _⟩ => ⟨S2048x256, .f32⟩
  | .local _ .vmem, ⟨0, _⟩ => ⟨S4x512x256, .bf16⟩
  | .local _ .vmem, ⟨1, _⟩ => ⟨S4x512x256, .bf16⟩
  | .local _ .vmem, ⟨2, _⟩ => ⟨S512x256, .f32⟩
  | .local _ .vmem, ⟨3, _⟩ => ⟨S512x256, .f32⟩
  | _, _ => ⟨S4x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference28Ideal.lean ====
abbrev S4x2048x256 : Shape := ⟨3, ![4, 2048, 256]⟩
abbrev S_ : Shape := ⟨0, ![]⟩
abbrev S2048x256 : Shape := ⟨2, ![2048, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x256, .bf16⟩
  | .hbm, ⟨1, _⟩ => ⟨S4x2048x256, .f32⟩
  | .hbm, ⟨2, _⟩ => ⟨S_, .f32⟩
  | .hbm, ⟨3, _⟩ => ⟨S2048x256, .f32⟩
  | _, _ => ⟨S4x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel29.lean ====
abbrev S4x1024x1024 : Shape := ⟨3, ![4, 1024, 1024]⟩
abbrev S1024x1024 : Shape := ⟨2, ![1024, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference29Ideal.lean ====
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .f32⟩
  | .hbm, ⟨2, _⟩ => ⟨S_, .f32⟩
  | .hbm, ⟨3, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel30.lean ====
abbrev S4x4096x1024 : Shape := ⟨3, ![4, 4096, 1024]⟩
abbrev S4096x1024 : Shape := ⟨2, ![4096, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x1024, .bf16⟩
  | .hbm, ⟨1, _⟩ => ⟨S4096x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference30Ideal.lean ====
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S_, .f32⟩
  | .hbm, ⟨3, _⟩ => ⟨S4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S4x4096x1024 : Shape := ⟨3, ![4, 4096, 1024]⟩
abbrev S4096x1024 : Shape := ⟨2, ![4096, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x1024, .bf16⟩
  | .hbm, ⟨1, _⟩ => ⟨S4096x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference31Ideal.lean ====
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S_, .f32⟩
  | .hbm, ⟨3, _⟩ => ⟨S4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Spec.lean ====
module

public import Idealize.ShloMosaic.Lib.Pointwise

@[expose] public section

/-!
# Softmax attention of one head and its gradients, over the reals

`AttentionSpec` states the mathematics: the output of softmax attention and the gradients of `∑ ct · y` in the queries,
keys and values, `n` queries and keys, `a` entries per query and key, `b` entries per value. `AttentionLanes` states
what a fused forward and backward pass compute on padded lanes: powers of two, a row's base-2 log of its sum, and the
score gradients from the row's own output. The theorems at the end say that the second is the first.
-/

noncomputable section

namespace AttentionSpec

variable {n a b : ℕ} (c : ℝ) (q k : Fin n → Fin a → ℝ) (v g : Fin n → Fin b → ℝ)

/-- The scaled score of query `i` and key `j`. -/
def score (i j : Fin n) : ℝ := (∑ d, q i d * k j d) * c

/-- The softmax weight of key `j` for query `i`. -/
def prob (i j : Fin n) : ℝ := Real.exp (score c q k i j) / ∑ l, Real.exp (score c q k i l)

/-- The output of query `i`. -/
def out (i : Fin n) (d : Fin b) : ℝ := ∑ j, prob c q k i j * v j d

/-- The gradient in the score of query `i` and key `j`. -/
def dscore (i j : Fin n) : ℝ :=
  prob c q k i j * (∑ d, g i d * v j d - ∑ d, g i d * out c q k v i d)

/-- The gradient in the queries. -/
def dq (i : Fin n) (d : Fin a) : ℝ := (∑ j, dscore c q k v g i j * k j d) * c

/-- The gradient in the keys. -/
def dk (j : Fin n) (d : Fin a) : ℝ := (∑ i, q i d * dscore c q k v g i j) * c

/-- The gradient in the values. -/
def dv (j : Fin n) (d : Fin b) : ℝ := ∑ i, g i d * prob c q k i j

/-- The sum of a row's exponentials is positive. -/
theorem sum_exp_pos (i : Fin n) : 0 < ∑ l, Real.exp (score c q k i l) :=
  Finset.sum_pos (fun _ _ => Real.exp_pos _) ⟨i, Finset.mem_univ i⟩

end AttentionSpec

namespace AttentionLanes

variable {n m : ℕ}

/-- The score of a query row and key `j`, all lanes summed. -/
def score (q : Fin m → ℝ) (k : Fin n → Fin m → ℝ) (j : Fin n) : ℝ := ∑ l, q l * k j l

/-- The sum of the row's powers of two. -/
def total (q : Fin m → ℝ) (k : Fin n → Fin m → ℝ) : ℝ := ∑ j, (2 : ℝ) ^ score q k j

/-- The row's base-2 log of its sum. -/
def lse (q : Fin m → ℝ) (k : Fin n → Fin m → ℝ) : ℝ := Real.log (total q k) / Real.log 2

/-- The row's output at a lane. -/
def out (q : Fin m → ℝ) (k v : Fin n → Fin m → ℝ) (l : Fin m) : ℝ := (∑ j, (2 : ℝ) ^ score q k j * v j l) / total q k

/-- The row's weight at key `j`, from its score and its base-2 log of the sum. -/
def weight (q : Fin m → ℝ) (k : Fin n → Fin m → ℝ) (L : ℝ) (j : Fin n) : ℝ := (2 : ℝ) ^ (score q k j - L)

/-- The row's score gradient at key `j`, from the row's output `o` and log `L`. -/
def dscore (q g o : Fin m → ℝ) (L : ℝ) (k v : Fin n → Fin m → ℝ) (j : Fin n) : ℝ :=
  weight q k L j * (∑ l, g l * v j l - ∑ l, g l * o l)

theorem total_pos [NeZero n] (q : Fin m → ℝ) (k : Fin n → Fin m → ℝ) : 0 < total q k :=
  Finset.sum_pos (fun _ _ => Real.rpow_pos_of_pos two_pos _) ⟨0, Finset.mem_univ _⟩

/-- Subtracting the base-2 log of the sum divides the power of two by the sum. -/
theorem weight_lse [NeZero n] (q : Fin m → ℝ) (k : Fin n → Fin m → ℝ) (j : Fin n) :
    weight q k (lse q k) j = (2 : ℝ) ^ score q k j / total q k := by
  unfold weight lse
  rw [Real.rpow_sub two_pos]
  congr 1
  have h2 : Real.log 2 ≠ 0 := (Real.log_pos (by norm_num)).ne'
  rw [Real.rpow_def_of_pos two_pos, mul_div_cancel₀ _ h2, Real.exp_log (total_pos q k)]

theorem two_rpow_sub (x M : ℝ) : (2 : ℝ) ^ (x - M) = (2 : ℝ) ^ x * ((2 : ℝ) ^ M)⁻¹ := by
  rw [Real.rpow_sub two_pos, div_eq_mul_inv]

/-- A row's sum of powers of two after a shift of its scores. -/
theorem total_shift (q : Fin m → ℝ) (k : Fin n → Fin m → ℝ) (M : ℝ) :
    ∑ j, (2 : ℝ) ^ (score q k j - M) = total q k * ((2 : ℝ) ^ M)⁻¹ := by
  simp only [two_rpow_sub]
  rw [← Finset.sum_mul]; rfl

/-- The output does not change when the scores are shifted. -/
theorem out_shift (q : Fin m → ℝ) (k v : Fin n → Fin m → ℝ) (M : ℝ) (l : Fin m) :
    (∑ j, (2 : ℝ) ^ (score q k j - M) * v j l) / (∑ j, (2 : ℝ) ^ (score q k j - M)) = out q k v l := by
  have h : (2 : ℝ) ^ M ≠ 0 := (Real.rpow_pos_of_pos two_pos _).ne'
  rw [total_shift]
  have e : ∑ j, (2 : ℝ) ^ (score q k j - M) * v j l = (∑ j, (2 : ℝ) ^ score q k j * v j l) * ((2 : ℝ) ^ M)⁻¹ := by
    rw [Finset.sum_mul]
    exact Finset.sum_congr rfl fun j _ => by rw [two_rpow_sub]; ring
  rw [e, out, mul_div_mul_right _ _ (inv_ne_zero h)]

/-- The shift plus the base-2 log of the shifted sum is the base-2 log of the sum. -/
theorem lse_shift [NeZero n] (q : Fin m → ℝ) (k : Fin n → Fin m → ℝ) (M : ℝ) :
    M + Real.log (∑ j, (2 : ℝ) ^ (score q k j - M)) * (Real.log 2)⁻¹ = lse q k := by
  have h2 : Real.log 2 ≠ 0 := (Real.log_pos (by norm_num)).ne'
  have h : (2 : ℝ) ^ M ≠ 0 := (Real.rpow_pos_of_pos two_pos _).ne'
  rw [total_shift, Real.log_mul (total_pos q k).ne' (inv_ne_zero h), Real.log_inv, Real.log_rpow two_pos, lse]
  field_simp
  ring

/-- A shifted row's sum of powers of two is positive. -/
theorem total_shift_pos [NeZero n] (q : Fin m → ℝ) (k : Fin n → Fin m → ℝ) (M : ℝ) :
    0 < ∑ j, (2 : ℝ) ^ (score q k j - M) :=
  Finset.sum_pos (fun _ _ => Real.rpow_pos_of_pos two_pos _) ⟨0, Finset.mem_univ _⟩

end AttentionLanes

/-- A maximum folded from minus infinity over reals is a real. -/
theorem fold_max_coe {n : ℕ} [NeZero n] (s : Fin n → ℝ) :
    ∃ M : ℝ, Finset.univ.fold max (⊥ : EReal) (fun j => ((s j : ℝ) : EReal)) = (M : EReal) := by
  classical
  have h : ∀ t : Finset (Fin n), t.Nonempty →
      ∃ M : ℝ, t.fold max (⊥ : EReal) (fun j => ((s j : ℝ) : EReal)) = (M : EReal) := by
    intro t ht
    induction ht using Finset.Nonempty.cons_induction with
    | singleton a => exact ⟨s a, by simp⟩
    | cons a t ha _ ih =>
      obtain ⟨M, hM⟩ := ih
      exact ⟨max (s a) M, by rw [Finset.fold_cons, hM]; exact (EReal.coe_strictMono.monotone.map_max).symm⟩
  exact h _ ⟨0, Finset.mem_univ _⟩

/-- A sum of reals, read among the extended reals. -/
theorem coe_sum_real {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## The lanes of a head -/

/-- The lane that holds entry `d` of a query or a key: two halves of 64 lanes, each with 16 rotary entries and 32 others. -/
def lane (d : Fin 96) : Fin 128 :=
  ⟨if d.val < 32 then d.val + 16 else if d.val < 64 then d.val + 48 else if d.val < 72 then d.val - 64
    else if d.val < 80 then d.val - 8 else if d.val < 88 then d.val - 72 else d.val - 16, by split_ifs <;> omega⟩

/-- The entry a lane holds, if any. -/
def entry (l : Fin 128) : Option (Fin 96) :=
  if h : l.val < 8 then some ⟨l.val + 64, by omega⟩ else if h : l.val < 16 then some ⟨l.val + 72, by omega⟩
  else if h : l.val < 48 then some ⟨l.val - 16, by omega⟩ else if l.val < 64 then none
  else if h : l.val < 72 then some ⟨l.val + 8, by omega⟩ else if h : l.val < 80 then some ⟨l.val + 16, by omega⟩
  else if h : l.val < 112 then some ⟨l.val - 48, by omega⟩ else none

/-- A query's or key's entries spread over the 128 lanes, zeros elsewhere. -/
def spread (f : Fin 96 → ℝ) (l : Fin 128) : ℝ := ((entry l).map f).getD 0

theorem spread_lane (f : Fin 96 → ℝ) (d : Fin 96) : spread f (lane d) = f d := by
  have h : ∀ d, entry (lane d) = some d := by decide +kernel
  rw [spread, h]; rfl

theorem lane_injective : Function.Injective lane := by decide +kernel

/-- Off the lanes that hold entries there are zeros. -/
theorem spread_of_not_mem (f : Fin 96 → ℝ) (l : Fin 128) (h : l ∉ Set.range lane) : spread f l = 0 := by
  have key : ∀ l : Fin 128, (∃ d, lane d = l) ∨ entry l = none := by decide +kernel
  rcases key l with hd | hz
  · exact absurd hd h
  · rw [spread, hz]; rfl

/-- A sum over the lanes of spread entries is the sum over the entries. -/
theorem sum_spread_mul (f : Fin 96 → ℝ) (x : Fin 128 → ℝ) : ∑ l, spread f l * x l = ∑ d, f d * x (lane d) := by
  symm
  refine Fintype.sum_of_injective lane lane_injective _ _ (fun l h => ?_) (fun d => ?_)
  · rw [spread_of_not_mem f l h, zero_mul]
  · rw [spread_lane]

/-- A value's 64 entries on the lanes, then a `1` (`o`), then zeros. -/
def widen (o : ℝ) (f : Fin 64 → ℝ) (l : Fin 128) : ℝ :=
  if h : l.val < 64 then f ⟨l.val, h⟩ else if l.val = 64 then o else 0

/-- The lane of a value's entry. -/
def wlane (d : Fin 64) : Fin 128 := ⟨d.val, by omega⟩

theorem widen_wlane (o : ℝ) (f : Fin 64 → ℝ) (d : Fin 64) : widen o f (wlane d) = f d := by
  unfold widen wlane; simp

/-- A sum over the lanes of widened entries (zeros beyond) is the sum over the entries. -/
theorem sum_widen_mul (f : Fin 64 → ℝ) (x : Fin 128 → ℝ) : ∑ l, widen 0 f l * x l = ∑ d, f d * x (wlane d) := by
  symm
  refine Fintype.sum_of_injective wlane (fun x y h => by simpa [wlane, Fin.ext_iff] using h) _ _ (fun l h => ?_) (fun d => ?_)
  · have : ¬ l.val < 64 := fun hl => h ⟨⟨l.val, hl⟩, rfl⟩
    unfold widen; simp [this]
  · rw [widen_wlane]

/-! ## The lanes compute the attention -/

section Link

variable {n : ℕ} [NeZero n] (c : ℝ) (q k : Fin n → Fin 96 → ℝ) (v g : Fin n → Fin 64 → ℝ)

/-- The queries on the lanes, with the scale and the change to base 2. -/
def qLanes (i : Fin n) (l : Fin 128) : ℝ := spread (q i) l * (c * (Real.log 2)⁻¹)
/-- The keys on the lanes. -/
def kLanes (j : Fin n) : Fin 128 → ℝ := spread (k j)
/-- The values on the lanes, a one after them. -/
def vLanes (j : Fin n) : Fin 128 → ℝ := widen 1 (v j)
/-- The cotangents on the lanes. -/
def gLanes (i : Fin n) : Fin 128 → ℝ := widen 0 (g i)

theorem log_two_ne : Real.log 2 ≠ 0 := (Real.log_pos (by norm_num)).ne'

theorem two_rpow_score (i j : Fin n) :
    (2 : ℝ) ^ AttentionLanes.score (qLanes c q i) (kLanes k) j = Real.exp (AttentionSpec.score c q k i j) := by
  rw [Real.rpow_def_of_pos two_pos]
  congr 1
  unfold AttentionLanes.score qLanes kLanes AttentionSpec.score
  have h : ∑ l, spread (q i) l * (c * (Real.log 2)⁻¹) * spread (k j) l =
      ∑ l, spread (q i) l * ((c * (Real.log 2)⁻¹) * spread (k j) l) := Finset.sum_congr rfl fun l _ => by ring
  rw [h, sum_spread_mul]
  simp only [spread_lane]
  rw [Finset.mul_sum, Finset.sum_mul]
  refine Finset.sum_congr rfl fun d _ => ?_
  have := log_two_ne
  field_simp

theorem total_eq (i : Fin n) :
    AttentionLanes.total (qLanes c q i) (kLanes k) = ∑ j, Real.exp (AttentionSpec.score c q k i j) :=
  Finset.sum_congr rfl fun j _ => two_rpow_score c q k i j

theorem weight_eq (i j : Fin n) :
    AttentionLanes.weight (qLanes c q i) (kLanes k) (AttentionLanes.lse (qLanes c q i) (kLanes k)) j =
      AttentionSpec.prob c q k i j := by
  rw [AttentionLanes.weight_lse, two_rpow_score, total_eq]; rfl

/-- The output lanes hold the attention's output. -/
theorem out_eq (i : Fin n) (d : Fin 64) :
    AttentionLanes.out (qLanes c q i) (kLanes k) (vLanes v) (wlane d) = AttentionSpec.out c q k v i d := by
  unfold AttentionLanes.out AttentionSpec.out
  rw [total_eq, Finset.sum_div]
  refine Finset.sum_congr rfl fun j _ => ?_
  rw [two_rpow_score, vLanes, widen_wlane]
  unfold AttentionSpec.prob
  ring

theorem dscore_eq (i j : Fin n) :
    AttentionLanes.dscore (qLanes c q i) (gLanes g i) (AttentionLanes.out (qLanes c q i) (kLanes k) (vLanes v))
      (AttentionLanes.lse (qLanes c q i) (kLanes k)) (kLanes k) (vLanes v) j = AttentionSpec.dscore c q k v g i j := by
  unfold AttentionLanes.dscore AttentionSpec.dscore
  rw [weight_eq]
  unfold gLanes
  rw [sum_widen_mul, sum_widen_mul]
  simp only [out_eq]
  simp only [vLanes, widen_wlane]

/-- The query lanes' gradient, summed over the keys and scaled, is the gradient in the queries. -/
theorem dq_eq (i : Fin n) (d : Fin 96) :
    (∑ j, AttentionLanes.dscore (qLanes c q i) (gLanes g i) (AttentionLanes.out (qLanes c q i) (kLanes k) (vLanes v))
      (AttentionLanes.lse (qLanes c q i) (kLanes k)) (kLanes k) (vLanes v) j * kLanes k j (lane d)) * c =
      AttentionSpec.dq c q k v g i d := by
  unfold AttentionSpec.dq
  simp only [dscore_eq, kLanes, spread_lane]

/-- The key lanes' gradient, summed over the queries and times `log 2`, is the gradient in the keys. -/
theorem dk_eq (j : Fin n) (d : Fin 96) :
    (∑ i, qLanes c q i (lane d) * AttentionLanes.dscore (qLanes c q i) (gLanes g i)
      (AttentionLanes.out (qLanes c q i) (kLanes k) (vLanes v))
      (AttentionLanes.lse (qLanes c q i) (kLanes k)) (kLanes k) (vLanes v) j) * Real.log 2 =
      AttentionSpec.dk c q k v g j d := by
  unfold AttentionSpec.dk
  simp only [dscore_eq, qLanes, spread_lane]
  rw [Finset.sum_mul, Finset.sum_mul]
  refine Finset.sum_congr rfl fun i _ => ?_
  have := log_two_ne
  field_simp

/-- The value lanes' gradient, summed over the queries, is the gradient in the values. -/
theorem dv_eq (j : Fin n) (d : Fin 64) :
    ∑ i, gLanes g i (wlane d) * AttentionLanes.weight (qLanes c q i) (kLanes k)
      (AttentionLanes.lse (qLanes c q i) (kLanes k)) j = AttentionSpec.dv c q k g j d := by
  unfold AttentionSpec.dv
  simp only [weight_eq, gLanes, widen_wlane]

end Link

end

end
-- ==== Proof.Ref.lean ====
module

public import proofs.«01_k».proof.Proof.Spec
public import proofs.«01_k».proof.Proof.Gen.ReferenceIdeal.Read
public import Idealize.ShloMosaic.Lib.IdealHost

@[expose] public section

/-!
# The reference computes softmax attention and its gradients

Every array of the reference, read at an index, for arguments that are real.
-/

noncomputable section

open Idealize.ShloMosaic Idealize.ShloMosaic.TcCoe Idealize.SL.Sem
open Idealize.ShloMosaic.Ideal
open Cert.ReferenceIdeal Cert.ReferenceIdeal.Gen Cert.ReferenceIdeal.Read

namespace AttentionRef

/-- The arguments are real: entry `a` of head `h` of row `r`. -/
structure Args (x0 x1 : S8192x8x96.Idx → EReal) (x2 x3 : S8192x8x64.Idx → EReal)
    (Q K : Fin 8 → Fin 8192 → Fin 96 → ℝ) (W G : Fin 8 → Fin 8192 → Fin 64 → ℝ) (c : ℝ) : Prop where
  q : ∀ i, x0 i = ((Q (i 1) (i 0) (i 2) : ℝ) : EReal)
  k : ∀ i, x1 i = ((K (i 1) (i 0) (i 2) : ℝ) : EReal)
  v : ∀ i, x2 i = ((W (i 1) (i 0) (i 2) : ℝ) : EReal)
  g : ∀ i, x3 i = ((G (i 1) (i 0) (i 2) : ℝ) : EReal)
  c : Ideal.ofBits .f32 0x3DD105EC#32 = (c : EReal)

variable {x0 x1 : S8192x8x96.Idx → EReal} {x2 x3 : S8192x8x64.Idx → EReal}
  {Q K : Fin 8 → Fin 8192 → Fin 96 → ℝ} {W G : Fin 8 → Fin 8192 → Fin 64 → ℝ} {c : ℝ}

/-- The bits of minus infinity. -/
theorem ofBits_neg_inf : (FloatOps.ofBits .f32 0xFF800000#32 : Ideal .f32) = (⊥ : EReal) := by
  rw [ofBits_def]; simp [Ideal.ofBits, Ideal.ieee]

/-- The bits of zero and of one. -/
theorem ofBits_nought : (FloatOps.ofBits .f32 0x00000000#32 : Ideal .f32) = (0 : EReal) := Ideal.ofBits_zero_f32
theorem ofBits_unit : (FloatOps.ofBits .f32 0x3F800000#32 : Ideal .f32) = ((1 : ℝ) : EReal) := Ideal.ofBits_one_f32

/-- A product with a sum of products of reals. -/
theorem sum_mul_coe {ι : Type} [Fintype ι] (f g : ι → ℝ) :
    ∑ k, ((f k : ℝ) : EReal) * ((g k : ℝ) : EReal) = ((∑ k, f k * g k : ℝ) : EReal) := by
  rw [coe_sum_real]; rfl

/-- A quotient of reals. -/
theorem div_real {x y : ℝ} (h : y ≠ 0) : Ideal.div (x : EReal) (y : EReal) = ((x / y : ℝ) : EReal) := by
  rw [Ideal.div_coe h, ← EReal.coe_mul, one_div, div_eq_mul_inv]

/-- The scaled scores. -/
theorem scores (H : Args x0 x1 x2 x3 Q K W G c) (i : S8x8192x8192.Idx) :
    val_main_v2 (F := Ideal) x0 x1 i = ((AttentionSpec.score c (Q (i 0)) (K (i 0)) (i 1) (i 2) : ℝ) : EReal) := by
  rw [val_main_v2_apply, val_main_v1_apply, val_main_cst_apply, val_main_v0_apply]
  simp only [H.q, H.k, sum_mul_coe]
  exact congrArg₂ (· * ·) rfl H.c

/-- A row's greatest score is a real. -/
theorem row_max (H : Args x0 x1 x2 x3 Q K W G c) (i : S8x8192.Idx) :
    ∃ M : ℝ, val_main_v10 (F := Ideal) x0 x1 i = (M : EReal) := by
  rw [val_main_v10_apply, val_main_v9_apply, val_main_cst_2_apply]
  unfold val_main_v3
  rw [Host.reduce_eq_fold_single FloatOps.maximumf _ _ reducesTo_S8x8192x8192_S8x8192_d2 (by decide) h_S_,
    val_main_cst_0_apply]
  rw [ofBits_neg_inf]
  obtain ⟨M, hM⟩ := fold_max_coe (n := 8192) fun k => AttentionSpec.score c (Q (i 0)) (K (i 0)) (i 1) k
  refine ⟨M, (max_eq_right bot_le).trans (Eq.trans ?_ hM)⟩
  refine Finset.fold_congr fun k _ => (scores H _).trans ?_
  rfl

/-- The rows' greatest scores. -/
theorem row_maxes (H : Args x0 x1 x2 x3 Q K W G c) :
    ∃ M : Fin 8 → Fin 8192 → ℝ, ∀ i, val_main_v10 (F := Ideal) x0 x1 i = ((M (i 0) (i 1) : ℝ) : EReal) := by
  choose M hM using row_max H
  refine ⟨fun h r => M (ix2 h r), fun i => (hM i).trans ?_⟩
  exact congrArg (fun j => ((M j : ℝ) : EReal)) (eq_ix2 i)

/-- A score's exponential after its row's shift. -/
def shifted (c : ℝ) (q k : Fin 8192 → Fin 96 → ℝ) (M : ℝ) (i j : Fin 8192) : ℝ :=
  Real.exp (AttentionSpec.score c q k i j - M)

theorem shifted_pos (q k : Fin 8192 → Fin 96 → ℝ) (M : ℝ) (i : Fin 8192) : 0 < ∑ j, shifted c q k M i j :=
  Finset.sum_pos (fun _ _ => Real.exp_pos _) ⟨i, Finset.mem_univ i⟩

/-- The shift cancels in a weight. -/
theorem shifted_div (q k : Fin 8192 → Fin 96 → ℝ) (M : ℝ) (i j : Fin 8192) :
    shifted c q k M i j / ∑ l, shifted c q k M i l = AttentionSpec.prob c q k i j := by
  unfold shifted AttentionSpec.prob
  simp only [Real.exp_sub, ← Finset.sum_div]
  rw [div_div_div_cancel_right₀ (Real.exp_pos M).ne']

/-- The shifted exponentials. -/
theorem exps (H : Args x0 x1 x2 x3 Q K W G c) {M : Fin 8 → Fin 8192 → ℝ}
    (hM : ∀ i, val_main_v10 (F := Ideal) x0 x1 i = ((M (i 0) (i 1) : ℝ) : EReal)) (i : S8x8192x8192.Idx) :
    val_main_v23 (F := Ideal) x0 x1 i =
      ((shifted c (Q (i 0)) (K (i 0)) (M (i 0) (i 1)) (i 1) (i 2) : ℝ) : EReal) := by
  rw [val_main_v23_apply, val_main_v22_apply, val_main_v21_apply, val_main_v20_apply, hM, scores H]
  rw [subf_def, ← EReal.coe_sub, hostUnary_exp_def, Ideal.exp_coe]
  rfl

/-- The rows' sums. -/
theorem sums (H : Args x0 x1 x2 x3 Q K W G c) {M : Fin 8 → Fin 8192 → ℝ}
    (hM : ∀ i, val_main_v10 (F := Ideal) x0 x1 i = ((M (i 0) (i 1) : ℝ) : EReal)) (i : S8x8192.Idx) :
    val_main_v24 (F := Ideal) x0 x1 i =
      ((∑ j, shifted c (Q (i 0)) (K (i 0)) (M (i 0) (i 1)) (i 1) j : ℝ) : EReal) := by
  rw [val_main_v24_apply, val_main_cst_8_apply]
  simp only [exps H hM]
  rw [coe_sum_real]
  rw [ofBits_nought, zero_add]
  rfl

/-- The attention weights. -/
theorem probs (H : Args x0 x1 x2 x3 Q K W G c) (i : S8x8192x8192.Idx) :
    val_main_v27 (F := Ideal) x0 x1 i = ((AttentionSpec.prob c (Q (i 0)) (K (i 0)) (i 1) (i 2) : ℝ) : EReal) := by
  obtain ⟨M, hM⟩ := row_maxes H
  have hs : val_main_v26 (F := Ideal) x0 x1 i = ((∑ j, shifted c (Q (i 0)) (K (i 0)) (M (i 0) (i 1)) (i 1) j : ℝ) : EReal) := by
    rw [val_main_v26_apply, val_main_v25_apply]
    exact sums H hM _
  rw [val_main_v27_apply]
  refine (congrArg₂ Ideal.div (exps H hM i) hs).trans ((div_real (shifted_pos _ _ _ _).ne').trans ?_)
  exact congrArg _ (shifted_div _ _ _ _ _)

/-- The output. -/
theorem output (H : Args x0 x1 x2 x3 Q K W G c) (i : S8192x8x64.Idx) :
    val_main_v32 (F := Ideal) x0 x1 x2 i =
      ((AttentionSpec.out c (Q (i 1)) (K (i 1)) (W (i 1)) (i 0) (i 2) : ℝ) : EReal) := by
  rw [val_main_v32_apply, val_main_v31_apply]
  simp only [H.v, probs H, sum_mul_coe]
  exact congrArg _ (Finset.sum_congr rfl fun j _ => mul_comm _ _)

/-- The values' gradient. -/
theorem values (H : Args x0 x1 x2 x3 Q K W G c) (i : S8192x8x64.Idx) :
    val_main_v36 (F := Ideal) x0 x1 x3 i =
      ((AttentionSpec.dv c (Q (i 1)) (K (i 1)) (G (i 1)) (i 0) (i 2) : ℝ) : EReal) := by
  rw [val_main_v36_apply, val_main_v35_apply]
  simp only [val_main_v33_apply, H.g, probs H, sum_mul_coe]
  rfl

/-- The cotangent times the values. -/
theorem weight_grads (H : Args x0 x1 x2 x3 Q K W G c) (i : S8x8192x8192.Idx) :
    val_main_v34 (F := Ideal) x2 x3 i = ((∑ d, G (i 0) (i 1) d * W (i 0) (i 2) d : ℝ) : EReal) := by
  rw [val_main_v34_apply]
  simp only [val_main_v33_apply, H.g, H.v, sum_mul_coe]
  rfl

/-- The derivative of a quotient by its row's sum is the softmax's. -/
theorem quotient_grad (e gv : Fin 8192 → ℝ) (j : Fin 8192) (he : ∑ l, e l ≠ 0) :
    (gv j / (∑ l, e l) + -∑ k, gv k * (1 / ((∑ l, e l) * ∑ l, e l)) * e k) * e j =
      e j / (∑ l, e l) * (gv j - ∑ k, gv k * (e k / ∑ l, e l)) := by
  generalize ∑ l, e l = t at he ⊢
  have h : ∑ k, gv k * (1 / (t * t)) * e k = (∑ k, gv k * (e k / t)) / t := by
    rw [Finset.sum_div]
    exact Finset.sum_congr rfl fun k _ => by field_simp
  rw [h]
  field_simp
  ring

/-- The cotangent times the output. -/
theorem out_dot (q k : Fin 8192 → Fin 96 → ℝ) (v g : Fin 8192 → Fin 64 → ℝ) (i : Fin 8192) :
    ∑ d, g i d * AttentionSpec.out c q k v i d = ∑ j, (∑ d, g i d * v j d) * AttentionSpec.prob c q k i j := by
  unfold AttentionSpec.out
  simp only [Finset.mul_sum, Finset.sum_mul]
  rw [Finset.sum_comm]
  exact Finset.sum_congr rfl fun j _ => Finset.sum_congr rfl fun d _ => by ring

/-- The score gradient, from the shifted exponentials. -/
theorem dscore_shifted (q k : Fin 8192 → Fin 96 → ℝ) (v g : Fin 8192 → Fin 64 → ℝ) (M : ℝ) (i j : Fin 8192) :
    AttentionSpec.dscore c q k v g i j = shifted c q k M i j / (∑ l, shifted c q k M i l) *
      (∑ d, g i d * v j d - ∑ p, (∑ d, g i d * v p d) * (shifted c q k M i p / ∑ l, shifted c q k M i l)) := by
  unfold AttentionSpec.dscore
  rw [out_dot]
  simp only [shifted_div]

/-- The sum of the weights' gradients over a row, for the row's sum. -/
theorem row_grads (H : Args x0 x1 x2 x3 Q K W G c) {M : Fin 8 → Fin 8192 → ℝ}
    (hM : ∀ i, val_main_v10 (F := Ideal) x0 x1 i = ((M (i 0) (i 1) : ℝ) : EReal)) (i : S8x8192.Idx) :
    val_main_v40 (F := Ideal) x0 x1 x2 x3 i =
      ((∑ k, (∑ d, G (i 0) (i 1) d * W (i 0) k d) *
        (1 / ((∑ l, shifted c (Q (i 0)) (K (i 0)) (M (i 0) (i 1)) (i 1) l) *
          ∑ l, shifted c (Q (i 0)) (K (i 0)) (M (i 0) (i 1)) (i 1) l)) *
        shifted c (Q (i 0)) (K (i 0)) (M (i 0) (i 1)) (i 1) k : ℝ) : EReal) := by
  rw [val_main_v40_apply, val_main_cst_10_apply, ofBits_nought, zero_add, coe_sum_real]
  refine Finset.sum_congr rfl fun k _ => ?_
  have hs : val_main_v28 (F := Ideal) x0 x1 (idx_main_v37 (idx_main_v40 i k)) =
      (((∑ l, shifted c (Q (i 0)) (K (i 0)) (M (i 0) (i 1)) (i 1) l) *
        ∑ l, shifted c (Q (i 0)) (K (i 0)) (M (i 0) (i 1)) (i 1) l : ℝ) : EReal) := by
    rw [val_main_v28_apply, val_main_v25_apply]
    exact congrArg₂ (· * ·) (sums H hM _) (sums H hM _)
  rw [val_main_v39_apply, val_main_v38_apply, val_main_v37_apply, val_main_v30_apply, val_main_v29_apply,
    val_main_cst_9_apply, ofBits_unit]
  refine congrArg₂ (· * ·) (congrArg₂ (· * ·) (weight_grads H _) ((congrArg (Ideal.div _) hs).trans (div_real ?_)))
    (exps H hM _)
  exact mul_ne_zero (shifted_pos _ _ _ _).ne' (shifted_pos _ _ _ _).ne'

/-- A row's place in the row gradients. -/
theorem row_idx (i : S8x8192x8192.Idx) : idx_main_v41 (idx_main_v45 (idx_main_v46 i) 0) = ix2 (i 0) (i 1) := by
  have h0 : (i 0).val < 8 := (i 0).isLt
  have h1 : (i 1).val < 8192 := (i 1).isLt
  refine funext fun a => Fin.ext ?_
  match a with
  | ⟨0, _⟩ =>
    show (((i 0).val * 8192 + (i 1).val) * 1 + 0) / 8192 = (i 0).val
    omega
  | ⟨1, _⟩ =>
    show (((i 0).val * 8192 + (i 1).val) * 1 + 0) % 8192 = (i 1).val
    omega

/-- The scores' gradient. -/
theorem score_grads (H : Args x0 x1 x2 x3 Q K W G c) (i : S8x8192x8192.Idx) :
    val_main_v50 (F := Ideal) x0 x1 x2 x3 i =
      ((AttentionSpec.dscore c (Q (i 0)) (K (i 0)) (W (i 0)) (G (i 0)) (i 1) (i 2) * c : ℝ) : EReal) := by
  obtain ⟨M, hM⟩ := row_maxes H
  have hs : val_main_v43 (F := Ideal) x0 x1 i = ((∑ j, shifted c (Q (i 0)) (K (i 0)) (M (i 0) (i 1)) (i 1) j : ℝ) : EReal) := by
    rw [val_main_v43_apply, val_main_v25_apply]
    exact sums H hM _
  rw [val_main_v50_apply, val_main_v49_apply, val_main_cst_12_apply, val_main_v48_apply, val_main_v47_apply,
    val_main_v44_apply, val_main_v46_apply, val_main_v45_apply, val_main_cst_11_apply, Fin.sum_univ_one,
    val_main_v42_apply, val_main_v41_apply, ofBits_nought, zero_add, row_idx]
  refine (congrArg₂ (· * ·) (congrArg₂ (· * ·) (congrArg₂ (· + ·)
    ((congrArg₂ Ideal.div (weight_grads H i) hs).trans (div_real (shifted_pos _ _ _ _).ne'))
    (congrArg (- ·) (row_grads H hM (ix2 (i 0) (i 1))))) (exps H hM i)) H.c).trans ?_
  refine congrArg (fun x : ℝ => ((x * c : ℝ) : EReal)) ?_
  refine Eq.trans (quotient_grad (shifted c (Q (i 0)) (K (i 0)) (M (i 0) (i 1)) (i 1))
    (fun k => ∑ d, G (i 0) (i 1) d * W (i 0) k d) (i 2) (shifted_pos _ _ _ _).ne') ?_
  exact (dscore_shifted (Q (i 0)) (K (i 0)) (W (i 0)) (G (i 0)) (M (i 0) (i 1)) (i 1) (i 2)).symm

/-- The keys' gradient. -/
theorem keys (H : Args x0 x1 x2 x3 Q K W G c) (i : S8192x8x96.Idx) :
    val_main_v52 (F := Ideal) x0 x1 x2 x3 i =
      ((AttentionSpec.dk c (Q (i 1)) (K (i 1)) (W (i 1)) (G (i 1)) (i 0) (i 2) : ℝ) : EReal) := by
  rw [val_main_v52_apply, val_main_v51_apply]
  simp only [H.q, score_grads H, sum_mul_coe]
  unfold AttentionSpec.dk
  rw [Finset.sum_mul]
  exact congrArg _ (Finset.sum_congr rfl fun r _ => (mul_comm _ _).trans (mul_assoc _ _ _).symm)

/-- The queries' gradient. -/
theorem queries (H : Args x0 x1 x2 x3 Q K W G c) (i : S8192x8x96.Idx) :
    val_main_v54 (F := Ideal) x0 x1 x2 x3 i =
      ((AttentionSpec.dq c (Q (i 1)) (K (i 1)) (W (i 1)) (G (i 1)) (i 0) (i 2) : ℝ) : EReal) := by
  rw [val_main_v54_apply, val_main_v53_apply]
  simp only [H.k, score_grads H, sum_mul_coe]
  unfold AttentionSpec.dq
  rw [Finset.sum_mul]
  exact congrArg _ (Finset.sum_congr rfl fun r _ => mul_right_comm _ _ _)

end AttentionRef

end

end
-- ==== Proof.Fwd.lean ====
module

public import proofs.«01_k».proof.Proof.Gen.KernelIdeal.Frame
public import proofs.«01_k».proof.Proof.Spec
public import Idealize.ShloMosaic.Lib.Pipeline.ValueKit
public import Idealize.ShloMosaic.Lib.Pointwise

@[expose] public section

/-!
# One block of the forward pass over reals

What a block of 1024 query rows leaves: the row's output on its lanes and the row's base-2 log of its sum on every lane.
-/

noncomputable section

open Idealize.ShloMosaic Idealize.ShloMosaic.TcCoe Idealize.SL.Sem
open Cert.KernelIdeal Cert.KernelIdeal.Gen

namespace AttentionFwd

/-- The pattern of minus infinity. -/
theorem ofBits_neg_inf : Ideal.ofBits .f32 0xFF800000#32 = (⊥ : EReal) := by simp [Ideal.ofBits, Ideal.ieee]

/-- The named reciprocal of `log 2`. -/
theorem named_inv_ln2 : (Named.named κ "inv_ln2" 0x3FB8AA3B#32 : Ideal .f32) = (((Real.log 2)⁻¹ : ℝ) : EReal) := rfl

/-- The named `log 2`. -/
theorem named_ln2 : (Named.named κ "ln2" 0x3F317218#32 : Ideal .f32) = ((Real.log 2 : ℝ) : EReal) := rfl

/-- The power of two of a real. -/
theorem exp2_real (x : ℝ) : (FloatOps.exp2 (F := Ideal) (φ := .f32) ((x : ℝ) : EReal) : EReal) = (((2 : ℝ) ^ x : ℝ) : EReal) := rfl

variable (x0 : Vec Ideal S256x128 .bf16) (x1 x2 : Vec Ideal S8192x128 .bf16)
  (q : Fin 256 → Fin 128 → ℝ) (k v : Fin 8192 → Fin 128 → ℝ)

/-- A tile's row maximum is a real `M`, and its product with the values weighs key `j` by two to the score less `M`. -/
theorem pay9_pay10_apply (h0 : ∀ r l, x0 (ix2 r l) = ((q r l : ℝ) : EReal)) (h1 : ∀ j l, x1 (ix2 j l) = ((k j l : ℝ) : EReal))
    (h2 : ∀ j l, x2 (ix2 j l) = ((v j l : ℝ) : EReal)) (r : Fin 256) :
    ∃ M : ℝ, k0_pay9 x0 x1 (ix2 r 0) = ((M : ℝ) : EReal) ∧ ∀ l, k0_pay10 x0 x1 x2 (ix2 r l) =
      ((∑ j, (2 : ℝ) ^ (AttentionLanes.score (q r) k j - M) * v j l : ℝ) : EReal) := by
  obtain ⟨M, hM⟩ := fold_max_coe (AttentionLanes.score (q r) k)
  refine ⟨M, ?_, fun l => ?_⟩
  · rw [← hM]
    unfold k0_pay9 k0_pay8 AttentionLanes.score
    dsimp only
    pointwise
    simp only [h0, h1, ← EReal.coe_mul, ← coe_sum_real, ofBits_neg_inf]
  · unfold AttentionLanes.score at hM ⊢
    unfold k0_pay10 k0_pay9 k0_pay8
    dsimp only
    pointwise
    simp only [h0, h1, h2, ← EReal.coe_mul, ← coe_sum_real, ofBits_neg_inf, hM, ← EReal.coe_sub, exp2_real]

/-- A tile's lane of ones, as a column. -/
theorem pay11_apply (r : Fin 256) : k0_pay11 x0 x1 x2 (ix2 r 0) = k0_pay10 x0 x1 x2 (ix2 r 64) := by
  unfold k0_pay11
  pointwise

/-- A tile's output is its product with the values over the lane of ones. -/
theorem pay12_div (r : Fin 256) (l : Fin 128) :
    k0_pay12 x0 x1 x2 (ix2 r l) = Ideal.div (k0_pay10 x0 x1 x2 (ix2 r l)) (k0_pay11 x0 x1 x2 (ix2 r 0)) := by
  unfold k0_pay12
  generalize k0_pay10 x0 x1 x2 = a, k0_pay11 x0 x1 x2 = b
  pointwise

/-- A column and a column's multiple, added and spread over the lanes. -/
theorem pay1_apply (a b c : FVec Ideal S256x1 .f32) (r : Fin 256) (l : Fin 128) :
    k0_pay1 a b c (ix2 r l) = a (ix2 r 0) + b (ix2 r 0) * c (ix2 r 0) := by
  unfold k0_pay1
  pointwise

/-- A tile's output: the row's output on the lane, the values' lane 64 being ones. -/
theorem pay12_apply (h0 : ∀ r l, x0 (ix2 r l) = ((q r l : ℝ) : EReal)) (h1 : ∀ j l, x1 (ix2 j l) = ((k j l : ℝ) : EReal))
    (h2 : ∀ j l, x2 (ix2 j l) = ((v j l : ℝ) : EReal)) (hone : ∀ j, v j 64 = 1) (r : Fin 256) (l : Fin 128) :
    k0_pay12 x0 x1 x2 (ix2 r l) = ((AttentionLanes.out (q r) k v l : ℝ) : EReal) := by
  obtain ⟨M, -, hs⟩ := pay9_pay10_apply x0 x1 x2 q k v h0 h1 h2 r
  rw [pay12_div, pay11_apply, hs, hs]
  simp only [hone, mul_one]
  rw [Ideal.div_coe (AttentionLanes.total_shift_pos (q r) k M).ne', ← EReal.coe_mul, ← AttentionLanes.out_shift (q r) k v M l,
    mul_one_div]

/-- A column's log at a row. -/
theorem log_at (a : FVec Ideal S256x1 .f32) (r : Fin 256) : log a (ix2 r 0) = Ideal.log (a (ix2 r 0)) := rfl

/-- A tile's row statistics: the row's base-2 log of its sum, on every lane. -/
theorem pay13_apply (h0 : ∀ r l, x0 (ix2 r l) = ((q r l : ℝ) : EReal)) (h1 : ∀ j l, x1 (ix2 j l) = ((k j l : ℝ) : EReal))
    (h2 : ∀ j l, x2 (ix2 j l) = ((v j l : ℝ) : EReal)) (hone : ∀ j, v j 64 = 1) (r : Fin 256) (l : Fin 128) :
    k0_pay13 x0 x1 x2 (ix2 r l) = ((AttentionLanes.lse (q r) k : ℝ) : EReal) := by
  obtain ⟨M, hm, hs⟩ := pay9_pay10_apply x0 x1 x2 q k v h0 h1 h2 r
  have e : k0_pay13 x0 x1 x2 = k0_pay1 (k0_pay9 x0 x1) (log (k0_pay11 x0 x1 x2)) (broadcast S256x1 (Named.named κ "inv_ln2" 0x3FB8AA3B#32)) := rfl
  rw [e, pay1_apply, hm]
  have e2 : (broadcast S256x1 (Named.named κ "inv_ln2" 0x3FB8AA3B#32 : Ideal .f32)) (ix2 r 0) = (((Real.log 2)⁻¹ : ℝ) : EReal) := named_inv_ln2
  rw [log_at, e2, pay11_apply, hs]
  simp only [hone, mul_one]
  rw [Ideal.log_coe, if_neg (not_le.mpr (AttentionLanes.total_shift_pos (q r) k M)), ← EReal.coe_mul, ← EReal.coe_add,
    AttentionLanes.lse_shift]

/-- The four tiles of a block write the same output. -/
theorem tiles_out : k0_pay6 x0 x1 x2 = k0_pay12 x0 x1 x2 ∧ k0_pay25 x0 x1 x2 = k0_pay12 x0 x1 x2 ∧
    k0_pay19 (k0_pay16 x0 x1) x2 = k0_pay12 x0 x1 x2 := ⟨rfl, rfl, rfl⟩

/-- The four tiles of a block write the same statistics. -/
theorem tiles_lse : k0_pay7 x0 x1 x2 = k0_pay13 x0 x1 x2 ∧
    k0_pay1 (k0_pay22 x0 x1) (k0_pay26 x0 x1 x2) (k0_pay27 (F := Ideal)) = k0_pay13 x0 x1 x2 ∧
    k0_pay20 (k0_pay15 x0 x1) (k0_pay16 x0 x1) x2 = k0_pay13 x0 x1 x2 := ⟨rfl, rfl, rfl⟩

variable (X : Vec Ideal S1024x128 .bf16) (Q : Fin 1024 → Fin 128 → ℝ)

/-- The tile at row `o` of a block: its output at a place is the block's at the place `o` rows below. -/
theorem tile_out (o : ℕ) (ho : o + 256 ≤ 1024) (h0 : ∀ r l, X (ix2 r l) = ((Q r l : ℝ) : EReal))
    (hx : ∀ (x : S256x128.Idx) (i : S1024x128.Idx), (i 0 : ℕ) = o + x 0 → (i 1 : ℕ) = x 1 → x0 x = X i)
    (h1 : ∀ j l, x1 (ix2 j l) = ((k j l : ℝ) : EReal)) (h2 : ∀ j l, x2 (ix2 j l) = ((v j l : ℝ) : EReal)) (hone : ∀ j, v j 64 = 1)
    (x : S256x128.Idx) (i : S1024x128.Idx) (hr : (i 0 : ℕ) = o + x 0) (hl : (i 1 : ℕ) = x 1) :
    k0_pay12 x0 x1 x2 x = ((AttentionLanes.out (Q (i 0)) k v (i 1) : ℝ) : EReal) ∧
    k0_pay13 x0 x1 x2 x = ((AttentionLanes.lse (Q (i 0)) k : ℝ) : EReal) := by
  have e0 : i 0 = (⟨o + (x 0).val, lt_of_lt_of_le (Nat.add_lt_add_left (x 0).isLt o) ho⟩ : Fin 1024) := Fin.ext hr
  have e1 : i 1 = (x 1 : Fin 128) := Fin.ext hl
  have hq : ∀ (r : Fin 256) l, x0 (ix2 r l) = ((Q ⟨o + r.val, lt_of_lt_of_le (Nat.add_lt_add_left r.isLt o) ho⟩ l : ℝ) : EReal) :=
    fun r l => (hx (ix2 r l) (ix2 _ l) rfl rfl).trans (h0 _ l)
  rw [e0, e1]
  have a := pay12_apply x0 x1 x2 _ k v hq h1 h2 hone (x 0) (x 1)
  have b := pay13_apply x0 x1 x2 _ k v hq h1 h2 hone (x 0) (x 1)
  rw [ix2_eta x] at a b
  exact ⟨a, b⟩

/-- What a block of query rows leaves: each row's output on its lanes, and its base-2 log of the sum on every lane. -/
theorem block_apply (h0 : ∀ r l, X (ix2 r l) = ((Q r l : ℝ) : EReal)) (h1 : ∀ j l, x1 (ix2 j l) = ((k j l : ℝ) : EReal))
    (h2 : ∀ j l, x2 (ix2 j l) = ((v j l : ℝ) : EReal)) (hone : ∀ j, v j 64 = 1) (i : S1024x128.Idx) :
    out0_3 X x1 x2 i = ((AttentionLanes.out (Q (i 0)) k v (i 1) : ℝ) : EReal) ∧
    out0_4 X x1 x2 i = ((AttentionLanes.lse (Q (i 0)) k : ℝ) : EReal) := by
  have ld : ∀ (o : ℕ) (inb : ∀ a, (![o, 0] : Fin 2 → ℕ) a + S256x128.size a ≤ S1024x128.size a) (x : S256x128.Idx) (i : S1024x128.Idx),
      (i 0 : ℕ) = o + x 0 → (i 1 : ℕ) = x 1 → View.ld X (Rect.unit (s := S1024x128) ![o, 0] S256x128.size inb) x = X i :=
    fun o inb x i a b => View.ld_unit_apply_of X _ _ inb x i fun d => by
      match d with
      | ⟨0, _⟩ => exact a
      | ⟨1, _⟩ => exact b.trans (Nat.zero_add _).symm
  have e1 : View.ld x1 r0_1 = x1 := View.ld_unit_lit _ x1 (by decide)
  have e2 : View.ld x2 r0_1 = x2 := View.ld_unit_lit _ x2 (by decide)
  have tile := fun x0 o ho hx => tile_out x0 x1 x2 k v X Q o ho h0 hx h1 h2 hone
  constructor
  · unfold_out out0_3
    rw [e1, e2]
    canon_tiles x h using cover0_3 ..
    · exact (congrFun (tiles_out _ x1 x2).1 x).trans (tile _ 768 (by decide) (ld 768 _) x i (by assumption) (by assumption)).1
    · exact (congrFun (tiles_out _ x1 x2).2.1 x).trans (tile _ 512 (by decide) (ld 512 _) x i (by assumption) (by assumption)).1
    · exact (congrFun (tiles_out _ x1 x2).2.2 x).trans (tile _ 256 (by decide) (ld 256 _) x i (by assumption) (by assumption)).1
    · exact (tile _ 0 (by decide) (ld 0 _) x i (by omega) (by assumption)).1
  · unfold_out out0_4
    rw [e1, e2]
    canon_tiles x h using cover0_4 ..
    · exact (congrFun (tiles_lse _ x1 x2).1 x).trans (tile _ 768 (by decide) (ld 768 _) x i (by assumption) (by assumption)).2
    · exact (congrFun (tiles_lse _ x1 x2).2.1 x).trans (tile _ 512 (by decide) (ld 512 _) x i (by assumption) (by assumption)).2
    · exact (congrFun (tiles_lse _ x1 x2).2.2 x).trans (tile _ 256 (by decide) (ld 256 _) x i (by assumption) (by assumption)).2
    · exact (tile _ 0 (by decide) (ld 0 _) x i (by omega) (by assumption)).2

end AttentionFwd
-- ==== Proof.Bwd.lean ====
module

public import proofs.«01_k».proof.Proof.Gen.KernelIdeal.Frame
public import proofs.«01_k».proof.Proof.Fwd
public import Idealize.ShloMosaic.Lib.Pipeline.ValueKit
public import Idealize.ShloMosaic.Lib.Pointwise

@[expose] public section

/-!
# One block of the backward pass over reals

What a block of 512 query rows leaves: its rows' gradients for the queries, and what it adds to the head's gradients for the
keys and the values.
-/

noncomputable section

open Idealize.ShloMosaic Idealize.ShloMosaic.TcCoe Idealize.SL.Sem
open Cert.KernelIdeal Cert.KernelIdeal.Gen

namespace AttentionBwd

variable (x0 g0 o0 : Vec Ideal S256x128 .bf16) (s0 : Vec Ideal S256x1 .f32) (x1 x2 : Vec Ideal S8192x128 .bf16)
  (q g o : Fin 256 → Fin 128 → ℝ) (L : Fin 256 → ℝ) (k v : Fin 8192 → Fin 128 → ℝ)

/-- A tile's weights, recomputed from the saved statistics. -/
theorem pay8_apply (h0 : ∀ r l, x0 (ix2 r l) = ((q r l : ℝ) : EReal)) (hs : ∀ r, s0 (ix2 r 0) = ((L r : ℝ) : EReal))
    (h1 : ∀ j l, x1 (ix2 j l) = ((k j l : ℝ) : EReal)) (r : Fin 256) (j : Fin 8192) :
    k1_pay8 x0 x1 s0 (ix2 r j) = ((AttentionLanes.weight (q r) k (L r) j : ℝ) : EReal) := by
  unfold k1_pay8 k1_pay6 AttentionLanes.weight AttentionLanes.score
  dsimp only
  pointwise
  simp only [h0, h1, hs, ← EReal.coe_mul, ← coe_sum_real, ← EReal.coe_sub, AttentionFwd.exp2_real]

/-- A tile's gradient of the scores. -/
theorem pay9_apply (h0 : ∀ r l, x0 (ix2 r l) = ((q r l : ℝ) : EReal)) (hg : ∀ r l, g0 (ix2 r l) = ((g r l : ℝ) : EReal))
    (ho : ∀ r l, o0 (ix2 r l) = ((o r l : ℝ) : EReal)) (hs : ∀ r, s0 (ix2 r 0) = ((L r : ℝ) : EReal))
    (h1 : ∀ j l, x1 (ix2 j l) = ((k j l : ℝ) : EReal)) (h2 : ∀ j l, x2 (ix2 j l) = ((v j l : ℝ) : EReal))
    (r : Fin 256) (j : Fin 8192) :
    k1_pay9 x0 g0 o0 x1 s0 x2 (ix2 r j) = ((AttentionLanes.dscore (q r) (g r) (o r) (L r) k v j : ℝ) : EReal) := by
  have hp := pay8_apply x0 s0 x1 q L k h0 hs h1 r j
  unfold k1_pay9 AttentionLanes.dscore
  unfold k1_pay7
  generalize k1_pay8 x0 x1 s0 = a at hp ⊢
  dsimp only
  pointwise
  simp only [hp, hg, ho, h2, ← EReal.coe_mul, ← coe_sum_real, ← EReal.coe_sub]

/-- A tile's gradient for the queries. -/
theorem pay1_apply (ds : FVec Ideal S256x8192 .bf16) (d : Fin 256 → Fin 8192 → ℝ) (c : ℝ) (hc : Ideal.ofBits .f32 0x3DD105EC#32 = ((c : ℝ) : EReal))
    (hd : ∀ r j, ds (ix2 r j) = ((d r j : ℝ) : EReal)) (h1 : ∀ j l, x1 (ix2 j l) = ((k j l : ℝ) : EReal)) (r : Fin 256) (l : Fin 128) :
    k1_pay1 ds x1 (ix2 r l) = (((∑ j, d r j * k j l) * c : ℝ) : EReal) := by
  unfold k1_pay1
  pointwise
  simp only [hd, h1, ← EReal.coe_mul, ← coe_sum_real, hc]

/-- Rows turned and multiplied with a tile of weights: the sum over the tile's rows. -/
theorem pay12_apply (p : FVec Ideal S256x8192 .f32) (w : Fin 256 → Fin 8192 → ℝ) (hg : ∀ r l, g0 (ix2 r l) = ((g r l : ℝ) : EReal))
    (hp : ∀ r j, p (ix2 r j) = ((w r j : ℝ) : EReal)) (l : Fin 128) (j : Fin 8192) :
    k1_pay12 g0 p (ix2 l j) = ((∑ r, g r l * w r j : ℝ) : EReal) := by
  unfold k1_pay12
  dsimp only
  pointwise
  simp only [hg, hp, ← EReal.coe_mul, ← coe_sum_real]

/-- The same with weights of the narrow type. -/
theorem pay13_apply (p : FVec Ideal S256x8192 .bf16) (w : Fin 256 → Fin 8192 → ℝ) (hg : ∀ r l, g0 (ix2 r l) = ((g r l : ℝ) : EReal))
    (hp : ∀ r j, p (ix2 r j) = ((w r j : ℝ) : EReal)) (l : Fin 128) (j : Fin 8192) :
    k1_pay13 g0 p (ix2 l j) = ((∑ r, g r l * w r j : ℝ) : EReal) := by
  unfold k1_pay13
  dsimp only
  pointwise
  simp only [hg, hp, ← EReal.coe_mul, ← coe_sum_real]

/-- What a block adds to the head's gradient for the values. -/
theorem pay2_apply (a b : FVec Ideal S128x8192 .f32) (p : FVec Ideal S256x8192 .f32) (l : Fin 128) (j : Fin 8192) :
    k1_pay2 a g0 p b (ix2 l j) = b (ix2 l j) + (a (ix2 l j) + k1_pay12 g0 p (ix2 l j)) := by
  unfold k1_pay2 k1_pay12
  dsimp only
  pointwise

/-- What a block adds to the head's gradient for the keys. -/
theorem pay3_apply (a b : FVec Ideal S128x8192 .f32) (p : FVec Ideal S256x8192 .bf16) (l : Fin 128) (j : Fin 8192) :
    k1_pay3 a x0 p b (ix2 l j) = b (ix2 l j) + (a (ix2 l j) + k1_pay13 x0 p (ix2 l j)) * ((Real.log 2 : ℝ) : EReal) := by
  rw [← AttentionFwd.named_ln2]
  unfold k1_pay3 k1_pay13
  dsimp only
  pointwise

/-- The first point's zeros. -/
theorem pay4_apply (l : Fin 128) (j : Fin 8192) : k1_pay4 (F := Ideal) (ix2 l j) = ((0 : ℝ) : EReal) := by
  unfold k1_pay4
  pointwise
  exact EReal.coe_zero.symm

/-- The first point's zeros. -/
theorem pay5_apply (l : Fin 128) (j : Fin 8192) : k1_pay5 (F := Ideal) (ix2 l j) = ((0 : ℝ) : EReal) := by
  unfold k1_pay5
  pointwise
  exact EReal.coe_zero.symm

/-- The block's second tile runs the first tile's operations. -/
theorem tiles (ds : Vec Ideal S256x1 .f32) : k1_pay14 x0 = k1_pay6 x0 ∧ k1_pay15 x0 = k1_pay6 x0 ∧ k1_pay7 x0 = k1_pay6 x0 ∧
    k1_pay16 x0 x1 s0 = k1_pay8 x0 x1 s0 ∧ k1_pay17 x0 g0 o0 x1 s0 x2 = k1_pay9 x0 g0 o0 x1 s0 x2 ∧
    k1_pay11 (k1_pay10 x0 g0 o0 x1 s0 x2 x1) (FloatOps.ofBits .f32 1037108716#32) = k1_pay1 (k1_pay9 x0 g0 o0 x1 s0 x2) x1 :=
  ⟨rfl, rfl, rfl, rfl, rfl, rfl⟩

/-- A cast to the same shape reads the same. -/
theorem pay6_apply (r : Fin 256) (l : Fin 128) : k1_pay6 x0 (ix2 r l) = x0 (ix2 r l) := by
  unfold k1_pay6
  pointwise

/-- A sum over a block's rows is the sum over its two tiles. -/
theorem sum_block (f : Fin 512 → ℝ) : ∑ r, f r = (∑ r : Fin 256, f ⟨0 + r.val, by omega⟩) + ∑ r : Fin 256, f ⟨256 + r.val, by omega⟩ := by
  rw [show (∑ r, f r) = ∑ r : Fin (256 + 256), f r from rfl, Fin.sum_univ_add]
  congr 1

section Block

variable (X G O : Vec Ideal S512x128 .bf16) (S : Vec Ideal S512x128 .f32) (Q Gr Or : Fin 512 → Fin 128 → ℝ) (Lr : Fin 512 → ℝ)

/-- The tile of 256 rows at row `o`. -/
abbrev rows (o : ℕ) (h : ∀ a, (![o, 0] : Fin 2 → ℕ) a + S256x128.size a ≤ S512x128.size a) : Rect S512x128 :=
  Rect.unit (s := S512x128) ![o, 0] ![256, 128] h

/-- The first lane of the 256 rows at row `o`. -/
abbrev col (o : ℕ) (h : ∀ a, (![o, 0] : Fin 2 → ℕ) a + S256x1.size a ≤ S512x128.size a) : Rect S512x128 :=
  Rect.unit (s := S512x128) ![o, 0] ![256, 1] h

/-- Such a tile's rows. -/
theorem ld_rows (X : Vec Ideal S512x128 .bf16) (Q : Fin 512 → Fin 128 → ℝ) (h0 : ∀ r l, X (ix2 r l) = ((Q r l : ℝ) : EReal)) (o : ℕ) (ho : o + 256 ≤ 512) (h) (r : Fin 256) (l : Fin 128) :
    View.ld X (rows o h) (ix2 r l) = ((Q ⟨o + r.val, by omega⟩ l : ℝ) : EReal) :=
  (View.ld_unit_apply_of X _ _ h (ix2 r l) (ix2 ⟨o + r.val, by omega⟩ l) fun d => by
    match d with
    | ⟨0, _⟩ => rfl
    | ⟨1, _⟩ => exact (Nat.zero_add _).symm).trans (h0 _ l)

/-- Such rows' statistics. -/
theorem ld_col (S : Vec Ideal S512x128 .f32) (Lr : Fin 512 → ℝ) (h0 : ∀ r l, S (ix2 r l) = ((Lr r : ℝ) : EReal)) (o : ℕ) (ho : o + 256 ≤ 512) (h) (r : Fin 256) :
    View.ld S (col o h) (ix2 r 0) = ((Lr ⟨o + r.val, by omega⟩ : ℝ) : EReal) :=
  (View.ld_unit_apply_of S _ _ h (ix2 r 0) (ix2 ⟨o + r.val, by omega⟩ 0) fun d => by
    match d with
    | ⟨0, _⟩ => rfl
    | ⟨1, _⟩ => rfl).trans (h0 _ 0)

variable (x1 x2 : Vec Ideal S8192x128 .bf16) (prev : FVec Ideal S128x8192 .f32)

/-- The gradient of the scores on the block's rows at `o`, as the tile computes it. -/
abbrev tileScores (o : ℕ) (h : ∀ a, (![o, 0] : Fin 2 → ℕ) a + S256x128.size a ≤ S512x128.size a)
    (h' : ∀ a, (![o, 0] : Fin 2 → ℕ) a + S256x1.size a ≤ S512x128.size a) : FVec Ideal S256x8192 .bf16 :=
  k1_pay9 (View.ld X (rows o h)) (View.ld G (rows o h)) (View.ld O (rows o h)) x1 (View.ld S (col o h')) x2

/-- The weights on the block's rows at `o`, as the tile computes them. -/
abbrev tileWeights (o : ℕ) (h : ∀ a, (![o, 0] : Fin 2 → ℕ) a + S256x128.size a ≤ S512x128.size a)
    (h' : ∀ a, (![o, 0] : Fin 2 → ℕ) a + S256x1.size a ≤ S512x128.size a) : FVec Ideal S256x8192 .f32 := k1_pay8 (View.ld X (rows o h)) x1 (View.ld S (col o h'))

/-- The head's gradient for the keys after the block, over `prev` before it. -/
def stepKeys : FVec Ideal S128x8192 .f32 :=
  k1_pay3 (k1_pay13 (k1_pay6 (View.ld X (rows 0 inb_S512x128_S256x128_0_0))) (tileScores X G O S x1 x2 0 inb_S512x128_S256x128_0_0 inb_S512x128_S256x1_0_0))
    (k1_pay6 (View.ld X (rows 256 inb_S512x128_S256x128_256_0))) (tileScores X G O S x1 x2 256 inb_S512x128_S256x128_256_0 inb_S512x128_S256x1_256_0) prev

/-- The head's gradient for the values after the block, over `prev` before it. -/
def stepValues : FVec Ideal S128x8192 .f32 :=
  k1_pay2 (k1_pay12 (k1_pay6 (View.ld G (rows 0 inb_S512x128_S256x128_0_0))) (tileWeights X S x1 0 inb_S512x128_S256x128_0_0 inb_S512x128_S256x1_0_0))
    (k1_pay6 (View.ld G (rows 256 inb_S512x128_S256x128_256_0))) (tileWeights X S x1 256 inb_S512x128_S256x128_256_0 inb_S512x128_S256x1_256_0) prev

/-- A block's six inputs are real. -/
structure Reads (Q Gr Or : Fin 512 → Fin 128 → ℝ) (Lr : Fin 512 → ℝ) (k v : Fin 8192 → Fin 128 → ℝ) : Prop where
  q : ∀ r l, X (ix2 r l) = ((Q r l : ℝ) : EReal)
  g : ∀ r l, G (ix2 r l) = ((Gr r l : ℝ) : EReal)
  o : ∀ r l, O (ix2 r l) = ((Or r l : ℝ) : EReal)
  s : ∀ r l, S (ix2 r l) = ((Lr r : ℝ) : EReal)
  k : ∀ j l, x1 (ix2 j l) = ((k j l : ℝ) : EReal)
  v : ∀ j l, x2 (ix2 j l) = ((v j l : ℝ) : EReal)

variable {X G O S x1 x2 Q Gr Or Lr k v}

theorem tileScores_apply (H : Reads X G O S x1 x2 Q Gr Or Lr k v) (o : ℕ) (ho : o + 256 ≤ 512) (h) (h') (r : Fin 256) (j : Fin 8192) :
    tileScores X G O S x1 x2 o h h' (ix2 r j) = ((AttentionLanes.dscore (Q ⟨o + r.val, by omega⟩) (Gr ⟨o + r.val, by omega⟩) (Or ⟨o + r.val, by omega⟩) (Lr ⟨o + r.val, by omega⟩) k v j : ℝ) : EReal) :=
  pay9_apply _ _ _ _ x1 x2 _ _ _ _ k v (ld_rows X Q H.q o ho h) (ld_rows G Gr H.g o ho h) (ld_rows O Or H.o o ho h) (ld_col S Lr H.s o ho h') H.k H.v r j

theorem tileWeights_apply (H : Reads X G O S x1 x2 Q Gr Or Lr k v) (o : ℕ) (ho : o + 256 ≤ 512) (h) (h') (r : Fin 256) (j : Fin 8192) :
    tileWeights X S x1 o h h' (ix2 r j) = ((AttentionLanes.weight (Q ⟨o + r.val, by omega⟩) k (Lr ⟨o + r.val, by omega⟩) j : ℝ) : EReal) :=
  pay8_apply _ _ x1 _ _ k (ld_rows X Q H.q o ho h) (ld_col S Lr H.s o ho h') H.k r j

/-- A block adds, for each of its rows, the row's query lane times its score gradient, times `log 2`. -/
theorem stepKeys_apply (H : Reads X G O S x1 x2 Q Gr Or Lr k v) (l : Fin 128) (j : Fin 8192) (P : ℝ) (hP : prev (ix2 l j) = ((P : ℝ) : EReal)) :
    stepKeys X G O S x1 x2 prev (ix2 l j) =
      ((P + (∑ r, Q r l * AttentionLanes.dscore (Q r) (Gr r) (Or r) (Lr r) k v j) * Real.log 2 : ℝ) : EReal) := by
  unfold stepKeys
  rw [pay3_apply, hP, sum_block]
  rw [pay13_apply _ _ _ _ (fun r l => (pay6_apply _ r l).trans (ld_rows X Q H.q 0 (by decide) _ r l)) (tileScores_apply H 0 (by decide) _ _),
    pay13_apply _ _ _ _ (fun r l => (pay6_apply _ r l).trans (ld_rows X Q H.q 256 (by decide) _ r l)) (tileScores_apply H 256 (by decide) _ _)]
  simp only [← EReal.coe_add, ← EReal.coe_mul]

/-- A block adds, for each of its rows, the row's output gradient times its weight. -/
theorem stepValues_apply (H : Reads X G O S x1 x2 Q Gr Or Lr k v) (l : Fin 128) (j : Fin 8192) (P : ℝ) (hP : prev (ix2 l j) = ((P : ℝ) : EReal)) :
    stepValues X G S x1 prev (ix2 l j) = ((P + ∑ r, Gr r l * AttentionLanes.weight (Q r) k (Lr r) j : ℝ) : EReal) := by
  unfold stepValues
  rw [pay2_apply, hP, sum_block]
  rw [pay12_apply _ _ _ _ (fun r l => (pay6_apply _ r l).trans (ld_rows G Gr H.g 0 (by decide) _ r l)) (tileWeights_apply H 0 (by decide) _ _),
    pay12_apply _ _ _ _ (fun r l => (pay6_apply _ r l).trans (ld_rows G Gr H.g 256 (by decide) _ r l)) (tileWeights_apply H 256 (by decide) _ _)]
  simp only [← EReal.coe_add]

end Block

variable (V : (c : Dev nD) → (b : Ref sig .tc) → Buf (Elt Ideal) ((c : Thread nD τ).loc b)) (c : Dev nD) (t : Fin cfg1.N)

/-- The head's first block starts from zeros. -/
theorem keys_first (h0 : t.val % 16 = 0) : (outsAt1 V c t.val t.isLt).2.1 =
    stepKeys (iblk1 V c 0 t) (iblk1 V c 1 t) (iblk1 V c 2 t) (iblk1 V c 3 t) (iblk1 V c 4 t) (iblk1 V c 5 t) (k1_pay4 (F := Ideal)) := by
  rw [outsAt1_A V c t h0]
  frame_out
  rfl

theorem values_first (h0 : t.val % 16 = 0) : (outsAt1 V c t.val t.isLt).2.2 =
    stepValues (iblk1 V c 0 t) (iblk1 V c 1 t) (iblk1 V c 3 t) (iblk1 V c 4 t) (k1_pay5 (F := Ideal)) := by
  rw [outsAt1_A V c t h0]
  frame_out
  rfl

/-- A later block adds to what the block before left. -/
theorem keys_next (h0 : ¬ t.val % 16 = 0) : (outsAt1 V c t.val t.isLt).2.1 =
    stepKeys (iblk1 V c 0 t) (iblk1 V c 1 t) (iblk1 V c 2 t) (iblk1 V c 3 t) (iblk1 V c 4 t) (iblk1 V c 5 t)
      (outsAt1 V c (t.val - 1) (Nat.lt_of_le_of_lt (Nat.sub_le _ _) t.isLt)).2.1 := by
  rw [outsAt1_B V c t h0]
  frame_out
  rfl

theorem values_next (h0 : ¬ t.val % 16 = 0) : (outsAt1 V c t.val t.isLt).2.2 =
    stepValues (iblk1 V c 0 t) (iblk1 V c 1 t) (iblk1 V c 3 t) (iblk1 V c 4 t)
      (outsAt1 V c (t.val - 1) (Nat.lt_of_le_of_lt (Nat.sub_le _ _) t.isLt)).2.2 := by
  rw [outsAt1_B V c t h0]
  frame_out
  rfl

variable {Q Gr Or : Fin 512 → Fin 128 → ℝ} {Lr : Fin 512 → ℝ} {k v : Fin 8192 → Fin 128 → ℝ}

/-- The two tiles' gradients for the queries, as the block's output holds them. -/
theorem queries_pieces : (outsAt1 V c t.val t.isLt).1 = View.canon
    [⟨rows 256 inb_S512x128_S256x128_256_0, k1_pay1 (tileScores (iblk1 V c 0 t) (iblk1 V c 1 t) (iblk1 V c 2 t) (iblk1 V c 3 t) (iblk1 V c 4 t) (iblk1 V c 5 t) 256 inb_S512x128_S256x128_256_0 inb_S512x128_S256x1_256_0) (iblk1 V c 4 t)⟩,
      ⟨rows 0 inb_S512x128_S256x128_0_0, k1_pay1 (tileScores (iblk1 V c 0 t) (iblk1 V c 1 t) (iblk1 V c 2 t) (iblk1 V c 3 t) (iblk1 V c 4 t) (iblk1 V c 5 t) 0 inb_S512x128_S256x128_0_0 inb_S512x128_S256x1_0_0) (iblk1 V c 4 t)⟩] := by
  by_cases h0 : t.val % 16 = 0
  · rw [outsAt1_A V c t h0]
    frame_out
    rfl
  · rw [outsAt1_B V c t h0]
    frame_out
    rfl

/-- The two tiles cover the block. -/
theorem cover_rows (a b : Vec Ideal S256x128 .f32) (y : S512x128.Idx) :
    ∃ pc ∈ ([⟨rows 256 inb_S512x128_S256x128_256_0, a⟩, ⟨rows 0 inb_S512x128_S256x128_0_0, b⟩] : List (View.Piece (Elt Ideal) S512x128 .f32)), y ∈ pc.1.set :=
  View.cover_of_tiled [⟨rows 256 inb_S512x128_S256x128_256_0, a⟩, ⟨rows 0 inb_S512x128_S256x128_0_0, b⟩] S256x128.size (by rfl) y

/-- A tile's gradient for the queries, at its place in the block. -/
theorem tile_queries {X G O : Vec Ideal S512x128 .bf16} {S : Vec Ideal S512x128 .f32} {x1 x2 : Vec Ideal S8192x128 .bf16}
    (H : Reads X G O S x1 x2 Q Gr Or Lr k v) (s : ℝ) (hs : Ideal.ofBits .f32 0x3DD105EC#32 = ((s : ℝ) : EReal)) (i : S512x128.Idx)
    (o : ℕ) (ho : o + 256 ≤ 512) (h) (h') (x : S256x128.Idx) (hr : (i 0 : ℕ) = o + x 0) (hl : (i 1 : ℕ) = x 1) :
    k1_pay1 (tileScores X G O S x1 x2 o h h') x1 x =
      (((∑ j, AttentionLanes.dscore (Q (i 0)) (Gr (i 0)) (Or (i 0)) (Lr (i 0)) k v j * k j (i 1)) * s : ℝ) : EReal) := by
  have e0 : i 0 = (⟨o + (x 0).val, lt_of_lt_of_le (Nat.add_lt_add_left (x 0).isLt o) ho⟩ : Fin 512) := Fin.ext hr
  have e1 : i 1 = (x 1 : Fin 128) := Fin.ext hl
  rw [e0, e1]
  have a := pay1_apply _ k _ _ s hs (tileScores_apply H o ho h h') H.k (x 0) (x 1)
  rw [ix2_eta x] at a
  exact a

/-- A block's gradient for the queries. -/
theorem queries_apply (s : ℝ) (hs : Ideal.ofBits .f32 0x3DD105EC#32 = ((s : ℝ) : EReal))
    (H : Reads (iblk1 V c 0 t) (iblk1 V c 1 t) (iblk1 V c 2 t) (iblk1 V c 3 t) (iblk1 V c 4 t) (iblk1 V c 5 t) Q Gr Or Lr k v)
    (i : S512x128.Idx) : (outsAt1 V c t.val t.isLt).1 i =
      (((∑ j, AttentionLanes.dscore (Q (i 0)) (Gr (i 0)) (Or (i 0)) (Lr (i 0)) k v j * k j (i 1)) * s : ℝ) : EReal) := by
  rw [queries_pieces]
  generalize iblk1 V c 0 t = X, iblk1 V c 1 t = G, iblk1 V c 2 t = O, iblk1 V c 3 t = S, iblk1 V c 4 t = x1, iblk1 V c 5 t = x2 at H ⊢
  canon_tiles x h using cover_rows ..
  · exact tile_queries H s hs i 256 (by decide) _ _ x (by assumption) (by assumption)
  · exact tile_queries H s hs i 0 (by decide) _ _ x (by omega) (by assumption)

end AttentionBwd
-- ==== Proof.Arrays.lean ====
module

public import proofs.«01_k».proof.Proof.Bwd

@[expose] public section

/-!
# What the two kernels leave in their arrays

An array of 8192 rows holds eight heads side by side, 128 lanes each.
-/

noncomputable section

open Idealize.ShloMosaic Idealize.ShloMosaic.TcCoe Idealize.SL.Sem
open Cert.KernelIdeal Cert.KernelIdeal.Gen

namespace AttentionArrays

/-- The head a lane of an array lies in, and its place there. -/
def hd (j : Fin 1024) : Fin 8 := ⟨j.val / 128, by omega⟩
def ln (j : Fin 1024) : Fin 128 := ⟨j.val % 128, by omega⟩

/-- Eight heads side by side. -/
def heads (A : Fin 8 → Fin 8192 → Fin 128 → ℝ) : S8192x1024.Idx → EReal := fun i => ((A (hd (i 1)) (i 0) (ln (i 1)) : ℝ) : EReal)

/-- An entry of the heads at the coordinates a block places it. -/
theorem heads_at (A : Fin 8 → Fin 8192 → Fin 128 → ℝ) (i : S8192x1024.Idx) (h : Fin 8) (r : Fin 8192) (l : Fin 128)
    (h0 : (i 0 : ℕ) = r) (h1 : (i 1 : ℕ) = h * 128 + l) : heads A i = ((A h r l : ℝ) : EReal) := by
  have e0 : i 0 = r := Fin.ext h0
  have e1 : hd (i 1) = h := Fin.ext (by show (i 1 : ℕ) / 128 = h; omega)
  have e2 : ln (i 1) = l := Fin.ext (by show (i 1 : ℕ) % 128 = l; omega)
  unfold heads
  rw [e0, e1, e2]

variable (V : (c : Dev nD) → (b : Ref sig .tc) → Buf (Elt Ideal) ((c : Thread nD τ).loc b)) (c : Dev nD)
  (Q K W G : Fin 8 → Fin 8192 → Fin 128 → ℝ)

section Forward

theorem idx0_0 : ∀ t : Fin cfg0.N, win0_0.index t = ![t.val % 8, t.val / 8] := (by decide +kernel : ∀ t : Fin grid0.N, _)
theorem idx0_1 : ∀ t : Fin cfg0.N, win0_1.index t = ![0, t.val / 8] := (by decide +kernel : ∀ t : Fin grid0.N, _)
theorem idx0_2 : ∀ t : Fin cfg0.N, win0_2.index t = ![0, t.val / 8] := (by decide +kernel : ∀ t : Fin grid0.N, _)
theorem idx0_3 : ∀ t : Fin cfg0.N, win0_3.index t = ![t.val % 8, t.val / 8] := (by decide +kernel : ∀ t : Fin grid0.N, _)
theorem idx0_4 : ∀ t : Fin cfg0.N, win0_4.index t = ![t.val % 8, t.val / 8] := (by decide +kernel : ∀ t : Fin grid0.N, _)

theorem lt0 (t : Fin cfg0.N) : t.val < 64 := (by decide : grid0.N = 64) ▸ t.isLt

/-- A point's head and the row a row of its block is. -/
def head0 (t : Fin cfg0.N) : Fin 8 := ⟨t.val / 8, by have := lt0 t; omega⟩
def row0 (t : Fin cfg0.N) (r : Fin 1024) : Fin 8192 := ⟨t.val % 8 * 1024 + r.val, by omega⟩

theorem read0_0 (hq : V c main_v15 = heads Q) (t : Fin cfg0.N) (r : Fin 1024) (l : Fin 128) :
    iblk0 V c 0 t (ix2 r l) = ((Q (head0 t) (row0 t r) l : ℝ) : EReal) := by
  refine (congrFun hq _).trans (heads_at Q _ _ _ _ ?_ ?_)
  · blk_simp [idx0_0 t]; rfl
  · blk_simp [idx0_0 t]; rfl

theorem read0_1 (hk : V c main_v18 = heads K) (t : Fin cfg0.N) (r : Fin 8192) (l : Fin 128) :
    iblk0 V c 1 t (ix2 r l) = ((K (head0 t) r l : ℝ) : EReal) := by
  refine (congrFun hk _).trans (heads_at K _ _ _ _ ?_ ?_)
  · blk_simp [idx0_1 t]
  · blk_simp [idx0_1 t]; rfl

theorem read0_2 (hv : V c main_v23 = heads W) (t : Fin cfg0.N) (r : Fin 8192) (l : Fin 128) :
    iblk0 V c 2 t (ix2 r l) = ((W (head0 t) r l : ℝ) : EReal) := by
  refine (congrFun hv _).trans (heads_at W _ _ _ _ ?_ ?_)
  · blk_simp [idx0_2 t]
  · blk_simp [idx0_2 t]; rfl

/-- The forward call's first array: every row's output, head by head. -/
theorem final0_3 (hq : V c main_v15 = heads Q) (hk : V c main_v18 = heads K) (hv : V c main_v23 = heads W) (hone : ∀ h j, W h j 64 = 1) :
    (dat0 V c).arrAt 3 cfg0.N = heads fun h r l => AttentionLanes.out (Q h r) (K h) (W h) l := by
  refine (dat0 V c).arrAt_eq_of_covers 3 _ (by decide +kernel) fun t hf y => ?_
  blk_simp
  rw [after0_3]
  rw [heads_at _ _ (head0 t) (row0 t (y 0)) (y 1) (by blk_simp [idx0_3 t]; rfl) (by blk_simp [idx0_3 t]; rfl)]
  exact (AttentionFwd.block_apply _ _ _ _ _ _ (read0_0 V c Q hq t) (read0_1 V c K hk t) (read0_2 V c W hv t) (hone _) y).1

/-- The forward call's second array: every row's base-2 log of its sum, on each lane of its head. -/
theorem final0_4 (hq : V c main_v15 = heads Q) (hk : V c main_v18 = heads K) (hv : V c main_v23 = heads W) (hone : ∀ h j, W h j 64 = 1) :
    (dat0 V c).arrAt 4 cfg0.N = heads fun h r _ => AttentionLanes.lse (Q h r) (K h) := by
  refine (dat0 V c).arrAt_eq_of_covers 4 _ (by decide +kernel) fun t hf y => ?_
  blk_simp
  rw [after0_4]
  rw [heads_at _ _ (head0 t) (row0 t (y 0)) (y 1) (by blk_simp [idx0_4 t]; rfl) (by blk_simp [idx0_4 t]; rfl)]
  exact (AttentionFwd.block_apply _ _ _ _ _ _ (read0_0 V c Q hq t) (read0_1 V c K hk t) (read0_2 V c W hv t) (hone _) y).2

end Forward

section Backward

theorem idx1_0 : ∀ t : Fin cfg1.N, win1_0.index t = ![t.val % 16, t.val / 16] := (by decide +kernel : ∀ t : Fin grid1.N, _)
theorem idx1_1 : ∀ t : Fin cfg1.N, win1_1.index t = ![t.val % 16, t.val / 16] := (by decide +kernel : ∀ t : Fin grid1.N, _)
theorem idx1_2 : ∀ t : Fin cfg1.N, win1_2.index t = ![t.val % 16, t.val / 16] := (by decide +kernel : ∀ t : Fin grid1.N, _)
theorem idx1_3 : ∀ t : Fin cfg1.N, win1_3.index t = ![t.val % 16, t.val / 16] := (by decide +kernel : ∀ t : Fin grid1.N, _)
theorem idx1_4 : ∀ t : Fin cfg1.N, win1_4.index t = ![0, t.val / 16] := (by decide +kernel : ∀ t : Fin grid1.N, _)
theorem idx1_5 : ∀ t : Fin cfg1.N, win1_5.index t = ![0, t.val / 16] := (by decide +kernel : ∀ t : Fin grid1.N, _)
theorem idx1_6 : ∀ t : Fin cfg1.N, win1_6.index t = ![t.val % 16, t.val / 16] := (by decide +kernel : ∀ t : Fin grid1.N, _)
theorem idx1_7 : ∀ t : Fin cfg1.N, win1_7.index t = ![t.val / 16, 0] := (by decide +kernel : ∀ t : Fin grid1.N, _)
theorem idx1_8 : ∀ t : Fin cfg1.N, win1_8.index t = ![t.val / 16, 0] := (by decide +kernel : ∀ t : Fin grid1.N, _)
theorem flush1 : ∀ t : Fin cfg1.N, (win1_7.flush t = true → t.val % 16 = 15) ∧ (win1_8.flush t = true → t.val % 16 = 15) :=
  (by decide +kernel : ∀ t : Fin grid1.N, _)

theorem lt1 (n : ℕ) (h : n < cfg1.N) : n < 128 := (by decide : grid1.N = 128) ▸ h

/-- A point's head and the row a row of its block is. -/
def head1 (n : ℕ) (h : n < cfg1.N) : Fin 8 := ⟨n / 16, by have := lt1 n h; omega⟩
def row1 (n : ℕ) (r : Fin 512) : Fin 8192 := ⟨n % 16 * 512 + r.val, by omega⟩

variable (O : Fin 8 → Fin 8192 → Fin 128 → ℝ) (L : Fin 8 → Fin 8192 → ℝ)

/-- The backward call's six inputs, as reals. -/
structure Inputs : Prop where
  q : V c main_v15 = heads Q
  g : V c main_v27 = heads G
  o : V c main_v28_0 = heads O
  s : V c main_v28_1 = heads fun h r _ => L h r
  k : V c main_v18 = heads K
  v : V c main_v23 = heads W

variable {V c Q K W G O L}

theorem reads (H : Inputs V c Q K W G O L) (t : Fin cfg1.N) :
    AttentionBwd.Reads (iblk1 V c 0 t) (iblk1 V c 1 t) (iblk1 V c 2 t) (iblk1 V c 3 t) (iblk1 V c 4 t) (iblk1 V c 5 t)
      (fun r => Q (head1 t.val t.isLt) (row1 t.val r)) (fun r => G (head1 t.val t.isLt) (row1 t.val r)) (fun r => O (head1 t.val t.isLt) (row1 t.val r))
      (fun r => L (head1 t.val t.isLt) (row1 t.val r)) (K (head1 t.val t.isLt)) (W (head1 t.val t.isLt)) where
  q r l := by
    refine (congrFun H.q _).trans (heads_at Q _ _ _ _ ?_ ?_)
    · blk_simp [idx1_0 t]; rfl
    · blk_simp [idx1_0 t]; rfl
  g r l := by
    refine (congrFun H.g _).trans (heads_at G _ _ _ _ ?_ ?_)
    · blk_simp [idx1_1 t]; rfl
    · blk_simp [idx1_1 t]; rfl
  o r l := by
    refine (congrFun H.o _).trans (heads_at O _ _ _ _ ?_ ?_)
    · blk_simp [idx1_2 t]; rfl
    · blk_simp [idx1_2 t]; rfl
  s r l := by
    refine (congrFun H.s _).trans (heads_at _ _ (head1 t.val t.isLt) (row1 t.val r) l ?_ ?_)
    · blk_simp [idx1_3 t]; rfl
    · blk_simp [idx1_3 t]; rfl
  k r l := by
    refine (congrFun H.k _).trans (heads_at K _ _ _ _ ?_ ?_)
    · blk_simp [idx1_4 t]
    · blk_simp [idx1_4 t]; rfl
  v r l := by
    refine (congrFun H.v _).trans (heads_at W _ _ _ _ ?_ ?_)
    · blk_simp [idx1_5 t]
    · blk_simp [idx1_5 t]; rfl

/-- The backward call's first array: the gradient for the queries, head by head. -/
theorem final1_6 (H : Inputs V c Q K W G O L) (s : ℝ) (hs : Ideal.ofBits .f32 0x3DD105EC#32 = ((s : ℝ) : EReal)) :
    (dat1 V c).arrAt 6 cfg1.N = heads fun h r l => (∑ j, AttentionLanes.dscore (Q h r) (G h r) (O h r) (L h r) (K h) (W h) j * K h j l) * s := by
  refine (dat1 V c).arrAt_eq_of_covers 6 _ (by decide +kernel) fun t hf y => ?_
  blk_simp
  rw [after1_6]
  rw [heads_at _ _ (head1 t.val t.isLt) (row1 t.val (y 0)) (y 1) (by blk_simp [idx1_6 t]; rfl) (by blk_simp [idx1_6 t]; rfl)]
  exact AttentionBwd.queries_apply V c t s hs (reads H t) y

/-- A run of blocks that starts at the base point and adds at the others holds the sum of the additions so far. -/
theorem run_sum (f : (n : ℕ) → n < cfg1.N → EReal) (a : (n : ℕ) → n < cfg1.N → ℝ)
    (h0 : ∀ n hn, n % 16 = 0 → f n hn = ((0 + a n hn : ℝ) : EReal))
    (h1 : ∀ n hn (P : ℝ), ¬ n % 16 = 0 → f (n - 1) (Nat.lt_of_le_of_lt (Nat.sub_le _ _) hn) = ((P : ℝ) : EReal) → f n hn = ((P + a n hn : ℝ) : EReal))
    (b : ℕ → ℕ → ℝ) (hb : ∀ n hn, a n hn = b (n / 16) (n % 16)) :
    ∀ n hn, f n hn = ((∑ x ∈ Finset.range (n % 16 + 1), b (n / 16) x : ℝ) : EReal) := by
  intro n
  induction n with
  | zero => intro hn; rw [h0 0 hn rfl, hb]; simp
  | succ n ih =>
    intro hn
    by_cases h : (n + 1) % 16 = 0
    · rw [h0 _ hn h, hb, h]; simp
    · have e1 : (n + 1) / 16 = n / 16 := by omega
      have e2 : (n + 1) % 16 = n % 16 + 1 := by omega
      rw [h1 (n + 1) hn _ h (ih _), hb, e1, e2, Finset.sum_range_succ _ (n % 16 + 1)]

/-- Sixteen blocks of 512 rows are the 8192 rows. -/
theorem sum_rows (f : Fin 8192 → ℝ) : ∑ x ∈ Finset.range (15 + 1), ∑ r : Fin 512, f (row1 x r) = ∑ i, f i := by
  rw [Finset.sum_range]
  exact Fin.sum_mul_add_congr fun s k hl => congrArg f (Fin.ext (by
    show s.val % 16 * 512 + k.val = s.val * 512 + k.val
    omega))

/-- Eight heads one below the other, a head's lanes by keys. -/
def tall (A : Fin 8 → Fin 128 → Fin 8192 → ℝ) : S1024x8192.Idx → EReal := fun i => ((A (hd (i 0)) (ln (i 0)) (i 1) : ℝ) : EReal)

theorem tall_at (A : Fin 8 → Fin 128 → Fin 8192 → ℝ) (i : S1024x8192.Idx) (h : Fin 8) (l : Fin 128) (j : Fin 8192)
    (h0 : (i 0 : ℕ) = h * 128 + l) (h1 : (i 1 : ℕ) = j) : tall A i = ((A h l j : ℝ) : EReal) := by
  have e0 : i 1 = j := Fin.ext h1
  have e1 : hd (i 0) = h := Fin.ext (by show (i 0 : ℕ) / 128 = h; omega)
  have e2 : ln (i 0) = l := Fin.ext (by show (i 0 : ℕ) % 128 = l; omega)
  unfold tall
  rw [e0, e1, e2]

/-- A number as a head. -/
def headOf (x : ℕ) : Fin 8 := ⟨x % 8, by omega⟩

theorem head1_eq (n : ℕ) (hn : n < cfg1.N) : head1 n hn = headOf (n / 16) :=
  Fin.ext (by have := lt1 n hn; show n / 16 = n / 16 % 8; omega)

theorem row1_mod (n : ℕ) (r : Fin 512) : row1 n r = row1 (n % 16) r :=
  Fin.ext (by show n % 16 * 512 + r.val = n % 16 % 16 * 512 + r.val; omega)

/-- What a point adds to the keys' gradient at a lane and a key. -/
def addKeys (Q K W G O : Fin 8 → Fin 8192 → Fin 128 → ℝ) (L : Fin 8 → Fin 8192 → ℝ) (l : Fin 128) (j : Fin 8192) (h : Fin 8) (x : ℕ) : ℝ :=
  (∑ r : Fin 512, Q h (row1 x r) l * AttentionLanes.dscore (Q h (row1 x r)) (G h (row1 x r)) (O h (row1 x r)) (L h (row1 x r)) (K h) (W h) j) * Real.log 2

/-- What a point adds to the values' gradient at a lane and a key. -/
def addValues (Q K G : Fin 8 → Fin 8192 → Fin 128 → ℝ) (L : Fin 8 → Fin 8192 → ℝ) (l : Fin 128) (j : Fin 8192) (h : Fin 8) (x : ℕ) : ℝ :=
  ∑ r : Fin 512, G h (row1 x r) l * AttentionLanes.weight (Q h (row1 x r)) (K h) (L h (row1 x r)) j

/-- The keys' gradient after a point: the sum over the head's blocks so far. -/
theorem keys_after (H : Inputs V c Q K W G O L) (l : Fin 128) (j : Fin 8192) (n : ℕ) (hn : n < cfg1.N) :
    (outsAt1 V c n hn).2.1 (ix2 l j) = ((∑ x ∈ Finset.range (n % 16 + 1), addKeys Q K W G O L l j (headOf (n / 16)) x : ℝ) : EReal) := by
  refine run_sum (fun n hn => (outsAt1 V c n hn).2.1 (ix2 l j)) (fun n hn => addKeys Q K W G O L l j (head1 n hn) n) ?_ ?_
    (fun a x => addKeys Q K W G O L l j (headOf a) x) ?_ n hn
  · intro n hn h
    have e := AttentionBwd.keys_first V c ⟨n, hn⟩ h
    refine (congrFun e _).trans ?_
    exact AttentionBwd.stepKeys_apply _ (reads H ⟨n, hn⟩) l j 0 (AttentionBwd.pay4_apply l j)
  · intro n hn P h hP
    have e := AttentionBwd.keys_next V c ⟨n, hn⟩ h
    refine (congrFun e _).trans ?_
    exact AttentionBwd.stepKeys_apply _ (reads H ⟨n, hn⟩) l j P hP
  · intro n hn
    unfold addKeys
    simp only [head1_eq, row1_mod n]

/-- The values' gradient after a point: the sum over the head's blocks so far. -/
theorem values_after (H : Inputs V c Q K W G O L) (l : Fin 128) (j : Fin 8192) (n : ℕ) (hn : n < cfg1.N) :
    (outsAt1 V c n hn).2.2 (ix2 l j) = ((∑ x ∈ Finset.range (n % 16 + 1), addValues Q K G L l j (headOf (n / 16)) x : ℝ) : EReal) := by
  refine run_sum (fun n hn => (outsAt1 V c n hn).2.2 (ix2 l j)) (fun n hn => addValues Q K G L l j (head1 n hn) n) ?_ ?_
    (fun a x => addValues Q K G L l j (headOf a) x) ?_ n hn
  · intro n hn h
    have e := AttentionBwd.values_first V c ⟨n, hn⟩ h
    refine (congrFun e _).trans ?_
    exact AttentionBwd.stepValues_apply _ (reads H ⟨n, hn⟩) l j 0 (AttentionBwd.pay5_apply l j)
  · intro n hn P h hP
    have e := AttentionBwd.values_next V c ⟨n, hn⟩ h
    refine (congrFun e _).trans ?_
    exact AttentionBwd.stepValues_apply _ (reads H ⟨n, hn⟩) l j P hP
  · intro n hn
    unfold addValues
    simp only [head1_eq, row1_mod n]

/-- The backward call's second array: the gradient for the keys, turned, head by head. -/
theorem final1_7 (H : Inputs V c Q K W G O L) : (dat1 V c).arrAt 7 cfg1.N = tall fun h l j =>
    (∑ r, Q h r l * AttentionLanes.dscore (Q h r) (G h r) (O h r) (L h r) (K h) (W h) j) * Real.log 2 := by
  refine (dat1 V c).arrAt_eq_of_covers 7 _ (by decide +kernel) fun t hf y => ?_
  have h15 := (flush1 t).1 hf
  blk_simp
  rw [after1_7]
  rw [tall_at _ _ (head1 t.val t.isLt) (y 0) (y 1) (by blk_simp [idx1_7 t]; rfl) (by blk_simp [idx1_7 t])]
  have e := keys_after H (y 0) (y 1) t.val t.isLt
  rw [h15, ← head1_eq _ t.isLt] at e
  unfold addKeys at e
  rw [← Finset.sum_mul, sum_rows fun r => Q (head1 t.val t.isLt) r (y 0) * AttentionLanes.dscore (Q (head1 t.val t.isLt) r) (G (head1 t.val t.isLt) r)
    (O (head1 t.val t.isLt) r) (L (head1 t.val t.isLt) r) (K (head1 t.val t.isLt)) (W (head1 t.val t.isLt)) (y 1), ix2_eta y] at e
  exact e

/-- The backward call's third array: the gradient for the values, turned, head by head. -/
theorem final1_8 (H : Inputs V c Q K W G O L) : (dat1 V c).arrAt 8 cfg1.N = tall fun h l j =>
    ∑ r, G h r l * AttentionLanes.weight (Q h r) (K h) (L h r) j := by
  refine (dat1 V c).arrAt_eq_of_covers 8 _ (by decide +kernel) fun t hf y => ?_
  have h15 := (flush1 t).2 hf
  blk_simp
  rw [after1_8]
  rw [tall_at _ _ (head1 t.val t.isLt) (y 0) (y 1) (by blk_simp [idx1_8 t]; rfl) (by blk_simp [idx1_8 t])]
  have e := values_after H (y 0) (y 1) t.val t.isLt
  rw [h15, ← head1_eq _ t.isLt] at e
  unfold addValues at e
  rw [sum_rows fun r => G (head1 t.val t.isLt) r (y 0) * AttentionLanes.weight (Q (head1 t.val t.isLt) r) (K (head1 t.val t.isLt)) (L (head1 t.val t.isLt) r) (y 1), ix2_eta y] at e
  exact e

end Backward

end AttentionArrays
-- ==== Proof.Host.lean ====
module

public import proofs.«01_k».proof.Proof.Arrays
public import Idealize.ShloMosaic.Lib.IdealHost

@[expose] public section

/-!
# What the host prepares for the two kernels, and what it makes of their arrays
-/

noncomputable section

open Idealize.ShloMosaic Idealize.ShloMosaic.TcCoe Idealize.SL.Sem
open Cert.KernelIdeal Cert.KernelIdeal.Gen

namespace AttentionHost
open AttentionArrays

variable (m : (ℓ : Loc nD τ sig) → Buf (Elt Ideal) ℓ) (ρ : Dev nD → PrngReg) (c : Dev nD)

/-- Eight heads of 64 entries, a one (`o`) and zeros behind each. -/
def widened (a : FVec Ideal S8192x8x64 .f32) : FVec Ideal S8192x8x128 .f32 :=
  concatenate S8192x8x128 2 [⟨S8192x8x64, a⟩, ⟨S8192x8x64, broadcastInDim S8192x8x64 ![] bcast_S_S8192x8x64 (constant (F := Ideal) S_ .f32 0x00000000#32)⟩] concatenates_S8192x8x64_S8192x8x64_S8192x8x128_d2

theorem widened_apply (a : FVec Ideal S8192x8x64 .f32) (f : Fin 64 → ℝ) (r : Fin 8192) (h : Fin 8)
    (ha : ∀ d, a (ix3 r h d) = ((f d : ℝ) : EReal)) (l : Fin 128) :
    widened a (ix3 r h l) = ((widen 0 f l : ℝ) : EReal) := by
  unfold widened widen
  pointwise
  split_ifs with h1 h2
  · exact ha _
  · rfl
  · rfl

/-- The lanes of a head, the rotary entries before the others in each half. -/
def laned (x : FVec Ideal S8192x16x96 .f32) : FVec Ideal S8192x16x128 .f32 :=
  concatenate S8192x16x128 2 [⟨S8192x16x8, extractStridedSlice S8192x16x8 ![0, 0, 64] x slices_S8192x16x96_S8192x16x8_0_0_64⟩,
    ⟨S8192x16x8, extractStridedSlice S8192x16x8 ![0, 0, 80] x slices_S8192x16x96_S8192x16x8_0_0_80⟩,
    ⟨S8192x16x32, extractStridedSlice S8192x16x32 ![0, 0, 0] x slices_S8192x16x96_S8192x16x32_0_0_0⟩,
    ⟨S8192x16x16, broadcastInDim S8192x16x16 ![] bcast_S_S8192x16x16 (constant (F := Ideal) S_ .f32 0x00000000#32)⟩,
    ⟨S8192x16x8, extractStridedSlice S8192x16x8 ![0, 0, 72] x slices_S8192x16x96_S8192x16x8_0_0_72⟩,
    ⟨S8192x16x8, extractStridedSlice S8192x16x8 ![0, 0, 88] x slices_S8192x16x96_S8192x16x8_0_0_88⟩,
    ⟨S8192x16x32, extractStridedSlice S8192x16x32 ![0, 0, 32] x slices_S8192x16x96_S8192x16x32_0_0_32⟩,
    ⟨S8192x16x16, broadcastInDim S8192x16x16 ![] bcast_S_S8192x16x16 (constant (F := Ideal) S_ .f32 0x00000000#32)⟩]
    concatenates_S8192x16x8_S8192x16x8_S8192x16x32_S8192x16x16_S8192x16x8_S8192x16x8_S8192x16x32_S8192x16x16_S8192x16x128_d2

/-- The entries the lanes hold, range by range. -/
theorem entry_ranges (f : Fin 96 → ℝ) : ∀ l : Fin 128,
    (∀ h : l.val < 8, entry l = some ⟨64 + l.val, by omega⟩) ∧
    (∀ h : 8 ≤ l.val ∧ l.val < 16, entry l = some ⟨80 + (l.val - 8), by omega⟩) ∧
    (∀ h : 16 ≤ l.val ∧ l.val < 48, entry l = some ⟨l.val - 8 - 8, by omega⟩) ∧
    (48 ≤ l.val ∧ l.val < 64 → entry l = none) ∧
    (∀ h : 64 ≤ l.val ∧ l.val < 72, entry l = some ⟨72 + (l.val - 8 - 8 - 32 - 16), by omega⟩) ∧
    (∀ h : 72 ≤ l.val ∧ l.val < 80, entry l = some ⟨88 + (l.val - 8 - 8 - 32 - 16 - 8), by omega⟩) ∧
    (∀ h : 80 ≤ l.val ∧ l.val < 112, entry l = some ⟨32 + (l.val - 8 - 8 - 32 - 16 - 8 - 8), by omega⟩) ∧
    (112 ≤ l.val → entry l = none) := by decide +kernel

theorem laned_apply (x : FVec Ideal S8192x16x96 .f32) (f : Fin 96 → ℝ) (r : Fin 8192) (h : Fin 16)
    (hx : ∀ d, x (ix3 r h d) = ((f d : ℝ) : EReal)) (l : Fin 128) :
    laned x (ix3 r h l) = ((spread f l : ℝ) : EReal) := by
  obtain ⟨e1, e2, e3, e4, e5, e6, e7, e8⟩ := entry_ranges f l
  unfold laned
  pointwise
  by_cases h1 : l.val < 8
  · rw [dif_pos h1]
    exact (hx _).trans (by rw [spread, e1 h1]; rfl)
  by_cases h2 : l.val - 8 < 8
  · rw [dif_neg h1, dif_pos h2]
    exact (hx _).trans (by rw [spread, e2 (by omega)]; rfl)
  by_cases h3 : l.val - 8 - 8 < 32
  · rw [dif_neg h1, dif_neg h2, dif_pos h3]
    exact (hx _).trans (by rw [spread, e3 (by omega)]; rfl)
  by_cases h4 : l.val - 8 - 8 - 32 < 16
  · rw [dif_neg h1, dif_neg h2, dif_neg h3, dif_pos h4]
    rw [spread, e4 (by omega)]; rfl
  by_cases h5 : l.val - 8 - 8 - 32 - 16 < 8
  · rw [dif_neg h1, dif_neg h2, dif_neg h3, dif_neg h4, dif_pos h5]
    exact (hx _).trans (by rw [spread, e5 (by omega)]; rfl)
  by_cases h6 : l.val - 8 - 8 - 32 - 16 - 8 < 8
  · rw [dif_neg h1, dif_neg h2, dif_neg h3, dif_neg h4, dif_neg h5, dif_pos h6]
    exact (hx _).trans (by rw [spread, e6 (by omega)]; rfl)
  by_cases h7 : l.val - 8 - 8 - 32 - 16 - 8 - 8 < 32
  · rw [dif_neg h1, dif_neg h2, dif_neg h3, dif_neg h4, dif_neg h5, dif_neg h6, dif_pos h7]
    exact (hx _).trans (by rw [spread, e7 (by omega)]; rfl)
  rw [dif_neg h1, dif_neg h2, dif_neg h3, dif_neg h4, dif_neg h5, dif_neg h6, dif_neg h7]
  rw [spread, e8 (by omega)]; rfl

/-- Queries and keys side by side. -/
def joined (a b : FVec Ideal S8192x8x96 .f32) : FVec Ideal S8192x16x96 .f32 :=
  concatenate S8192x16x96 1 [⟨S8192x8x96, a⟩, ⟨S8192x8x96, b⟩] concatenates_S8192x8x96_S8192x8x96_S8192x16x96_d1

/-- Eight heads of 64 entries, a one behind each, then zeros. -/
def oned (a : FVec Ideal S8192x8x64 .f32) : FVec Ideal S8192x8x128 .f32 :=
  concatenate S8192x8x128 2 [⟨S8192x8x64, a⟩, ⟨S8192x8x1, broadcastInDim S8192x8x1 ![] bcast_S_S8192x8x1 (constant (F := Ideal) S_ .f32 0x3F800000#32)⟩,
    ⟨S8192x8x63, broadcastInDim S8192x8x63 ![] bcast_S_S8192x8x63 (constant (F := Ideal) S_ .f32 0x00000000#32)⟩]
    concatenates_S8192x8x64_S8192x8x1_S8192x8x63_S8192x8x128_d2

theorem oned_apply (a : FVec Ideal S8192x8x64 .f32) (f : Fin 64 → ℝ) (r : Fin 8192) (h : Fin 8)
    (ha : ∀ d, a (ix3 r h d) = ((f d : ℝ) : EReal)) (l : Fin 128) :
    oned a (ix3 r h l) = ((widen 1 f l : ℝ) : EReal) := by
  unfold oned widen
  pointwise
  split_ifs <;> first | omega | exact ha _ | rfl

/-- Eight heads of 128 lanes side by side, as a matrix. -/
def flat (x : FVec Ideal S8192x8x128 .f32) : FVec Ideal S8192x1024 .f32 := shapeCast S8192x1024 x shapeCasts_S8192x8x128_S8192x1024

theorem flat_apply (x : FVec Ideal S8192x8x128 .f32) (r : Fin 8192) (j : Fin 1024) : flat x (ix2 r j) = x (ix3 r (hd j) (ln j)) := by
  unfold flat
  pointwise
  rfl

/-- A matrix whose heads are read. -/
theorem flat_heads (x : FVec Ideal S8192x8x128 .f32) (A : Fin 8 → Fin 8192 → Fin 128 → ℝ)
    (hx : ∀ r h l, x (ix3 r h l) = ((A h r l : ℝ) : EReal)) : flat x = heads A := by
  funext i
  rw [eq_ix2 i]
  exact (flat_apply x _ _).trans (hx _ _ _)

/-- The first eight and the last eight of sixteen heads. -/
def firstHeads (x : FVec Ideal S8192x16x128 .f32) : FVec Ideal S8192x8x128 .f32 :=
  extractStridedSlice S8192x8x128 ![0, 0, 0] x slices_S8192x16x128_S8192x8x128_0_0_0
def lastHeads (x : FVec Ideal S8192x16x128 .f32) : FVec Ideal S8192x8x128 .f32 :=
  extractStridedSlice S8192x8x128 ![0, 8, 0] x slices_S8192x16x128_S8192x8x128_0_8_0

theorem joined_first (a b : FVec Ideal S8192x8x96 .f32) (r : Fin 8192) (h : Fin 8) (d : Fin 96) :
    joined a b (ix3 r ⟨h.val, by omega⟩ d) = a (ix3 r h d) := by
  unfold joined
  pointwise

theorem joined_last (a b : FVec Ideal S8192x8x96 .f32) (r : Fin 8192) (h : Fin 8) (d : Fin 96) :
    joined a b (ix3 r ⟨8 + h.val, by omega⟩ d) = b (ix3 r h d) := by
  unfold joined
  pointwise

/-- The queries' heads on the lanes. -/
theorem first_apply (a b : FVec Ideal S8192x8x96 .f32) (Q : Fin 8 → Fin 8192 → Fin 96 → ℝ)
    (ha : ∀ r h d, a (ix3 r h d) = ((Q h r d : ℝ) : EReal)) (r : Fin 8192) (h : Fin 8) (l : Fin 128) :
    firstHeads (laned (joined a b)) (ix3 r h l) = ((spread (Q h r) l : ℝ) : EReal) := by
  refine Eq.trans ?_ (laned_apply (joined a b) (Q h r) r ⟨h.val, by omega⟩ (fun d => (joined_first a b r h d).trans (ha _ _ _)) l)
  unfold firstHeads
  generalize laned (joined a b) = x
  pointwise

/-- The keys' heads on the lanes. -/
theorem last_apply (a b : FVec Ideal S8192x8x96 .f32) (K : Fin 8 → Fin 8192 → Fin 96 → ℝ)
    (hb : ∀ r h d, b (ix3 r h d) = ((K h r d : ℝ) : EReal)) (r : Fin 8192) (h : Fin 8) (l : Fin 128) :
    lastHeads (laned (joined a b)) (ix3 r h l) = ((spread (K h r) l : ℝ) : EReal) := by
  refine Eq.trans ?_ (laned_apply (joined a b) (K h r) r ⟨8 + h.val, by omega⟩ (fun d => (joined_last a b r h d).trans (hb _ _ _)) l)
  unfold lastHeads
  generalize laned (joined a b) = x
  pointwise

/-- The queries' factor: the scale over the log of two. -/
def factor : FVec Ideal S_ .f32 :=
  Host.divf (constant (F := Ideal) S_ .f32 0x3DD105EC#32) (Host.log (constant (F := Ideal) S_ .f32 0x40000000#32))

theorem factor_apply (s : ℝ) (hs : Idealize.ShloMosaic.Ideal.ofBits .f32 0x3DD105EC#32 = (s : EReal)) (i : S_.Idx) :
    factor i = ((s * (Real.log 2)⁻¹ : ℝ) : EReal) := by
  have e2 : Idealize.ShloMosaic.Ideal.ofBits .f32 0x40000000#32 = ((2 : ℝ) : EReal) := by
    simp [Idealize.ShloMosaic.Ideal.ofBits, Idealize.ShloMosaic.Ideal.ieee]
    rw [← EReal.coe_mul]
    norm_num
  show Idealize.ShloMosaic.Ideal.div (Idealize.ShloMosaic.Ideal.ofBits .f32 0x3DD105EC#32)
    (Idealize.ShloMosaic.Ideal.log (Idealize.ShloMosaic.Ideal.ofBits .f32 0x40000000#32)) = _
  rw [hs, e2, Idealize.ShloMosaic.Ideal.log_coe, if_neg (by norm_num), Idealize.ShloMosaic.Ideal.div_coe log_two_ne, ← EReal.coe_mul, one_div]

/-! ## The arguments of the kernels -/

section Entry

variable (s : ℝ) (Q K : Fin 8 → Fin 8192 → Fin 96 → ℝ) (W G : Fin 8 → Fin 8192 → Fin 64 → ℝ)

/-- The queries the kernels take. -/
theorem entry_q (hs : Idealize.ShloMosaic.Ideal.ofBits .f32 0x3DD105EC#32 = (s : EReal))
    (hq : ∀ r h d, m ((c : Thread nD τ).loc main_arg0) (ix3 r h d) = ((Q h r d : ℝ) : EReal)) :
    V1 m ρ c main_v15 = heads fun h => qLanes s (Q h) := by
  have e : V1 m ρ c main_v15 = truncf (F := Ideal) .bf16 (mulf (F := Ideal)
      (flat (firstHeads (laned (joined (m ((c : Thread nD τ).loc main_arg0)) (m ((c : Thread nD τ).loc main_arg1))))))
      (broadcastInDim S8192x1024 ![] bcast_S_S8192x1024 factor)) bitsLt_bf16_f32 := by
    show StableHlo.after hostOps0 (W0 m ρ c) (Proc.devRef .tc main_v15) = _
    after_results_simp
    rfl
  rw [e, flat_heads _ (fun h r l => spread (Q h r) l) (first_apply _ _ Q hq)]
  funext i
  refine (congrArg (_ * ·) (factor_apply s hs _)).trans ?_
  exact (EReal.coe_mul _ _).symm

/-- The keys the kernels take. -/
theorem entry_k (hk : ∀ r h d, m ((c : Thread nD τ).loc main_arg1) (ix3 r h d) = ((K h r d : ℝ) : EReal)) :
    V1 m ρ c main_v18 = heads fun h => kLanes (K h) := by
  have e : V1 m ρ c main_v18 = truncf (F := Ideal) .bf16
      (flat (lastHeads (laned (joined (m ((c : Thread nD τ).loc main_arg0)) (m ((c : Thread nD τ).loc main_arg1)))))) bitsLt_bf16_f32 := by
    show StableHlo.after hostOps0 (W0 m ρ c) (Proc.devRef .tc main_v18) = _
    after_results_simp
    rfl
  rw [e, flat_heads _ (fun h r l => spread (K h r) l) (last_apply _ _ K hk)]
  rfl

/-- The values the kernels take. -/
theorem entry_v (hv : ∀ r h d, m ((c : Thread nD τ).loc main_arg2) (ix3 r h d) = ((W h r d : ℝ) : EReal)) :
    V1 m ρ c main_v23 = heads fun h => vLanes (W h) := by
  have e : V1 m ρ c main_v23 = truncf (F := Ideal) .bf16 (flat (oned (m ((c : Thread nD τ).loc main_arg2)))) bitsLt_bf16_f32 := by
    show StableHlo.after hostOps0 (W0 m ρ c) (Proc.devRef .tc main_v23) = _
    after_results_simp
    rfl
  rw [e, flat_heads _ (fun h r l => widen 1 (W h r) l) (fun r h l => oned_apply _ _ r h (hv r h) l)]
  rfl

/-- The cotangents the backward kernel takes. -/
theorem entry_g (hg : ∀ r h d, m ((c : Thread nD τ).loc main_arg3) (ix3 r h d) = ((G h r d : ℝ) : EReal)) :
    V1 m ρ c main_v27 = heads fun h => gLanes (G h) := by
  have e : V1 m ρ c main_v27 = truncf (F := Ideal) .bf16 (flat (widened (m ((c : Thread nD τ).loc main_arg3)))) bitsLt_bf16_f32 := by
    show StableHlo.after hostOps0 (W0 m ρ c) (Proc.devRef .tc main_v27) = _
    after_results_simp
    rfl
  rw [e, flat_heads _ (fun h r l => widen 0 (G h r) l) (fun r h l => widened_apply _ _ r h (hg r h) l)]
  rfl

end Entry

/-! ## The results -/

/-- The entries back from the lanes. -/
def unlaned (x : FVec Ideal S8192x16x128 .f32) : FVec Ideal S8192x16x96 .f32 :=
  concatenate S8192x16x96 2 [⟨S8192x16x32, extractStridedSlice S8192x16x32 ![0, 0, 16] x slices_S8192x16x128_S8192x16x32_0_0_16⟩,
    ⟨S8192x16x32, extractStridedSlice S8192x16x32 ![0, 0, 80] x slices_S8192x16x128_S8192x16x32_0_0_80⟩,
    ⟨S8192x16x8, extractStridedSlice S8192x16x8 ![0, 0, 0] x slices_S8192x16x128_S8192x16x8_0_0_0⟩,
    ⟨S8192x16x8, extractStridedSlice S8192x16x8 ![0, 0, 64] x slices_S8192x16x128_S8192x16x8_0_0_64⟩,
    ⟨S8192x16x8, extractStridedSlice S8192x16x8 ![0, 0, 8] x slices_S8192x16x128_S8192x16x8_0_0_8⟩,
    ⟨S8192x16x8, extractStridedSlice S8192x16x8 ![0, 0, 72] x slices_S8192x16x128_S8192x16x8_0_0_72⟩]
    concatenates_S8192x16x32_S8192x16x32_S8192x16x8_S8192x16x8_S8192x16x8_S8192x16x8_S8192x16x96_d2

/-- The lanes the entries lie on, range by range. -/
theorem lane_ranges : ∀ d : Fin 96,
    (d.val < 32 → 16 + d.val = (lane d).val) ∧ (32 ≤ d.val ∧ d.val < 64 → 80 + (d.val - 32) = (lane d).val) ∧
    (64 ≤ d.val ∧ d.val < 72 → d.val - 64 = (lane d).val) ∧ (72 ≤ d.val ∧ d.val < 80 → 64 + (d.val - 72) = (lane d).val) ∧
    (80 ≤ d.val ∧ d.val < 88 → 8 + (d.val - 80) = (lane d).val) ∧ (88 ≤ d.val → 72 + (d.val - 88) = (lane d).val) := by
  decide +kernel

theorem unlaned_apply (x : FVec Ideal S8192x16x128 .f32) (r : Fin 8192) (h : Fin 16) (d : Fin 96) :
    unlaned x (ix3 r h d) = x (ix3 r h (lane d)) := by
  obtain ⟨e1, e2, e3, e4, e5, e6⟩ := lane_ranges d
  unfold unlaned
  pointwise
  by_cases h1 : d.val < 32
  · rw [dif_pos h1]
    refine congrArg (fun e => x (ix3 r h e)) (Fin.ext ?_)
    have e := e1 (by omega)
    show 16 + d.val = (lane d).val
    omega
  by_cases h2 : d.val - 32 < 32
  · rw [dif_neg h1, dif_pos h2]
    refine congrArg (fun e => x (ix3 r h e)) (Fin.ext ?_)
    have e := e2 (by omega)
    show 80 + (d.val - 32) = (lane d).val
    omega
  by_cases h3 : d.val - 32 - 32 < 8
  · rw [dif_neg h1, dif_neg h2, dif_pos h3]
    refine congrArg (fun e => x (ix3 r h e)) (Fin.ext ?_)
    have e := e3 (by omega)
    show d.val - 32 - 32 = (lane d).val
    omega
  by_cases h4 : d.val - 32 - 32 - 8 < 8
  · rw [dif_neg h1, dif_neg h2, dif_neg h3, dif_pos h4]
    refine congrArg (fun e => x (ix3 r h e)) (Fin.ext ?_)
    have e := e4 (by omega)
    show 64 + (d.val - 32 - 32 - 8) = (lane d).val
    omega
  by_cases h5 : d.val - 32 - 32 - 8 - 8 < 8
  · rw [dif_neg h1, dif_neg h2, dif_neg h3, dif_neg h4, dif_pos h5]
    refine congrArg (fun e => x (ix3 r h e)) (Fin.ext ?_)
    have e := e5 (by omega)
    show 8 + (d.val - 32 - 32 - 8 - 8) = (lane d).val
    omega
  rw [dif_neg h1, dif_neg h2, dif_neg h3, dif_neg h4, dif_neg h5]
  refine congrArg (fun e => x (ix3 r h e)) (Fin.ext ?_)
  have e := e6 (by omega)
  show 72 + (d.val - 32 - 32 - 8 - 8 - 8) = (lane d).val
  omega

/-- The first eight and the last eight heads' entries. -/
theorem first_entries (x : FVec Ideal S8192x16x128 .f32) (r : Fin 8192) (h : Fin 8) (d : Fin 96) :
    extractStridedSlice S8192x8x96 ![0, 0, 0] (unlaned x) slices_S8192x16x96_S8192x8x96_0_0_0 (ix3 r h d) =
      x (ix3 r ⟨h.val, by omega⟩ (lane d)) := by
  refine Eq.trans ?_ (unlaned_apply x r _ d)
  generalize unlaned x = y
  pointwise
theorem last_entries (x : FVec Ideal S8192x16x128 .f32) (r : Fin 8192) (h : Fin 8) (d : Fin 96) :
    extractStridedSlice S8192x8x96 ![0, 8, 0] (unlaned x) slices_S8192x16x96_S8192x8x96_0_8_0 (ix3 r h d) =
      x (ix3 r ⟨8 + h.val, by omega⟩ (lane d)) := by
  refine Eq.trans ?_ (unlaned_apply x r _ d)
  generalize unlaned x = y
  pointwise

/-- A cast to more bits, at an index. -/
theorem wide_apply (x : FVec Ideal S8192x8x64 .bf16) (i : S8192x8x64.Idx) : extf (F := Ideal) .f32 x bitsLt_bf16_f32 i = x i := rfl

/-- Queries' gradients and keys' gradients, heads side by side. -/
def gradients (x : FVec Ideal S8192x1024 .f32) (y : FVec Ideal S1024x8192 .f32) : FVec Ideal S8192x16x128 .f32 :=
  shapeCast S8192x16x128 (concatenate S8192x2048 1 [⟨S8192x1024, x⟩, ⟨S8192x1024, transpose S8192x1024 [1, 0] y transposes_S1024x8192_S8192x1024_1_0⟩]
    concatenates_S8192x1024_S8192x1024_S8192x2048_d1) shapeCasts_S8192x2048_S8192x16x128

theorem gradients_first (A : Fin 8 → Fin 8192 → Fin 128 → ℝ) (B : Fin 8 → Fin 128 → Fin 8192 → ℝ) (r : Fin 8192) (h : Fin 8) (l : Fin 128) :
    gradients (heads A) (tall B) (ix3 r ⟨h.val, by omega⟩ l) = ((A h r l : ℝ) : EReal) := by
  unfold gradients
  generalize tall B = y
  pointwise
  rw [dif_pos (by omega)]
  exact heads_at A _ h r l rfl rfl

theorem gradients_last (A : Fin 8 → Fin 8192 → Fin 128 → ℝ) (B : Fin 8 → Fin 128 → Fin 8192 → ℝ) (r : Fin 8192) (h : Fin 8) (l : Fin 128) :
    gradients (heads A) (tall B) (ix3 r ⟨8 + h.val, by omega⟩ l) = ((B h l r : ℝ) : EReal) := by
  unfold gradients
  generalize heads A = y
  pointwise
  rw [dif_neg (by omega)]
  exact tall_at B _ h l r (by show (8 + h.val) * 128 + l.val - 1024 = h.val * 128 + l.val; omega) rfl

/-- The first 64 lanes of a head's row. -/
def narrowed {e : FTy} (x : FVec Ideal S8192x1024 e) : FVec Ideal S8192x8x64 e :=
  extractStridedSlice S8192x8x64 ![0, 0, 0] (shapeCast S8192x8x128 x shapeCasts_S8192x1024_S8192x8x128) slices_S8192x8x128_S8192x8x64_0_0_0

theorem narrowed_heads {e : FTy} (A : Fin 8 → Fin 8192 → Fin 128 → ℝ) (r : Fin 8192) (h : Fin 8) (d : Fin 64) :
    narrowed (e := e) (heads A) (ix3 r h d) = ((A h r (wlane d) : ℝ) : EReal) := by
  unfold narrowed
  pointwise
  exact heads_at A _ h r (wlane d) rfl rfl

theorem narrowed_tall (B : Fin 8 → Fin 128 → Fin 8192 → ℝ) (r : Fin 8192) (h : Fin 8) (d : Fin 64) :
    narrowed (e := .f32) (transpose S8192x1024 [1, 0] (tall B) transposes_S1024x8192_S8192x1024_1_0) (ix3 r h d) =
      ((B h (wlane d) r : ℝ) : EReal) := by
  unfold narrowed
  pointwise
  exact tall_at B _ h (wlane d) r rfl rfl

/-! ## What the two kernels leave, from real arguments -/

section Results

variable {m ρ c} {s : ℝ} {Q K : Fin 8 → Fin 8192 → Fin 96 → ℝ} {W G : Fin 8 → Fin 8192 → Fin 64 → ℝ}

variable (m c s Q K W G) in
/-- The arguments are real: entry `d` of head `h` of row `r`. -/
structure Args : Prop where
  q : ∀ r h d, m ((c : Thread nD τ).loc main_arg0) (ix3 r h d) = ((Q h r d : ℝ) : EReal)
  k : ∀ r h d, m ((c : Thread nD τ).loc main_arg1) (ix3 r h d) = ((K h r d : ℝ) : EReal)
  v : ∀ r h d, m ((c : Thread nD τ).loc main_arg2) (ix3 r h d) = ((W h r d : ℝ) : EReal)
  g : ∀ r h d, m ((c : Thread nD τ).loc main_arg3) (ix3 r h d) = ((G h r d : ℝ) : EReal)
  s : Idealize.ShloMosaic.Ideal.ofBits .f32 0x3DD105EC#32 = (s : EReal)

/-- The forward kernel's output, kept for the backward kernel. -/
theorem saved_out (H : Args m c s Q K W G) : V2 m ρ c main_v28_0 =
    heads fun h r l => AttentionLanes.out (qLanes s (Q h) r) (kLanes (K h)) (vLanes (W h)) l :=
  (W2_arr m ρ c 3).trans (final0_3 (V1 m ρ) c _ _ _ (entry_q m ρ c s Q H.s H.q) (entry_k m ρ c K H.k) (entry_v m ρ c W H.v)
    fun h j => by simp [vLanes, widen])

/-- The forward kernel's row statistics, kept for the backward kernel. -/
theorem saved_lse (H : Args m c s Q K W G) : V2 m ρ c main_v28_1 =
    heads fun h r _ => AttentionLanes.lse (qLanes s (Q h) r) (kLanes (K h)) :=
  (W2_arr m ρ c 4).trans (final0_4 (V1 m ρ) c _ _ _ (entry_q m ρ c s Q H.s H.q) (entry_k m ρ c K H.k) (entry_v m ρ c W H.v)
    fun h j => by simp [vLanes, widen])

/-- The backward kernel's arguments. -/
theorem inputs (H : Args m c s Q K W G) : Inputs (V2 m ρ) c (fun h => qLanes s (Q h)) (fun h => kLanes (K h)) (fun h => vLanes (W h))
    (fun h => gLanes (G h)) (fun h r l => AttentionLanes.out (qLanes s (Q h) r) (kLanes (K h)) (vLanes (W h)) l)
    (fun h r => AttentionLanes.lse (qLanes s (Q h) r) (kLanes (K h))) where
  q := (W2_of m ρ c main_v15 (by decide +kernel)).trans (entry_q m ρ c s Q H.s H.q)
  g := (W2_of m ρ c main_v27 (by decide +kernel)).trans (entry_g m ρ c G H.g)
  o := saved_out H
  s := saved_lse H
  k := (W2_of m ρ c main_v18 (by decide +kernel)).trans (entry_k m ρ c K H.k)
  v := (W2_of m ρ c main_v23 (by decide +kernel)).trans (entry_v m ρ c W H.v)

/-- The output. -/
theorem result_y (H : Args m c s Q K W G) (r : Fin 8192) (h : Fin 8) (d : Fin 64) :
    W4 m ρ c (Proc.devRef .tc main_v32) (ix3 r h d) = ((AttentionSpec.out s (Q h) (K h) (W h) r d : ℝ) : EReal) := by
  have e : W4 m ρ c (Proc.devRef .tc main_v32) = extf (F := Ideal) .f32 (narrowed (W3 m ρ c (Proc.devRef .tc main_v28_0))) bitsLt_bf16_f32 := by
    show StableHlo.after hostOps2 (W3 m ρ c) (Proc.devRef .tc main_v32) = _
    after_results_simp
    rfl
  have e3 : W3 m ρ c (Proc.devRef .tc main_v28_0) = _ := (W3_of m ρ c main_v28_0 (by decide +kernel)).trans (saved_out H)
  rw [e, e3, wide_apply]
  exact (narrowed_heads (e := .bf16) _ r h d).trans (congrArg _ (out_eq s (Q h) (K h) (W h) r d))

/-- The backward kernel's three arrays. -/
theorem left_q (H : Args m c s Q K W G) : W3 m ρ c (Proc.devRef .tc main_v29_0) = heads fun h r l =>
    (∑ j, AttentionLanes.dscore (qLanes s (Q h) r) (gLanes (G h) r) (AttentionLanes.out (qLanes s (Q h) r) (kLanes (K h)) (vLanes (W h)))
      (AttentionLanes.lse (qLanes s (Q h) r) (kLanes (K h))) (kLanes (K h)) (vLanes (W h)) j * kLanes (K h) j l) * s :=
  (W3_arr m ρ c 6).trans (final1_6 (inputs H) s H.s)
theorem left_k (H : Args m c s Q K W G) : W3 m ρ c (Proc.devRef .tc main_v29_1) = tall fun h l j =>
    (∑ r, qLanes s (Q h) r l * AttentionLanes.dscore (qLanes s (Q h) r) (gLanes (G h) r) (AttentionLanes.out (qLanes s (Q h) r) (kLanes (K h)) (vLanes (W h)))
      (AttentionLanes.lse (qLanes s (Q h) r) (kLanes (K h))) (kLanes (K h)) (vLanes (W h)) j) * Real.log 2 :=
  (W3_arr m ρ c 7).trans (final1_7 (inputs H))
theorem left_v (H : Args m c s Q K W G) : W3 m ρ c (Proc.devRef .tc main_v29_2) = tall fun h l j =>
    ∑ r, gLanes (G h) r l * AttentionLanes.weight (qLanes s (Q h) r) (kLanes (K h)) (AttentionLanes.lse (qLanes s (Q h) r) (kLanes (K h))) j :=
  (W3_arr m ρ c 8).trans (final1_8 (inputs H))

/-- The queries' gradient. -/
theorem result_dq (H : Args m c s Q K W G) (r : Fin 8192) (h : Fin 8) (d : Fin 96) :
    W4 m ρ c (Proc.devRef .tc main_v43) (ix3 r h d) = ((AttentionSpec.dq s (Q h) (K h) (W h) (G h) r d : ℝ) : EReal) := by
  have e : W4 m ρ c (Proc.devRef .tc main_v43) = extractStridedSlice S8192x8x96 ![0, 0, 0]
      (unlaned (gradients (W3 m ρ c (Proc.devRef .tc main_v29_0)) (W3 m ρ c (Proc.devRef .tc main_v29_1)))) slices_S8192x16x96_S8192x8x96_0_0_0 := by
    show StableHlo.after hostOps2 (W3 m ρ c) (Proc.devRef .tc main_v43) = _
    after_results_simp
    rfl
  rw [e, left_q H, left_k H]
  rw [first_entries]
  refine (gradients_first _ _ r h (lane d)).trans ?_
  exact congrArg _ (dq_eq s (Q h) (K h) (W h) (G h) r d)

/-- The keys' gradient. -/
theorem result_dk (H : Args m c s Q K W G) (r : Fin 8192) (h : Fin 8) (d : Fin 96) :
    W4 m ρ c (Proc.devRef .tc main_v44) (ix3 r h d) = ((AttentionSpec.dk s (Q h) (K h) (W h) (G h) r d : ℝ) : EReal) := by
  have e : W4 m ρ c (Proc.devRef .tc main_v44) = extractStridedSlice S8192x8x96 ![0, 8, 0]
      (unlaned (gradients (W3 m ρ c (Proc.devRef .tc main_v29_0)) (W3 m ρ c (Proc.devRef .tc main_v29_1)))) slices_S8192x16x96_S8192x8x96_0_8_0 := by
    show StableHlo.after hostOps2 (W3 m ρ c) (Proc.devRef .tc main_v44) = _
    after_results_simp
    rfl
  rw [e, left_q H, left_k H]
  rw [last_entries]
  refine (gradients_last _ _ r h (lane d)).trans ?_
  exact congrArg _ (dk_eq s (Q h) (K h) (W h) (G h) r d)

/-- The values' gradient. -/
theorem result_dv (H : Args m c s Q K W G) (r : Fin 8192) (h : Fin 8) (d : Fin 64) :
    W4 m ρ c (Proc.devRef .tc main_v47) (ix3 r h d) = ((AttentionSpec.dv s (Q h) (K h) (G h) r d : ℝ) : EReal) := by
  have e : W4 m ρ c (Proc.devRef .tc main_v47) = narrowed (e := .f32)
      (transpose S8192x1024 [1, 0] (W3 m ρ c (Proc.devRef .tc main_v29_2)) transposes_S1024x8192_S8192x1024_1_0) := by
    show StableHlo.after hostOps2 (W3 m ρ c) (Proc.devRef .tc main_v47) = _
    after_results_simp
    rfl
  rw [e, left_v H]
  exact (narrowed_tall _ r h d).trans (congrArg _ (dv_eq s (Q h) (K h) (G h) r d))

end Results

end AttentionHost

end

end
-- ==== Proof.Run.lean ====
module

public import proofs.«01_k».proof.Proof.Host
public import proofs.«01_k».proof.Proof.Gen.KernelIdeal.Frame

@[expose] public section

/-!
# The run of the two kernels, with its results
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

namespace AttentionRun

local notation "𝕄" => MT nD τ sig Unit (Elt Ideal) ℕ (UR sig nD τ) ℕ

set_option backward.isDefEq.respectTransparency.types false in
/-- The program runs from any memory: its four results end at what the segments' fold leaves in them, its arguments as
    they were. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_v43) = W4 m ρ c (Proc.devRef .tc main_v43)
      ∧ r.2.mem ((c.tc : Thread nD τ).loc main_v44) = W4 m ρ c (Proc.devRef .tc main_v44)
      ∧ r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v32 (by decide)),
       h c _ (mem_uc main_v43 (by decide)),
       h c _ (mem_uc main_v44 (by decide)),
       h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end AttentionRun

end
-- ==== Proof.Finite.lean ====
module

public import proofs.«01_k».proof.Defs
public import proofs.«01_k».proof.Proof.Gen.Pre_finite
public import Idealize.ShloMosaic.Lib.ReduceAll
public import Idealize.ShloMosaic.Lib.IdealHost

@[expose] public section

/-!
# What the precondition says: every entry of every argument is a real number
-/

noncomputable section

open Idealize.ShloMosaic
open Cert.Pre_finite

namespace AttentionFinite

/-- An entry whose magnitude is below infinity is a real number. -/
theorem real_of_below (x : EReal) (h : Ideal.cmp .olt (max x (-x)) ⊤ = 1#1) : x = ((x.toReal : ℝ) : EReal) := by
  induction x with
  | bot => simp [Ideal.cmp] at h
  | top => simp [Ideal.cmp] at h
  | coe x => rfl

/-- The bits of plus infinity. -/
theorem ofBits_inf : (FloatOps.ofBits .f32 0x7F800000#32 : Ideal .f32) = (⊤ : EReal) := by
  rw [Ideal.ofBits_def]; simp [Ideal.ofBits, Ideal.ieee]

/-- The test `|x| < inf`, taken over a whole array, makes every entry real. -/
theorem entries_real {S u : Shape} {axes : List (Fin S.rank)} (x : FVec Ideal S .f32)
    (hb : S_.BroadcastsInDim S (![] : Fin 0 → Fin S.rank)) (hr : S.ReducesTo axes S_) (hu : 0 < u.numel)
    (one : u.Idx → BitVec 1) (j : S_.Idx)
    (e : Host.reduce IntOp.andi (cmpf .olt (Host.absf x) (broadcastInDim S ![] hb (constant (F := Ideal) S_ .f32 0x7F800000#32))) one hr hu j = 1#1)
    (i : S.Idx) : x i = (((x i : EReal).toReal : ℝ) : EReal) := by
  haveI : Subsingleton S_.Idx := ⟨fun a b => funext fun k => k.elim0⟩
  have h := Host.reduce_andi_all _ _ hr hu j e i
  refine real_of_below _ ?_
  rw [← ofBits_inf]
  exact h

/-- A conjunction of two bits is one only if both are. -/
theorem both {a b : BitVec 1} (h : IntOp.andi a b = 1#1) : a = 1#1 ∧ b = 1#1 := by
  revert a b; decide

/-- All four arguments are real where the precondition holds. -/
theorem reals (x0 x1 : FVec Ideal S8192x8x96 .f32) (x2 x3 : FVec Ideal S8192x8x64 .f32)
    (h : fn (F := Ideal) x0 x1 x2 x3 = fun _ => 1#1) :
    (∀ i, x0 i = (((x0 i : EReal).toReal : ℝ) : EReal)) ∧ (∀ i, x1 i = (((x1 i : EReal).toReal : ℝ) : EReal))
    ∧ (∀ i, x2 i = (((x2 i : EReal).toReal : ℝ) : EReal)) ∧ (∀ i, x3 i = (((x3 i : EReal).toReal : ℝ) : EReal)) := by
  have e := congrFun h (fun k => k.elim0)
  obtain ⟨e, e3⟩ := both e
  obtain ⟨e, e2⟩ := both e
  obtain ⟨e0, e1⟩ := both e
  exact ⟨entries_real x0 _ _ _ _ _ e0, entries_real x1 _ _ _ _ _ e1, entries_real x2 _ _ _ _ _ e2,
    entries_real x3 _ _ _ _ _ e3⟩

/-- The attention scale's bits denote a real number. -/
theorem scale_real : ∃ s : ℝ, Ideal.ofBits .f32 0x3DD105EC#32 = (s : EReal) := by
  simp only [Ideal.ofBits, Ideal.ieee]
  norm_num
  exact ⟨_, rfl⟩

end AttentionFinite

end
-- ==== Proof.FfnSpec.lean ====
module

public import Idealize.ShloMosaic.Lib.Pipeline.ValueKit
public import Idealize.ShloMosaic.Lib.Pointwise
public import proofs.«01_k».proof.Proof.Spec

@[expose] public section

/-!
# The normalised feed-forward layer and its gradients over reals

Rows of 1024 entries, 4096 hidden units, the square of the positive part between the two products.
-/

noncomputable section

open Idealize.ShloMosaic

namespace FfnSpec

/-- The reciprocal of a row's root mean square, `ε` added to the mean. -/
def inv (ε : ℝ) (x : Fin 1024 → ℝ) : ℝ := (√((∑ k, x k * x k) * (1 / 1024) + ε))⁻¹

/-- A row over its root mean square, entry by entry times `g`. -/
def norm (ε : ℝ) (x g : Fin 1024 → ℝ) (l : Fin 1024) : ℝ := x l * inv ε x * g l

/-- The gradient of the normalised row for the row, `d` the gradient upstream. -/
def dnorm (ε : ℝ) (x g d : Fin 1024 → ℝ) (l : Fin 1024) : ℝ :=
  inv ε x * (d l * g l - x l * inv ε x * ((∑ k, d k * g k * (x k * inv ε x)) * (1 / 1024)))

/-- What a row adds to the gradient for `g`. -/
def dgain (ε : ℝ) (x d : Fin 1024 → ℝ) (l : Fin 1024) : ℝ := d l * (x l * inv ε x)

section Layer

variable (ε : ℝ) (x : Fin 1024 → ℝ) (g3 : Fin 1024 → ℝ) (U : Fin 1024 → Fin 4096 → ℝ) (W : Fin 4096 → Fin 1024 → ℝ)
  (g4 : Fin 1024 → ℝ) (d : Fin 1024 → ℝ)

/-- A hidden unit before and after the positive part. -/
def hid (j : Fin 4096) : ℝ := ∑ k, norm ε x g3 k * U k j
def pos (j : Fin 4096) : ℝ := max (hid ε x g3 U j) 0

/-- The second product. -/
def down (l : Fin 1024) : ℝ := ∑ j, pos ε x g3 U j * pos ε x g3 U j * W j l

/-- The layer's row. -/
def out (l : Fin 1024) : ℝ := x l + norm ε (down ε x g3 U W) g4 l

/-- The gradient for the second product. -/
def ddown (l : Fin 1024) : ℝ := dnorm ε (down ε x g3 U W) g4 d l

/-- The gradient for a hidden unit. -/
def dhid (j : Fin 4096) : ℝ := (∑ l, ddown ε x g3 U W g4 d l * W j l) * (2 * pos ε x g3 U j)

/-- The gradient for the normalised row. -/
def dnormed (k : Fin 1024) : ℝ := ∑ j, dhid ε x g3 U W g4 d j * U k j

/-- The gradient for the row. -/
def dx (l : Fin 1024) : ℝ := d l + dnorm ε x g3 (dnormed ε x g3 U W g4 d) l

end Layer

/-- The constants of the two programs. -/
structure Consts (ε : ℝ) : Prop where
  pos : 0 < ε
  eps : Ideal.ofBits .f32 0x358637BD#32 = ((ε : ℝ) : EReal)
  nth : Ideal.ofBits .f32 0x3A800000#32 = ((1 / 1024 : ℝ) : EReal)
  two : Ideal.ofBits .f32 0x40000000#32 = ((2 : ℝ) : EReal)

theorem consts : ∃ ε : ℝ, Consts ε := by
  refine ⟨(8796093 : ℝ) * 2 ^ (-43 : ℤ), ?_, ?_, ?_, ?_⟩
  · positivity
  · simp [Ideal.ofBits, Ideal.ieee]
  · simp [Ideal.ofBits, Ideal.ieee]
    rw [← EReal.coe_mul]
    norm_num
  · simp [Ideal.ofBits, Ideal.ieee]
    rw [← EReal.coe_mul]
    norm_num

variable {ε : ℝ}

/-- The mean square plus `ε` is positive. -/
theorem mean_pos (C : Consts ε) (x : Fin 1024 → ℝ) : 0 < (∑ k, x k * x k) * (1 / 1024) + ε :=
  add_pos_of_nonneg_of_pos (mul_nonneg (Finset.sum_nonneg fun k _ => mul_self_nonneg _) (by norm_num)) C.pos

/-- The reciprocal root of a row's mean square. -/
theorem rsqrt_mean (C : Consts ε) (x : Fin 1024 → ℝ) :
    Ideal.rsqrt (((∑ k, x k * x k) * (1 / 1024) + ε : ℝ) : EReal) = ((inv ε x : ℝ) : EReal) := by
  have h := mean_pos C x
  rw [Ideal.rsqrt_coe, if_neg h.le.not_gt, if_neg h.ne']
  rfl

/-- The square of the reciprocal root. -/
theorem inv_sq (C : Consts ε) (x : Fin 1024 → ℝ) : inv ε x / ((∑ k, x k * x k) * (1 / 1024) + ε) = inv ε x * inv ε x * inv ε x := by
  have h := mean_pos C x
  unfold inv
  generalize (∑ k, x k * x k) * (1 / 1024) + ε = v at h ⊢
  have e : (√v)⁻¹ * (√v)⁻¹ = v⁻¹ := by rw [← mul_inv, Real.mul_self_sqrt h.le]
  rw [e, div_eq_mul_inv, mul_comm]

/-- The derivative of the reciprocal root, taken through the mean of the squares. -/
theorem dnorm_eq (C : Consts ε) (x g d : Fin 1024 → ℝ) (l : Fin 1024) :
    d l * g l * inv ε x + x l * ((∑ k, x k * (d k * g k)) * (-(1 / 2) * (inv ε x / ((∑ k, x k * x k) * (1 / 1024) + ε))) / 1024) +
      ((∑ k, x k * (d k * g k)) * (-(1 / 2) * (inv ε x / ((∑ k, x k * x k) * (1 / 1024) + ε))) / 1024) * x l = dnorm ε x g d l := by
  rw [inv_sq C]
  unfold dnorm
  have e : ∑ k, d k * g k * (x k * inv ε x) = (∑ k, x k * (d k * g k)) * inv ε x := by
    rw [Finset.sum_mul]
    exact Finset.sum_congr rfl fun k _ => by ring
  rw [e]
  ring

/-- The maximum of two reals. -/
theorem max_coe (a b : ℝ) : max ((a : ℝ) : EReal) ((b : ℝ) : EReal) = ((max a b : ℝ) : EReal) :=
  (EReal.coe_strictMono.monotone.map_max).symm

end FfnSpec

end
-- ==== Proof.FfnRef.lean ====
module

public import proofs.«01_k».proof.Proof.FfnSpec
public import proofs.«01_k».proof.Proof.Gen.Reference2Ideal.Read
public import Idealize.ShloMosaic.Lib.IdealHost

@[expose] public section

/-!
# The reference computes the feed-forward layer and its gradients

Every array of the reference, read at an index, for arguments that are real.
-/

noncomputable section

open Idealize.ShloMosaic Idealize.ShloMosaic.TcCoe Idealize.SL.Sem
open Idealize.ShloMosaic.Ideal
open Cert.Reference2Ideal Cert.Reference2Ideal.Gen Cert.Reference2Ideal.Read

namespace FfnRef

/-- The arguments are real. -/
structure Args (x0 : S8192x1024.Idx → EReal) (x1 : S1024.Idx → EReal) (x2 : S1024x4096.Idx → EReal) (x3 : S4096x1024.Idx → EReal)
    (x4 : S1024.Idx → EReal) (x5 : S8192x1024.Idx → EReal) (X : Fin 8192 → Fin 1024 → ℝ) (g3 : Fin 1024 → ℝ) (U : Fin 1024 → Fin 4096 → ℝ)
    (W : Fin 4096 → Fin 1024 → ℝ) (g4 : Fin 1024 → ℝ) (D : Fin 8192 → Fin 1024 → ℝ) : Prop where
  x : ∀ i, x0 i = ((X (i 0) (i 1) : ℝ) : EReal)
  g3 : ∀ i, x1 i = ((g3 (i 0) : ℝ) : EReal)
  u : ∀ i, x2 i = ((U (i 0) (i 1) : ℝ) : EReal)
  w : ∀ i, x3 i = ((W (i 0) (i 1) : ℝ) : EReal)
  g4 : ∀ i, x4 i = ((g4 (i 0) : ℝ) : EReal)
  d : ∀ i, x5 i = ((D (i 0) (i 1) : ℝ) : EReal)

variable {x0 : S8192x1024.Idx → EReal} {x1 : S1024.Idx → EReal} {x2 : S1024x4096.Idx → EReal} {x3 : S4096x1024.Idx → EReal}
  {x4 : S1024.Idx → EReal} {x5 : S8192x1024.Idx → EReal} {X : Fin 8192 → Fin 1024 → ℝ} {g3 : Fin 1024 → ℝ} {U : Fin 1024 → Fin 4096 → ℝ}
  {W : Fin 4096 → Fin 1024 → ℝ} {g4 : Fin 1024 → ℝ} {D : Fin 8192 → Fin 1024 → ℝ} {ε : ℝ}

/-! ## Operations on reals -/

theorem zero_bits : (FloatOps.ofBits .f32 0x00000000#32 : Ideal .f32) = ((0 : ℝ) : EReal) := Ideal.ofBits_zero_f32

theorem half_bits : (FloatOps.ofBits .f32 0xBF000000#32 : Ideal .f32) = ((-(1 / 2) : ℝ) : EReal) := by
  rw [ofBits_def]
  simp [Ideal.ofBits, Ideal.ieee]
  norm_num
  rw [← EReal.coe_mul]
  norm_num

theorem width_bits : (FloatOps.ofBits .f32 0x44800000#32 : Ideal .f32) = ((1024 : ℝ) : EReal) := by
  rw [ofBits_def]
  simp [Ideal.ofBits, Ideal.ieee]
  rw [← EReal.coe_mul]
  norm_num

theorem mul_real {a b : EReal} {x y : ℝ} (ha : a = ((x : ℝ) : EReal)) (hb : b = ((y : ℝ) : EReal)) :
    FloatOps.mulf (F := Ideal) (φ := .f32) a b = ((x * y : ℝ) : EReal) := by
  rw [ha, hb]
  exact (EReal.coe_mul _ _).symm

theorem add_real {a b : EReal} {x y : ℝ} (ha : a = ((x : ℝ) : EReal)) (hb : b = ((y : ℝ) : EReal)) :
    FloatOps.addf (F := Ideal) (φ := .f32) a b = ((x + y : ℝ) : EReal) := by
  rw [ha, hb]
  exact (EReal.coe_add _ _).symm

theorem div_real {a b : EReal} {x y : ℝ} (ha : a = ((x : ℝ) : EReal)) (hb : b = ((y : ℝ) : EReal)) (h : y ≠ 0) :
    FloatOps.hostDivf (F := Ideal) (φ := .f32) a b = ((x / y : ℝ) : EReal) := by
  rw [ha, hb]
  show Ideal.div _ _ = _
  rw [Ideal.div_coe h, ← EReal.coe_mul, one_div, div_eq_mul_inv]

/-- A sum that starts from zero. -/
theorem sum_real {n : ℕ} {z : EReal} {f : Fin n → EReal} {g : Fin n → ℝ} (hz : z = ((0 : ℝ) : EReal)) (hf : ∀ k, f k = ((g k : ℝ) : EReal)) :
    z + ∑ k, f k = ((∑ k, g k : ℝ) : EReal) := by
  rw [hz, EReal.coe_zero, zero_add, coe_sum_real]
  exact Finset.sum_congr rfl fun k _ => hf k

/-- A sum of products. -/
theorem dot_real {n : ℕ} {f f' : Fin n → EReal} {g g' : Fin n → ℝ} (hf : ∀ k, f k = ((g k : ℝ) : EReal)) (hf' : ∀ k, f' k = ((g' k : ℝ) : EReal)) :
    ∑ k, f k * f' k = ((∑ k, g k * g' k : ℝ) : EReal) := by
  rw [coe_sum_real]
  exact Finset.sum_congr rfl fun k _ => by rw [hf, hf', EReal.coe_mul]

/-! ## Reshaped places -/

theorem same42 (i : S8192x1024.Idx) : idx_main_v42 i = i := by
  have h1 : (i 1).val < 1024 := (i 1).isLt
  refine funext fun a => Fin.ext ?_
  match a with
  | ⟨0, _⟩ =>
    show ((i 0).val * 1024 + (i 1).val) / 1024 = (i 0).val
    omega
  | ⟨1, _⟩ =>
    show ((i 0).val * 1024 + (i 1).val) % 1024 = (i 1).val
    omega

theorem row45 (i : S1x1024.Idx) : idx_main_v45 i = ix1 (i 1) := by
  have h0 : (i 0).val < 1 := (i 0).isLt
  refine funext fun a => Fin.ext ?_
  match a with
  | ⟨0, _⟩ =>
    show (i 0).val * 1024 + (i 1).val = (i 1).val
    omega

theorem row70 (i : S1x1024.Idx) : idx_main_v70 i = ix1 (i 1) := row45 i

theorem col51 (i : S8192x1.Idx) : idx_main_v51 i = ix1 (i 0) := by
  have h1 : (i 1).val < 1 := (i 1).isLt
  refine funext fun a => Fin.ext ?_
  match a with
  | ⟨0, _⟩ =>
    show (i 0).val * 1 + (i 1).val = (i 0).val
    omega

theorem col76 (i : S8192x1.Idx) : idx_main_v76 i = ix1 (i 0) := col51 i

/-! ## The first norm and the hidden units -/

variable (C : FfnSpec.Consts ε) (H : Args x0 x1 x2 x3 x4 x5 X g3 U W g4 D)

/-- A row's mean square plus `ε`. -/
def ms (ε : ℝ) (x : Fin 1024 → ℝ) : ℝ := (∑ k, x k * x k) * (1 / 1024) + ε

include C H

theorem val6 (i : S8192x1.Idx) : val_main_v6 (F := Ideal) x0 i = ((ms ε (X (i 0)) : ℝ) : EReal) := by
  have h1 : val_main_v1 (F := Ideal) x0 (idx_main_v2 i) = ((∑ k, X (i 0) k * X (i 0) k : ℝ) : EReal) := by
    rw [val_main_v1_apply]
    exact sum_real zero_bits fun k => mul_real (H.x _) (H.x _)
  have h4 : val_main_v4 (F := Ideal) x0 i = (((∑ k, X (i 0) k * X (i 0) k) / 1024 : ℝ) : EReal) := by
    rw [val_main_v4_apply, val_main_v2_apply, val_main_v3_apply]
    exact div_real h1 width_bits (by norm_num)
  rw [val_main_v6_apply, val_main_v5_apply]
  refine (add_real h4 C.eps).trans ?_
  exact congrArg (fun t : ℝ => ((t + ε : ℝ) : EReal)) (mul_one_div _ _).symm

theorem val7 (i : S8192x1.Idx) : val_main_v7 (F := Ideal) x0 i = ((FfnSpec.inv ε (X (i 0)) : ℝ) : EReal) := by
  rw [val_main_v7_apply, val6 C H]
  exact FfnSpec.rsqrt_mean C _

theorem val10 (i : S8192x1.Idx) : val_main_v10 (F := Ideal) x0 i = ((-(1 / 2) * (FfnSpec.inv ε (X (i 0)) / ms ε (X (i 0))) : ℝ) : EReal) := by
  rw [val_main_v10_apply, val_main_v9_apply, val_main_v8_apply]
  exact mul_real half_bits (div_real (val7 C H i) (val6 C H i) (FfnSpec.mean_pos C _).ne')

theorem val12 (i : S8192x1024.Idx) : val_main_v12 (F := Ideal) x0 i = ((X (i 0) (i 1) * FfnSpec.inv ε (X (i 0)) : ℝ) : EReal) := by
  rw [val_main_v12_apply, val_main_v11_apply]
  exact mul_real (H.x i) (val7 C H _)

omit C in
theorem val13 (i : S1x1024.Idx) : val_main_v13 (F := Ideal) x1 i = ((g3 (i 1) : ℝ) : EReal) := by
  rw [val_main_v13_apply]
  exact H.g3 _

theorem val16 (i : S8192x4096.Idx) : val_main_v16 (F := Ideal) x0 x1 x2 i = ((FfnSpec.hid ε (X (i 0)) g3 U (i 1) : ℝ) : EReal) := by
  rw [val_main_v16_apply]
  exact dot_real (fun k => by
    rw [val_main_v15_apply, val_main_v14_apply]
    exact mul_real (val12 C H _) (val13 H _)) fun k => H.u _

theorem val17 (i : S8192x4096.Idx) : val_main_v17 (F := Ideal) x0 x1 x2 i = ((FfnSpec.pos ε (X (i 0)) g3 U (i 1) : ℝ) : EReal) := by
  rw [val_main_v17_apply, val_main_call0_v0_apply, val16 C H]
  exact (congrArg (max _ ·) zero_bits).trans (FfnSpec.max_coe _ _)

theorem val21 (i : S8192x4096.Idx) : val_main_v21 (F := Ideal) x0 x1 x2 i =
    ((FfnSpec.pos ε (X (i 0)) g3 U (i 1) * FfnSpec.pos ε (X (i 0)) g3 U (i 1) : ℝ) : EReal) := by
  rw [val_main_v21_apply]
  exact mul_real (val17 C H i) (val17 C H i)

theorem val23 (i : S8192x4096.Idx) : val_main_v23 (F := Ideal) x0 x1 x2 i = ((2 * FfnSpec.pos ε (X (i 0)) g3 U (i 1) : ℝ) : EReal) := by
  rw [val_main_v23_apply, val_main_v22_apply]
  exact mul_real C.two (val17 C H i)

/-! ## The second product, its norm, and the layer's rows -/

theorem val24 (i : S8192x1024.Idx) : val_main_v24 (F := Ideal) x0 x1 x2 x3 i = ((FfnSpec.down ε (X (i 0)) g3 U W (i 1) : ℝ) : EReal) := by
  rw [val_main_v24_apply]
  exact dot_real (fun k => val21 C H _) fun k => H.w _

theorem val31 (i : S8192x1.Idx) : val_main_v31 (F := Ideal) x0 x1 x2 x3 i = ((ms ε (FfnSpec.down ε (X (i 0)) g3 U W) : ℝ) : EReal) := by
  have h1 : val_main_v26 (F := Ideal) x0 x1 x2 x3 (idx_main_v27 i) =
      ((∑ k, FfnSpec.down ε (X (i 0)) g3 U W k * FfnSpec.down ε (X (i 0)) g3 U W k : ℝ) : EReal) := by
    rw [val_main_v26_apply]
    exact sum_real zero_bits fun k => mul_real (val24 C H _) (val24 C H _)
  have h4 : val_main_v29 (F := Ideal) x0 x1 x2 x3 i =
      (((∑ k, FfnSpec.down ε (X (i 0)) g3 U W k * FfnSpec.down ε (X (i 0)) g3 U W k) / 1024 : ℝ) : EReal) := by
    rw [val_main_v29_apply, val_main_v27_apply, val_main_v28_apply]
    exact div_real h1 width_bits (by norm_num)
  rw [val_main_v31_apply, val_main_v30_apply]
  refine (add_real h4 C.eps).trans ?_
  exact congrArg (fun t : ℝ => ((t + ε : ℝ) : EReal)) (mul_one_div _ _).symm

theorem val32 (i : S8192x1.Idx) : val_main_v32 (F := Ideal) x0 x1 x2 x3 i = ((FfnSpec.inv ε (FfnSpec.down ε (X (i 0)) g3 U W) : ℝ) : EReal) := by
  rw [val_main_v32_apply, val31 C H]
  exact FfnSpec.rsqrt_mean C _

theorem val35 (i : S8192x1.Idx) : val_main_v35 (F := Ideal) x0 x1 x2 x3 i =
    ((-(1 / 2) * (FfnSpec.inv ε (FfnSpec.down ε (X (i 0)) g3 U W) / ms ε (FfnSpec.down ε (X (i 0)) g3 U W)) : ℝ) : EReal) := by
  rw [val_main_v35_apply, val_main_v34_apply, val_main_v33_apply]
  exact mul_real half_bits (div_real (val32 C H i) (val31 C H i) (FfnSpec.mean_pos C _).ne')

theorem val37 (i : S8192x1024.Idx) : val_main_v37 (F := Ideal) x0 x1 x2 x3 i =
    ((FfnSpec.down ε (X (i 0)) g3 U W (i 1) * FfnSpec.inv ε (FfnSpec.down ε (X (i 0)) g3 U W) : ℝ) : EReal) := by
  rw [val_main_v37_apply, val_main_v36_apply]
  exact mul_real (val24 C H i) (val32 C H _)

omit C in
theorem val38 (i : S1x1024.Idx) : val_main_v38 (F := Ideal) x4 i = ((g4 (i 1) : ℝ) : EReal) := by
  rw [val_main_v38_apply]
  exact H.g4 _

/-- The layer's rows. -/
theorem rows (i : S8192x1024.Idx) : val_main_v41 (F := Ideal) x0 x1 x2 x3 x4 i = ((FfnSpec.out ε (X (i 0)) g3 U W g4 (i 1) : ℝ) : EReal) := by
  rw [val_main_v41_apply, val_main_v40_apply, val_main_v39_apply]
  exact add_real (H.x i) (mul_real (val37 C H i) (val38 H _))

/-! ## The second norm's gradients -/

omit C in
theorem val42 (i : S8192x1024.Idx) : val_main_v42 (F := Ideal) x5 i = ((D (i 0) (i 1) : ℝ) : EReal) := by
  rw [val_main_v42_apply, same42]
  exact H.d i

theorem val45 (i : S1x1024.Idx) : val_main_v45 (F := Ideal) x0 x1 x2 x3 x5 i =
    ((∑ r, FfnSpec.dgain ε (FfnSpec.down ε (X r) g3 U W) (D r) (i 1) : ℝ) : EReal) := by
  rw [val_main_v45_apply, row45]
  refine (val_main_v44_apply x0 x1 x2 x3 x5 _).trans ?_
  refine (sum_real zero_bits fun k => ?_).trans rfl
  rw [val_main_v43_apply]
  refine (mul_real (val37 C H _) (val42 H _)).trans (congrArg _ ?_)
  exact mul_comm _ _

/-- The gradient for the second norm's gain. -/
theorem gain4 (i : S1024.Idx) : val_main_v48 (F := Ideal) x0 x1 x2 x3 x5 i =
    ((∑ r, FfnSpec.dgain ε (FfnSpec.down ε (X r) g3 U W) (D r) (i 0) : ℝ) : EReal) := by
  rw [val_main_v48_apply]
  refine (sum_real zero_bits fun k => val45 C H _).trans ?_
  rw [Fin.sum_univ_one]
  rfl

omit C in
theorem val47 (i : S8192x1024.Idx) : val_main_v47 (F := Ideal) x4 x5 i = ((D (i 0) (i 1) * g4 (i 1) : ℝ) : EReal) := by
  rw [val_main_v47_apply, val_main_v46_apply]
  exact mul_real (val42 H i) (val38 H _)

/-- What the mean square of a row passes on to its entries. -/
def mid (ε : ℝ) (x g d : Fin 1024 → ℝ) : ℝ := (∑ k, x k * (d k * g k)) * (-(1 / 2) * (FfnSpec.inv ε x / ms ε x)) / 1024

theorem val58 (i : S8192x1024.Idx) : val_main_v58 (F := Ideal) x0 x1 x2 x3 x4 x5 i =
    ((mid ε (FfnSpec.down ε (X (i 0)) g3 U W) g4 (D (i 0)) : ℝ) : EReal) := by
  have h56 : ∀ j : S8192x1.Idx, val_main_v56 (F := Ideal) x0 x1 x2 x3 x4 x5 j = ((mid ε (FfnSpec.down ε (X (j 0)) g3 U W) g4 (D (j 0)) : ℝ) : EReal) := by
    intro j
    rw [val_main_v56_apply, val_main_v55_apply, val_main_v54_apply, val_main_v51_apply, col51]
    refine div_real (mul_real ((val_main_v50_apply x0 x1 x2 x3 x4 x5 _).trans (sum_real zero_bits fun k => ?_)) (val35 C H j)) width_bits (by norm_num)
    rw [val_main_v49_apply]
    exact mul_real (val24 C H _) (val47 H _)
  rw [val_main_v58_apply, val_main_v57_apply]
  refine (sum_real zero_bits fun k => h56 _).trans ?_
  rw [Fin.sum_univ_one]
  rfl

theorem val62 (i : S8192x1024.Idx) : val_main_v62 (F := Ideal) x0 x1 x2 x3 x4 x5 i =
    ((FfnSpec.ddown ε (X (i 0)) g3 U W g4 (D (i 0)) (i 1) : ℝ) : EReal) := by
  rw [val_main_v62_apply, val_main_v60_apply, val_main_v53_apply, val_main_v52_apply, val_main_v59_apply, val_main_v61_apply]
  refine (add_real (add_real (mul_real (val47 H i) (val32 C H _)) (mul_real (val24 C H i) (val58 C H i))) (mul_real (val58 C H i) (val24 C H i))).trans ?_
  exact congrArg _ (FfnSpec.dnorm_eq C _ _ _ _)

/-! ## The hidden units' gradients, and the first norm's -/

theorem val66 (i : S8192x4096.Idx) : val_main_v66 (F := Ideal) x0 x1 x2 x3 x4 x5 i =
    ((FfnSpec.dhid ε (X (i 0)) g3 U W g4 (D (i 0)) (i 1) : ℝ) : EReal) := by
  have h64 : val_main_v64 (F := Ideal) x0 x1 x2 x3 x4 x5 i = ((FfnSpec.dhid ε (X (i 0)) g3 U W g4 (D (i 0)) (i 1) : ℝ) : EReal) := by
    rw [val_main_v64_apply, val_main_v63_apply]
    exact mul_real (dot_real (fun k => val62 C H _) fun k => H.w _) (val23 C H i)
  rw [val_main_v66_apply, h64, val_main_v65_apply, val_main_v19_apply, val_main_v18_apply, val16 C H]
  by_cases h : 0 < FfnSpec.hid ε (X (i 0)) g3 U (i 1)
  · have e : FloatOps.cmpf (F := Ideal) (φ := .f32) .ogt ((FfnSpec.hid ε (X (i 0)) g3 U (i 1) : ℝ) : EReal) (FloatOps.ofBits .f32 0x00000000#32 : Ideal .f32) = 1#1 := by
      rw [zero_bits]
      show Ideal.cmp .ogt _ _ = _
      simp [Ideal.cmp, h]
    exact (congrArg (Scalar.select · _ _) e).trans rfl
  · have e : FloatOps.cmpf (F := Ideal) (φ := .f32) .ogt ((FfnSpec.hid ε (X (i 0)) g3 U (i 1) : ℝ) : EReal) (FloatOps.ofBits .f32 0x00000000#32 : Ideal .f32) = 0#1 := by
      rw [zero_bits]
      show Ideal.cmp .ogt _ _ = _
      simp [Ideal.cmp, h]
    have p : FfnSpec.pos ε (X (i 0)) g3 U (i 1) = 0 := max_eq_right (not_lt.mp h)
    refine (congrArg (Scalar.select · _ _) e).trans ?_
    unfold FfnSpec.dhid
    rw [p, mul_zero, mul_zero]
    exact zero_bits

theorem val67 (i : S8192x1024.Idx) : val_main_v67 (F := Ideal) x0 x1 x2 x3 x4 x5 i =
    ((FfnSpec.dnormed ε (X (i 0)) g3 U W g4 (D (i 0)) (i 1) : ℝ) : EReal) := by
  rw [val_main_v67_apply]
  exact dot_real (fun k => val66 C H _) fun k => H.u _

/-- The gradient for the first norm's gain. -/
theorem gain3 (i : S1024.Idx) : val_main_v73 (F := Ideal) x0 x1 x2 x3 x4 x5 i =
    ((∑ r, FfnSpec.dgain ε (X r) (FfnSpec.dnormed ε (X r) g3 U W g4 (D r)) (i 0) : ℝ) : EReal) := by
  have h70 : ∀ j : S1x1024.Idx, val_main_v70 (F := Ideal) x0 x1 x2 x3 x4 x5 j =
      ((∑ r, FfnSpec.dgain ε (X r) (FfnSpec.dnormed ε (X r) g3 U W g4 (D r)) (j 1) : ℝ) : EReal) := by
    intro j
    rw [val_main_v70_apply, row70]
    refine (val_main_v69_apply x0 x1 x2 x3 x4 x5 _).trans ?_
    refine (sum_real zero_bits fun k => ?_).trans rfl
    rw [val_main_v68_apply]
    refine (mul_real (val12 C H _) (val67 C H _)).trans (congrArg _ ?_)
    exact mul_comm _ _
  rw [val_main_v73_apply]
  refine (sum_real zero_bits fun k => h70 _).trans ?_
  rw [Fin.sum_univ_one]
  rfl

theorem val72 (i : S8192x1024.Idx) : val_main_v72 (F := Ideal) x0 x1 x2 x3 x4 x5 i =
    ((FfnSpec.dnormed ε (X (i 0)) g3 U W g4 (D (i 0)) (i 1) * g3 (i 1) : ℝ) : EReal) := by
  rw [val_main_v72_apply, val_main_v71_apply]
  exact mul_real (val67 C H i) (val13 H _)

theorem val84 (i : S8192x1024.Idx) : val_main_v84 (F := Ideal) x0 x1 x2 x3 x4 x5 i =
    ((mid ε (X (i 0)) g3 (FfnSpec.dnormed ε (X (i 0)) g3 U W g4 (D (i 0))) : ℝ) : EReal) := by
  have h82 : ∀ j : S8192x1.Idx, val_main_v82 (F := Ideal) x0 x1 x2 x3 x4 x5 j =
      ((mid ε (X (j 0)) g3 (FfnSpec.dnormed ε (X (j 0)) g3 U W g4 (D (j 0))) : ℝ) : EReal) := by
    intro j
    rw [val_main_v82_apply, val_main_v81_apply, val_main_v80_apply, val_main_v76_apply, col76]
    refine div_real (mul_real ((val_main_v75_apply x0 x1 x2 x3 x4 x5 _).trans (sum_real zero_bits fun k => ?_)) (val10 C H j)) width_bits (by norm_num)
    rw [val_main_v74_apply]
    exact mul_real (H.x _) (val72 C H _)
  rw [val_main_v84_apply, val_main_v83_apply]
  refine (sum_real zero_bits fun k => h82 _).trans ?_
  rw [Fin.sum_univ_one]
  rfl

/-- The gradient for the rows. -/
theorem grads (i : S8192x1024.Idx) : val_main_v88 (F := Ideal) x0 x1 x2 x3 x4 x5 i =
    ((FfnSpec.dx ε (X (i 0)) g3 U W g4 (D (i 0)) (i 1) : ℝ) : EReal) := by
  rw [val_main_v88_apply, val_main_v86_apply, val_main_v79_apply, val_main_v78_apply, val_main_v77_apply, val_main_v85_apply, val_main_v87_apply]
  refine (add_real (add_real (add_real (H.d i) (mul_real (val72 C H i) (val7 C H _))) (mul_real (H.x i) (val84 C H i))) (mul_real (val84 C H i) (H.x i))).trans ?_
  refine congrArg _ ?_
  refine Eq.trans ?_ (congrArg (D (i 0) (i 1) + ·) (FfnSpec.dnorm_eq C (X (i 0)) g3 (FfnSpec.dnormed ε (X (i 0)) g3 U W g4 (D (i 0))) (i 1)))
  show (_ + _) + _ + _ = _ + ((_ + _) + _)
  rw [add_assoc, add_assoc, add_assoc]
  rfl

end FfnRef

end
-- ==== Proof.FfnForward.lean ====
module

public import proofs.«01_k».proof.Proof.Gen.Kernel2Ideal.Frame
public import proofs.«01_k».proof.Proof.FfnSpec

@[expose] public section

/-!
# One block of the feed-forward layer over reals

What a block of 512 rows leaves in each of the two forward calls.
-/

noncomputable section

open Idealize.ShloMosaic Idealize.ShloMosaic.TcCoe Idealize.SL.Sem
open Cert.Kernel2Ideal Cert.Kernel2Ideal.Gen

namespace FfnForward

variable {ε : ℝ} (C : FfnSpec.Consts ε)
include C

section Up

variable (x0 : Vec Ideal S512x1024 .f32) (x1 : Vec Ideal S1x1024 .f32) (w : Vec Ideal S1024x1024 .bf16)
  (x : Fin 512 → Fin 1024 → ℝ) (g : Fin 1024 → ℝ) (u : Fin 1024 → Fin 1024 → ℝ)

/-- The block's normalised rows. -/
theorem pay1_apply (h0 : ∀ r l, x0 (ix2 r l) = ((x r l : ℝ) : EReal)) (h1 : ∀ l, x1 (ix2 0 l) = ((g l : ℝ) : EReal))
    (r : Fin 512) (l : Fin 1024) : k0_pay1 x0 x1 (ix2 r l) = ((FfnSpec.norm ε (x r) g l : ℝ) : EReal) := by
  unfold k0_pay1 FfnSpec.norm
  dsimp only
  pointwise
  simp only [h0, h1, C.eps, C.nth, ← EReal.coe_mul, ← coe_sum_real, ← EReal.coe_add, FfnSpec.rsqrt_mean C]

/-- The positive part of the rows' products with a chunk of 1024 columns. -/
theorem pay2_apply (h0 : ∀ r l, x0 (ix2 r l) = ((x r l : ℝ) : EReal)) (h1 : ∀ l, x1 (ix2 0 l) = ((g l : ℝ) : EReal))
    (hw : ∀ k j, w (ix2 k j) = ((u k j : ℝ) : EReal)) (r : Fin 512) (j : Fin 1024) :
    k0_pay2 x0 x1 w (ix2 r j) = ((max (∑ k, FfnSpec.norm ε (x r) g k * u k j) 0 : ℝ) : EReal) := by
  have hp := pay1_apply C x0 x1 x g h0 h1
  unfold k0_pay2
  generalize k0_pay1 x0 x1 = a at hp ⊢
  pointwise
  simp only [hp, hw, ← EReal.coe_mul, ← coe_sum_real, ← EReal.coe_zero, FfnSpec.max_coe]

/-- The first call's two outputs on a chunk: the square of the positive part, and twice it. -/
theorem pay3_apply (h0 : ∀ r l, x0 (ix2 r l) = ((x r l : ℝ) : EReal)) (h1 : ∀ l, x1 (ix2 0 l) = ((g l : ℝ) : EReal))
    (hw : ∀ k j, w (ix2 k j) = ((u k j : ℝ) : EReal)) (r : Fin 512) (j : Fin 1024) :
    k0_pay3 x0 x1 w (ix2 r j) = ((max (∑ k, FfnSpec.norm ε (x r) g k * u k j) 0 * max (∑ k, FfnSpec.norm ε (x r) g k * u k j) 0 : ℝ) : EReal) ∧
    k0_pay4 x0 x1 w (ix2 r j) = ((2 * max (∑ k, FfnSpec.norm ε (x r) g k * u k j) 0 : ℝ) : EReal) := by
  have hp := pay2_apply C x0 x1 w x g u h0 h1 hw r j
  unfold k0_pay3 k0_pay4
  generalize k0_pay2 x0 x1 w = a at hp ⊢
  constructor
  · pointwise
    rw [hp, ← EReal.coe_mul]
  · pointwise
    rw [hp, C.two, ← EReal.coe_mul]

omit C in
/-- The four chunks of a block run the same operations. -/
theorem chunks : k0_pay6 (k0_pay5 x0 x1 w) = k0_pay3 x0 x1 w ∧ k0_pay9 (k0_pay1 x0 x1) w = k0_pay3 x0 x1 w ∧
    k0_pay12 (k0_pay1 x0 x1) w = k0_pay3 x0 x1 w ∧ k0_pay7 (k0_pay5 x0 x1 w) = k0_pay4 x0 x1 w ∧
    k0_pay10 (k0_pay1 x0 x1) w = k0_pay4 x0 x1 w ∧ k0_pay13 (k0_pay1 x0 x1) w = k0_pay4 x0 x1 w := ⟨rfl, rfl, rfl, rfl, rfl, rfl⟩

variable (X2 : Vec Ideal S1024x4096 .bf16) (U : Fin 1024 → Fin 4096 → ℝ)

/-- The chunk of columns at column `o`: its two outputs at a place are the hidden units `o` columns further. -/
theorem chunk (o : ℕ) (ho : o + 1024 ≤ 4096) (h0 : ∀ r l, x0 (ix2 r l) = ((x r l : ℝ) : EReal)) (h1 : ∀ l, x1 (ix2 0 l) = ((g l : ℝ) : EReal))
    (h2 : ∀ k j, X2 (ix2 k j) = ((U k j : ℝ) : EReal)) (inb : ∀ a, (![0, o] : Fin 2 → ℕ) a + S1024x1024.size a ≤ S1024x4096.size a)
    (y : S512x1024.Idx) (i : S512x4096.Idx) (hr : (i 0 : ℕ) = y 0) (hl : (i 1 : ℕ) = o + y 1) :
    k0_pay3 x0 x1 (View.ld X2 (Rect.unit (s := S1024x4096) ![0, o] S1024x1024.size inb)) y =
      ((FfnSpec.pos ε (x (i 0)) g U (i 1) * FfnSpec.pos ε (x (i 0)) g U (i 1) : ℝ) : EReal) ∧
    k0_pay4 x0 x1 (View.ld X2 (Rect.unit (s := S1024x4096) ![0, o] S1024x1024.size inb)) y =
      ((2 * FfnSpec.pos ε (x (i 0)) g U (i 1) : ℝ) : EReal) := by
  have e0 : i 0 = (y 0 : Fin 512) := Fin.ext hr
  have e1 : i 1 = (⟨o + (y 1).val, lt_of_lt_of_le (Nat.add_lt_add_left (y 1).isLt o) ho⟩ : Fin 4096) := Fin.ext hl
  have hw : ∀ (k j : Fin 1024), View.ld X2 (Rect.unit (s := S1024x4096) ![0, o] S1024x1024.size inb) (ix2 k j) =
      ((U k ⟨o + j.val, lt_of_lt_of_le (Nat.add_lt_add_left j.isLt o) ho⟩ : ℝ) : EReal) :=
    fun k j => (View.ld_unit_apply_of X2 _ _ inb (ix2 k j) (ix2 k ⟨o + j.val, lt_of_lt_of_le (Nat.add_lt_add_left j.isLt o) ho⟩) fun d => by
      match d with
      | ⟨0, _⟩ => exact (Nat.zero_add _).symm
      | ⟨1, _⟩ => rfl).trans (h2 _ _)
  have a := pay3_apply C x0 x1 _ x g _ h0 h1 hw (y 0) (y 1)
  rw [ix2_eta y] at a
  rw [e0, e1]
  exact a

/-- What a block of the first call leaves: the squares of the positive parts, and twice the positive parts. -/
theorem up_apply (h0 : ∀ r l, x0 (ix2 r l) = ((x r l : ℝ) : EReal)) (h1 : ∀ l, x1 (ix2 0 l) = ((g l : ℝ) : EReal))
    (h2 : ∀ k j, X2 (ix2 k j) = ((U k j : ℝ) : EReal)) (i : S512x4096.Idx) :
    out0_4 x0 x1 X2 i = ((FfnSpec.pos ε (x (i 0)) g U (i 1) * FfnSpec.pos ε (x (i 0)) g U (i 1) : ℝ) : EReal) ∧
    out0_5 x0 x1 X2 i = ((2 * FfnSpec.pos ε (x (i 0)) g U (i 1) : ℝ) : EReal) := by
  have e0 : View.ld x0 r0_0 = x0 := View.ld_unit_lit _ x0 (by decide)
  have e1 : View.ld x1 r0_1 = x1 := View.ld_unit_lit _ x1 (by decide)
  have tile := fun o ho inb => chunk C x0 x1 x g X2 U o ho h0 h1 h2 inb
  constructor
  · unfold_out out0_4
    rw [e0, e1]
    canon_tiles y h using cover0_4 ..
    · exact (congrFun (chunks x0 x1 _).2.2.1 y).trans (tile 3072 (by decide) _ y i (by assumption) (by assumption)).1
    · exact (congrFun (chunks x0 x1 _).2.1 y).trans (tile 2048 (by decide) _ y i (by assumption) (by assumption)).1
    · exact (congrFun (chunks x0 x1 _).1 y).trans (tile 1024 (by decide) _ y i (by assumption) (by assumption)).1
    · exact (tile 0 (by decide) _ y i (by assumption) (by omega)).1
  · unfold_out out0_5
    rw [e0, e1]
    canon_tiles y h using cover0_5 ..
    · exact (congrFun (chunks x0 x1 _).2.2.2.2.2 y).trans (tile 3072 (by decide) _ y i (by assumption) (by assumption)).2
    · exact (congrFun (chunks x0 x1 _).2.2.2.2.1 y).trans (tile 2048 (by decide) _ y i (by assumption) (by assumption)).2
    · exact (congrFun (chunks x0 x1 _).2.2.2.1 y).trans (tile 1024 (by decide) _ y i (by assumption) (by assumption)).2
    · exact (tile 0 (by decide) _ y i (by assumption) (by omega)).2

end Up

section Down

variable (x0 : Vec Ideal S512x4096 .bf16) (x1 : Vec Ideal S4096x1024 .bf16) (x2 : Vec Ideal S512x1024 .f32) (x3 : Vec Ideal S1x1024 .f32)
  (a : Fin 512 → Fin 4096 → ℝ) (w : Fin 4096 → Fin 1024 → ℝ) (x : Fin 512 → Fin 1024 → ℝ) (g : Fin 1024 → ℝ)

omit C in
/-- The block's second product. -/
theorem pay1_down (h0 : ∀ r j, x0 (ix2 r j) = ((a r j : ℝ) : EReal)) (h1 : ∀ j l, x1 (ix2 j l) = ((w j l : ℝ) : EReal))
    (r : Fin 512) (l : Fin 1024) : k1_pay1 x0 x1 (ix2 r l) = ((∑ j, a r j * w j l : ℝ) : EReal) := by
  unfold k1_pay1
  pointwise
  simp only [h0, h1, ← EReal.coe_mul, ← coe_sum_real]

/-- The block's rows with the normalised second product added. -/
theorem pay2_down (h0 : ∀ r j, x0 (ix2 r j) = ((a r j : ℝ) : EReal)) (h1 : ∀ j l, x1 (ix2 j l) = ((w j l : ℝ) : EReal))
    (h2 : ∀ r l, x2 (ix2 r l) = ((x r l : ℝ) : EReal)) (h3 : ∀ l, x3 (ix2 0 l) = ((g l : ℝ) : EReal)) (r : Fin 512) (l : Fin 1024) :
    k1_pay2 x0 x1 x2 x3 (ix2 r l) = ((x r l + FfnSpec.norm ε (fun l => ∑ j, a r j * w j l) g l : ℝ) : EReal) := by
  have hp := pay1_down x0 x1 a w h0 h1
  unfold k1_pay2 FfnSpec.norm
  generalize k1_pay1 x0 x1 = p at hp ⊢
  pointwise
  simp only [hp, h2, h3, C.eps, C.nth, ← EReal.coe_mul, ← coe_sum_real, ← EReal.coe_add]
  rw [FfnSpec.rsqrt_mean C fun l => ∑ j, a r j * w j l]
  simp only [← EReal.coe_mul, ← EReal.coe_add]

/-- What a block of the second call leaves: the second product, and the layer's rows. -/
theorem down_apply (h0 : ∀ r j, x0 (ix2 r j) = ((a r j : ℝ) : EReal)) (h1 : ∀ j l, x1 (ix2 j l) = ((w j l : ℝ) : EReal))
    (h2 : ∀ r l, x2 (ix2 r l) = ((x r l : ℝ) : EReal)) (h3 : ∀ l, x3 (ix2 0 l) = ((g l : ℝ) : EReal)) (i : S512x1024.Idx) :
    out1_4 x0 x1 x2 x3 i = ((∑ j, a (i 0) j * w j (i 1) : ℝ) : EReal) ∧
    out1_5 x0 x1 x2 x3 i = ((x (i 0) (i 1) + FfnSpec.norm ε (fun l => ∑ j, a (i 0) j * w j l) g (i 1) : ℝ) : EReal) := by
  have e0 : View.ld x0 r1_0 = x0 := View.ld_unit_lit _ x0 (by decide)
  have e1 : View.ld x1 r1_1 = x1 := View.ld_unit_lit _ x1 (by decide)
  have e2 : View.ld x2 r1_2 = x2 := View.ld_unit_lit _ x2 (by decide)
  have e3 : View.ld x3 r1_3 = x3 := View.ld_unit_lit _ x3 (by decide)
  have a := pay1_down x0 x1 a w h0 h1 (i 0) (i 1)
  have b := pay2_down C x0 x1 x2 x3 _ w x g h0 h1 h2 h3 (i 0) (i 1)
  rw [ix2_eta i] at a b
  constructor
  · unfold out1_4
    rw [e0, e1, View.canon_unit_zero (by decide)]
    exact a
  · unfold out1_5
    rw [e0, e1, e2, e3, View.canon_unit_zero (by decide)]
    exact b

end Down

end FfnForward

end
-- ==== Proof.FfnBackward.lean ====
module

public import proofs.«01_k».proof.Proof.FfnForward

@[expose] public section

/-!
# One block of the feed-forward layer's backward pass over reals

What a block of 512 rows leaves: its rows' gradients, and what it adds to the gradients for the two norms' gains.
-/

noncomputable section

open Idealize.ShloMosaic Idealize.ShloMosaic.TcCoe Idealize.SL.Sem
open Cert.Kernel2Ideal Cert.Kernel2Ideal.Gen

namespace FfnBackward

variable {ε : ℝ} (C : FfnSpec.Consts ε)

/-- The gains' gradients start from nothing. -/
theorem zeros (l : Fin 1024) : k2_pay5 (F := Ideal) (ix2 0 l) = ((0 : ℝ) : EReal) ∧ k3_pay6 (F := Ideal) (ix2 0 l) = ((0 : ℝ) : EReal) := by
  constructor
  · unfold k2_pay5
    pointwise
    simp [Ideal.ofBits, Ideal.ieee]
  · unfold k3_pay6
    pointwise
    simp [Ideal.ofBits, Ideal.ieee]

section Down

include C

variable (x0 : Vec Ideal S512x1024 .f32) (x1 : Vec Ideal S512x1024 .f32) (x2 : Vec Ideal S1x1024 .f32) (x3 : Vec Ideal S4096x1024 .bf16)
  (x4 : Vec Ideal S512x4096 .bf16) (prev : Vec Ideal S1x1024 .f32)
  (f d : Fin 512 → Fin 1024 → ℝ) (g : Fin 1024 → ℝ) (w : Fin 4096 → Fin 1024 → ℝ) (p : Fin 512 → Fin 4096 → ℝ)

/-- The gradient for the second product's rows. -/
theorem pay7_apply (h0 : ∀ r l, x0 (ix2 r l) = ((f r l : ℝ) : EReal)) (h1 : ∀ r l, x1 (ix2 r l) = ((d r l : ℝ) : EReal))
    (h2 : ∀ l, x2 (ix2 0 l) = ((g l : ℝ) : EReal)) (r : Fin 512) (l : Fin 1024) :
    k2_pay7 x0 x2 x1 (ix2 r l) = ((FfnSpec.dnorm ε (f r) g (d r) l : ℝ) : EReal) := by
  unfold k2_pay7 k2_pay4 k2_pay3 k2_pay2 FfnSpec.dnorm
  dsimp only
  pointwise
  simp only [h0, h1, h2, C.eps, C.nth, ← EReal.coe_mul, ← coe_sum_real, ← EReal.coe_add]
  rw [FfnSpec.rsqrt_mean C (f r)]
  simp only [← EReal.coe_mul, ← coe_sum_real, ← EReal.coe_sub]

/-- A block adds, for each of its rows, the row's gradient times its normalised entry. -/
theorem pay6_apply (h0 : ∀ r l, x0 (ix2 r l) = ((f r l : ℝ) : EReal)) (h1 : ∀ r l, x1 (ix2 r l) = ((d r l : ℝ) : EReal))
    (l : Fin 1024) (P : ℝ) (hP : prev (ix2 0 l) = ((P : ℝ) : EReal)) :
    k2_pay6 x0 x1 prev (ix2 0 l) = ((P + ∑ r, FfnSpec.dgain ε (f r) (d r) l : ℝ) : EReal) := by
  unfold k2_pay6 k2_pay4 k2_pay3 k2_pay2 FfnSpec.dgain
  dsimp only
  pointwise
  simp only [h0, h1, hP, C.eps, C.nth, ← EReal.coe_mul, ← coe_sum_real, ← EReal.coe_add]
  simp only [FfnSpec.rsqrt_mean C (f _), ← EReal.coe_mul, ← coe_sum_real, ← EReal.coe_add]

omit C in
/-- The gradient for a chunk of hidden units. -/
theorem pay8_apply (a : FVec Ideal S512x1024 .bf16) (v : Vec Ideal S1024x1024 .bf16) (b : Vec Ideal S512x1024 .bf16)
    (q : Fin 512 → Fin 1024 → ℝ) (u : Fin 1024 → Fin 1024 → ℝ) (s : Fin 512 → Fin 1024 → ℝ)
    (ha : ∀ r l, a (ix2 r l) = ((q r l : ℝ) : EReal)) (hv : ∀ j l, v (ix2 j l) = ((u j l : ℝ) : EReal))
    (hb : ∀ r j, b (ix2 r j) = ((s r j : ℝ) : EReal)) (r : Fin 512) (j : Fin 1024) :
    k2_pay8 a v b (ix2 r j) = (((∑ l, q r l * u j l) * s r j : ℝ) : EReal) := by
  unfold k2_pay8
  pointwise
  simp only [ha, hv, hb, ← EReal.coe_mul, ← coe_sum_real]

omit C in
/-- The four chunks of a block run the same operations. -/
theorem chunks (a : FVec Ideal S512x1024 .bf16) (v : Vec Ideal S1024x1024 .bf16) (b : Vec Ideal S512x1024 .bf16) :
    k2_pay9 a v b = k2_pay8 a v b ∧ k2_pay10 a v b = k2_pay8 a v b ∧ k2_pay1 (k2_pay11 a v) b = k2_pay8 a v b := ⟨rfl, rfl, rfl⟩

omit C in
/-- The chunk of hidden units at column `o`. -/
theorem chunk (a : FVec Ideal S512x1024 .bf16) (q : Fin 512 → Fin 1024 → ℝ) (ha : ∀ r l, a (ix2 r l) = ((q r l : ℝ) : EReal))
    (h3 : ∀ j l, x3 (ix2 j l) = ((w j l : ℝ) : EReal)) (h4 : ∀ r j, x4 (ix2 r j) = ((p r j : ℝ) : EReal)) (o : ℕ) (ho : o + 1024 ≤ 4096)
    (inb : ∀ a, (![o, 0] : Fin 2 → ℕ) a + S1024x1024.size a ≤ S4096x1024.size a) (inb' : ∀ a, (![0, o] : Fin 2 → ℕ) a + S512x1024.size a ≤ S512x4096.size a)
    (y : S512x1024.Idx) (i : S512x4096.Idx) (hr : (i 0 : ℕ) = y 0) (hl : (i 1 : ℕ) = o + y 1) :
    k2_pay8 a (View.ld x3 (Rect.unit (s := S4096x1024) ![o, 0] S1024x1024.size inb)) (View.ld x4 (Rect.unit (s := S512x4096) ![0, o] S512x1024.size inb')) y =
      (((∑ l, q (i 0) l * w (i 1) l) * p (i 0) (i 1) : ℝ) : EReal) := by
  have e0 : i 0 = (y 0 : Fin 512) := Fin.ext hr
  have e1 : i 1 = (⟨o + (y 1).val, lt_of_lt_of_le (Nat.add_lt_add_left (y 1).isLt o) ho⟩ : Fin 4096) := Fin.ext hl
  have hw : ∀ (j l : Fin 1024), View.ld x3 (Rect.unit (s := S4096x1024) ![o, 0] S1024x1024.size inb) (ix2 j l) =
      ((w ⟨o + j.val, lt_of_lt_of_le (Nat.add_lt_add_left j.isLt o) ho⟩ l : ℝ) : EReal) :=
    fun j l => (View.ld_unit_apply_of x3 _ _ inb (ix2 j l) (ix2 ⟨o + j.val, lt_of_lt_of_le (Nat.add_lt_add_left j.isLt o) ho⟩ l) fun d => by
      match d with
      | ⟨0, _⟩ => rfl
      | ⟨1, _⟩ => exact (Nat.zero_add _).symm).trans (h3 _ _)
  have hp : ∀ (r : Fin 512) (j : Fin 1024), View.ld x4 (Rect.unit (s := S512x4096) ![0, o] S512x1024.size inb') (ix2 r j) =
      ((p r ⟨o + j.val, lt_of_lt_of_le (Nat.add_lt_add_left j.isLt o) ho⟩ : ℝ) : EReal) :=
    fun r j => (View.ld_unit_apply_of x4 _ _ inb' (ix2 r j) (ix2 r ⟨o + j.val, lt_of_lt_of_le (Nat.add_lt_add_left j.isLt o) ho⟩) fun d => by
      match d with
      | ⟨0, _⟩ => exact (Nat.zero_add _).symm
      | ⟨1, _⟩ => rfl).trans (h4 _ _)
  have b := pay8_apply a _ _ q _ _ ha hw hp (y 0) (y 1)
  rw [ix2_eta y] at b
  rw [e0, e1]
  exact b

end Down

section DownBlock

variable (V : (c : Dev nD) → (b : Ref sig .tc) → Buf (Elt Ideal) ((c : Thread nD τ).loc b)) (c : Dev nD) (t : Fin cfg2.N)

/-- The first block's additions start from zeros, a later one's from what the block before left. -/
theorem gain_first (h0 : t.val % 16 = 0) : (outsAt2 V c t.val t.isLt).2.2 = k2_pay6 (iblk2 V c 0 t) (iblk2 V c 1 t) (k2_pay5 (F := Ideal)) := by
  rw [outsAt2_A V c t h0]
  frame_out

theorem gain_next (h0 : ¬ t.val % 16 = 0) : (outsAt2 V c t.val t.isLt).2.2 = k2_pay6 (iblk2 V c 0 t) (iblk2 V c 1 t)
    (outsAt2 V c (t.val - 1) (Nat.lt_of_le_of_lt (Nat.sub_le _ _) t.isLt)).2.2 := by
  rw [outsAt2_B V c t h0]
  frame_out

/-- The columns of a block at column `o`. -/
abbrev cols (o : ℕ) (inb : ∀ a, (![0, o] : Fin 2 → ℕ) a + S512x1024.size a ≤ S512x4096.size a) : Rect S512x4096 :=
  Rect.unit (s := S512x4096) ![0, o] S512x1024.size inb

/-- The gradient for a chunk, from a block's inputs. -/
abbrev part (x0 x1 : Vec Ideal S512x1024 .f32) (x2 : Vec Ideal S1x1024 .f32) (x3 : Vec Ideal S4096x1024 .bf16) (x4 : Vec Ideal S512x4096 .bf16)
    (o : ℕ) (inb : ∀ a, (![o, 0] : Fin 2 → ℕ) a + S1024x1024.size a ≤ S4096x1024.size a)
    (inb' : ∀ a, (![0, o] : Fin 2 → ℕ) a + S512x1024.size a ≤ S512x4096.size a) : Vec Ideal S512x1024 .bf16 :=
  k2_pay8 (k2_pay7 x0 x2 x1) (View.ld x3 (Rect.unit (s := S4096x1024) ![o, 0] S1024x1024.size inb)) (View.ld x4 (cols o inb'))

/-- The four chunks, as the block's output holds them. -/
theorem pieces : (outsAt2 V c t.val t.isLt).2.1 = View.canon
    [⟨cols 3072 inb_S512x4096_S512x1024_0_3072, part (iblk2 V c 0 t) (iblk2 V c 1 t) (iblk2 V c 2 t) (iblk2 V c 3 t) (iblk2 V c 4 t) 3072 inb_S4096x1024_S1024x1024_3072_0 inb_S512x4096_S512x1024_0_3072⟩,
      ⟨cols 2048 inb_S512x4096_S512x1024_0_2048, part (iblk2 V c 0 t) (iblk2 V c 1 t) (iblk2 V c 2 t) (iblk2 V c 3 t) (iblk2 V c 4 t) 2048 inb_S4096x1024_S1024x1024_2048_0 inb_S512x4096_S512x1024_0_2048⟩,
      ⟨cols 1024 inb_S512x4096_S512x1024_0_1024, part (iblk2 V c 0 t) (iblk2 V c 1 t) (iblk2 V c 2 t) (iblk2 V c 3 t) (iblk2 V c 4 t) 1024 inb_S4096x1024_S1024x1024_1024_0 inb_S512x4096_S512x1024_0_1024⟩,
      ⟨cols 0 inb_S512x4096_S512x1024_0_0, part (iblk2 V c 0 t) (iblk2 V c 1 t) (iblk2 V c 2 t) (iblk2 V c 3 t) (iblk2 V c 4 t) 0 inb_S4096x1024_S1024x1024_0_0 inb_S512x4096_S512x1024_0_0⟩] := by
  by_cases h0 : t.val % 16 = 0
  · rw [outsAt2_A V c t h0]
    frame_out
    rfl
  · rw [outsAt2_B V c t h0]
    frame_out
    rfl

/-- The four chunks cover the block. -/
theorem cover_cols (a b d e : Vec Ideal S512x1024 .bf16) (y : S512x4096.Idx) :
    ∃ pc ∈ ([⟨cols 3072 inb_S512x4096_S512x1024_0_3072, a⟩, ⟨cols 2048 inb_S512x4096_S512x1024_0_2048, b⟩, ⟨cols 1024 inb_S512x4096_S512x1024_0_1024, d⟩,
      ⟨cols 0 inb_S512x4096_S512x1024_0_0, e⟩] : List (View.Piece (Elt Ideal) S512x4096 .bf16)), y ∈ pc.1.set :=
  View.cover_of_tiled [⟨cols 3072 inb_S512x4096_S512x1024_0_3072, a⟩, ⟨cols 2048 inb_S512x4096_S512x1024_0_2048, b⟩,
    ⟨cols 1024 inb_S512x4096_S512x1024_0_1024, d⟩, ⟨cols 0 inb_S512x4096_S512x1024_0_0, e⟩] S512x1024.size (by rfl) y

variable {f d : Fin 512 → Fin 1024 → ℝ} {g : Fin 1024 → ℝ} {w : Fin 4096 → Fin 1024 → ℝ} {p : Fin 512 → Fin 4096 → ℝ}

include C in
/-- The gradient for a block's hidden units. -/
theorem hidden_apply (h0 : ∀ r l, iblk2 V c 0 t (ix2 r l) = ((f r l : ℝ) : EReal)) (h1 : ∀ r l, iblk2 V c 1 t (ix2 r l) = ((d r l : ℝ) : EReal))
    (h2 : ∀ l, iblk2 V c 2 t (ix2 0 l) = ((g l : ℝ) : EReal)) (h3 : ∀ j l, iblk2 V c 3 t (ix2 j l) = ((w j l : ℝ) : EReal))
    (h4 : ∀ r j, iblk2 V c 4 t (ix2 r j) = ((p r j : ℝ) : EReal)) (i : S512x4096.Idx) :
    (outsAt2 V c t.val t.isLt).2.1 i =
      (((∑ l, FfnSpec.dnorm ε (f (i 0)) g (d (i 0)) l * w (i 1) l) * p (i 0) (i 1) : ℝ) : EReal) := by
  rw [pieces]
  generalize iblk2 V c 0 t = X, iblk2 V c 1 t = D, iblk2 V c 2 t = G, iblk2 V c 3 t = W, iblk2 V c 4 t = S at h0 h1 h2 h3 h4 ⊢
  have ha := pay7_apply C X D G f d g h0 h1 h2
  have tile := chunk W S w p (k2_pay7 X G D) (fun r l => FfnSpec.dnorm ε (f r) g (d r) l) ha h3 h4
  canon_tiles y h using cover_cols ..
  · exact tile 3072 (by decide) _ _ y i (by assumption) (by assumption)
  · exact tile 2048 (by decide) _ _ y i (by assumption) (by assumption)
  · exact tile 1024 (by decide) _ _ y i (by assumption) (by assumption)
  · exact tile 0 (by decide) _ _ y i (by assumption) (by omega)

end DownBlock

section Up

include C

variable (x0 : Vec Ideal S512x4096 .bf16) (x1 : Vec Ideal S1024x4096 .bf16) (x2 x4 : Vec Ideal S512x1024 .f32) (x3 : Vec Ideal S1x1024 .f32)
  (prev : Vec Ideal S1x1024 .f32)
  (e : Fin 512 → Fin 4096 → ℝ) (u : Fin 1024 → Fin 4096 → ℝ) (x d : Fin 512 → Fin 1024 → ℝ) (g : Fin 1024 → ℝ)

omit C in
/-- The gradient for the normalised rows. -/
theorem pay2_apply (h0 : ∀ r j, x0 (ix2 r j) = ((e r j : ℝ) : EReal)) (h1 : ∀ l j, x1 (ix2 l j) = ((u l j : ℝ) : EReal))
    (r : Fin 512) (l : Fin 1024) : k3_pay2 x0 x1 (ix2 r l) = ((∑ j, e r j * u l j : ℝ) : EReal) := by
  unfold k3_pay2
  pointwise
  simp only [h0, h1, ← EReal.coe_mul, ← coe_sum_real]

/-- The gradient for the rows: what came in, and what came through the norm. -/
theorem pay5_apply (h0 : ∀ r j, x0 (ix2 r j) = ((e r j : ℝ) : EReal)) (h1 : ∀ l j, x1 (ix2 l j) = ((u l j : ℝ) : EReal))
    (h2 : ∀ r l, x2 (ix2 r l) = ((x r l : ℝ) : EReal)) (h3 : ∀ l, x3 (ix2 0 l) = ((g l : ℝ) : EReal))
    (h4 : ∀ r l, x4 (ix2 r l) = ((d r l : ℝ) : EReal)) (r : Fin 512) (l : Fin 1024) :
    k3_pay1 (k3_pay5 x0 x1 x2 x3) x4 (ix2 r l) = ((d r l + FfnSpec.dnorm ε (x r) g (fun l => ∑ j, e r j * u l j) l : ℝ) : EReal) := by
  have hp := pay2_apply x0 x1 e u h0 h1
  unfold k3_pay1 k3_pay5 k3_pay4 k3_pay3 FfnSpec.dnorm
  generalize k3_pay2 x0 x1 = a at hp ⊢
  dsimp only
  pointwise
  simp only [hp, h2, h3, h4, C.eps, C.nth, ← EReal.coe_mul, ← coe_sum_real, ← EReal.coe_add]
  rw [FfnSpec.rsqrt_mean C (x r)]
  simp only [← EReal.coe_mul, ← coe_sum_real, ← EReal.coe_sub, ← EReal.coe_add]

/-- A block adds, for each of its rows, the normalised row's gradient times the row's entry over its root mean square. -/
theorem pay7_up (h0 : ∀ r j, x0 (ix2 r j) = ((e r j : ℝ) : EReal)) (h1 : ∀ l j, x1 (ix2 l j) = ((u l j : ℝ) : EReal))
    (h2 : ∀ r l, x2 (ix2 r l) = ((x r l : ℝ) : EReal)) (l : Fin 1024) (P : ℝ) (hP : prev (ix2 0 l) = ((P : ℝ) : EReal)) :
    k3_pay7 x0 x1 x2 prev (ix2 0 l) = ((P + ∑ r, FfnSpec.dgain ε (x r) (fun l => ∑ j, e r j * u l j) l : ℝ) : EReal) := by
  have hp := pay2_apply x0 x1 e u h0 h1
  unfold k3_pay7 k3_pay4 k3_pay3 FfnSpec.dgain
  generalize k3_pay2 x0 x1 = a at hp ⊢
  dsimp only
  pointwise
  simp only [hp, h2, hP, C.eps, C.nth, ← EReal.coe_mul, ← coe_sum_real, ← EReal.coe_add]
  simp only [FfnSpec.rsqrt_mean C (x _), ← EReal.coe_mul, ← coe_sum_real, ← EReal.coe_add]

end Up

section UpBlock

variable (V : (c : Dev nD) → (b : Ref sig .tc) → Buf (Elt Ideal) ((c : Thread nD τ).loc b)) (c : Dev nD) (t : Fin cfg3.N)

theorem gain3_first (h0 : t.val % 16 = 0) : (outsAt3 V c t.val t.isLt).2 = k3_pay7 (iblk3 V c 0 t) (iblk3 V c 1 t) (iblk3 V c 2 t) (k3_pay6 (F := Ideal)) := by
  rw [outsAt3_A V c t h0]
  frame_out

theorem gain3_next (h0 : ¬ t.val % 16 = 0) : (outsAt3 V c t.val t.isLt).2 = k3_pay7 (iblk3 V c 0 t) (iblk3 V c 1 t) (iblk3 V c 2 t)
    (outsAt3 V c (t.val - 1) (Nat.lt_of_le_of_lt (Nat.sub_le _ _) t.isLt)).2 := by
  rw [outsAt3_B V c t h0]
  frame_out

/-- A block's rows are stored whole. -/
theorem rows_out : (outsAt3 V c t.val t.isLt).1 =
    k3_pay1 (k3_pay5 (iblk3 V c 0 t) (iblk3 V c 1 t) (iblk3 V c 2 t) (iblk3 V c 3 t)) (iblk3 V c 4 t) := by
  by_cases h0 : t.val % 16 = 0
  · rw [outsAt3_A V c t h0]
    frame_out
  · rw [outsAt3_B V c t h0]
    frame_out

end UpBlock

end FfnBackward

end
-- ==== Proof.FfnArrays.lean ====
module

public import proofs.«01_k».proof.Proof.FfnBackward

@[expose] public section

/-!
# What the four calls of the feed-forward layer leave in their arrays

Each call goes over sixteen blocks of 512 rows.
-/

noncomputable section

open Idealize.ShloMosaic Idealize.ShloMosaic.TcCoe Idealize.SL.Sem
open Cert.Kernel2Ideal Cert.Kernel2Ideal.Gen

namespace FfnArrays

/-- An array of reals, and a row of them. -/
def mat {a b : ℕ} (A : Fin a → Fin b → ℝ) : (⟨2, ![a, b]⟩ : Shape).Idx → EReal := fun i => ((A (i 0) (i 1) : ℝ) : EReal)
def gain {b : ℕ} (g : Fin b → ℝ) : (⟨2, ![1, b]⟩ : Shape).Idx → EReal := fun i => ((g (i 1) : ℝ) : EReal)

theorem mat_at {a b : ℕ} (A : Fin a → Fin b → ℝ) (i : (⟨2, ![a, b]⟩ : Shape).Idx) (r : Fin a) (l : Fin b)
    (h0 : (i 0 : ℕ) = r) (h1 : (i 1 : ℕ) = l) : mat A i = ((A r l : ℝ) : EReal) := by
  have e0 : i 0 = r := Fin.ext h0
  have e1 : i 1 = l := Fin.ext h1
  unfold mat
  rw [e0, e1]

theorem gain_at {b : ℕ} (g : Fin b → ℝ) (i : (⟨2, ![1, b]⟩ : Shape).Idx) (l : Fin b)
    (h1 : (i 1 : ℕ) = l) : gain g i = ((g l : ℝ) : EReal) := by
  have e1 : i 1 = l := Fin.ext h1
  unfold gain
  rw [e1]

/-- The row of the arrays that a row of block `n` is. -/
def row (n : ℕ) (r : Fin 512) : Fin 8192 := ⟨n % 16 * 512 + r.val, by omega⟩

theorem row_val (n : ℕ) (r : Fin 512) (h : n < 16) : n * 512 + r.val = (row n r).val := by
  show _ = n % 16 * 512 + r.val
  omega

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![t.val, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![t.val, 0] := (by decide +kernel : ∀ t : Fin grid0.N, _)
theorem lt0 (t : Fin cfg0.N) : t.val < 16 := (by decide : grid0.N = 16) ▸ t.isLt
theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![t.val, 0] := (by decide +kernel : ∀ t : Fin grid1.N, _)
theorem idx1_5 : ∀ t : Fin cfg1.N, win1_5.index t = ![t.val, 0] := (by decide +kernel : ∀ t : Fin grid1.N, _)
theorem lt1 (t : Fin cfg1.N) : t.val < 16 := (by decide : grid1.N = 16) ▸ t.isLt
theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![t.val, 0] := (by decide +kernel : ∀ t : Fin grid2.N, _)
theorem idx2_5 : ∀ t : Fin cfg2.N, win2_5.index t = ![t.val, 0] := (by decide +kernel : ∀ t : Fin grid2.N, _)
theorem idx2_6 : ∀ t : Fin cfg2.N, win2_6.index t = ![t.val, 0] := (by decide +kernel : ∀ t : Fin grid2.N, _)
theorem idx2_7 : ∀ t : Fin cfg2.N, win2_7.index t = ![0, 0] := (by decide +kernel : ∀ t : Fin grid2.N, _)
theorem lt2 (t : Fin cfg2.N) : t.val < 16 := (by decide : grid2.N = 16) ▸ t.isLt
theorem idx3_0 : ∀ t : Fin cfg3.N, win3_0.index t = ![t.val, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![t.val, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![t.val, 0] := (by decide +kernel : ∀ t : Fin grid3.N, _)
theorem idx3_5 : ∀ t : Fin cfg3.N, win3_5.index t = ![t.val, 0] := (by decide +kernel : ∀ t : Fin grid3.N, _)
theorem idx3_6 : ∀ t : Fin cfg3.N, win3_6.index t = ![0, 0] := (by decide +kernel : ∀ t : Fin grid3.N, _)
theorem lt3 (t : Fin cfg3.N) : t.val < 16 := (by decide : grid3.N = 16) ▸ t.isLt
theorem flush2 : ∀ t : Fin cfg2.N, win2_7.flush t = true → t.val = 15 := (by decide +kernel : ∀ t : Fin grid2.N, _)
theorem flush3 : ∀ t : Fin cfg3.N, win3_6.flush t = true → t.val = 15 := (by decide +kernel : ∀ t : Fin grid3.N, _)

variable (V : (c : Dev nD) → (b : Ref sig .tc) → Buf (Elt Ideal) ((c : Thread nD τ).loc b)) (c : Dev nD)
  (X D F : Fin 8192 → Fin 1024 → ℝ) (A E : Fin 8192 → Fin 4096 → ℝ) (U : Fin 1024 → Fin 4096 → ℝ) (W : Fin 4096 → Fin 1024 → ℝ)
  (g3 g4 : Fin 1024 → ℝ)

theorem read0_0 (h : V c main_arg0 = mat X) (t : Fin cfg0.N) (r : Fin 512) (l : Fin 1024) :
    iblk0 V c 0 t (ix2 r l) = ((X (row t.val r) l : ℝ) : EReal) := by
  refine (congrFun h _).trans (mat_at X _ _ _ ?_ ?_)
  · blk_simp [idx0_0 t]; exact row_val _ _ (lt0 t)
  · blk_simp [idx0_0 t]

theorem read0_1 (h : V c main_v0 = gain g3) (t : Fin cfg0.N) (l : Fin 1024) :
    iblk0 V c 1 t (ix2 0 l) = ((g3 l : ℝ) : EReal) := by
  refine (congrFun h _).trans (gain_at g3 _ _ ?_)
  blk_simp [idx0_1 t]

theorem read0_2 (h : V c main_v2 = mat U) (t : Fin cfg0.N) (r : Fin 1024) (l : Fin 4096) :
    iblk0 V c 2 t (ix2 r l) = ((U r l : ℝ) : EReal) := by
  refine (congrFun h _).trans (mat_at U _ _ _ ?_ ?_)
  · blk_simp [idx0_2 t]
  · blk_simp [idx0_2 t]

theorem read1_0 (h : V c main_v4_1 = mat A) (t : Fin cfg1.N) (r : Fin 512) (l : Fin 4096) :
    iblk1 V c 0 t (ix2 r l) = ((A (row t.val r) l : ℝ) : EReal) := by
  refine (congrFun h _).trans (mat_at A _ _ _ ?_ ?_)
  · blk_simp [idx1_0 t]; exact row_val _ _ (lt1 t)
  · blk_simp [idx1_0 t]

theorem read1_1 (h : V c main_v3 = mat W) (t : Fin cfg1.N) (r : Fin 4096) (l : Fin 1024) :
    iblk1 V c 1 t (ix2 r l) = ((W r l : ℝ) : EReal) := by
  refine (congrFun h _).trans (mat_at W _ _ _ ?_ ?_)
  · blk_simp [idx1_1 t]
  · blk_simp [idx1_1 t]

theorem read1_2 (h : V c main_arg0 = mat X) (t : Fin cfg1.N) (r : Fin 512) (l : Fin 1024) :
    iblk1 V c 2 t (ix2 r l) = ((X (row t.val r) l : ℝ) : EReal) := by
  refine (congrFun h _).trans (mat_at X _ _ _ ?_ ?_)
  · blk_simp [idx1_2 t]; exact row_val _ _ (lt1 t)
  · blk_simp [idx1_2 t]

theorem read1_3 (h : V c main_v1 = gain g4) (t : Fin cfg1.N) (l : Fin 1024) :
    iblk1 V c 3 t (ix2 0 l) = ((g4 l : ℝ) : EReal) := by
  refine (congrFun h _).trans (gain_at g4 _ _ ?_)
  blk_simp [idx1_3 t]

theorem read2_0 (h : V c main_v5_0 = mat F) (t : Fin cfg2.N) (r : Fin 512) (l : Fin 1024) :
    iblk2 V c 0 t (ix2 r l) = ((F (row t.val r) l : ℝ) : EReal) := by
  refine (congrFun h _).trans (mat_at F _ _ _ ?_ ?_)
  · blk_simp [idx2_0 t]; exact row_val _ _ (lt2 t)
  · blk_simp [idx2_0 t]

theorem read2_1 (h : V c main_arg5 = mat D) (t : Fin cfg2.N) (r : Fin 512) (l : Fin 1024) :
    iblk2 V c 1 t (ix2 r l) = ((D (row t.val r) l : ℝ) : EReal) := by
  refine (congrFun h _).trans (mat_at D _ _ _ ?_ ?_)
  · blk_simp [idx2_1 t]; exact row_val _ _ (lt2 t)
  · blk_simp [idx2_1 t]

theorem read2_2 (h : V c main_v1 = gain g4) (t : Fin cfg2.N) (l : Fin 1024) :
    iblk2 V c 2 t (ix2 0 l) = ((g4 l : ℝ) : EReal) := by
  refine (congrFun h _).trans (gain_at g4 _ _ ?_)
  blk_simp [idx2_2 t]

theorem read2_3 (h : V c main_v3 = mat W) (t : Fin cfg2.N) (r : Fin 4096) (l : Fin 1024) :
    iblk2 V c 3 t (ix2 r l) = ((W r l : ℝ) : EReal) := by
  refine (congrFun h _).trans (mat_at W _ _ _ ?_ ?_)
  · blk_simp [idx2_3 t]
  · blk_simp [idx2_3 t]

theorem read2_4 (h : V c main_v4_2 = mat A) (t : Fin cfg2.N) (r : Fin 512) (l : Fin 4096) :
    iblk2 V c 4 t (ix2 r l) = ((A (row t.val r) l : ℝ) : EReal) := by
  refine (congrFun h _).trans (mat_at A _ _ _ ?_ ?_)
  · blk_simp [idx2_4 t]; exact row_val _ _ (lt2 t)
  · blk_simp [idx2_4 t]

theorem read3_0 (h : V c main_v6_1 = mat E) (t : Fin cfg3.N) (r : Fin 512) (l : Fin 4096) :
    iblk3 V c 0 t (ix2 r l) = ((E (row t.val r) l : ℝ) : EReal) := by
  refine (congrFun h _).trans (mat_at E _ _ _ ?_ ?_)
  · blk_simp [idx3_0 t]; exact row_val _ _ (lt3 t)
  · blk_simp [idx3_0 t]

theorem read3_1 (h : V c main_v2 = mat U) (t : Fin cfg3.N) (r : Fin 1024) (l : Fin 4096) :
    iblk3 V c 1 t (ix2 r l) = ((U r l : ℝ) : EReal) := by
  refine (congrFun h _).trans (mat_at U _ _ _ ?_ ?_)
  · blk_simp [idx3_1 t]
  · blk_simp [idx3_1 t]

theorem read3_2 (h : V c main_arg0 = mat X) (t : Fin cfg3.N) (r : Fin 512) (l : Fin 1024) :
    iblk3 V c 2 t (ix2 r l) = ((X (row t.val r) l : ℝ) : EReal) := by
  refine (congrFun h _).trans (mat_at X _ _ _ ?_ ?_)
  · blk_simp [idx3_2 t]; exact row_val _ _ (lt3 t)
  · blk_simp [idx3_2 t]

theorem read3_3 (h : V c main_v0 = gain g3) (t : Fin cfg3.N) (l : Fin 1024) :
    iblk3 V c 3 t (ix2 0 l) = ((g3 l : ℝ) : EReal) := by
  refine (congrFun h _).trans (gain_at g3 _ _ ?_)
  blk_simp [idx3_3 t]

theorem read3_4 (h : V c main_arg5 = mat D) (t : Fin cfg3.N) (r : Fin 512) (l : Fin 1024) :
    iblk3 V c 4 t (ix2 r l) = ((D (row t.val r) l : ℝ) : EReal) := by
  refine (congrFun h _).trans (mat_at D _ _ _ ?_ ?_)
  · blk_simp [idx3_4 t]; exact row_val _ _ (lt3 t)
  · blk_simp [idx3_4 t]

/-- A run of blocks that starts at the first and adds at the others holds the sum of the additions so far. -/
theorem run_sum {N : ℕ} (hN : N = 16) (f : (n : ℕ) → n < N → EReal) (b : ℕ → ℝ)
    (h0 : ∀ n hn, n % 16 = 0 → f n hn = ((0 + b n : ℝ) : EReal))
    (h1 : ∀ n hn (P : ℝ), ¬ n % 16 = 0 → f (n - 1) (Nat.lt_of_le_of_lt (Nat.sub_le _ _) hn) = ((P : ℝ) : EReal) → f n hn = ((P + b n : ℝ) : EReal)) :
    ∀ n hn, f n hn = ((∑ x ∈ Finset.range (n + 1), b x : ℝ) : EReal) := by
  intro n
  induction n with
  | zero => intro hn; rw [h0 0 hn rfl]; simp
  | succ n ih =>
    intro hn
    rw [h1 (n + 1) hn _ (by omega) (ih _), Finset.sum_range_succ _ (n + 1)]

/-- Sixteen blocks of 512 rows are the 8192 rows. -/
theorem sum_rows (f : Fin 8192 → ℝ) : ∑ x ∈ Finset.range (15 + 1), ∑ r : Fin 512, f (row x r) = ∑ i, f i := by
  rw [Finset.sum_range]
  exact Fin.sum_mul_add_congr fun s k hl => congrArg f (Fin.ext (by
    show s.val % 16 * 512 + k.val = s.val * 512 + k.val
    omega))

variable {ε : ℝ} (C : FfnSpec.Consts ε)
variable {V c X D F A E U W g3 g4}

section Forward

include C

/-- The first call's second and third arrays. -/
theorem final0_4 (h0 : V c main_arg0 = mat X) (h1 : V c main_v0 = gain g3) (h2 : V c main_v2 = mat U) :
    (dat0 V c).arrAt 4 cfg0.N = mat fun r j => FfnSpec.pos ε (X r) g3 U j * FfnSpec.pos ε (X r) g3 U j := by
  refine (dat0 V c).arrAt_eq_of_covers 4 _ (by decide +kernel) fun t hf y => ?_
  blk_simp
  rw [after0_4]
  refine Eq.trans ?_ (mat_at _ _ (row t.val (y 0)) (y 1) (by blk_simp [idx0_4 t]; exact row_val _ _ (lt0 t)) (by blk_simp [idx0_4 t])).symm
  exact (FfnForward.up_apply C _ _ _ _ _ _ (read0_0 V c X h0 t) (read0_1 V c g3 h1 t) (read0_2 V c U h2 t) y).1

theorem final0_5 (h0 : V c main_arg0 = mat X) (h1 : V c main_v0 = gain g3) (h2 : V c main_v2 = mat U) :
    (dat0 V c).arrAt 5 cfg0.N = mat fun r j => 2 * FfnSpec.pos ε (X r) g3 U j := by
  refine (dat0 V c).arrAt_eq_of_covers 5 _ (by decide +kernel) fun t hf y => ?_
  blk_simp
  rw [after0_5]
  refine Eq.trans ?_ (mat_at _ _ (row t.val (y 0)) (y 1) (by blk_simp [idx0_5 t]; exact row_val _ _ (lt0 t)) (by blk_simp [idx0_5 t])).symm
  exact (FfnForward.up_apply C _ _ _ _ _ _ (read0_0 V c X h0 t) (read0_1 V c g3 h1 t) (read0_2 V c U h2 t) y).2

/-- The second call's arrays. -/
theorem final1_4 (h0 : V c main_v4_1 = mat A) (h1 : V c main_v3 = mat W) (h2 : V c main_arg0 = mat X) (h3 : V c main_v1 = gain g4) :
    (dat1 V c).arrAt 4 cfg1.N = mat fun r l => ∑ j, A r j * W j l := by
  refine (dat1 V c).arrAt_eq_of_covers 4 _ (by decide +kernel) fun t hf y => ?_
  blk_simp
  rw [after1_4]
  refine Eq.trans ?_ (mat_at _ _ (row t.val (y 0)) (y 1) (by blk_simp [idx1_4 t]; exact row_val _ _ (lt1 t)) (by blk_simp [idx1_4 t])).symm
  exact (FfnForward.down_apply C _ _ _ _ _ _ _ _ (read1_0 V c A h0 t) (read1_1 V c W h1 t) (read1_2 V c X h2 t) (read1_3 V c g4 h3 t) y).1

theorem final1_5 (h0 : V c main_v4_1 = mat A) (h1 : V c main_v3 = mat W) (h2 : V c main_arg0 = mat X) (h3 : V c main_v1 = gain g4) :
    (dat1 V c).arrAt 5 cfg1.N = mat fun r l => X r l + FfnSpec.norm ε (fun l => ∑ j, A r j * W j l) g4 l := by
  refine (dat1 V c).arrAt_eq_of_covers 5 _ (by decide +kernel) fun t hf y => ?_
  blk_simp
  rw [after1_5]
  refine Eq.trans ?_ (mat_at _ _ (row t.val (y 0)) (y 1) (by blk_simp [idx1_5 t]; exact row_val _ _ (lt1 t)) (by blk_simp [idx1_5 t])).symm
  exact (FfnForward.down_apply C _ _ _ _ _ _ _ _ (read1_0 V c A h0 t) (read1_1 V c W h1 t) (read1_2 V c X h2 t) (read1_3 V c g4 h3 t) y).2

end Forward

section Backward

include C

/-- The third call's second array: the gradient for the hidden units. -/
theorem final2_6 (h0 : V c main_v5_0 = mat F) (h1 : V c main_arg5 = mat D) (h2 : V c main_v1 = gain g4) (h3 : V c main_v3 = mat W)
    (h4 : V c main_v4_2 = mat A) :
    (dat2 V c).arrAt 6 cfg2.N = mat fun r j => (∑ l, FfnSpec.dnorm ε (F r) g4 (D r) l * W j l) * A r j := by
  refine (dat2 V c).arrAt_eq_of_covers 6 _ (by decide +kernel) fun t hf y => ?_
  blk_simp
  rw [after2_6]
  refine Eq.trans ?_ (mat_at _ _ (row t.val (y 0)) (y 1) (by blk_simp [idx2_6 t]; exact row_val _ _ (lt2 t)) (by blk_simp [idx2_6 t])).symm
  exact FfnBackward.hidden_apply C V c t (read2_0 V c F h0 t) (read2_1 V c D h1 t) (read2_2 V c g4 h2 t) (read2_3 V c W h3 t) (read2_4 V c A h4 t) y

/-- The second norm's gain's gradient after a point. -/
theorem gain2_after (h0 : V c main_v5_0 = mat F) (h1 : V c main_arg5 = mat D) (l : Fin 1024) (n : ℕ) (hn : n < cfg2.N) :
    (outsAt2 V c n hn).2.2 (ix2 0 l) = ((∑ x ∈ Finset.range (n + 1), ∑ r, FfnSpec.dgain ε (F (row x r)) (D (row x r)) l : ℝ) : EReal) := by
  refine run_sum (by decide : grid2.N = 16) (fun n hn => (outsAt2 V c n hn).2.2 (ix2 0 l)) (fun x => ∑ r, FfnSpec.dgain ε (F (row x r)) (D (row x r)) l) ?_ ?_ n hn
  · intro n hn h
    exact (congrFun (FfnBackward.gain_first V c ⟨n, hn⟩ h) _).trans
      (FfnBackward.pay6_apply C _ _ _ _ _ (read2_0 V c F h0 ⟨n, hn⟩) (read2_1 V c D h1 ⟨n, hn⟩) l 0 (FfnBackward.zeros l).1)
  · intro n hn P h hP
    exact (congrFun (FfnBackward.gain_next V c ⟨n, hn⟩ h) _).trans
      (FfnBackward.pay6_apply C _ _ _ _ _ (read2_0 V c F h0 ⟨n, hn⟩) (read2_1 V c D h1 ⟨n, hn⟩) l P hP)

/-- The third call's third array: the gradient for the second norm's gain. -/
theorem final2_7 (h0 : V c main_v5_0 = mat F) (h1 : V c main_arg5 = mat D) :
    (dat2 V c).arrAt 7 cfg2.N = gain fun l => ∑ r, FfnSpec.dgain ε (F r) (D r) l := by
  refine (dat2 V c).arrAt_eq_of_covers 7 _ (by decide +kernel) fun t hf y => ?_
  have h15 := flush2 t hf
  blk_simp
  rw [after2_7]
  refine Eq.trans ?_ (gain_at _ _ (y 1) (by blk_simp [idx2_7 t])).symm
  have e := gain2_after C h0 h1 (y 1) t.val t.isLt
  rw [show t.val + 1 = 15 + 1 by omega, sum_rows fun r => FfnSpec.dgain ε (F r) (D r) (y 1)] at e
  have hy : y = ix2 0 (y 1) := by
    rw [eq_ix2 y]
    congr 1
    exact Subsingleton.elim (α := Fin 1) _ _
  rw [hy]
  exact e

/-- The fourth call's first array: the gradient for the rows. -/
theorem final3_5 (h0 : V c main_v6_1 = mat E) (h1 : V c main_v2 = mat U) (h2 : V c main_arg0 = mat X) (h3 : V c main_v0 = gain g3)
    (h4 : V c main_arg5 = mat D) :
    (dat3 V c).arrAt 5 cfg3.N = mat fun r l => D r l + FfnSpec.dnorm ε (X r) g3 (fun l => ∑ j, E r j * U l j) l := by
  refine (dat3 V c).arrAt_eq_of_covers 5 _ (by decide +kernel) fun t hf y => ?_
  blk_simp
  rw [after3_5]
  refine Eq.trans ?_ (mat_at _ _ (row t.val (y 0)) (y 1) (by blk_simp [idx3_5 t]; exact row_val _ _ (lt3 t)) (by blk_simp [idx3_5 t])).symm
  rw [FfnBackward.rows_out]
  have a := FfnBackward.pay5_apply C _ _ _ _ _ _ _ _ _ _ (read3_0 V c E h0 t) (read3_1 V c U h1 t) (read3_2 V c X h2 t) (read3_3 V c g3 h3 t) (read3_4 V c D h4 t) (y 0) (y 1)
  rw [ix2_eta y] at a
  exact a

/-- The first norm's gain's gradient after a point. -/
theorem gain3_after (h0 : V c main_v6_1 = mat E) (h1 : V c main_v2 = mat U) (h2 : V c main_arg0 = mat X) (l : Fin 1024) (n : ℕ) (hn : n < cfg3.N) :
    (outsAt3 V c n hn).2 (ix2 0 l) =
      ((∑ x ∈ Finset.range (n + 1), ∑ r, FfnSpec.dgain ε (X (row x r)) (fun l => ∑ j, E (row x r) j * U l j) l : ℝ) : EReal) := by
  refine run_sum (by decide : grid3.N = 16) (fun n hn => (outsAt3 V c n hn).2 (ix2 0 l))
    (fun x => ∑ r, FfnSpec.dgain ε (X (row x r)) (fun l => ∑ j, E (row x r) j * U l j) l) ?_ ?_ n hn
  · intro n hn h
    exact (congrFun (FfnBackward.gain3_first V c ⟨n, hn⟩ h) _).trans
      (FfnBackward.pay7_up C _ _ _ _ _ _ _ (read3_0 V c E h0 ⟨n, hn⟩) (read3_1 V c U h1 ⟨n, hn⟩) (read3_2 V c X h2 ⟨n, hn⟩) l 0 (FfnBackward.zeros l).2)
  · intro n hn P h hP
    exact (congrFun (FfnBackward.gain3_next V c ⟨n, hn⟩ h) _).trans
      (FfnBackward.pay7_up C _ _ _ _ _ _ _ (read3_0 V c E h0 ⟨n, hn⟩) (read3_1 V c U h1 ⟨n, hn⟩) (read3_2 V c X h2 ⟨n, hn⟩) l P hP)

/-- The fourth call's second array: the gradient for the first norm's gain. -/
theorem final3_6 (h0 : V c main_v6_1 = mat E) (h1 : V c main_v2 = mat U) (h2 : V c main_arg0 = mat X) :
    (dat3 V c).arrAt 6 cfg3.N = gain fun l => ∑ r, FfnSpec.dgain ε (X r) (fun l => ∑ j, E r j * U l j) l := by
  refine (dat3 V c).arrAt_eq_of_covers 6 _ (by decide +kernel) fun t hf y => ?_
  have h15 := flush3 t hf
  blk_simp
  rw [after3_6]
  refine Eq.trans ?_ (gain_at _ _ (y 1) (by blk_simp [idx3_6 t])).symm
  have e := gain3_after C h0 h1 h2 (y 1) t.val t.isLt
  rw [show t.val + 1 = 15 + 1 by omega, sum_rows fun r => FfnSpec.dgain ε (X r) (fun l => ∑ j, E r j * U l j) (y 1)] at e
  have hy : y = ix2 0 (y 1) := by
    rw [eq_ix2 y]
    congr 1
    exact Subsingleton.elim (α := Fin 1) _ _
  rw [hy]
  exact e

end Backward

end FfnArrays

end
-- ==== Proof.FfnHost.lean ====
module

public import proofs.«01_k».proof.Proof.FfnArrays
public import Idealize.ShloMosaic.Lib.IdealHost

@[expose] public section

/-!
# The arrays the four kernels pass to one another, and the layer's results
-/

noncomputable section

open Idealize.ShloMosaic Idealize.ShloMosaic.TcCoe Idealize.SL.Sem
open Cert.Kernel2Ideal Cert.Kernel2Ideal.Gen

namespace FfnHost
open FfnArrays

variable (m : (ℓ : Loc nD τ sig) → Buf (Elt Ideal) ℓ) (ρ : Dev nD → PrngReg) (c : Dev nD)

/-- A vector of reals. -/
def vec {b : ℕ} (g : Fin b → ℝ) : (⟨1, ![b]⟩ : Shape).Idx → EReal := fun i => ((g (i 0) : ℝ) : EReal)

/-- The arguments are real. -/
structure Args (X : Fin 8192 → Fin 1024 → ℝ) (g3 : Fin 1024 → ℝ) (U : Fin 1024 → Fin 4096 → ℝ) (W : Fin 4096 → Fin 1024 → ℝ)
    (g4 : Fin 1024 → ℝ) (D : Fin 8192 → Fin 1024 → ℝ) : Prop where
  x : m ((c : Thread nD τ).loc main_arg0) = mat X
  g3 : m ((c : Thread nD τ).loc main_arg1) = vec g3
  u : m ((c : Thread nD τ).loc main_arg2) = mat U
  w : m ((c : Thread nD τ).loc main_arg3) = mat W
  g4 : m ((c : Thread nD τ).loc main_arg4) = vec g4
  d : m ((c : Thread nD τ).loc main_arg5) = mat D

variable {m c} {X : Fin 8192 → Fin 1024 → ℝ} {g3 : Fin 1024 → ℝ} {U : Fin 1024 → Fin 4096 → ℝ} {W : Fin 4096 → Fin 1024 → ℝ}
  {g4 : Fin 1024 → ℝ} {D : Fin 8192 → Fin 1024 → ℝ} {ε : ℝ}

/-- A vector of reals laid out as one row. -/
theorem row_of_vec (h : S1024.ShapeCasts S1x1024) (x : FVec Ideal S1024 .f32) (g : Fin 1024 → ℝ) (hx : x = vec g) : shapeCast S1x1024 x h = gain g := by
  funext i
  obtain ⟨r, j, rfl⟩ : ∃ (r : Fin 1) (j : Fin 1024), i = ix2 r j := ⟨_, _, eq_ix2 i⟩
  subst hx
  pointwise
  rfl

/-- One row read back as a vector. -/
theorem vec_of_row (h : S1x1024.ShapeCasts S1024) (x : FVec Ideal S1x1024 .f32) (g : Fin 1024 → ℝ) (hx : x = gain g) : shapeCast S1024 x h = vec g := by
  funext i
  obtain ⟨j, rfl⟩ : ∃ (j : Fin 1024), i = ix1 j := ⟨_, eq_ix1 i⟩
  subst hx
  pointwise
  rfl

variable (C : FfnSpec.Consts ε) (H : Args m c X g3 U W g4 D)

/-! ## Before the first kernel -/

include H

theorem first_x : V1 m ρ c main_arg0 = mat X := (W1_of m ρ c main_arg0 (by decide +kernel)).trans H.x

theorem first_g3 : V1 m ρ c main_v0 = gain g3 := by
  have e : V1 m ρ c main_v0 = shapeCast S1x1024 (m ((c : Thread nD τ).loc main_arg1)) shapeCasts_S1024_S1x1024 := by
    show StableHlo.after hostOps0 (W0 m ρ c) (Proc.devRef .tc main_v0) = _
    after_results_simp
    rfl
  exact e.trans (row_of_vec _ _ _ H.g3)

theorem first_g4 : V1 m ρ c main_v1 = gain g4 := by
  have e : V1 m ρ c main_v1 = shapeCast S1x1024 (m ((c : Thread nD τ).loc main_arg4)) shapeCasts_S1024_S1x1024 := by
    show StableHlo.after hostOps0 (W0 m ρ c) (Proc.devRef .tc main_v1) = _
    after_results_simp
    rfl
  exact e.trans (row_of_vec _ _ _ H.g4)

theorem first_u : V1 m ρ c main_v2 = mat U := by
  have e : V1 m ρ c main_v2 = truncf (F := Ideal) .bf16 (m ((c : Thread nD τ).loc main_arg2)) bitsLt_bf16_f32 := by
    show StableHlo.after hostOps0 (W0 m ρ c) (Proc.devRef .tc main_v2) = _
    after_results_simp
  exact e.trans H.u

theorem first_w : V1 m ρ c main_v3 = mat W := by
  have e : V1 m ρ c main_v3 = truncf (F := Ideal) .bf16 (m ((c : Thread nD τ).loc main_arg3)) bitsLt_bf16_f32 := by
    show StableHlo.after hostOps0 (W0 m ρ c) (Proc.devRef .tc main_v3) = _
    after_results_simp
  exact e.trans H.w

/-! ## Between the kernels -/

include C

theorem second_a : V2 m ρ c main_v4_1 = mat fun r j => FfnSpec.pos ε (X r) g3 U j * FfnSpec.pos ε (X r) g3 U j :=
  (W2_arr m ρ c 4).trans (final0_4 C (first_x ρ H) (first_g3 ρ H) (first_u ρ H))

theorem second_r : V2 m ρ c main_v4_2 = mat fun r j => 2 * FfnSpec.pos ε (X r) g3 U j :=
  (W2_arr m ρ c 5).trans (final0_5 C (first_x ρ H) (first_g3 ρ H) (first_u ρ H))

omit C in
theorem second_x : V2 m ρ c main_arg0 = mat X := (W2_of m ρ c main_arg0 (by decide +kernel)).trans (first_x ρ H)
omit C in
theorem second_g3 : V2 m ρ c main_v0 = gain g3 := (W2_of m ρ c main_v0 (by decide +kernel)).trans (first_g3 ρ H)
omit C in
theorem second_g4 : V2 m ρ c main_v1 = gain g4 := (W2_of m ρ c main_v1 (by decide +kernel)).trans (first_g4 ρ H)
omit C in
theorem second_u : V2 m ρ c main_v2 = mat U := (W2_of m ρ c main_v2 (by decide +kernel)).trans (first_u ρ H)
omit C in
theorem second_w : V2 m ρ c main_v3 = mat W := (W2_of m ρ c main_v3 (by decide +kernel)).trans (first_w ρ H)
omit C in
theorem second_d : V2 m ρ c main_arg5 = mat D :=
  (W2_of m ρ c main_arg5 (by decide +kernel)).trans ((W1_of m ρ c main_arg5 (by decide +kernel)).trans H.d)

theorem third_f : V3 m ρ c main_v5_0 = mat fun r l => FfnSpec.down ε (X r) g3 U W l :=
  (W3_arr m ρ c 4).trans (final1_4 C (second_a ρ C H) (second_w ρ H) (second_x ρ H) (second_g4 ρ H))

theorem third_y : V3 m ρ c main_v5_1 = mat fun r l => FfnSpec.out ε (X r) g3 U W g4 l :=
  (W3_arr m ρ c 5).trans (final1_5 C (second_a ρ C H) (second_w ρ H) (second_x ρ H) (second_g4 ρ H))

theorem third_r : V3 m ρ c main_v4_2 = mat fun r j => 2 * FfnSpec.pos ε (X r) g3 U j :=
  (W3_of m ρ c main_v4_2 (by decide +kernel)).trans (second_r ρ C H)
omit C in
theorem third_x : V3 m ρ c main_arg0 = mat X := (W3_of m ρ c main_arg0 (by decide +kernel)).trans (second_x ρ H)
omit C in
theorem third_g3 : V3 m ρ c main_v0 = gain g3 := (W3_of m ρ c main_v0 (by decide +kernel)).trans (second_g3 ρ H)
omit C in
theorem third_g4 : V3 m ρ c main_v1 = gain g4 := (W3_of m ρ c main_v1 (by decide +kernel)).trans (second_g4 ρ H)
omit C in
theorem third_u : V3 m ρ c main_v2 = mat U := (W3_of m ρ c main_v2 (by decide +kernel)).trans (second_u ρ H)
omit C in
theorem third_w : V3 m ρ c main_v3 = mat W := (W3_of m ρ c main_v3 (by decide +kernel)).trans (second_w ρ H)
omit C in
theorem third_d : V3 m ρ c main_arg5 = mat D := (W3_of m ρ c main_arg5 (by decide +kernel)).trans (second_d ρ H)

theorem fourth_h : V4 m ρ c main_v6_1 = mat fun r j => FfnSpec.dhid ε (X r) g3 U W g4 (D r) j :=
  (W4_arr m ρ c 6).trans (final2_6 C (third_f ρ C H) (third_d ρ H) (third_g4 ρ H) (third_w ρ H) (third_r ρ C H))

theorem fourth_g : V4 m ρ c main_v6_2 = gain fun l => ∑ r, FfnSpec.dgain ε (FfnSpec.down ε (X r) g3 U W) (D r) l :=
  (W4_arr m ρ c 7).trans (final2_7 C (third_f ρ C H) (third_d ρ H))

theorem fourth_y : V4 m ρ c main_v5_1 = mat fun r l => FfnSpec.out ε (X r) g3 U W g4 l :=
  (W4_of m ρ c main_v5_1 (by decide +kernel)).trans (third_y ρ C H)
omit C in
theorem fourth_x : V4 m ρ c main_arg0 = mat X := (W4_of m ρ c main_arg0 (by decide +kernel)).trans (third_x ρ H)
omit C in
theorem fourth_g3 : V4 m ρ c main_v0 = gain g3 := (W4_of m ρ c main_v0 (by decide +kernel)).trans (third_g3 ρ H)
omit C in
theorem fourth_u : V4 m ρ c main_v2 = mat U := (W4_of m ρ c main_v2 (by decide +kernel)).trans (third_u ρ H)
omit C in
theorem fourth_d : V4 m ρ c main_arg5 = mat D := (W4_of m ρ c main_arg5 (by decide +kernel)).trans (third_d ρ H)

theorem fifth_x : W5 m ρ c (Proc.devRef .tc main_v7_0) = mat fun r l => FfnSpec.dx ε (X r) g3 U W g4 (D r) l :=
  (W5_arr m ρ c 5).trans (final3_5 C (fourth_h ρ C H) (fourth_u ρ H) (fourth_x ρ H) (fourth_g3 ρ H) (fourth_d ρ H))

theorem fifth_g3 : W5 m ρ c (Proc.devRef .tc main_v7_1) =
    gain fun l => ∑ r, FfnSpec.dgain ε (X r) (FfnSpec.dnormed ε (X r) g3 U W g4 (D r)) l :=
  (W5_arr m ρ c 6).trans (final3_6 C (fourth_h ρ C H) (fourth_u ρ H) (fourth_x ρ H))

theorem fifth_g4 : W5 m ρ c (Proc.devRef .tc main_v6_2) =
    gain fun l => ∑ r, FfnSpec.dgain ε (FfnSpec.down ε (X r) g3 U W) (D r) l :=
  (W5_of m ρ c main_v6_2 (by decide +kernel)).trans (fourth_g ρ C H)

/-! ## The results -/

/-- The layer's rows. -/
theorem result_y : W6 m ρ c (Proc.devRef .tc main_v5_1) = mat fun r l => FfnSpec.out ε (X r) g3 U W g4 l :=
  (W6_of m ρ c main_v5_1 (by decide +kernel)).trans ((W5_of m ρ c main_v5_1 (by decide +kernel)).trans (fourth_y ρ C H))

/-- The gradient for the rows. -/
theorem result_dx : W6 m ρ c (Proc.devRef .tc main_v7_0) = mat fun r l => FfnSpec.dx ε (X r) g3 U W g4 (D r) l :=
  (W6_of m ρ c main_v7_0 (by decide +kernel)).trans (fifth_x ρ C H)

/-- The gradient for the first norm's gain. -/
theorem result_g3 : W6 m ρ c (Proc.devRef .tc main_v8) =
    vec fun l => ∑ r, FfnSpec.dgain ε (X r) (FfnSpec.dnormed ε (X r) g3 U W g4 (D r)) l := by
  have e : W6 m ρ c (Proc.devRef .tc main_v8) = shapeCast S1024 (W5 m ρ c (Proc.devRef .tc main_v7_1)) shapeCasts_S1x1024_S1024 := by
    show StableHlo.after hostOps4 (W5 m ρ c) (Proc.devRef .tc main_v8) = _
    after_results_simp
    rfl
  exact e.trans (vec_of_row _ _ _ (fifth_g3 ρ C H))

/-- The gradient for the second norm's gain. -/
theorem result_g4 : W6 m ρ c (Proc.devRef .tc main_v9) =
    vec fun l => ∑ r, FfnSpec.dgain ε (FfnSpec.down ε (X r) g3 U W) (D r) l := by
  have e : W6 m ρ c (Proc.devRef .tc main_v9) = shapeCast S1024 (W5 m ρ c (Proc.devRef .tc main_v6_2)) shapeCasts_S1x1024_S1024 := by
    show StableHlo.after hostOps4 (W5 m ρ c) (Proc.devRef .tc main_v9) = _
    after_results_simp
    rfl
  exact e.trans (vec_of_row _ _ _ (fifth_g4 ρ C H))

end FfnHost

end
-- ==== Proof.FfnRun.lean ====
module

public import proofs.«01_k».proof.Proof.FfnHost
public import proofs.«01_k».proof.Proof.Gen.Kernel2Ideal.Frame

@[expose] public section

/-!
# The run of the four kernels, with its results
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

namespace FfnRun

local notation "𝕄" => MT nD τ sig Unit (Elt Ideal) ℕ (UR sig nD τ) ℕ

set_option backward.isDefEq.respectTransparency.types false in
/-- The program runs from any memory: its four results end at what the segments' fold leaves in them, its arguments as
    they were. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v5_1) = W6 m ρ c (Proc.devRef .tc main_v5_1)
      ∧ r.2.mem ((c.tc : Thread nD τ).loc main_v7_0) = W6 m ρ c (Proc.devRef .tc main_v7_0)
      ∧ r.2.mem ((c.tc : Thread nD τ).loc main_v8) = W6 m ρ c (Proc.devRef .tc main_v8)
      ∧ r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v5_1 (by decide)),
       h c _ (mem_uc main_v7_0 (by decide)),
       h c _ (mem_uc main_v8 (by decide)),
       h c _ (mem_uc main_v9 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end FfnRun

end
-- ==== Proof.FfnFinite.lean ====
module

public import proofs.«01_k».proof.Proof.Finite
public import proofs.«01_k».proof.Proof.Gen.Pre_finite2

@[expose] public section

/-!
# What the layer's precondition says: every entry of every argument is a real number
-/

noncomputable section

open Idealize.ShloMosaic
open Cert.Pre_finite2

namespace FfnFinite

/-- All six arguments are real where the precondition holds. -/
theorem reals (x0 : FVec Ideal S8192x1024 .f32) (x1 : FVec Ideal S1024 .f32) (x2 : FVec Ideal S1024x4096 .f32)
    (x3 : FVec Ideal S4096x1024 .f32) (x4 : FVec Ideal S1024 .f32) (x5 : FVec Ideal S8192x1024 .f32)
    (h : fn (F := Ideal) x0 x1 x2 x3 x4 x5 = fun _ => 1#1) :
    (∀ i, x0 i = (((x0 i : EReal).toReal : ℝ) : EReal)) ∧ (∀ i, x1 i = (((x1 i : EReal).toReal : ℝ) : EReal))
    ∧ (∀ i, x2 i = (((x2 i : EReal).toReal : ℝ) : EReal)) ∧ (∀ i, x3 i = (((x3 i : EReal).toReal : ℝ) : EReal))
    ∧ (∀ i, x4 i = (((x4 i : EReal).toReal : ℝ) : EReal)) ∧ (∀ i, x5 i = (((x5 i : EReal).toReal : ℝ) : EReal)) := by
  have e := congrFun h (fun k => k.elim0)
  obtain ⟨e, e5⟩ := AttentionFinite.both e
  obtain ⟨e, e4⟩ := AttentionFinite.both e
  obtain ⟨e, e3⟩ := AttentionFinite.both e
  obtain ⟨e, e2⟩ := AttentionFinite.both e
  obtain ⟨e0, e1⟩ := AttentionFinite.both e
  exact ⟨AttentionFinite.entries_real x0 _ _ _ _ _ e0, AttentionFinite.entries_real x1 _ _ _ _ _ e1,
    AttentionFinite.entries_real x2 _ _ _ _ _ e2, AttentionFinite.entries_real x3 _ _ _ _ _ e3,
    AttentionFinite.entries_real x4 _ _ _ _ _ e4, AttentionFinite.entries_real x5 _ _ _ _ _ e5⟩

end FfnFinite

end
-- ==== Proof.WeightSum.lean ====
module

public import proofs.«01_k».proof.Proof.FfnArrays

@[expose] public section

/-!
# A sum over rows taken block by block

The gradient of a weight is a sum over rows. A kernel that takes it goes over `p` blocks of rows for each block of
its result: it starts from zero at a run's first block and adds one block's rows at each.
-/

noncomputable section

open Idealize.ShloMosaic

namespace WeightSum

/-- Where a run stands after its point `n`: the sum of what its points so far have added. -/
theorem run_sum {N p : ℕ} (hp : 0 < p) (f : (n : ℕ) → n < N → EReal) (b : ℕ → EReal)
    (h0 : ∀ n hn, n % p = 0 → f n hn = 0 + b n)
    (h1 : ∀ n hn, ¬ n % p = 0 → f n hn = f (n - 1) (Nat.lt_of_le_of_lt (Nat.sub_le _ _) hn) + b n) :
    ∀ n hn, f n hn = ∑ x ∈ Finset.range (n % p + 1), b (n / p * p + x) := by
  have start : ∀ n hn, n % p = 0 → f n hn = ∑ x ∈ Finset.range (n % p + 1), b (n / p * p + x) := fun n hn h => by
    rw [h0 n hn h, h, Finset.sum_range_one, Nat.add_zero, Nat.div_mul_cancel (Nat.dvd_of_mod_eq_zero h), zero_add]
  intro n
  induction n with
  | zero => exact fun hn => start 0 hn (Nat.zero_mod p)
  | succ n ih =>
    intro hn
    by_cases h : (n + 1) % p = 0
    · exact start _ hn h
    · obtain ⟨hd, hm⟩ : (n + 1) / p = n / p ∧ (n + 1) % p = n % p + 1 := by
        have h' : ¬ p ∣ n + 1 := fun e => h (Nat.mod_eq_zero_of_dvd e)
        refine ⟨Nat.succ_div_of_not_dvd h', ?_⟩
        have e1 := Nat.div_add_mod (n + 1) p
        have e2 := Nat.div_add_mod n p
        rw [Nat.succ_div_of_not_dvd h'] at e1
        omega
      have e := Nat.div_add_mod (n + 1) p
      rw [hd, Nat.mul_comm] at e
      rw [hd, Finset.sum_range_succ, e, hm]
      exact (h1 (n + 1) hn h).trans (congrArg (· + b (n + 1)) (ih (Nat.lt_of_succ_lt hn)))

/-- The row that a row of the block a run reads at point `n` is: `T` rows are `p` blocks of `b`. -/
def row (p b T : ℕ) (h : 0 < p ∧ T = p * b) (n : ℕ) (r : Fin b) : Fin T :=
  ⟨n % p * b + r.val, by
    have h1 : n % p + 1 ≤ p := Nat.mod_lt n h.1
    have h2 := Nat.mul_le_mul_right b h1
    rw [Nat.add_mul, Nat.one_mul, ← h.2] at h2
    exact lt_of_lt_of_le (Nat.add_lt_add_left r.isLt _) h2⟩

/-- A whole run's blocks hold every row once. -/
theorem sum_rows {p b T : ℕ} (h : 0 < p ∧ T = p * b) (q : ℕ) (f : Fin T → EReal) :
    ∑ x ∈ Finset.range p, ∑ r : Fin b, f (row p b T h (q * p + x) r) = ∑ k, f k := by
  rw [Finset.sum_range]
  exact Fin.sum_mul_add_congr (fun s k hl => congrArg f (Fin.ext (by
    show (q * p + s.val) % p * b + k.val = s.val * b + k.val
    rw [Nat.add_comm (q * p), Nat.add_mul_mod_self_right, Nat.mod_eq_of_lt s.isLt]))) h.2

/-- The column of the result that a column of the block a run leaves is: `C` columns are `w` blocks of `Q`. -/
def col (p w Q C : ℕ) (h : 0 < w ∧ C = w * Q) (n : ℕ) (q : Fin Q) : Fin C := row w Q C h (n / p) q

theorem col_val (p w Q C : ℕ) (h : 0 < w ∧ C = w * Q) (n : ℕ) (q : Fin Q) (hn : n / p < w) : n / p * Q + q.val = (col p w Q C h n q).val := by
  show _ = n / p % w * Q + q.val
  rw [Nat.mod_eq_of_lt hn]

/-- An array's entry, from the entry's row and column. -/
theorem entry {a b : ℕ} (A : (⟨2, ![a, b]⟩ : Shape).Idx → EReal) (i : (⟨2, ![a, b]⟩ : Shape).Idx) (r : Fin a) (l : Fin b)
    (h0 : (i 0 : ℕ) = r) (h1 : (i 1 : ℕ) = l) : A i = A (ix2 r l) := by
  rw [eq_ix2 i, show i 0 = r from Fin.ext h0, show i 1 = l from Fin.ext h1]

section Run

variable {N p w b K Q T C : ℕ} (hT : 0 < p ∧ T = p * b) (hC : 0 < w ∧ C = w * Q)
  (X : (⟨2, ![T, K]⟩ : Shape).Idx → EReal) (Y : (⟨2, ![T, C]⟩ : Shape).Idx → EReal)

/-- The gradient: for each column of `X` and each of `Y`, the sum over all rows. -/
def grad (i : (⟨2, ![K, C]⟩ : Shape).Idx) : EReal := ∑ k : Fin T, X (ix2 k (i 0)) * Y (ix2 k (i 1))

/-- What a block of rows adds. -/
def part (x : (⟨2, ![b, K]⟩ : Shape).Idx → EReal) (y : (⟨2, ![b, Q]⟩ : Shape).Idx → EReal) (i : (⟨2, ![K, Q]⟩ : Shape).Idx) : EReal :=
  ∑ r : Fin b, x (ix2 r (i 0)) * y (ix2 r (i 1))

/-- A run that starts from zero, and at each point adds the block of rows it reads, leaves the gradient. -/
theorem reached (acc : (n : ℕ) → n < N → (⟨2, ![K, Q]⟩ : Shape).Idx → EReal)
    (x : (n : ℕ) → n < N → (⟨2, ![b, K]⟩ : Shape).Idx → EReal) (y : (n : ℕ) → n < N → (⟨2, ![b, Q]⟩ : Shape).Idx → EReal)
    (h0 : ∀ n hn i, n % p = 0 → acc n hn i = 0 + part (x n hn) (y n hn) i)
    (h1 : ∀ n hn i, ¬ n % p = 0 → acc n hn i = acc (n - 1) (Nat.lt_of_le_of_lt (Nat.sub_le _ _) hn) i + part (x n hn) (y n hn) i)
    (hx : ∀ n hn r l, x n hn (ix2 r l) = X (ix2 (row p b T hT n r) l))
    (hy : ∀ n hn r q, y n hn (ix2 r q) = Y (ix2 (row p b T hT n r) (col p w Q C hC n q)))
    (n : ℕ) (hn : n < N) (hl : n % p + 1 = p) (i : (⟨2, ![K, Q]⟩ : Shape).Idx) (j : (⟨2, ![K, C]⟩ : Shape).Idx)
    (j0 : (j 0 : ℕ) = i 0) (j1 : (j 1 : ℕ) = col p w Q C hC n (i 1)) : acc n hn i = grad X Y j := by
  have e : ∀ n hn i, part (x n hn) (y n hn) i =
      ∑ r : Fin b, X (ix2 (row p b T hT n r) (i 0)) * Y (ix2 (row p b T hT n r) (col p w Q C hC n (i 1))) :=
    fun n hn i => Finset.sum_congr rfl fun r _ => congrArg₂ (· * ·) (hx n hn r (i 0)) (hy n hn r (i 1))
  have s := run_sum hT.1 (fun n hn => acc n hn i)
    (fun n => ∑ r : Fin b, X (ix2 (row p b T hT n r) (i 0)) * Y (ix2 (row p b T hT n r) (col p w Q C hC n (i 1))))
    (fun n hn h => (h0 n hn i h).trans (congrArg _ (e n hn i))) (fun n hn h => (h1 n hn i h).trans (congrArg _ (e n hn i))) n hn
  refine s.trans ?_
  have e0 : j 0 = i 0 := Fin.ext j0
  have e1 : j 1 = col p w Q C hC n (i 1) := Fin.ext j1
  rw [hl, grad, e0, e1, ← sum_rows hT (n / p)]
  refine Finset.sum_congr rfl fun k hk => Finset.sum_congr rfl fun r _ => ?_
  have c : col p w Q C hC (n / p * p + k) (i 1) = col p w Q C hC n (i 1) := by
    unfold col
    rw [Nat.add_comm, Nat.add_mul_div_right _ _ hT.1, Nat.div_eq_of_lt (Finset.mem_range.mp hk), Nat.zero_add]
  rw [c]

end Run

end WeightSum

end

end
-- ==== Proof.WeightUp.lean ====
module

public import proofs.«01_k».proof.Proof.WeightSum
public import proofs.«01_k».proof.Proof.Gen.Kernel3Ideal.Value
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Defs
public import Idealize.ShloMosaic.Lib.Pipeline.ReadBack
public import Idealize.ShloMosaic.Adequacy

@[expose] public section

/-!
# The gradient of the feed-forward layer's first weight

A run of four points goes over the rows, 2048 at a time, and leaves 512 columns of the gradient.
-/

noncomputable section

open Idealize.ShloMosaic Idealize.ShloMosaic.TcCoe Idealize.SL.Sem
open Cert.Kernel3Ideal Cert.Kernel3Ideal.Gen

namespace WeightUp

theorem zeros (i : S1024x512.Idx) : k0_pay1 (F := Ideal) i = 0 := by
  unfold k0_pay1
  pointwise

theorem adds (a : Vec Ideal S1024x512 .f32) (x : Vec Ideal S2048x1024 .bf16) (y : Vec Ideal S2048x512 .bf16) (i : S1024x512.Idx) :
    k0_pay2 a x y i = a i + WeightSum.part x y i := by
  obtain ⟨p, q, rfl⟩ : ∃ (p : Fin 1024) (q : Fin 512), i = ix2 p q := ⟨_, _, eq_ix2 i⟩
  unfold k0_pay2 WeightSum.part
  pointwise

theorem stores (a : Vec Ideal S1024x512 .f32) : k0_pay3 a = a := by
  unfold k0_pay3
  rfl

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 8 := Nat.div_lt_of_lt_mul (lt_of_lt_of_eq t.isLt (by decide : grid0.N = 4 * 8))

abbrev X : FVec Ideal S8192x1024 .f32 := m ((c : Thread nD τ).loc main_arg0)
abbrev Y : FVec Ideal S8192x4096 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 8 ∧ 4096 = 8 * 512 := by decide

/-- A row of a block, and a column of a block of columns. -/
abbrev row (n : ℕ) (r : Fin 2048) : Fin 8192 := WeightSum.row 4 2048 8192 rows n r
abbrev col (n : ℕ) (q : Fin 512) : Fin 4096 := WeightSum.col 4 8 512 4096 cols n q

theorem read_0 (t : Fin cfg0.N) (r : Fin 2048) (l : Fin 1024) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 8 512 4096 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 8 512 4096 cols _ (y 1) (runs t)

/-! ## The reference -/

open Cert

/-- The reference runs, leaves its arguments as they were and every counter at zero. -/
theorem frame_reference (m : (ℓ : Loc Reference3Ideal.nD Reference3Ideal.τ Reference3Ideal.sig) → Buf (Elt Ideal) ℓ)
    (ρ : Dev Reference3Ideal.nD → PrngReg) :
    θ_run (Reference3Ideal.defs (F := Ideal)) (onTc (τ := Reference3Ideal.τ) (Reference3Ideal.main (F := Ideal))) ⟨m, fun _ => 0, ρ⟩
      (fun r => (∀ c : Dev Reference3Ideal.nD,
        r.2.mem ((c.tc : Thread Reference3Ideal.nD Reference3Ideal.τ).loc Reference3Ideal.main_arg0) = m ((c.tc : Thread Reference3Ideal.nD Reference3Ideal.τ).loc Reference3Ideal.main_arg0)
        ∧ r.2.mem ((c.tc : Thread Reference3Ideal.nD Reference3Ideal.τ).loc Reference3Ideal.main_arg1) = m ((c.tc : Thread Reference3Ideal.nD Reference3Ideal.τ).loc Reference3Ideal.main_arg1))
      ∧ r.2.sem = fun _ => 0) :=
  (θ_run Reference3Ideal.defs _ _).mono (fun r h => ⟨fun c => (h c).2, sem_eq_zero_of_no_sems (by decide) r.2⟩)
    (Reference3Ideal.Value.run (F := Ideal) m ρ)

theorem reference (x : FVec Ideal S8192x1024 .f32) (y : FVec Ideal S8192x4096 .f32) :
    Reference3Ideal.Read.val_main_v4 (F := Ideal) x y = WeightSum.grad x y := by
  funext i
  rw [Reference3Ideal.Read.val_main_v4_apply, Reference3Ideal.Read.val_main_v3_apply, Reference3Ideal.Read.val_main_v2_apply]
  unfold WeightSum.grad
  refine Finset.sum_congr rfl fun k _ => (mul_comm _ _).trans (congrArg₂ (· * ·) ?_ ?_)
  · exact WeightSum.entry _ _ _ _ rfl rfl
  · exact WeightSum.entry _ _ _ _ rfl rfl

/-- The gradient is the reference's. -/
theorem algebraic : algebraic_Kernel3Ideal_Reference3Ideal (hKernel3Ideal := Kernel3Ideal.Gen.facts)
    (hReference3Ideal := Reference3Ideal.Gen.facts) := by
  intro m g m' g' _ ha
  refine ⟨_, (θ_run Kernel3Ideal.defs _ _).mono (fun r h c => ⟨(Kernel3Ideal.Value.post2 m r h c).trans (final m c),
    Kernel3Ideal.Value.kept_main_arg0 m r h c, Kernel3Ideal.Value.kept_main_arg1 m r h c⟩) (Kernel3Ideal.Gen.run_main m g), ?_⟩
  refine (θ_run Reference3Ideal.defs _ _).mono (fun r h c => ?_) (Reference3Ideal.Value.run (F := Ideal) m' g')
  obtain ⟨r0, hargs⟩ := h c
  obtain ⟨a0, a1⟩ := ha c
  refine ⟨r0.trans ?_, hargs⟩
  rw [Reference3Ideal.Read.val_main_v4_eq, a0, a1]
  exact reference _ _

end WeightUp

end

end
-- ==== Proof.WeightDown.lean ====
module

public import proofs.«01_k».proof.Proof.WeightSum
public import proofs.«01_k».proof.Proof.Gen.Kernel4Ideal.Value
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Defs
public import Idealize.ShloMosaic.Lib.Pipeline.ReadBack
public import Idealize.ShloMosaic.Adequacy

@[expose] public section

/-!
# The gradient of the feed-forward layer's second weight

A run of eight points goes over the rows, 1024 at a time, and leaves 512 columns of the gradient.
-/

noncomputable section

open Idealize.ShloMosaic Idealize.ShloMosaic.TcCoe Idealize.SL.Sem
open Cert.Kernel4Ideal Cert.Kernel4Ideal.Gen

namespace WeightDown

theorem zeros (i : S4096x512.Idx) : k0_pay1 (F := Ideal) i = 0 := by
  unfold k0_pay1
  pointwise

theorem adds (a : Vec Ideal S4096x512 .f32) (x : Vec Ideal S1024x4096 .bf16) (y : Vec Ideal S1024x512 .bf16) (i : S4096x512.Idx) :
    k0_pay2 a x y i = a i + WeightSum.part x y i := by
  obtain ⟨p, q, rfl⟩ : ∃ (p : Fin 4096) (q : Fin 512), i = ix2 p q := ⟨_, _, eq_ix2 i⟩
  unfold k0_pay2 WeightSum.part
  pointwise

theorem stores (a : Vec Ideal S4096x512 .f32) : k0_pay3 a = a := by
  unfold k0_pay3
  rfl

variable (m : (ℓ : Loc nD τ sig) → Buf (Elt Ideal) ℓ) (c : Dev nD)

theorem first (t : Fin cfg0.N) (h : t.val % 8 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 8 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 8 = 7
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 8 = 7) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 8, 0] := (by decide +kernel : ∀ t : Fin grid0.N, _)
theorem index_1 : ∀ t : Fin cfg0.N, win0_1.index t = ![t.val % 8, t.val / 8] := (by decide +kernel : ∀ t : Fin grid0.N, _)
theorem index_2 : ∀ t : Fin cfg0.N, win0_2.index t = ![0, t.val / 8] := (by decide +kernel : ∀ t : Fin grid0.N, _)
theorem runs (t : Fin cfg0.N) : t.val / 8 < 2 := Nat.div_lt_of_lt_mul (lt_of_lt_of_eq t.isLt (by decide : grid0.N = 8 * 2))

abbrev X : FVec Ideal S8192x4096 .f32 := m ((c : Thread nD τ).loc main_arg0)
abbrev Y : FVec Ideal S8192x1024 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 8 ∧ 8192 = 8 * 1024 := by decide
theorem cols : 0 < 2 ∧ 1024 = 2 * 512 := by decide

/-- A row of a block, and a column of a block of columns. -/
abbrev row (n : ℕ) (r : Fin 1024) : Fin 8192 := WeightSum.row 8 1024 8192 rows n r
abbrev col (n : ℕ) (q : Fin 512) : Fin 1024 := WeightSum.col 8 2 512 1024 cols n q

theorem read_0 (t : Fin cfg0.N) (r : Fin 1024) (l : Fin 4096) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 1024) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 8 2 512 1024 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 8 2 512 1024 cols _ (y 1) (runs t)

/-! ## The reference -/

open Cert

/-- The reference runs, leaves its arguments as they were and every counter at zero. -/
theorem frame_reference (m : (ℓ : Loc Reference4Ideal.nD Reference4Ideal.τ Reference4Ideal.sig) → Buf (Elt Ideal) ℓ)
    (ρ : Dev Reference4Ideal.nD → PrngReg) :
    θ_run (Reference4Ideal.defs (F := Ideal)) (onTc (τ := Reference4Ideal.τ) (Reference4Ideal.main (F := Ideal))) ⟨m, fun _ => 0, ρ⟩
      (fun r => (∀ c : Dev Reference4Ideal.nD,
        r.2.mem ((c.tc : Thread Reference4Ideal.nD Reference4Ideal.τ).loc Reference4Ideal.main_arg0) = m ((c.tc : Thread Reference4Ideal.nD Reference4Ideal.τ).loc Reference4Ideal.main_arg0)
        ∧ r.2.mem ((c.tc : Thread Reference4Ideal.nD Reference4Ideal.τ).loc Reference4Ideal.main_arg1) = m ((c.tc : Thread Reference4Ideal.nD Reference4Ideal.τ).loc Reference4Ideal.main_arg1))
      ∧ r.2.sem = fun _ => 0) :=
  (θ_run Reference4Ideal.defs _ _).mono (fun r h => ⟨fun c => (h c).2, sem_eq_zero_of_no_sems (by decide) r.2⟩)
    (Reference4Ideal.Value.run (F := Ideal) m ρ)

theorem reference (x : FVec Ideal S8192x4096 .f32) (y : FVec Ideal S8192x1024 .f32) :
    Reference4Ideal.Read.val_main_v4 (F := Ideal) x y = WeightSum.grad x y := by
  funext i
  rw [Reference4Ideal.Read.val_main_v4_apply, Reference4Ideal.Read.val_main_v3_apply, Reference4Ideal.Read.val_main_v2_apply]
  unfold WeightSum.grad
  refine Finset.sum_congr rfl fun k _ => (mul_comm _ _).trans (congrArg₂ (· * ·) ?_ ?_)
  · exact WeightSum.entry _ _ _ _ rfl rfl
  · exact WeightSum.entry _ _ _ _ rfl rfl

/-- The gradient is the reference's. -/
theorem algebraic : algebraic_Kernel4Ideal_Reference4Ideal (hKernel4Ideal := Kernel4Ideal.Gen.facts)
    (hReference4Ideal := Reference4Ideal.Gen.facts) := by
  intro m g m' g' _ ha
  refine ⟨_, (θ_run Kernel4Ideal.defs _ _).mono (fun r h c => ⟨(Kernel4Ideal.Value.post2 m r h c).trans (final m c),
    Kernel4Ideal.Value.kept_main_arg0 m r h c, Kernel4Ideal.Value.kept_main_arg1 m r h c⟩) (Kernel4Ideal.Gen.run_main m g), ?_⟩
  refine (θ_run Reference4Ideal.defs _ _).mono (fun r h c => ?_) (Reference4Ideal.Value.run (F := Ideal) m' g')
  obtain ⟨r0, hargs⟩ := h c
  obtain ⟨a0, a1⟩ := ha c
  refine ⟨r0.trans ?_, hargs⟩
  rw [Reference4Ideal.Read.val_main_v4_eq, a0, a1]
  exact reference _ _

end WeightDown

end

end
-- ==== Proof.MixSpec.lean ====
module

public import proofs.«01_k».proof.Proof.FfnSpec

@[expose] public section

/-!
# The gated merge of the two attentions' outputs, and its gradients, over reals

Rows of 1024 entries, 2304 main columns, and 2048 gates: 1024 for each of the two products that are merged.
-/

noncomputable section

open Idealize.ShloMosaic

namespace MixSpec

/-- A row times a matrix, and times its transpose. -/
def times {a b : ℕ} (v : Fin a → ℝ) (M : Fin a → Fin b → ℝ) (j : Fin b) : ℝ := ∑ k, v k * M k j
def timesT {a b : ℕ} (v : Fin b → ℝ) (M : Fin a → Fin b → ℝ) (k : Fin a) : ℝ := ∑ j, v j * M k j

/-- The logistic function. -/
def logistic (z : ℝ) : ℝ := 1 / (1 + Real.exp (-z))

/-- The two gates of a column. -/
def lo (l : Fin 1024) : Fin 2048 := ⟨l.val, by omega⟩
def hi (l : Fin 1024) : Fin 2048 := ⟨1024 + l.val, by omega⟩

/-- Two rows side by side. -/
def both (p q : Fin 1024 → ℝ) (j : Fin 2048) : ℝ := if h : j.val < 1024 then p ⟨j.val, h⟩ else q ⟨j.val - 1024, by omega⟩

theorem both_lo (p q : Fin 1024 → ℝ) (l : Fin 1024) : both p q (lo l) = p l := by
  unfold both lo
  rw [dif_pos l.isLt]

theorem both_hi (p q : Fin 1024 → ℝ) (l : Fin 1024) : both p q (hi l) = q l := by
  unfold both hi
  rw [dif_neg (by simp)]
  congr 1
  exact Fin.ext (by simp)

/-- Every column is one of the two. -/
theorem lo_or_hi (j : Fin 2048) : (∃ l, j = lo l) ∨ ∃ l, j = hi l := by
  by_cases h : j.val < 1024
  · exact .inl ⟨⟨j.val, h⟩, rfl⟩
  · exact .inr ⟨⟨j.val - 1024, by omega⟩, Fin.ext (by show j.val = 1024 + (j.val - 1024); omega)⟩

/-- The gates of a row. -/
def gates (u : Fin 1024 → ℝ) (G : Fin 1024 → Fin 2048 → ℝ) (b : Fin 2048 → ℝ) (j : Fin 2048) : ℝ := logistic (times u G j + b j)

/-- The two products, gated and added. -/
def merge (s : Fin 2048 → ℝ) (p q : Fin 1024 → ℝ) (l : Fin 1024) : ℝ := s (lo l) * p l + s (hi l) * q l

/-- The gradient for the gates' logits: `e` the gradient for the merged row. -/
def dlogit (s : Fin 2048 → ℝ) (p q e : Fin 1024 → ℝ) (j : Fin 2048) : ℝ :=
  both (fun l => e l * p l) (fun l => e l * q l) j * (s j * (1 - s j))

section Layer

variable (ε : ℝ) (x g1 : Fin 1024 → ℝ) (W : Fin 1024 → Fin 2304 → ℝ) (G : Fin 1024 → Fin 2048 → ℝ) (b : Fin 2048 → ℝ)
  (ya yb : Fin 1024 → ℝ) (A B O : Fin 1024 → Fin 1024 → ℝ) (g2 : Fin 1024 → ℝ) (dz : Fin 2304 → ℝ) (d : Fin 1024 → ℝ)

/-- The row's gates, and the merged row before and after the last product. -/
def gate : Fin 2048 → ℝ := gates (FfnSpec.norm ε x g1) G b
def merged : Fin 1024 → ℝ := merge (gate ε x g1 G b) (times ya A) (times yb B)
def prod : Fin 1024 → ℝ := times (merged ε x g1 G b ya yb A B) O

/-- The layer's row. -/
def out (l : Fin 1024) : ℝ := x l + FfnSpec.norm ε (prod ε x g1 G b ya yb A B O) g2 l

/-- The gradient for the merged row, and those for the two products. -/
def dmerged : Fin 1024 → ℝ := timesT (FfnSpec.dnorm ε (prod ε x g1 G b ya yb A B O) g2 d) O
def dpa (l : Fin 1024) : ℝ := dmerged ε x g1 G b ya yb A B O g2 d l * gate ε x g1 G b (lo l)
def dpb (l : Fin 1024) : ℝ := dmerged ε x g1 G b ya yb A B O g2 d l * gate ε x g1 G b (hi l)

/-- The gradient for the gates' logits. -/
def dgate : Fin 2048 → ℝ := dlogit (gate ε x g1 G b) (times ya A) (times yb B) (dmerged ε x g1 G b ya yb A B O g2 d)

/-- The gradient for the normalised row, and for the row. -/
def dnormed (l : Fin 1024) : ℝ := timesT dz W l + timesT (dgate ε x g1 G b ya yb A B O g2 d) G l
def dx (l : Fin 1024) : ℝ := d l + FfnSpec.dnorm ε x g1 (dnormed ε x g1 W G b ya yb A B O g2 dz d) l

end Layer

/-- The number one of the two programs. -/
theorem one : Ideal.ofBits .f32 0x3F800000#32 = ((1 : ℝ) : EReal) := by
  simp [Ideal.ofBits, Ideal.ieee]
  rw [← EReal.coe_mul]
  norm_num

theorem exp_pos (z : ℝ) : 0 < 1 + Real.exp z := add_pos one_pos (Real.exp_pos z)

/-- The logistic function, as the programs write it. -/
theorem logistic_coe (z : ℝ) : Ideal.div ((1 : ℝ) : EReal) (((1 : ℝ) : EReal) + Ideal.exp ((-z : ℝ) : EReal)) = ((logistic z : ℝ) : EReal) := by
  rw [Ideal.exp_coe, ← EReal.coe_add, Ideal.div_coe (exp_pos _).ne', ← EReal.coe_mul, one_mul]
  rfl

end MixSpec

end
-- ==== Proof.MixRef.lean ====
module

public import proofs.«01_k».proof.Proof.FfnRef
public import proofs.«01_k».proof.Proof.MixSpec
public import proofs.«01_k».proof.Proof.Gen.Reference5Ideal.Read
public import Idealize.ShloMosaic.Lib.IdealHost
public import Idealize.ShloMosaic.Lib.KernelVsHost

@[expose] public section

/-!
# The reference computes the gated merge and its gradients

Every array of the reference, read at an index, for arguments that are real.
-/

noncomputable section

open Idealize.ShloMosaic Idealize.ShloMosaic.TcCoe Idealize.SL.Sem
open Idealize.ShloMosaic.Ideal
open Cert.Reference5Ideal Cert.Reference5Ideal.Gen Cert.Reference5Ideal.Read
open FfnRef (zero_bits half_bits width_bits mul_real add_real div_real sum_real dot_real ms mid)
open MixSpec

namespace MixRef

/-- The arguments are real. -/
structure Args (x0 : S8192x1024.Idx → EReal) (x1 : S1024.Idx → EReal) (x2 : S1024x2304.Idx → EReal) (x3 : S1024x2048.Idx → EReal)
    (x4 : S2048.Idx → EReal) (x5 x6 : S8192x1024.Idx → EReal) (x7 x8 x9 : S1024x1024.Idx → EReal) (x10 : S1024.Idx → EReal)
    (x11 : S8192x2304.Idx → EReal) (x12 : S8192x1024.Idx → EReal) (X : Fin 8192 → Fin 1024 → ℝ) (g1 : Fin 1024 → ℝ)
    (W : Fin 1024 → Fin 2304 → ℝ) (G : Fin 1024 → Fin 2048 → ℝ) (b : Fin 2048 → ℝ) (P Q : Fin 8192 → Fin 1024 → ℝ)
    (A B O : Fin 1024 → Fin 1024 → ℝ) (g2 : Fin 1024 → ℝ) (Z : Fin 8192 → Fin 2304 → ℝ) (D : Fin 8192 → Fin 1024 → ℝ) : Prop where
  x : ∀ i, x0 i = ((X (i 0) (i 1) : ℝ) : EReal)
  g1 : ∀ i, x1 i = ((g1 (i 0) : ℝ) : EReal)
  w : ∀ i, x2 i = ((W (i 0) (i 1) : ℝ) : EReal)
  g : ∀ i, x3 i = ((G (i 0) (i 1) : ℝ) : EReal)
  b : ∀ i, x4 i = ((b (i 0) : ℝ) : EReal)
  ya : ∀ i, x5 i = ((P (i 0) (i 1) : ℝ) : EReal)
  yb : ∀ i, x6 i = ((Q (i 0) (i 1) : ℝ) : EReal)
  wa : ∀ i, x7 i = ((A (i 0) (i 1) : ℝ) : EReal)
  wb : ∀ i, x8 i = ((B (i 0) (i 1) : ℝ) : EReal)
  wo : ∀ i, x9 i = ((O (i 0) (i 1) : ℝ) : EReal)
  g2 : ∀ i, x10 i = ((g2 (i 0) : ℝ) : EReal)
  dz : ∀ i, x11 i = ((Z (i 0) (i 1) : ℝ) : EReal)
  d : ∀ i, x12 i = ((D (i 0) (i 1) : ℝ) : EReal)

variable {x0 : S8192x1024.Idx → EReal} {x1 : S1024.Idx → EReal} {x2 : S1024x2304.Idx → EReal} {x3 : S1024x2048.Idx → EReal}
  {x4 : S2048.Idx → EReal} {x5 x6 : S8192x1024.Idx → EReal} {x7 x8 x9 : S1024x1024.Idx → EReal} {x10 : S1024.Idx → EReal}
  {x11 : S8192x2304.Idx → EReal} {x12 : S8192x1024.Idx → EReal} {X : Fin 8192 → Fin 1024 → ℝ} {g1 : Fin 1024 → ℝ}
  {W : Fin 1024 → Fin 2304 → ℝ} {G : Fin 1024 → Fin 2048 → ℝ} {b : Fin 2048 → ℝ} {P Q : Fin 8192 → Fin 1024 → ℝ}
  {A B O : Fin 1024 → Fin 1024 → ℝ} {g2 : Fin 1024 → ℝ} {Z : Fin 8192 → Fin 2304 → ℝ} {D : Fin 8192 → Fin 1024 → ℝ} {ε : ℝ}

/-! ## Operations on reals -/

theorem one_bits : (FloatOps.ofBits .f32 0x3F800000#32 : Ideal .f32) = ((1 : ℝ) : EReal) := by
  rw [ofBits_def]
  exact one

theorem sub_real {a b : EReal} {x y : ℝ} (ha : a = ((x : ℝ) : EReal)) (hb : b = ((y : ℝ) : EReal)) :
    FloatOps.subf (F := Ideal) (φ := .f32) a b = ((x - y : ℝ) : EReal) := by
  rw [ha, hb]
  exact (EReal.coe_sub _ _).symm

/-! ## Reshaped places -/

theorem same55 (i : S8192x1024.Idx) : idx_main_v55 i = i := by
  have h1 : (i 1).val < 1024 := (i 1).isLt
  refine funext fun a => Fin.ext ?_
  match a with
  | ⟨0, _⟩ =>
    show ((i 0).val * 1024 + (i 1).val) / 1024 = (i 0).val
    omega
  | ⟨1, _⟩ =>
    show ((i 0).val * 1024 + (i 1).val) % 1024 = (i 1).val
    omega

theorem row58 (i : S1x1024.Idx) : idx_main_v58 i = ix1 (i 1) := by
  have h0 : (i 0).val < 1 := (i 0).isLt
  refine funext fun a => Fin.ext ?_
  match a with
  | ⟨0, _⟩ =>
    show (i 0).val * 1024 + (i 1).val = (i 1).val
    omega

theorem row95 (i : S1x1024.Idx) : idx_main_v95 i = ix1 (i 1) := row58 i

theorem row89 (i : S1x2048.Idx) : idx_main_v89 i = ix1 (i 1) := by
  have h0 : (i 0).val < 1 := (i 0).isLt
  refine funext fun a => Fin.ext ?_
  match a with
  | ⟨0, _⟩ =>
    show (i 0).val * 2048 + (i 1).val = (i 1).val
    omega

theorem col64 (i : S8192x1.Idx) : idx_main_v64 i = ix1 (i 0) := by
  have h1 : (i 1).val < 1 := (i 1).isLt
  refine funext fun a => Fin.ext ?_
  match a with
  | ⟨0, _⟩ =>
    show (i 0).val * 1 + (i 1).val = (i 0).val
    omega

theorem col101 (i : S8192x1.Idx) : idx_main_v101 i = ix1 (i 0) := col64 i

/-! ## Padded columns -/

section Pad
variable (y : S8192x1024.Idx → EReal) (z : S_.Idx → EReal) (i : S8192x2048.Idx) (l : Fin 1024)

/-- Padded before: the first 1024 columns are the padding, the others the operand. -/
theorem before_lo (h : (i 1).val = l.val) :
    pad S8192x2048 ![0, 1024] ![0, 0] ![0, 0] y z pads_S8192x1024_S8192x2048_000_102400 h_S_ i = z (Shape.Idx.first h_S_) := by
  refine pad_apply_of_not_inside _ _ _ y z _ _ i 1 fun hin => ?_
  have h1 : 1024 ≤ (i 1).val := hin.1
  have h2 := l.isLt
  omega

theorem before_hi (h : (i 1).val = 1024 + l.val) :
    pad S8192x2048 ![0, 1024] ![0, 0] ![0, 0] y z pads_S8192x1024_S8192x2048_000_102400 h_S_ i = y (ix2 (i 0) l) := by
  refine pad_apply_of_inside _ _ _ y z _ _ i (ix2 (i 0) l) fun a => ?_
  match a with
  | ⟨0, _⟩ =>
    show (i 0).val = 0 + (i 0).val * (0 + 1)
    omega
  | ⟨1, _⟩ =>
    show (i 1).val = 1024 + l.val * (0 + 1)
    omega

/-- Padded after: the other way round. -/
theorem after_lo (h : (i 1).val = l.val) :
    pad S8192x2048 ![0, 0] ![0, 1024] ![0, 0] y z pads_S8192x1024_S8192x2048_000_010240 h_S_ i = y (ix2 (i 0) l) := by
  refine pad_apply_of_inside _ _ _ y z _ _ i (ix2 (i 0) l) fun a => ?_
  match a with
  | ⟨0, _⟩ =>
    show (i 0).val = 0 + (i 0).val * (0 + 1)
    omega
  | ⟨1, _⟩ =>
    show (i 1).val = 0 + l.val * (0 + 1)
    omega

theorem after_hi (h : (i 1).val = 1024 + l.val) :
    pad S8192x2048 ![0, 0] ![0, 1024] ![0, 0] y z pads_S8192x1024_S8192x2048_000_010240 h_S_ i = z (Shape.Idx.first h_S_) := by
  refine pad_apply_of_not_inside _ _ _ y z _ _ i 1 fun hin => ?_
  have h1 : ((i 1).val - 0) / (0 + 1) < 1024 := hin.2.2
  omega

end Pad

/-! ## The first norm, the main columns and the gates -/

variable (C : FfnSpec.Consts ε) (H : Args x0 x1 x2 x3 x4 x5 x6 x7 x8 x9 x10 x11 x12 X g1 W G b P Q A B O g2 Z D)

include C H

theorem val6 (i : S8192x1.Idx) : val_main_v6 (F := Ideal) x0 i = ((ms ε (X (i 0)) : ℝ) : EReal) := by
  have h1 : val_main_v1 (F := Ideal) x0 (idx_main_v2 i) = ((∑ k, X (i 0) k * X (i 0) k : ℝ) : EReal) := by
    rw [val_main_v1_apply]
    exact sum_real zero_bits fun k => mul_real (H.x _) (H.x _)
  have h4 : val_main_v4 (F := Ideal) x0 i = (((∑ k, X (i 0) k * X (i 0) k) / 1024 : ℝ) : EReal) := by
    rw [val_main_v4_apply, val_main_v2_apply, val_main_v3_apply]
    exact div_real h1 width_bits (by norm_num)
  rw [val_main_v6_apply, val_main_v5_apply]
  refine (add_real h4 C.eps).trans ?_
  exact congrArg (fun t : ℝ => ((t + ε : ℝ) : EReal)) (mul_one_div _ _).symm

theorem val7 (i : S8192x1.Idx) : val_main_v7 (F := Ideal) x0 i = ((FfnSpec.inv ε (X (i 0)) : ℝ) : EReal) := by
  rw [val_main_v7_apply, val6 C H]
  exact FfnSpec.rsqrt_mean C _

theorem val10 (i : S8192x1.Idx) : val_main_v10 (F := Ideal) x0 i = ((-(1 / 2) * (FfnSpec.inv ε (X (i 0)) / ms ε (X (i 0))) : ℝ) : EReal) := by
  rw [val_main_v10_apply, val_main_v9_apply, val_main_v8_apply]
  exact mul_real half_bits (div_real (val7 C H i) (val6 C H i) (FfnSpec.mean_pos C _).ne')

theorem val12 (i : S8192x1024.Idx) : val_main_v12 (F := Ideal) x0 i = ((X (i 0) (i 1) * FfnSpec.inv ε (X (i 0)) : ℝ) : EReal) := by
  rw [val_main_v12_apply, val_main_v11_apply]
  exact mul_real (H.x i) (val7 C H _)

omit C in
theorem val13 (i : S1x1024.Idx) : val_main_v13 (F := Ideal) x1 i = ((g1 (i 1) : ℝ) : EReal) := by
  rw [val_main_v13_apply]
  exact H.g1 _

theorem val15 (i : S8192x1024.Idx) : val_main_v15 (F := Ideal) x0 x1 i = ((FfnSpec.norm ε (X (i 0)) g1 (i 1) : ℝ) : EReal) := by
  rw [val_main_v15_apply, val_main_v14_apply]
  exact mul_real (val12 C H i) (val13 H _)

/-- The main columns. -/
theorem main (i : S8192x2304.Idx) : val_main_v36 (F := Ideal) x0 x1 x2 i = ((times (FfnSpec.norm ε (X (i 0)) g1) W (i 1) : ℝ) : EReal) := by
  rw [val_main_v36_apply]
  exact dot_real (fun k => val15 C H _) fun k => H.w _

theorem val19 (i : S8192x2048.Idx) : val_main_v19 (F := Ideal) x0 x1 x3 x4 i =
    ((times (FfnSpec.norm ε (X (i 0)) g1) G (i 1) + b (i 1) : ℝ) : EReal) := by
  rw [val_main_v19_apply, val_main_v16_apply, val_main_v18_apply, val_main_v17_apply]
  exact add_real (dot_real (fun k => val15 C H _) fun k => H.g _) (H.b _)

/-- The gates. -/
theorem val25 (i : S8192x2048.Idx) : val_main_v25 (F := Ideal) x0 x1 x3 x4 i = ((gate ε (X (i 0)) g1 G b (i 1) : ℝ) : EReal) := by
  rw [val_main_v25_apply, val_main_v24_apply, val_main_v23_apply, val_main_v22_apply, val_main_v21_apply, val_main_v20_apply, val19 C H]
  exact (congrArg₂ Ideal.div one_bits (congrArg₂ (· + ·) one_bits (congrArg Ideal.exp (EReal.coe_neg _).symm))).trans (logistic_coe _)

theorem val28 (i : S8192x2048.Idx) : val_main_v28 (F := Ideal) x0 x1 x3 x4 i =
    ((gate ε (X (i 0)) g1 G b (i 1) * (1 - gate ε (X (i 0)) g1 G b (i 1)) : ℝ) : EReal) := by
  rw [val_main_v28_apply, val_main_v27_apply, val_main_v26_apply]
  exact mul_real (val25 C H i) (sub_real one_bits (val25 C H i))

theorem val29 (i : S8192x1024.Idx) : val_main_v29 (F := Ideal) x0 x1 x3 x4 i = ((gate ε (X (i 0)) g1 G b (lo (i 1)) : ℝ) : EReal) := by
  rw [val_main_v29_apply]
  exact val25 C H _

theorem val30 (i : S8192x1024.Idx) : val_main_v30 (F := Ideal) x0 x1 x3 x4 i = ((gate ε (X (i 0)) g1 G b (hi (i 1)) : ℝ) : EReal) := by
  rw [val_main_v30_apply]
  exact val25 C H _

/-! ## The merged row, its product and the second norm -/

omit C in
theorem val31 (i : S8192x1024.Idx) : val_main_v31 (F := Ideal) x5 x7 i = ((times (P (i 0)) A (i 1) : ℝ) : EReal) := by
  rw [val_main_v31_apply]
  exact dot_real (fun k => H.ya _) fun k => H.wa _

omit C in
theorem val33 (i : S8192x1024.Idx) : val_main_v33 (F := Ideal) x6 x8 i = ((times (Q (i 0)) B (i 1) : ℝ) : EReal) := by
  rw [val_main_v33_apply]
  exact dot_real (fun k => H.yb _) fun k => H.wb _

theorem val35 (i : S8192x1024.Idx) : val_main_v35 (F := Ideal) x0 x1 x3 x4 x5 x6 x7 x8 i =
    ((merged ε (X (i 0)) g1 G b (P (i 0)) (Q (i 0)) A B (i 1) : ℝ) : EReal) := by
  rw [val_main_v35_apply, val_main_v32_apply, val_main_v34_apply]
  exact add_real (mul_real (val29 C H i) (val31 H i)) (mul_real (val30 C H i) (val33 H i))

theorem val37 (i : S8192x1024.Idx) : val_main_v37 (F := Ideal) x0 x1 x3 x4 x5 x6 x7 x8 x9 i =
    ((prod ε (X (i 0)) g1 G b (P (i 0)) (Q (i 0)) A B O (i 1) : ℝ) : EReal) := by
  rw [val_main_v37_apply]
  exact dot_real (fun k => val35 C H _) fun k => H.wo _

theorem val44 (i : S8192x1.Idx) : val_main_v44 (F := Ideal) x0 x1 x3 x4 x5 x6 x7 x8 x9 i =
    ((ms ε (prod ε (X (i 0)) g1 G b (P (i 0)) (Q (i 0)) A B O) : ℝ) : EReal) := by
  have h1 : val_main_v39 (F := Ideal) x0 x1 x3 x4 x5 x6 x7 x8 x9 (idx_main_v40 i) =
      ((∑ k, prod ε (X (i 0)) g1 G b (P (i 0)) (Q (i 0)) A B O k * prod ε (X (i 0)) g1 G b (P (i 0)) (Q (i 0)) A B O k : ℝ) : EReal) := by
    rw [val_main_v39_apply]
    exact sum_real zero_bits fun k => mul_real (val37 C H _) (val37 C H _)
  have h4 : val_main_v42 (F := Ideal) x0 x1 x3 x4 x5 x6 x7 x8 x9 i =
      (((∑ k, prod ε (X (i 0)) g1 G b (P (i 0)) (Q (i 0)) A B O k * prod ε (X (i 0)) g1 G b (P (i 0)) (Q (i 0)) A B O k) / 1024 : ℝ) : EReal) := by
    rw [val_main_v42_apply, val_main_v40_apply, val_main_v41_apply]
    exact div_real h1 width_bits (by norm_num)
  rw [val_main_v44_apply, val_main_v43_apply]
  refine (add_real h4 C.eps).trans ?_
  exact congrArg (fun t : ℝ => ((t + ε : ℝ) : EReal)) (mul_one_div _ _).symm

theorem val45 (i : S8192x1.Idx) : val_main_v45 (F := Ideal) x0 x1 x3 x4 x5 x6 x7 x8 x9 i =
    ((FfnSpec.inv ε (prod ε (X (i 0)) g1 G b (P (i 0)) (Q (i 0)) A B O) : ℝ) : EReal) := by
  rw [val_main_v45_apply, val44 C H]
  exact FfnSpec.rsqrt_mean C _

theorem val48 (i : S8192x1.Idx) : val_main_v48 (F := Ideal) x0 x1 x3 x4 x5 x6 x7 x8 x9 i =
    ((-(1 / 2) * (FfnSpec.inv ε (prod ε (X (i 0)) g1 G b (P (i 0)) (Q (i 0)) A B O) / ms ε (prod ε (X (i 0)) g1 G b (P (i 0)) (Q (i 0)) A B O)) : ℝ) : EReal) := by
  rw [val_main_v48_apply, val_main_v47_apply, val_main_v46_apply]
  exact mul_real half_bits (div_real (val45 C H i) (val44 C H i) (FfnSpec.mean_pos C _).ne')

theorem val50 (i : S8192x1024.Idx) : val_main_v50 (F := Ideal) x0 x1 x3 x4 x5 x6 x7 x8 x9 i =
    ((prod ε (X (i 0)) g1 G b (P (i 0)) (Q (i 0)) A B O (i 1) * FfnSpec.inv ε (prod ε (X (i 0)) g1 G b (P (i 0)) (Q (i 0)) A B O) : ℝ) : EReal) := by
  rw [val_main_v50_apply, val_main_v49_apply]
  exact mul_real (val37 C H i) (val45 C H _)

omit C in
theorem val51 (i : S1x1024.Idx) : val_main_v51 (F := Ideal) x10 i = ((g2 (i 1) : ℝ) : EReal) := by
  rw [val_main_v51_apply]
  exact H.g2 _

/-- The layer's rows. -/
theorem rows (i : S8192x1024.Idx) : val_main_v54 (F := Ideal) x0 x1 x3 x4 x5 x6 x7 x8 x9 x10 i =
    ((out ε (X (i 0)) g1 G b (P (i 0)) (Q (i 0)) A B O g2 (i 1) : ℝ) : EReal) := by
  rw [val_main_v54_apply, val_main_v53_apply, val_main_v52_apply]
  exact add_real (H.x i) (mul_real (val50 C H i) (val51 H _))

/-! ## The second norm's gradients -/

omit C in
theorem val55 (i : S8192x1024.Idx) : val_main_v55 (F := Ideal) x12 i = ((D (i 0) (i 1) : ℝ) : EReal) := by
  rw [val_main_v55_apply, same55]
  exact H.d i

theorem val58 (i : S1x1024.Idx) : val_main_v58 (F := Ideal) x0 x1 x3 x4 x5 x6 x7 x8 x9 x12 i =
    ((∑ r, FfnSpec.dgain ε (prod ε (X r) g1 G b (P r) (Q r) A B O) (D r) (i 1) : ℝ) : EReal) := by
  rw [val_main_v58_apply, row58]
  refine (val_main_v57_apply x0 x1 x3 x4 x5 x6 x7 x8 x9 x12 _).trans ?_
  refine (sum_real zero_bits fun k => ?_).trans rfl
  rw [val_main_v56_apply]
  refine (mul_real (val50 C H _) (val55 H _)).trans (congrArg _ ?_)
  exact mul_comm _ _

/-- The gradient for the second norm's gain. -/
theorem gain2 (i : S1024.Idx) : val_main_v61 (F := Ideal) x0 x1 x3 x4 x5 x6 x7 x8 x9 x12 i =
    ((∑ r, FfnSpec.dgain ε (prod ε (X r) g1 G b (P r) (Q r) A B O) (D r) (i 0) : ℝ) : EReal) := by
  rw [val_main_v61_apply]
  refine (sum_real zero_bits fun k => val58 C H _).trans ?_
  rw [Fin.sum_univ_one]
  rfl

omit C in
theorem val60 (i : S8192x1024.Idx) : val_main_v60 (F := Ideal) x10 x12 i = ((D (i 0) (i 1) * g2 (i 1) : ℝ) : EReal) := by
  rw [val_main_v60_apply, val_main_v59_apply]
  exact mul_real (val55 H i) (val51 H _)

theorem val71 (i : S8192x1024.Idx) : val_main_v71 (F := Ideal) x0 x1 x3 x4 x5 x6 x7 x8 x9 x10 x12 i =
    ((mid ε (prod ε (X (i 0)) g1 G b (P (i 0)) (Q (i 0)) A B O) g2 (D (i 0)) : ℝ) : EReal) := by
  have h69 : ∀ j : S8192x1.Idx, val_main_v69 (F := Ideal) x0 x1 x3 x4 x5 x6 x7 x8 x9 x10 x12 j =
      ((mid ε (prod ε (X (j 0)) g1 G b (P (j 0)) (Q (j 0)) A B O) g2 (D (j 0)) : ℝ) : EReal) := by
    intro j
    rw [val_main_v69_apply, val_main_v68_apply, val_main_v67_apply, val_main_v64_apply, col64]
    refine div_real (mul_real ((val_main_v63_apply x0 x1 x3 x4 x5 x6 x7 x8 x9 x10 x12 _).trans (sum_real zero_bits fun k => ?_)) (val48 C H j)) width_bits (by norm_num)
    rw [val_main_v62_apply]
    exact mul_real (val37 C H _) (val60 H _)
  rw [val_main_v71_apply, val_main_v70_apply]
  refine (sum_real zero_bits fun k => h69 _).trans ?_
  rw [Fin.sum_univ_one]
  rfl

theorem val75 (i : S8192x1024.Idx) : val_main_v75 (F := Ideal) x0 x1 x3 x4 x5 x6 x7 x8 x9 x10 x12 i =
    ((FfnSpec.dnorm ε (prod ε (X (i 0)) g1 G b (P (i 0)) (Q (i 0)) A B O) g2 (D (i 0)) (i 1) : ℝ) : EReal) := by
  rw [val_main_v75_apply, val_main_v73_apply, val_main_v66_apply, val_main_v65_apply, val_main_v72_apply, val_main_v74_apply]
  refine (add_real (add_real (mul_real (val60 H i) (val45 C H _)) (mul_real (val37 C H i) (val71 C H i))) (mul_real (val71 C H i) (val37 C H i))).trans ?_
  exact congrArg _ (FfnSpec.dnorm_eq C _ _ _ _)

/-! ## The merged row's gradient, and those of the two products -/

theorem val76 (i : S8192x1024.Idx) : val_main_v76 (F := Ideal) x0 x1 x3 x4 x5 x6 x7 x8 x9 x10 x12 i =
    ((dmerged ε (X (i 0)) g1 G b (P (i 0)) (Q (i 0)) A B O g2 (D (i 0)) (i 1) : ℝ) : EReal) := by
  rw [val_main_v76_apply]
  exact dot_real (fun k => val75 C H _) fun k => H.wo _

/-- The gradient for the first product's rows. -/
theorem grada (i : S8192x1024.Idx) : val_main_v114 (F := Ideal) x0 x1 x3 x4 x5 x6 x7 x8 x9 x10 x12 i =
    ((timesT (dpa ε (X (i 0)) g1 G b (P (i 0)) (Q (i 0)) A B O g2 (D (i 0))) A (i 1) : ℝ) : EReal) := by
  rw [val_main_v114_apply, val_main_v83_apply]
  refine (dot_real (fun k => ?_) fun k => H.wa _).trans rfl
  rw [val_main_v81_apply]
  exact (mul_real (val29 C H _) (val76 C H _)).trans (congrArg _ (mul_comm _ _))

/-- The gradient for the second product's rows. -/
theorem gradb (i : S8192x1024.Idx) : val_main_v115 (F := Ideal) x0 x1 x3 x4 x5 x6 x7 x8 x9 x10 x12 i =
    ((timesT (dpb ε (X (i 0)) g1 G b (P (i 0)) (Q (i 0)) A B O g2 (D (i 0))) B (i 1) : ℝ) : EReal) := by
  rw [val_main_v115_apply, val_main_v80_apply]
  refine (dot_real (fun k => ?_) fun k => H.wb _).trans rfl
  rw [val_main_v78_apply]
  exact (mul_real (val30 C H _) (val76 C H _)).trans (congrArg _ (mul_comm _ _))

/-! ## The gates' gradients -/

theorem val79 (i : S8192x1024.Idx) : val_main_v79 (F := Ideal) x0 x1 x3 x4 x5 x6 x7 x8 x9 x10 x12 i =
    ((dmerged ε (X (i 0)) g1 G b (P (i 0)) (Q (i 0)) A B O g2 (D (i 0)) (i 1) * times (Q (i 0)) B (i 1) : ℝ) : EReal) := by
  rw [val_main_v79_apply]
  exact mul_real (val76 C H i) (val33 H i)

theorem val82 (i : S8192x1024.Idx) : val_main_v82 (F := Ideal) x0 x1 x3 x4 x5 x6 x7 x8 x9 x10 x12 i =
    ((dmerged ε (X (i 0)) g1 G b (P (i 0)) (Q (i 0)) A B O g2 (D (i 0)) (i 1) * times (P (i 0)) A (i 1) : ℝ) : EReal) := by
  rw [val_main_v82_apply]
  exact mul_real (val76 C H i) (val31 H i)

theorem val86 (i : S8192x2048.Idx) : val_main_v86 (F := Ideal) x0 x1 x3 x4 x5 x6 x7 x8 x9 x10 x12 i =
    ((both (fun l => dmerged ε (X (i 0)) g1 G b (P (i 0)) (Q (i 0)) A B O g2 (D (i 0)) l * times (P (i 0)) A l)
      (fun l => dmerged ε (X (i 0)) g1 G b (P (i 0)) (Q (i 0)) A B O g2 (D (i 0)) l * times (Q (i 0)) B l) (i 1) : ℝ) : EReal) := by
  rw [val_main_v86_apply]
  unfold val_main_v84 val_main_v85
  rcases lo_or_hi (i 1) with ⟨l, h⟩ | ⟨l, h⟩
  · have hv : (i 1).val = l.val := congrArg Fin.val h
    rw [before_lo _ _ i l hv, after_lo _ _ i l hv]
    refine (add_real zero_bits (val82 C H _)).trans (congrArg _ ?_)
    rw [zero_add, h, both_lo]
    rfl
  · have hv : (i 1).val = 1024 + l.val := congrArg Fin.val h
    rw [before_hi _ _ i l hv, after_hi _ _ i l hv]
    refine (add_real (val79 C H _) zero_bits).trans (congrArg _ ?_)
    rw [add_zero, h, both_hi]
    rfl

theorem val87 (i : S8192x2048.Idx) : val_main_v87 (F := Ideal) x0 x1 x3 x4 x5 x6 x7 x8 x9 x10 x12 i =
    ((dgate ε (X (i 0)) g1 G b (P (i 0)) (Q (i 0)) A B O g2 (D (i 0)) (i 1) : ℝ) : EReal) := by
  rw [val_main_v87_apply]
  exact mul_real (val86 C H i) (val28 C H i)

/-- The gradient for the gates' bias. -/
theorem bias (i : S2048.Idx) : val_main_v90 (F := Ideal) x0 x1 x3 x4 x5 x6 x7 x8 x9 x10 x12 i =
    ((∑ r, dgate ε (X r) g1 G b (P r) (Q r) A B O g2 (D r) (i 0) : ℝ) : EReal) := by
  have h89 : ∀ j : S1x2048.Idx, val_main_v89 (F := Ideal) x0 x1 x3 x4 x5 x6 x7 x8 x9 x10 x12 j = ((∑ r, dgate ε (X r) g1 G b (P r) (Q r) A B O g2 (D r) (j 1) : ℝ) : EReal) := by
    intro j
    rw [val_main_v89_apply, row89]
    refine (val_main_v88_apply x0 x1 x3 x4 x5 x6 x7 x8 x9 x10 x12 _).trans ?_
    exact (sum_real zero_bits fun k => val87 C H _).trans rfl
  rw [val_main_v90_apply]
  refine (sum_real zero_bits fun k => h89 _).trans ?_
  rw [Fin.sum_univ_one]
  rfl

/-! ## The first norm's gradients -/

theorem val92 (i : S8192x1024.Idx) : val_main_v92 (F := Ideal) x0 x1 x2 x3 x4 x5 x6 x7 x8 x9 x10 x11 x12 i =
    ((dnormed ε (X (i 0)) g1 W G b (P (i 0)) (Q (i 0)) A B O g2 (Z (i 0)) (D (i 0)) (i 1) : ℝ) : EReal) := by
  rw [val_main_v92_apply, val_main_v77_apply, val_main_v91_apply]
  exact add_real (dot_real (fun k => H.dz _) fun k => H.w _) (dot_real (fun k => val87 C H _) fun k => H.g _)

/-- The gradient for the first norm's gain. -/
theorem gain1 (i : S1024.Idx) : val_main_v98 (F := Ideal) x0 x1 x2 x3 x4 x5 x6 x7 x8 x9 x10 x11 x12 i =
    ((∑ r, FfnSpec.dgain ε (X r) (dnormed ε (X r) g1 W G b (P r) (Q r) A B O g2 (Z r) (D r)) (i 0) : ℝ) : EReal) := by
  have h95 : ∀ j : S1x1024.Idx, val_main_v95 (F := Ideal) x0 x1 x2 x3 x4 x5 x6 x7 x8 x9 x10 x11 x12 j =
      ((∑ r, FfnSpec.dgain ε (X r) (dnormed ε (X r) g1 W G b (P r) (Q r) A B O g2 (Z r) (D r)) (j 1) : ℝ) : EReal) := by
    intro j
    rw [val_main_v95_apply, row95]
    refine (val_main_v94_apply x0 x1 x2 x3 x4 x5 x6 x7 x8 x9 x10 x11 x12 _).trans ?_
    refine (sum_real zero_bits fun k => ?_).trans rfl
    rw [val_main_v93_apply]
    refine (mul_real (val12 C H _) (val92 C H _)).trans (congrArg _ ?_)
    exact mul_comm _ _
  rw [val_main_v98_apply]
  refine (sum_real zero_bits fun k => h95 _).trans ?_
  rw [Fin.sum_univ_one]
  rfl

theorem val97 (i : S8192x1024.Idx) : val_main_v97 (F := Ideal) x0 x1 x2 x3 x4 x5 x6 x7 x8 x9 x10 x11 x12 i =
    ((dnormed ε (X (i 0)) g1 W G b (P (i 0)) (Q (i 0)) A B O g2 (Z (i 0)) (D (i 0)) (i 1) * g1 (i 1) : ℝ) : EReal) := by
  rw [val_main_v97_apply, val_main_v96_apply]
  exact mul_real (val92 C H i) (val13 H _)

theorem val109 (i : S8192x1024.Idx) : val_main_v109 (F := Ideal) x0 x1 x2 x3 x4 x5 x6 x7 x8 x9 x10 x11 x12 i =
    ((mid ε (X (i 0)) g1 (dnormed ε (X (i 0)) g1 W G b (P (i 0)) (Q (i 0)) A B O g2 (Z (i 0)) (D (i 0))) : ℝ) : EReal) := by
  have h107 : ∀ j : S8192x1.Idx, val_main_v107 (F := Ideal) x0 x1 x2 x3 x4 x5 x6 x7 x8 x9 x10 x11 x12 j =
      ((mid ε (X (j 0)) g1 (dnormed ε (X (j 0)) g1 W G b (P (j 0)) (Q (j 0)) A B O g2 (Z (j 0)) (D (j 0))) : ℝ) : EReal) := by
    intro j
    rw [val_main_v107_apply, val_main_v106_apply, val_main_v105_apply, val_main_v101_apply, col101]
    refine div_real (mul_real ((val_main_v100_apply x0 x1 x2 x3 x4 x5 x6 x7 x8 x9 x10 x11 x12 _).trans (sum_real zero_bits fun k => ?_)) (val10 C H j)) width_bits (by norm_num)
    rw [val_main_v99_apply]
    exact mul_real (H.x _) (val97 C H _)
  rw [val_main_v109_apply, val_main_v108_apply]
  refine (sum_real zero_bits fun k => h107 _).trans ?_
  rw [Fin.sum_univ_one]
  rfl

/-- The gradient for the rows. -/
theorem grads (i : S8192x1024.Idx) : val_main_v113 (F := Ideal) x0 x1 x2 x3 x4 x5 x6 x7 x8 x9 x10 x11 x12 i =
    ((dx ε (X (i 0)) g1 W G b (P (i 0)) (Q (i 0)) A B O g2 (Z (i 0)) (D (i 0)) (i 1) : ℝ) : EReal) := by
  rw [val_main_v113_apply, val_main_v111_apply, val_main_v104_apply, val_main_v103_apply, val_main_v102_apply, val_main_v110_apply, val_main_v112_apply]
  refine (add_real (add_real (add_real (H.d i) (mul_real (val97 C H i) (val7 C H _))) (mul_real (H.x i) (val109 C H i))) (mul_real (val109 C H i) (H.x i))).trans ?_
  refine congrArg _ ?_
  refine Eq.trans ?_ (congrArg (D (i 0) (i 1) + ·) (FfnSpec.dnorm_eq C (X (i 0)) g1 (dnormed ε (X (i 0)) g1 W G b (P (i 0)) (Q (i 0)) A B O g2 (Z (i 0)) (D (i 0))) (i 1)))
  show (_ + _) + _ + _ = _ + ((_ + _) + _)
  rw [add_assoc, add_assoc, add_assoc]
  rfl

end MixRef

end
-- ==== Proof.MixForward.lean ====
module

public import proofs.«01_k».proof.Proof.Gen.Kernel5Ideal.Frame.Region0
public import proofs.«01_k».proof.Proof.Gen.Kernel5Ideal.Frame.Region1
public import proofs.«01_k».proof.Proof.MixSpec

@[expose] public section

/-!
# One block of the gated merge over reals

What a block of 512 rows leaves in each of the two forward calls.
-/

noncomputable section

open Idealize.ShloMosaic Idealize.ShloMosaic.TcCoe Idealize.SL.Sem
open Cert.Kernel5Ideal Cert.Kernel5Ideal.Gen

namespace MixForward
open MixSpec

variable {ε : ℝ} (C : FfnSpec.Consts ε)

/-- A chunk of `n` columns at column `o`. -/
theorem ld_cols {a b n : ℕ} {e : EltTy} (X : Vec Ideal ⟨2, ![a, b]⟩ e) (o : ℕ) (ho : o + n ≤ b)
    (inb : ∀ d, (![0, o] : Fin 2 → ℕ) d + (![a, n] : Fin 2 → ℕ) d ≤ (⟨2, ![a, b]⟩ : Shape).size d) (k : Fin a) (j : Fin n) :
    View.ld X (Rect.unit (s := ⟨2, ![a, b]⟩) ![0, o] ![a, n] inb) (ix2 k j) = X (ix2 k ⟨o + j.val, lt_of_lt_of_le (Nat.add_lt_add_left j.isLt o) ho⟩) :=
  View.ld_unit_apply_of X _ _ inb (ix2 k j) (ix2 k ⟨o + j.val, lt_of_lt_of_le (Nat.add_lt_add_left j.isLt o) ho⟩) fun d => by
    match d with
    | ⟨0, _⟩ => exact (Nat.zero_add _).symm
    | ⟨1, _⟩ => rfl

section Project

variable (x0 : Vec Ideal S512x1024 .f32) (x1 : Vec Ideal S1x1024 .f32) (x2 : Vec Ideal S1024x2304 .bf16) (x3 : Vec Ideal S1024x2048 .bf16)
  (x4 : Vec Ideal S1x2048 .f32)
  (x : Fin 512 → Fin 1024 → ℝ) (g : Fin 1024 → ℝ) (W : Fin 1024 → Fin 2304 → ℝ) (G : Fin 1024 → Fin 2048 → ℝ) (b : Fin 2048 → ℝ)

include C in
/-- The block's normalised rows. -/
theorem pay3_apply (h0 : ∀ r l, x0 (ix2 r l) = ((x r l : ℝ) : EReal)) (h1 : ∀ l, x1 (ix2 0 l) = ((g l : ℝ) : EReal))
    (r : Fin 512) (l : Fin 1024) : k0_pay3 x0 x1 (ix2 r l) = ((FfnSpec.norm ε (x r) g l : ℝ) : EReal) := by
  unfold k0_pay3 FfnSpec.norm
  dsimp only
  pointwise
  simp only [h0, h1, C.eps, C.nth, ← EReal.coe_mul, ← coe_sum_real, ← EReal.coe_add, FfnSpec.rsqrt_mean C]

include C in
/-- The rows' products with a chunk of 768 columns. -/
theorem pay4_apply (w : Vec Ideal S1024x768 .bf16) (v : Fin 1024 → Fin 768 → ℝ) (h0 : ∀ r l, x0 (ix2 r l) = ((x r l : ℝ) : EReal))
    (h1 : ∀ l, x1 (ix2 0 l) = ((g l : ℝ) : EReal)) (hw : ∀ k j, w (ix2 k j) = ((v k j : ℝ) : EReal)) (r : Fin 512) (j : Fin 768) :
    k0_pay4 x0 x1 w (ix2 r j) = ((times (FfnSpec.norm ε (x r) g) v j : ℝ) : EReal) := by
  have hp := pay3_apply C x0 x1 x g h0 h1
  unfold k0_pay4 times
  generalize k0_pay3 x0 x1 = a at hp ⊢
  pointwise
  simp only [hp, hw, ← EReal.coe_mul, ← coe_sum_real]

include C in
/-- The chunk of main columns at column `o`. -/
theorem main_chunk (o : ℕ) (ho : o + 768 ≤ 2304) (h0 : ∀ r l, x0 (ix2 r l) = ((x r l : ℝ) : EReal)) (h1 : ∀ l, x1 (ix2 0 l) = ((g l : ℝ) : EReal))
    (h2 : ∀ k j, x2 (ix2 k j) = ((W k j : ℝ) : EReal)) (inb : ∀ a, (![0, o] : Fin 2 → ℕ) a + S1024x768.size a ≤ S1024x2304.size a)
    (y : S512x768.Idx) (i : S512x2304.Idx) (hr : (i 0 : ℕ) = y 0) (hl : (i 1 : ℕ) = o + y 1) :
    k0_pay4 x0 x1 (View.ld x2 (Rect.unit (s := S1024x2304) ![0, o] S1024x768.size inb)) y =
      ((times (FfnSpec.norm ε (x (i 0)) g) W (i 1) : ℝ) : EReal) := by
  have e0 : i 0 = (y 0 : Fin 512) := Fin.ext hr
  have e1 : i 1 = (⟨o + (y 1).val, lt_of_lt_of_le (Nat.add_lt_add_left (y 1).isLt o) ho⟩ : Fin 2304) := Fin.ext hl
  have a := pay4_apply C x0 x1 x g _ _ h0 h1 (fun k j => (ld_cols x2 o ho inb k j).trans (h2 _ _)) (y 0) (y 1)
  rw [ix2_eta y] at a
  rw [e0, e1]
  exact a

/-- The gates of a chunk of 512 columns. -/
theorem pay7_apply (a : FVec Ideal S512x1024 .bf16) (w : Vec Ideal S1024x512 .bf16) (c : Vec Ideal S1x512 .f32) (q : Fin 512 → Fin 1024 → ℝ)
    (v : Fin 1024 → Fin 512 → ℝ) (s : Fin 512 → ℝ) (ha : ∀ r l, a (ix2 r l) = ((q r l : ℝ) : EReal)) (hw : ∀ k j, w (ix2 k j) = ((v k j : ℝ) : EReal))
    (hc : ∀ j, c (ix2 0 j) = ((s j : ℝ) : EReal)) (r : Fin 512) (j : Fin 512) :
    k0_pay7 a w c (ix2 r j) = ((logistic (times (q r) v j + s j) : ℝ) : EReal) := by
  unfold k0_pay7
  pointwise
  have z : Ideal.ofBits .f32 0x00000000#32 = ((0 : ℝ) : EReal) := by simp [Ideal.ofBits, Ideal.ieee]
  simp only [ha, hw, hc, one, z, ← EReal.coe_mul, ← coe_sum_real, ← EReal.coe_add, ← EReal.coe_sub, zero_sub]
  exact logistic_coe _

/-- The four chunks of gates run the same operations. -/
theorem chunks (a : FVec Ideal S512x1024 .bf16) (w : Vec Ideal S1024x512 .bf16) (c : Vec Ideal S1x512 .f32) :
    k0_pay8 a w c = k0_pay7 a w c ∧ k0_pay1 (k0_pay9 a w) c = k0_pay7 a w c ∧ k0_pay2 a w c = k0_pay7 a w c := ⟨rfl, rfl, rfl⟩

/-- The chunk of gates at column `o`. -/
theorem gate_chunk (a : FVec Ideal S512x1024 .bf16) (q : Fin 512 → Fin 1024 → ℝ) (ha : ∀ r l, a (ix2 r l) = ((q r l : ℝ) : EReal))
    (h3 : ∀ k j, x3 (ix2 k j) = ((G k j : ℝ) : EReal)) (h4 : ∀ j, x4 (ix2 0 j) = ((b j : ℝ) : EReal)) (o : ℕ) (ho : o + 512 ≤ 2048)
    (inb : ∀ a, (![0, o] : Fin 2 → ℕ) a + S1024x512.size a ≤ S1024x2048.size a) (inb' : ∀ a, (![0, o] : Fin 2 → ℕ) a + S1x512.size a ≤ S1x2048.size a)
    (y : S512x512.Idx) (i : S512x2048.Idx) (hr : (i 0 : ℕ) = y 0) (hl : (i 1 : ℕ) = o + y 1) :
    k0_pay7 a (View.ld x3 (Rect.unit (s := S1024x2048) ![0, o] S1024x512.size inb)) (View.ld x4 (Rect.unit (s := S1x2048) ![0, o] S1x512.size inb')) y =
      ((gates (q (i 0)) G b (i 1) : ℝ) : EReal) := by
  have e0 : i 0 = (y 0 : Fin 512) := Fin.ext hr
  have e1 : i 1 = (⟨o + (y 1).val, lt_of_lt_of_le (Nat.add_lt_add_left (y 1).isLt o) ho⟩ : Fin 2048) := Fin.ext hl
  have t := pay7_apply a _ _ q _ _ ha (fun k j => (ld_cols x3 o ho inb k j).trans (h3 _ _)) (fun j => (ld_cols x4 o ho inb' 0 j).trans (h4 _)) (y 0) (y 1)
  rw [ix2_eta y] at t
  rw [e0, e1]
  exact t

include C in
/-- What a block of the first call leaves: the normalised rows, the main columns, and the gates. -/
theorem project_apply (h0 : ∀ r l, x0 (ix2 r l) = ((x r l : ℝ) : EReal)) (h1 : ∀ l, x1 (ix2 0 l) = ((g l : ℝ) : EReal))
    (h2 : ∀ k j, x2 (ix2 k j) = ((W k j : ℝ) : EReal)) (h3 : ∀ k j, x3 (ix2 k j) = ((G k j : ℝ) : EReal))
    (h4 : ∀ j, x4 (ix2 0 j) = ((b j : ℝ) : EReal)) :
    (∀ i, out0_6 x0 x1 x2 x3 x4 i = ((times (FfnSpec.norm ε (x (i 0)) g) W (i 1) : ℝ) : EReal)) ∧
    (∀ i, out0_7 x0 x1 x2 x3 x4 i = ((gates (FfnSpec.norm ε (x (i 0)) g) G b (i 1) : ℝ) : EReal)) := by
  have e0 : View.ld x0 r0_0 = x0 := View.ld_unit_lit _ x0 (by decide)
  have e1 : View.ld x1 r0_1 = x1 := View.ld_unit_lit _ x1 (by decide)
  have hu := pay3_apply C x0 x1 x g h0 h1
  have tile := fun o ho inb => main_chunk C x0 x1 x2 x g W o ho h0 h1 h2 inb
  have tile' := gate_chunk x3 x4 G b (k0_pay3 x0 x1) (fun r => FfnSpec.norm ε (x r) g) hu h3 h4
  constructor
  · intro i
    unfold_out out0_6
    rw [e0, e1]
    canon_tiles y h using cover0_6 ..
    · exact tile 1536 (by decide) _ y i (by assumption) (by assumption)
    · exact tile 768 (by decide) _ y i (by assumption) (by assumption)
    · exact tile 0 (by decide) _ y i (by assumption) (by omega)
  · intro i
    unfold_out out0_7
    rw [e0, e1]
    canon_tiles y h using cover0_7 ..
    · exact (congrFun (chunks _ _ _).2.2 y).trans (tile' 1536 (by decide) _ _ y i (by assumption) (by assumption))
    · exact (congrFun (chunks _ _ _).2.1 y).trans (tile' 1024 (by decide) _ _ y i (by assumption) (by assumption))
    · exact (congrFun (chunks _ _ _).1 y).trans (tile' 512 (by decide) _ _ y i (by assumption) (by assumption))
    · exact tile' 0 (by decide) _ _ y i (by assumption) (by omega)

end Project

section Merge

variable (x0 x1 : Vec Ideal S512x1024 .bf16) (x2 : Vec Ideal S512x2048 .bf16) (x3 x4 x5 : Vec Ideal S1024x1024 .bf16)
  (x6 : Vec Ideal S512x1024 .f32) (x7 : Vec Ideal S1x1024 .f32)
  (ya yb : Fin 512 → Fin 1024 → ℝ) (s : Fin 512 → Fin 2048 → ℝ) (A B O : Fin 1024 → Fin 1024 → ℝ) (x : Fin 512 → Fin 1024 → ℝ) (g : Fin 1024 → ℝ)

/-- The block's two products. -/
theorem pay2_apply (h0 : ∀ r k, x0 (ix2 r k) = ((ya r k : ℝ) : EReal)) (h3 : ∀ k l, x3 (ix2 k l) = ((A k l : ℝ) : EReal))
    (r : Fin 512) (l : Fin 1024) : k1_pay2 x0 x3 (ix2 r l) = ((times (ya r) A l : ℝ) : EReal) := by
  unfold k1_pay2 times
  pointwise
  simp only [h0, h3, ← EReal.coe_mul, ← coe_sum_real]

/-- The two products run the same operations. -/
theorem same : k1_pay3 x0 x3 = k1_pay2 x0 x3 ∧ k1_pay4 x0 x3 = k1_pay2 x0 x3 ∧ k1_pay5 x0 x3 = k1_pay2 x0 x3 := ⟨rfl, rfl, rfl⟩

/-- The gated sum of the two products. -/
theorem pay6_apply (c e : Vec Ideal S512x1024 .bf16) (h0 : ∀ r k, x0 (ix2 r k) = ((ya r k : ℝ) : EReal)) (h1 : ∀ r k, x1 (ix2 r k) = ((yb r k : ℝ) : EReal))
    (hc : ∀ r l, c (ix2 r l) = ((s r (lo l) : ℝ) : EReal)) (he : ∀ r l, e (ix2 r l) = ((s r (hi l) : ℝ) : EReal))
    (h3 : ∀ k l, x3 (ix2 k l) = ((A k l : ℝ) : EReal)) (h4 : ∀ k l, x4 (ix2 k l) = ((B k l : ℝ) : EReal)) (r : Fin 512) (l : Fin 1024) :
    k1_pay6 x0 x3 x1 x4 c e (ix2 r l) = ((merge (s r) (times (ya r) A) (times (yb r) B) l : ℝ) : EReal) := by
  have p := pay2_apply x0 x3 ya A h0 h3
  have q := pay2_apply x1 x4 yb B h1 h4
  unfold k1_pay6 merge
  rw [(same x1 x4).1]
  generalize k1_pay2 x0 x3 = P, k1_pay2 x1 x4 = Q at p q ⊢
  pointwise
  simp only [p, q, hc, he, ← EReal.coe_mul, ← EReal.coe_add]

/-- Its product with the last matrix. -/
theorem pay7_merge (c e : Vec Ideal S512x1024 .bf16) (h0 : ∀ r k, x0 (ix2 r k) = ((ya r k : ℝ) : EReal)) (h1 : ∀ r k, x1 (ix2 r k) = ((yb r k : ℝ) : EReal))
    (hc : ∀ r l, c (ix2 r l) = ((s r (lo l) : ℝ) : EReal)) (he : ∀ r l, e (ix2 r l) = ((s r (hi l) : ℝ) : EReal))
    (h3 : ∀ k l, x3 (ix2 k l) = ((A k l : ℝ) : EReal)) (h4 : ∀ k l, x4 (ix2 k l) = ((B k l : ℝ) : EReal))
    (h5 : ∀ k l, x5 (ix2 k l) = ((O k l : ℝ) : EReal)) (r : Fin 512) (l : Fin 1024) :
    k1_pay7 x0 x3 x1 x4 c e x5 (ix2 r l) = ((times (merge (s r) (times (ya r) A) (times (yb r) B)) O l : ℝ) : EReal) := by
  have p := pay6_apply x0 x1 x3 x4 ya yb s A B c e h0 h1 hc he h3 h4
  unfold k1_pay7
  generalize k1_pay6 x0 x3 x1 x4 c e = P at p ⊢
  pointwise
  simp only [p, h5, ← EReal.coe_mul, ← coe_sum_real]
  rfl

include C in
/-- The rows with the normalised product added. -/
theorem pay1_apply (m : FVec Ideal S512x1024 .f32) (f : Fin 512 → Fin 1024 → ℝ) (hm : ∀ r l, m (ix2 r l) = ((f r l : ℝ) : EReal))
    (h6 : ∀ r l, x6 (ix2 r l) = ((x r l : ℝ) : EReal)) (h7 : ∀ l, x7 (ix2 0 l) = ((g l : ℝ) : EReal)) (r : Fin 512) (l : Fin 1024) :
    k1_pay1 m x6 x7 (ix2 r l) = ((x r l + FfnSpec.norm ε (f r) g l : ℝ) : EReal) := by
  unfold k1_pay1 FfnSpec.norm
  pointwise
  simp only [hm, h6, h7, C.eps, C.nth, ← EReal.coe_mul, ← coe_sum_real, ← EReal.coe_add, FfnSpec.rsqrt_mean C]

include C in
/-- What a block of the second call leaves: the two products, the last one, and the layer's rows. -/
theorem merge_apply (h0 : ∀ r k, x0 (ix2 r k) = ((ya r k : ℝ) : EReal)) (h1 : ∀ r k, x1 (ix2 r k) = ((yb r k : ℝ) : EReal))
    (h2 : ∀ r j, x2 (ix2 r j) = ((s r j : ℝ) : EReal)) (h3 : ∀ k l, x3 (ix2 k l) = ((A k l : ℝ) : EReal)) (h4 : ∀ k l, x4 (ix2 k l) = ((B k l : ℝ) : EReal))
    (h5 : ∀ k l, x5 (ix2 k l) = ((O k l : ℝ) : EReal)) (h6 : ∀ r l, x6 (ix2 r l) = ((x r l : ℝ) : EReal)) (h7 : ∀ l, x7 (ix2 0 l) = ((g l : ℝ) : EReal))
    (i : S512x1024.Idx) :
    out1_8 x0 x1 x2 x3 x4 x5 x6 x7 i = ((times (ya (i 0)) A (i 1) : ℝ) : EReal) ∧ out1_9 x0 x1 x2 x3 x4 x5 x6 x7 i = ((times (yb (i 0)) B (i 1) : ℝ) : EReal) ∧
    out1_11 x0 x1 x2 x3 x4 x5 x6 x7 i = ((times (merge (s (i 0)) (times (ya (i 0)) A) (times (yb (i 0)) B)) O (i 1) : ℝ) : EReal) ∧
    out1_12 x0 x1 x2 x3 x4 x5 x6 x7 i =
      ((x (i 0) (i 1) + FfnSpec.norm ε (times (merge (s (i 0)) (times (ya (i 0)) A) (times (yb (i 0)) B)) O) g (i 1) : ℝ) : EReal) := by
  have e0 : View.ld x0 r1_0 = x0 := View.ld_unit_lit _ x0 (by decide)
  have e1 : View.ld x1 r1_0 = x1 := View.ld_unit_lit _ x1 (by decide)
  have e3 : View.ld x3 r1_1 = x3 := View.ld_unit_lit _ x3 (by decide)
  have e4 : View.ld x4 r1_1 = x4 := View.ld_unit_lit _ x4 (by decide)
  have e5 : View.ld x5 r1_1 = x5 := View.ld_unit_lit _ x5 (by decide)
  have e6 : View.ld x6 r1_0 = x6 := View.ld_unit_lit _ x6 (by decide)
  have e7 : View.ld x7 r1_4 = x7 := View.ld_unit_lit _ x7 (by decide)
  have hc : ∀ r l, View.ld x2 r1_2 (ix2 r l) = ((s r (lo l) : ℝ) : EReal) := fun r l =>
    (ld_cols x2 0 (by decide) _ r l).trans ((h2 _ _).trans (congrArg (fun j => ((s r j : ℝ) : EReal)) (Fin.ext (Nat.zero_add _))))
  have he : ∀ r l, View.ld x2 r1_3 (ix2 r l) = ((s r (hi l) : ℝ) : EReal) := fun r l => (ld_cols x2 1024 (by decide) _ r l).trans (h2 _ _)
  have pa := pay2_apply x0 x3 ya A h0 h3 (i 0) (i 1)
  have pb := pay2_apply x1 x4 yb B h1 h4 (i 0) (i 1)
  have m := pay7_merge x0 x1 x3 x4 x5 ya yb s A B O _ _ h0 h1 hc he h3 h4 h5
  have o := pay1_apply C x6 x7 x g _ _ m h6 h7 (i 0) (i 1)
  have m' := m (i 0) (i 1)
  rw [ix2_eta i] at pa pb m' o
  refine ⟨?_, ?_, ?_, ?_⟩
  · unfold out1_8
    rw [e0, e3, View.canon_unit_zero (by decide)]
    exact pa
  · unfold out1_9
    rw [e1, e4, View.canon_unit_zero (by decide)]
    exact pb
  · unfold out1_11
    rw [e0, e1, e3, e4, e5, View.canon_unit_zero (by decide)]
    exact m'
  · unfold out1_12
    rw [e0, e1, e3, e4, e5, e6, e7, View.canon_unit_zero (by decide)]
    exact o

end Merge

end MixForward

end
-- ==== Proof.MixArrays.lean ====
module

public import proofs.«01_k».proof.Proof.FfnArrays
public import proofs.«01_k».proof.Proof.MixForward

@[expose] public section

/-!
# What the two forward calls of the gated merge leave in their arrays

Each call goes over sixteen blocks of 512 rows.
-/

noncomputable section

open Idealize.ShloMosaic Idealize.ShloMosaic.TcCoe Idealize.SL.Sem
open Cert.Kernel5Ideal Cert.Kernel5Ideal.Gen

namespace MixArrays
open MixSpec
open FfnArrays (mat gain mat_at gain_at row row_val run_sum sum_rows)

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)
theorem lt0 (t : Fin cfg0.N) : t.val < 16 := (by decide : grid0.N = 16) ▸ t.isLt
theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![t.val, 0] := (by decide +kernel : ∀ t : Fin grid1.N, _)
theorem idx1_9 : ∀ t : Fin cfg1.N, win1_9.index t = ![t.val, 0] := (by decide +kernel : ∀ t : Fin grid1.N, _)
theorem idx1_11 : ∀ t : Fin cfg1.N, win1_11.index t = ![t.val, 0] := (by decide +kernel : ∀ t : Fin grid1.N, _)
theorem idx1_12 : ∀ t : Fin cfg1.N, win1_12.index t = ![t.val, 0] := (by decide +kernel : ∀ t : Fin grid1.N, _)
theorem lt1 (t : Fin cfg1.N) : t.val < 16 := (by decide : grid1.N = 16) ▸ t.isLt

variable (V : (c : Dev nD) → (b : Ref sig .tc) → Buf (Elt Ideal) ((c : Thread nD τ).loc b)) (c : Dev nD)

theorem read0_0 {A : Fin 8192 → Fin 1024 → ℝ} (h : V c main_arg0 = mat A) (t : Fin cfg0.N) (r : Fin 512) (l : Fin 1024) : iblk0 V c 0 t (ix2 r l) = ((A (row t.val r) l : ℝ) : EReal) :=
  (congrFun h _).trans (mat_at A _ _ _ (by blk_simp [idx0_0 t]; exact row_val _ _ (lt0 t)) (by blk_simp [idx0_0 t]))
theorem read0_1 {g : Fin 1024 → ℝ} (h : V c main_v0 = gain g) (t : Fin cfg0.N) (l : Fin 1024) : iblk0 V c 1 t (ix2 0 l) = ((g l : ℝ) : EReal) :=
  (congrFun h _).trans (gain_at g _ _ (by blk_simp [idx0_1 t]))
theorem read0_2 {A : Fin 1024 → Fin 2304 → ℝ} (h : V c main_v3 = mat A) (t : Fin cfg0.N) (k : Fin 1024) (l : Fin 2304) : iblk0 V c 2 t (ix2 k l) = ((A k l : ℝ) : EReal) :=
  (congrFun h _).trans (mat_at A _ _ _ (by blk_simp [idx0_2 t]) (by blk_simp [idx0_2 t]))
theorem read0_3 {A : Fin 1024 → Fin 2048 → ℝ} (h : V c main_v4 = mat A) (t : Fin cfg0.N) (k : Fin 1024) (l : Fin 2048) : iblk0 V c 3 t (ix2 k l) = ((A k l : ℝ) : EReal) :=
  (congrFun h _).trans (mat_at A _ _ _ (by blk_simp [idx0_3 t]) (by blk_simp [idx0_3 t]))
theorem read0_4 {g : Fin 2048 → ℝ} (h : V c main_v1 = gain g) (t : Fin cfg0.N) (l : Fin 2048) : iblk0 V c 4 t (ix2 0 l) = ((g l : ℝ) : EReal) :=
  (congrFun h _).trans (gain_at g _ _ (by blk_simp [idx0_4 t]))
theorem read1_0 {A : Fin 8192 → Fin 1024 → ℝ} (h : V c main_v8 = mat A) (t : Fin cfg1.N) (r : Fin 512) (l : Fin 1024) : iblk1 V c 0 t (ix2 r l) = ((A (row t.val r) l : ℝ) : EReal) :=
  (congrFun h _).trans (mat_at A _ _ _ (by blk_simp [idx1_0 t]; exact row_val _ _ (lt1 t)) (by blk_simp [idx1_0 t]))
theorem read1_1 {A : Fin 8192 → Fin 1024 → ℝ} (h : V c main_v9 = mat A) (t : Fin cfg1.N) (r : Fin 512) (l : Fin 1024) : iblk1 V c 1 t (ix2 r l) = ((A (row t.val r) l : ℝ) : EReal) :=
  (congrFun h _).trans (mat_at A _ _ _ (by blk_simp [idx1_1 t]; exact row_val _ _ (lt1 t)) (by blk_simp [idx1_1 t]))
theorem read1_2 {A : Fin 8192 → Fin 2048 → ℝ} (h : V c main_v11_2 = mat A) (t : Fin cfg1.N) (r : Fin 512) (l : Fin 2048) : iblk1 V c 2 t (ix2 r l) = ((A (row t.val r) l : ℝ) : EReal) :=
  (congrFun h _).trans (mat_at A _ _ _ (by blk_simp [idx1_2 t]; exact row_val _ _ (lt1 t)) (by blk_simp [idx1_2 t]))
theorem read1_3 {A : Fin 1024 → Fin 1024 → ℝ} (h : V c main_v5 = mat A) (t : Fin cfg1.N) (k : Fin 1024) (l : Fin 1024) : iblk1 V c 3 t (ix2 k l) = ((A k l : ℝ) : EReal) :=
  (congrFun h _).trans (mat_at A _ _ _ (by blk_simp [idx1_3 t]) (by blk_simp [idx1_3 t]))
theorem read1_4 {A : Fin 1024 → Fin 1024 → ℝ} (h : V c main_v6 = mat A) (t : Fin cfg1.N) (k : Fin 1024) (l : Fin 1024) : iblk1 V c 4 t (ix2 k l) = ((A k l : ℝ) : EReal) :=
  (congrFun h _).trans (mat_at A _ _ _ (by blk_simp [idx1_4 t]) (by blk_simp [idx1_4 t]))
theorem read1_5 {A : Fin 1024 → Fin 1024 → ℝ} (h : V c main_v7 = mat A) (t : Fin cfg1.N) (k : Fin 1024) (l : Fin 1024) : iblk1 V c 5 t (ix2 k l) = ((A k l : ℝ) : EReal) :=
  (congrFun h _).trans (mat_at A _ _ _ (by blk_simp [idx1_5 t]) (by blk_simp [idx1_5 t]))
theorem read1_6 {A : Fin 8192 → Fin 1024 → ℝ} (h : V c main_arg0 = mat A) (t : Fin cfg1.N) (r : Fin 512) (l : Fin 1024) : iblk1 V c 6 t (ix2 r l) = ((A (row t.val r) l : ℝ) : EReal) :=
  (congrFun h _).trans (mat_at A _ _ _ (by blk_simp [idx1_6 t]; exact row_val _ _ (lt1 t)) (by blk_simp [idx1_6 t]))
theorem read1_7 {g : Fin 1024 → ℝ} (h : V c main_v2 = gain g) (t : Fin cfg1.N) (l : Fin 1024) : iblk1 V c 7 t (ix2 0 l) = ((g l : ℝ) : EReal) :=
  (congrFun h _).trans (gain_at g _ _ (by blk_simp [idx1_7 t]))

variable {V c} {ε : ℝ} (C : FfnSpec.Consts ε)
variable {X P Q : Fin 8192 → Fin 1024 → ℝ} {g : Fin 1024 → ℝ} {W : Fin 1024 → Fin 2304 → ℝ} {G : Fin 1024 → Fin 2048 → ℝ} {b : Fin 2048 → ℝ}
  {S : Fin 8192 → Fin 2048 → ℝ} {A B O : Fin 1024 → Fin 1024 → ℝ}

include C

/-- The first call's arrays: the main columns and the gates. -/
theorem final0_6 (h0 : V c main_arg0 = mat X) (h1 : V c main_v0 = gain g) (h2 : V c main_v3 = mat W) (h3 : V c main_v4 = mat G) (h4 : V c main_v1 = gain b) :
    (dat0 V c).arrAt 6 cfg0.N = mat fun r => times (FfnSpec.norm ε (X r) g) W := by
  refine (dat0 V c).arrAt_eq_of_covers 6 _ (by decide +kernel) fun t hf y => ?_
  blk_simp
  rw [after0_6]
  refine Eq.trans ?_ (mat_at _ _ (row t.val (y 0)) (y 1) (by blk_simp [idx0_6 t]; exact row_val _ _ (lt0 t)) (by blk_simp [idx0_6 t])).symm
  exact (MixForward.project_apply C _ _ _ _ _ _ _ _ _ _ (read0_0 V c h0 t) (read0_1 V c h1 t) (read0_2 V c h2 t) (read0_3 V c h3 t) (read0_4 V c h4 t)).1 y

theorem final0_7 (h0 : V c main_arg0 = mat X) (h1 : V c main_v0 = gain g) (h2 : V c main_v3 = mat W) (h3 : V c main_v4 = mat G) (h4 : V c main_v1 = gain b) :
    (dat0 V c).arrAt 7 cfg0.N = mat fun r => gates (FfnSpec.norm ε (X r) g) G b := by
  refine (dat0 V c).arrAt_eq_of_covers 7 _ (by decide +kernel) fun t hf y => ?_
  blk_simp
  rw [after0_7]
  refine Eq.trans ?_ (mat_at _ _ (row t.val (y 0)) (y 1) (by blk_simp [idx0_7 t]; exact row_val _ _ (lt0 t)) (by blk_simp [idx0_7 t])).symm
  exact (MixForward.project_apply C _ _ _ _ _ _ _ _ _ _ (read0_0 V c h0 t) (read0_1 V c h1 t) (read0_2 V c h2 t) (read0_3 V c h3 t) (read0_4 V c h4 t)).2 y

/-- The second call's arrays: the two products, the last product, and the rows. -/
theorem final1_8 (h0 : V c main_v8 = mat P) (h1 : V c main_v9 = mat Q) (h2 : V c main_v11_2 = mat S) (h3 : V c main_v5 = mat A) (h4 : V c main_v6 = mat B) (h5 : V c main_v7 = mat O) (h6 : V c main_arg0 = mat X) (h7 : V c main_v2 = gain g) :
    (dat1 V c).arrAt 8 cfg1.N = mat fun r => times (P r) A := by
  refine (dat1 V c).arrAt_eq_of_covers 8 _ (by decide +kernel) fun t hf y => ?_
  blk_simp
  rw [after1_8]
  refine Eq.trans ?_ (mat_at _ _ (row t.val (y 0)) (y 1) (by blk_simp [idx1_8 t]; exact row_val _ _ (lt1 t)) (by blk_simp [idx1_8 t])).symm
  exact (MixForward.merge_apply C _ _ _ _ _ _ _ _ _ _ _ _ _ _ _ _ (read1_0 V c h0 t) (read1_1 V c h1 t) (read1_2 V c h2 t) (read1_3 V c h3 t)
    (read1_4 V c h4 t) (read1_5 V c h5 t) (read1_6 V c h6 t) (read1_7 V c h7 t) y).1

theorem final1_9 (h0 : V c main_v8 = mat P) (h1 : V c main_v9 = mat Q) (h2 : V c main_v11_2 = mat S) (h3 : V c main_v5 = mat A) (h4 : V c main_v6 = mat B) (h5 : V c main_v7 = mat O) (h6 : V c main_arg0 = mat X) (h7 : V c main_v2 = gain g) :
    (dat1 V c).arrAt 9 cfg1.N = mat fun r => times (Q r) B := by
  refine (dat1 V c).arrAt_eq_of_covers 9 _ (by decide +kernel) fun t hf y => ?_
  blk_simp
  rw [after1_9]
  refine Eq.trans ?_ (mat_at _ _ (row t.val (y 0)) (y 1) (by blk_simp [idx1_9 t]; exact row_val _ _ (lt1 t)) (by blk_simp [idx1_9 t])).symm
  exact (MixForward.merge_apply C _ _ _ _ _ _ _ _ _ _ _ _ _ _ _ _ (read1_0 V c h0 t) (read1_1 V c h1 t) (read1_2 V c h2 t) (read1_3 V c h3 t)
    (read1_4 V c h4 t) (read1_5 V c h5 t) (read1_6 V c h6 t) (read1_7 V c h7 t) y).2.1

theorem final1_11 (h0 : V c main_v8 = mat P) (h1 : V c main_v9 = mat Q) (h2 : V c main_v11_2 = mat S) (h3 : V c main_v5 = mat A) (h4 : V c main_v6 = mat B) (h5 : V c main_v7 = mat O) (h6 : V c main_arg0 = mat X) (h7 : V c main_v2 = gain g) :
    (dat1 V c).arrAt 11 cfg1.N = mat fun r => times (merge (S r) (times (P r) A) (times (Q r) B)) O := by
  refine (dat1 V c).arrAt_eq_of_covers 11 _ (by decide +kernel) fun t hf y => ?_
  blk_simp
  rw [after1_11]
  refine Eq.trans ?_ (mat_at _ _ (row t.val (y 0)) (y 1) (by blk_simp [idx1_11 t]; exact row_val _ _ (lt1 t)) (by blk_simp [idx1_11 t])).symm
  exact (MixForward.merge_apply C _ _ _ _ _ _ _ _ _ _ _ _ _ _ _ _ (read1_0 V c h0 t) (read1_1 V c h1 t) (read1_2 V c h2 t) (read1_3 V c h3 t)
    (read1_4 V c h4 t) (read1_5 V c h5 t) (read1_6 V c h6 t) (read1_7 V c h7 t) y).2.2.1

theorem final1_12 (h0 : V c main_v8 = mat P) (h1 : V c main_v9 = mat Q) (h2 : V c main_v11_2 = mat S) (h3 : V c main_v5 = mat A) (h4 : V c main_v6 = mat B) (h5 : V c main_v7 = mat O) (h6 : V c main_arg0 = mat X) (h7 : V c main_v2 = gain g) :
    (dat1 V c).arrAt 12 cfg1.N = mat fun r l => X r l + FfnSpec.norm ε (times (merge (S r) (times (P r) A) (times (Q r) B)) O) g l := by
  refine (dat1 V c).arrAt_eq_of_covers 12 _ (by decide +kernel) fun t hf y => ?_
  blk_simp
  rw [after1_12]
  refine Eq.trans ?_ (mat_at _ _ (row t.val (y 0)) (y 1) (by blk_simp [idx1_12 t]; exact row_val _ _ (lt1 t)) (by blk_simp [idx1_12 t])).symm
  exact (MixForward.merge_apply C _ _ _ _ _ _ _ _ _ _ _ _ _ _ _ _ (read1_0 V c h0 t) (read1_1 V c h1 t) (read1_2 V c h2 t) (read1_3 V c h3 t)
    (read1_4 V c h4 t) (read1_5 V c h5 t) (read1_6 V c h6 t) (read1_7 V c h7 t) y).2.2.2

end MixArrays

end
-- ==== Proof.MixPays.lean ====
module

public import proofs.«01_k».proof.Proof.Gen.Kernel5Ideal.Skeleton
public import proofs.«01_k».proof.Proof.MixSpec

@[expose] public section

/-!
# The steps of the gated merge's backward pass over reals

What each step of a block of 512 rows computes.
-/

noncomputable section

open Idealize.ShloMosaic Idealize.ShloMosaic.TcCoe Idealize.SL.Sem
open Cert.Kernel5Ideal Cert.Kernel5Ideal.Gen

namespace MixPays
open MixSpec

variable {ε : ℝ} (C : FfnSpec.Consts ε)

/-- The gradients for the gains and the bias start from nothing. -/
theorem zeros (l : Fin 1024) : k2_pay9 (F := Ideal) (ix2 0 l) = ((0 : ℝ) : EReal) ∧ k3_pay1 (F := Ideal) (ix2 0 l) = ((0 : ℝ) : EReal) := by
  constructor
  · unfold k2_pay9
    pointwise
    simp [Ideal.ofBits, Ideal.ieee]
  · unfold k3_pay1
    pointwise
    simp [Ideal.ofBits, Ideal.ieee]

theorem zeros_wide (j : Fin 2048) : k2_pay1 (F := Ideal) (ix2 0 j) = ((0 : ℝ) : EReal) := by
  unfold k2_pay1
  pointwise
  simp [Ideal.ofBits, Ideal.ieee]

section Merge

variable (x0 : Vec Ideal S512x1024 .f32) (x1 : Vec Ideal S512x1024 .f32) (x2 : Vec Ideal S1x1024 .f32) (x3 : Vec Ideal S1024x1024 .bf16)
  (prev : Vec Ideal S1x1024 .f32) (f d : Fin 512 → Fin 1024 → ℝ) (g : Fin 1024 → ℝ) (O : Fin 1024 → Fin 1024 → ℝ)

include C in
/-- The gradient for the last product's rows. -/
theorem pay11_apply (h0 : ∀ r l, x0 (ix2 r l) = ((f r l : ℝ) : EReal)) (h1 : ∀ r l, x1 (ix2 r l) = ((d r l : ℝ) : EReal))
    (h2 : ∀ l, x2 (ix2 0 l) = ((g l : ℝ) : EReal)) (r : Fin 512) (l : Fin 1024) :
    k2_pay11 x0 x2 x1 (ix2 r l) = ((FfnSpec.dnorm ε (f r) g (d r) l : ℝ) : EReal) := by
  unfold k2_pay11 k2_pay8 k2_pay7 k2_pay6 FfnSpec.dnorm
  dsimp only
  pointwise
  simp only [h0, h1, h2, C.eps, C.nth, ← EReal.coe_mul, ← coe_sum_real, ← EReal.coe_add]
  rw [FfnSpec.rsqrt_mean C (f r)]
  simp only [← EReal.coe_mul, ← coe_sum_real, ← EReal.coe_sub]

include C in
/-- A block adds, for each of its rows, the row's gradient times its normalised entry. -/
theorem pay10_apply (h0 : ∀ r l, x0 (ix2 r l) = ((f r l : ℝ) : EReal)) (h1 : ∀ r l, x1 (ix2 r l) = ((d r l : ℝ) : EReal))
    (l : Fin 1024) (P : ℝ) (hP : prev (ix2 0 l) = ((P : ℝ) : EReal)) :
    k2_pay10 x0 x1 prev (ix2 0 l) = ((P + ∑ r, FfnSpec.dgain ε (f r) (d r) l : ℝ) : EReal) := by
  unfold k2_pay10 k2_pay8 k2_pay7 k2_pay6 FfnSpec.dgain
  dsimp only
  pointwise
  simp only [h0, h1, hP, C.eps, C.nth, ← EReal.coe_mul, ← coe_sum_real, ← EReal.coe_add]
  simp only [FfnSpec.rsqrt_mean C (f _), ← EReal.coe_mul, ← coe_sum_real, ← EReal.coe_add]

variable (a : FVec Ideal S512x1024 .bf16) (q : Fin 512 → Fin 1024 → ℝ)

/-- The gradient for the merged rows. -/
theorem pay12_apply (ha : ∀ r l, a (ix2 r l) = ((q r l : ℝ) : EReal)) (h3 : ∀ k l, x3 (ix2 k l) = ((O k l : ℝ) : EReal)) (r : Fin 512) (k : Fin 1024) :
    k2_pay12 a x3 (ix2 r k) = ((timesT (q r) O k : ℝ) : EReal) := by
  unfold k2_pay12 timesT
  pointwise
  simp only [ha, h3, ← EReal.coe_mul, ← coe_sum_real]

/-- The two halves run the same operations. -/
theorem same (s p : Vec Ideal S512x1024 .bf16) (v : Vec Ideal S512x1024 .f32) : k2_pay16 a x3 s = k2_pay15 a x3 s ∧ k2_pay18 a x3 s p = k2_pay17 a x3 s p ∧
    k2_pay19 a x3 s p = k2_pay17 a x3 s p ∧ k2_pay20 a x3 s p = k2_pay17 a x3 s p ∧ k2_pay5 a x3 = k2_pay4 a x3 ∧
    k2_pay3 v prev = k2_pay2 v prev := ⟨rfl, rfl, rfl, rfl, rfl, rfl⟩

/-- A half's gradient for its product. -/
theorem pay15_apply (c : Vec Ideal S512x1024 .bf16) (s : Fin 512 → Fin 1024 → ℝ) (ha : ∀ r l, a (ix2 r l) = ((q r l : ℝ) : EReal))
    (h3 : ∀ k l, x3 (ix2 k l) = ((O k l : ℝ) : EReal)) (hc : ∀ r l, c (ix2 r l) = ((s r l : ℝ) : EReal)) (r : Fin 512) (l : Fin 1024) :
    k2_pay15 a x3 c (ix2 r l) = ((timesT (q r) O l * s r l : ℝ) : EReal) := by
  have h := pay12_apply x3 O a q ha h3
  unfold k2_pay15 k2_pay13
  generalize k2_pay12 a x3 = b at h ⊢
  pointwise
  simp only [h, hc, ← EReal.coe_mul]

/-- A half's gradient for its attention's output. -/
theorem pay4_apply (ha : ∀ r l, a (ix2 r l) = ((q r l : ℝ) : EReal)) (h3 : ∀ k l, x3 (ix2 k l) = ((O k l : ℝ) : EReal)) (r : Fin 512) (k : Fin 1024) :
    k2_pay4 a x3 (ix2 r k) = ((timesT (q r) O k : ℝ) : EReal) := by
  unfold k2_pay4 timesT
  pointwise
  simp only [ha, h3, ← EReal.coe_mul, ← coe_sum_real]

/-- A half's gradient for its gates' logits. -/
theorem pay17_apply (c e : Vec Ideal S512x1024 .bf16) (s p : Fin 512 → Fin 1024 → ℝ) (ha : ∀ r l, a (ix2 r l) = ((q r l : ℝ) : EReal))
    (h3 : ∀ k l, x3 (ix2 k l) = ((O k l : ℝ) : EReal)) (hc : ∀ r l, c (ix2 r l) = ((s r l : ℝ) : EReal)) (he : ∀ r l, e (ix2 r l) = ((p r l : ℝ) : EReal))
    (r : Fin 512) (l : Fin 1024) :
    k2_pay17 a x3 c e (ix2 r l) = ((timesT (q r) O l * p r l * (s r l * (1 - s r l)) : ℝ) : EReal) := by
  have h := pay12_apply x3 O a q ha h3
  unfold k2_pay17 k2_pay13
  generalize k2_pay12 a x3 = b at h ⊢
  pointwise
  simp only [h, hc, he, ← EReal.coe_one, ← EReal.coe_mul, ← EReal.coe_sub]

/-- A block adds its rows to what the blocks before left. -/
theorem pay2_apply (v : FVec Ideal S512x1024 .f32) (w : Fin 512 → Fin 1024 → ℝ) (hv : ∀ r l, v (ix2 r l) = ((w r l : ℝ) : EReal)) (l : Fin 1024) (P : ℝ)
    (hP : prev (ix2 0 l) = ((P : ℝ) : EReal)) : k2_pay2 v prev (ix2 0 l) = ((P + ∑ r, w r l : ℝ) : EReal) := by
  unfold k2_pay2
  pointwise
  simp only [hv, hP, ← coe_sum_real, ← EReal.coe_add]

end Merge

section Project

variable (x0 : Vec Ideal S512x2304 .bf16) (x1 : Vec Ideal S512x2048 .bf16) (x2 : Vec Ideal S1024x2304 .bf16) (x3 : Vec Ideal S1024x2048 .bf16)
  (x4 x6 : Vec Ideal S512x1024 .f32) (x5 : Vec Ideal S1x1024 .f32) (prev : Vec Ideal S1x1024 .f32)
  (dz : Fin 512 → Fin 2304 → ℝ) (e : Fin 512 → Fin 2048 → ℝ) (W : Fin 1024 → Fin 2304 → ℝ) (G : Fin 1024 → Fin 2048 → ℝ)
  (x d : Fin 512 → Fin 1024 → ℝ) (g : Fin 1024 → ℝ)

/-- The gradient for the normalised rows. -/
theorem pay4_project (h0 : ∀ r j, x0 (ix2 r j) = ((dz r j : ℝ) : EReal)) (h1 : ∀ r j, x1 (ix2 r j) = ((e r j : ℝ) : EReal))
    (h2 : ∀ k j, x2 (ix2 k j) = ((W k j : ℝ) : EReal)) (h3 : ∀ k j, x3 (ix2 k j) = ((G k j : ℝ) : EReal)) (r : Fin 512) (l : Fin 1024) :
    k3_pay4 x0 x2 x1 x3 (ix2 r l) = ((timesT (dz r) W l + timesT (e r) G l : ℝ) : EReal) := by
  unfold k3_pay4 timesT
  pointwise
  simp only [h0, h1, h2, h3, ← EReal.coe_mul, ← coe_sum_real, ← EReal.coe_add]

include C in
/-- The gradient for the rows: what came in, and what came through the norm. -/
theorem pay3_project (h0 : ∀ r j, x0 (ix2 r j) = ((dz r j : ℝ) : EReal)) (h1 : ∀ r j, x1 (ix2 r j) = ((e r j : ℝ) : EReal))
    (h2 : ∀ k j, x2 (ix2 k j) = ((W k j : ℝ) : EReal)) (h3 : ∀ k j, x3 (ix2 k j) = ((G k j : ℝ) : EReal))
    (h4 : ∀ r l, x4 (ix2 r l) = ((x r l : ℝ) : EReal)) (h5 : ∀ l, x5 (ix2 0 l) = ((g l : ℝ) : EReal))
    (h6 : ∀ r l, x6 (ix2 r l) = ((d r l : ℝ) : EReal)) (r : Fin 512) (l : Fin 1024) :
    k3_pay3 (k3_pay8 x0 x2 x1 x3 x4 x5) x6 (ix2 r l) =
      ((d r l + FfnSpec.dnorm ε (x r) g (fun l => timesT (dz r) W l + timesT (e r) G l) l : ℝ) : EReal) := by
  have hp := pay4_project x0 x1 x2 x3 dz e W G h0 h1 h2 h3
  unfold k3_pay3 k3_pay8 k3_pay6 k3_pay5 FfnSpec.dnorm
  generalize k3_pay4 x0 x2 x1 x3 = a at hp ⊢
  dsimp only
  pointwise
  simp only [hp, h4, h5, h6, C.eps, C.nth, ← EReal.coe_mul, ← coe_sum_real, ← EReal.coe_add]
  rw [FfnSpec.rsqrt_mean C (x r)]
  simp only [← EReal.coe_mul, ← coe_sum_real, ← EReal.coe_sub, ← EReal.coe_add]

include C in
/-- A block adds, for each of its rows, the normalised row's gradient times the row's entry over its root mean square. -/
theorem pay2_project (h0 : ∀ r j, x0 (ix2 r j) = ((dz r j : ℝ) : EReal)) (h1 : ∀ r j, x1 (ix2 r j) = ((e r j : ℝ) : EReal))
    (h2 : ∀ k j, x2 (ix2 k j) = ((W k j : ℝ) : EReal)) (h3 : ∀ k j, x3 (ix2 k j) = ((G k j : ℝ) : EReal))
    (h4 : ∀ r l, x4 (ix2 r l) = ((x r l : ℝ) : EReal)) (l : Fin 1024) (P : ℝ) (hP : prev (ix2 0 l) = ((P : ℝ) : EReal)) :
    k3_pay2 (k3_pay7 x0 x2 x1 x3 x4) prev (ix2 0 l) =
      ((P + ∑ r, FfnSpec.dgain ε (x r) (fun l => timesT (dz r) W l + timesT (e r) G l) l : ℝ) : EReal) := by
  have hp := pay4_project x0 x1 x2 x3 dz e W G h0 h1 h2 h3
  unfold k3_pay2 k3_pay7 k3_pay6 k3_pay5 FfnSpec.dgain
  generalize k3_pay4 x0 x2 x1 x3 = a at hp ⊢
  dsimp only
  pointwise
  simp only [hp, h4, hP, C.eps, C.nth, ← EReal.coe_mul, ← coe_sum_real, ← EReal.coe_add]
  simp only [FfnSpec.rsqrt_mean C (x _), ← EReal.coe_mul, ← coe_sum_real, ← EReal.coe_add]

end Project

end MixPays

end
-- ==== Proof.MixBackward.lean ====
module

public import Idealize.ShloMosaic.Lib.Pipeline.ReadBack
public import proofs.«01_k».proof.Proof.Gen.Kernel5Ideal.Frame.Region2
public import proofs.«01_k».proof.Proof.Gen.Kernel5Ideal.Frame.Region3
public import proofs.«01_k».proof.Proof.MixForward
public import proofs.«01_k».proof.Proof.MixPays

@[expose] public section

/-!
# One block of the gated merge's backward pass over reals

What a block of 512 rows leaves in each of the two backward calls.
-/

noncomputable section

open Idealize.ShloMosaic Idealize.ShloMosaic.TcCoe Idealize.SL.Sem
open Cert.Kernel5Ideal Cert.Kernel5Ideal.Gen

namespace MixBackward
open MixSpec MixPays

variable {ε : ℝ} (C : FfnSpec.Consts ε)

/-- The columns of a block from column `o` on. -/
abbrev cols {a : ℕ} (o : ℕ) (inb : ∀ d, (![0, o] : Fin 2 → ℕ) d + (![a, 1024] : Fin 2 → ℕ) d ≤ (⟨2, ![a, 2048]⟩ : Shape).size d) :
    Rect ⟨2, ![a, 2048]⟩ := Rect.unit (s := ⟨2, ![a, 2048]⟩) ![0, o] ![a, 1024] inb

theorem emb_cols {a : ℕ} (o : ℕ) (inb : ∀ d, (![0, o] : Fin 2 → ℕ) d + (![a, 1024] : Fin 2 → ℕ) d ≤ (⟨2, ![a, 2048]⟩ : Shape).size d) (r : Fin a) (l : Fin 1024)
    (j : Fin 2048) (h : j.val = o + l.val) : (cols o inb).emb (ix2 r l) = ix2 r j := by
  funext d
  refine Fin.ext ?_
  rw [Rect.emb_apply]
  match d with
  | ⟨0, _⟩ =>
    show 0 + 1 * r.val = r.val
    omega
  | ⟨1, _⟩ =>
    show o + 1 * l.val = j.val
    omega

/-- Two halves side by side, stored last: each column holds its half's entry. -/
theorem halves {a : ℕ} {e : EltTy} (i0 i1) (w v : Vec Ideal ⟨2, ![a, 1024]⟩ e) (L : List (View.Piece (Elt Ideal) ⟨2, ![a, 2048]⟩ e)) (r : Fin a) (l : Fin 1024) :
    View.canon ((⟨cols 1024 i1, w⟩ : View.Piece (Elt Ideal) ⟨2, ![a, 2048]⟩ e) :: ⟨cols 0 i0, v⟩ :: L) (ix2 r (hi l)) = w (ix2 r l) ∧
    View.canon ((⟨cols 1024 i1, w⟩ : View.Piece (Elt Ideal) ⟨2, ![a, 2048]⟩ e) :: ⟨cols 0 i0, v⟩ :: L) (ix2 r (lo l)) = v (ix2 r l) := by
  constructor
  · rw [← emb_cols 1024 i1 r l (hi l) rfl]
    exact View.canon_cons_emb _ _ _ _
  · rw [View.canon_cons_of_not_mem, ← emb_cols 0 i0 r l (lo l) (Nat.zero_add _).symm]
    · exact View.canon_cons_emb _ _ _ _
    · intro h
      obtain ⟨x, hx⟩ := LoadRect.exists_idx_of_mem _ h
      have e := congrArg Fin.val (congrFun hx 1)
      have e' : 1024 + 1 * (x 1).val = l.val := e
      omega

section Merge

variable (V : (c : Dev nD) → (b : Ref sig .tc) → Buf (Elt Ideal) ((c : Thread nD τ).loc b)) (c : Dev nD) (t : Fin cfg2.N)

/-- A block's gradient for the last product. -/
abbrev din : FVec Ideal S512x1024 .bf16 := k2_pay11 (iblk2 V c 0 t) (iblk2 V c 2 t) (iblk2 V c 1 t)

/-- A block's two halves of gates. -/
abbrev left : Vec Ideal S512x1024 .bf16 := View.ld (iblk2 V c 4 t) (cols 0 inb_S512x2048_S512x1024_0_0)
abbrev right : Vec Ideal S512x1024 .bf16 := View.ld (iblk2 V c 4 t) (cols 1024 inb_S512x2048_S512x1024_0_1024)

/-- The gradient for the gates' logits, as the block's output holds it. -/
theorem logits_out : (outsAt2 V c t.val t.isLt).2.2.2.1 = View.canon
    [⟨cols 1024 inb_S512x2048_S512x1024_0_1024, k2_pay20 (din V c t) (iblk2 V c 3 t) (right V c t) (iblk2 V c 6 t)⟩,
      ⟨cols 0 inb_S512x2048_S512x1024_0_0, k2_pay19 (din V c t) (iblk2 V c 3 t) (left V c t) (iblk2 V c 5 t)⟩] := by
  by_cases h0 : t.val % 16 = 0
  · rw [outsAt2_A V c t h0 h0]
    frame_out
    rfl
  · rw [outsAt2_B V c t h0 h0]
    frame_out
    rfl

/-- The gradients for the two attentions' outputs are stored whole. -/
theorem left_out : (outsAt2 V c t.val t.isLt).2.2.2.2.1 = k2_pay4 (k2_pay15 (din V c t) (iblk2 V c 3 t) (left V c t)) (iblk2 V c 7 t) := by
  by_cases h0 : t.val % 16 = 0
  · rw [outsAt2_A V c t h0 h0]
    frame_out
    rfl
  · rw [outsAt2_B V c t h0 h0]
    frame_out
    rfl

theorem right_out : (outsAt2 V c t.val t.isLt).2.2.2.2.2.1 = k2_pay5 (k2_pay16 (din V c t) (iblk2 V c 3 t) (right V c t)) (iblk2 V c 8 t) := by
  by_cases h0 : t.val % 16 = 0
  · rw [outsAt2_A V c t h0 h0]
    frame_out
    rfl
  · rw [outsAt2_B V c t h0 h0]
    frame_out
    rfl

/-- The first block's additions start from zeros, a later one's from what the block before left. -/
theorem gain_first (h0 : t.val % 16 = 0) : (outsAt2 V c t.val t.isLt).2.2.2.2.2.2.1 = k2_pay10 (iblk2 V c 0 t) (iblk2 V c 1 t) (k2_pay9 (F := Ideal)) := by
  rw [outsAt2_A V c t h0 h0]
  frame_out

theorem gain_next (h0 : ¬ t.val % 16 = 0) : (outsAt2 V c t.val t.isLt).2.2.2.2.2.2.1 = k2_pay10 (iblk2 V c 0 t) (iblk2 V c 1 t)
    (outsAt2 V c (t.val - 1) (Nat.lt_of_le_of_lt (Nat.sub_le _ _) t.isLt)).2.2.2.2.2.2.1 := by
  rw [outsAt2_B V c t h0 h0]
  frame_out

/-- What a block leaves of the bias's gradient, from what it finds there. -/
abbrev added (prev : Vec Ideal S1x2048 .f32) (L : List (View.Piece (Elt Ideal) S1x2048 .f32)) : Vec Ideal S1x2048 .f32 := View.canon
  ((⟨cols 1024 inb_S1x2048_S1x1024_0_1024, k2_pay3 (k2_pay18 (din V c t) (iblk2 V c 3 t) (right V c t) (iblk2 V c 6 t)) (View.ld prev (cols 1024 inb_S1x2048_S1x1024_0_1024))⟩ :
      View.Piece (Elt Ideal) S1x2048 .f32) ::
    ⟨cols 0 inb_S1x2048_S1x1024_0_0, k2_pay2 (k2_pay17 (din V c t) (iblk2 V c 3 t) (left V c t) (iblk2 V c 5 t)) (View.ld prev (cols 0 inb_S1x2048_S1x1024_0_0))⟩ :: L)

theorem bias_first (h0 : t.val % 16 = 0) : ∃ L, (outsAt2 V c t.val t.isLt).2.2.2.2.2.2.2 = added V c t (k2_pay1 (F := Ideal)) L := by
  refine ⟨[⟨Rect.unit (s := S1x2048) ![0, 0] S1x2048.size inb_S1x2048_S1x2048_0_0, k2_pay1 (F := Ideal)⟩], ?_⟩
  rw [outsAt2_A V c t h0 h0]
  frame_out
  simp (disch := decide) only [↓View.readCov_skip, ↓View.readCov_fill]
  rfl

theorem bias_next (h0 : ¬ t.val % 16 = 0) : ∃ L, (outsAt2 V c t.val t.isLt).2.2.2.2.2.2.2 =
    added V c t (outsAt2 V c (t.val - 1) (Nat.lt_of_le_of_lt (Nat.sub_le _ _) t.isLt)).2.2.2.2.2.2.2 L := by
  refine ⟨[], ?_⟩
  rw [outsAt2_B V c t h0 h0]
  frame_out
  rfl

variable {V c t}
variable {f d p q : Fin 512 → Fin 1024 → ℝ} {g : Fin 1024 → ℝ} {s : Fin 512 → Fin 2048 → ℝ} {O A B : Fin 1024 → Fin 1024 → ℝ}

/-- A half of the gates, entry by entry. -/
theorem left_apply (h4 : ∀ r j, iblk2 V c 4 t (ix2 r j) = ((s r j : ℝ) : EReal)) (r : Fin 512) (l : Fin 1024) : left V c t (ix2 r l) = ((s r (lo l) : ℝ) : EReal) :=
  (MixForward.ld_cols (iblk2 V c 4 t) 0 (by decide) _ r l).trans ((h4 _ _).trans (congrArg (fun j => ((s r j : ℝ) : EReal)) (Fin.ext (Nat.zero_add _))))

theorem right_apply (h4 : ∀ r j, iblk2 V c 4 t (ix2 r j) = ((s r j : ℝ) : EReal)) (r : Fin 512) (l : Fin 1024) : right V c t (ix2 r l) = ((s r (hi l) : ℝ) : EReal) :=
  (MixForward.ld_cols (iblk2 V c 4 t) 1024 (by decide) _ r l).trans (h4 _ _)

include C in
/-- The gradient for a block's gates' logits. -/
theorem logits_apply (h0 : ∀ r l, iblk2 V c 0 t (ix2 r l) = ((f r l : ℝ) : EReal)) (h1 : ∀ r l, iblk2 V c 1 t (ix2 r l) = ((d r l : ℝ) : EReal))
    (h2 : ∀ l, iblk2 V c 2 t (ix2 0 l) = ((g l : ℝ) : EReal)) (h3 : ∀ k l, iblk2 V c 3 t (ix2 k l) = ((O k l : ℝ) : EReal))
    (h4 : ∀ r j, iblk2 V c 4 t (ix2 r j) = ((s r j : ℝ) : EReal)) (h5 : ∀ r l, iblk2 V c 5 t (ix2 r l) = ((p r l : ℝ) : EReal))
    (h6 : ∀ r l, iblk2 V c 6 t (ix2 r l) = ((q r l : ℝ) : EReal)) (r : Fin 512) (j : Fin 2048) :
    (outsAt2 V c t.val t.isLt).2.2.2.1 (ix2 r j) = ((dlogit (s r) (p r) (q r) (timesT (FfnSpec.dnorm ε (f r) g (d r)) O) j : ℝ) : EReal) := by
  have ha := pay11_apply C (iblk2 V c 0 t) (iblk2 V c 1 t) (iblk2 V c 2 t) f d g h0 h1 h2
  rw [logits_out, (same (iblk2 V c 3 t) (k2_pay9 (F := Ideal)) (din V c t) (left V c t) (iblk2 V c 5 t) (iblk2 V c 0 t)).2.2.1,
    (same (iblk2 V c 3 t) (k2_pay9 (F := Ideal)) (din V c t) (right V c t) (iblk2 V c 6 t) (iblk2 V c 0 t)).2.2.2.1]
  obtain ⟨l, rfl⟩ | ⟨l, rfl⟩ := lo_or_hi j
  · refine (halves _ _ _ _ _ r l).2.trans ((pay17_apply _ O _ _ _ _ _ _ ha h3 (left_apply h4) h5 r l).trans ?_)
    unfold dlogit
    rw [both_lo]
  · refine (halves _ _ _ _ _ r l).1.trans ((pay17_apply _ O _ _ _ _ _ _ ha h3 (right_apply h4) h6 r l).trans ?_)
    unfold dlogit
    rw [both_hi]

include C in
/-- A block adds its rows' gradients for the logits to the bias's gradient. -/
theorem added_apply (h0 : ∀ r l, iblk2 V c 0 t (ix2 r l) = ((f r l : ℝ) : EReal)) (h1 : ∀ r l, iblk2 V c 1 t (ix2 r l) = ((d r l : ℝ) : EReal))
    (h2 : ∀ l, iblk2 V c 2 t (ix2 0 l) = ((g l : ℝ) : EReal)) (h3 : ∀ k l, iblk2 V c 3 t (ix2 k l) = ((O k l : ℝ) : EReal))
    (h4 : ∀ r j, iblk2 V c 4 t (ix2 r j) = ((s r j : ℝ) : EReal)) (h5 : ∀ r l, iblk2 V c 5 t (ix2 r l) = ((p r l : ℝ) : EReal))
    (h6 : ∀ r l, iblk2 V c 6 t (ix2 r l) = ((q r l : ℝ) : EReal)) (prev : Vec Ideal S1x2048 .f32) (L : List (View.Piece (Elt Ideal) S1x2048 .f32))
    (j : Fin 2048) (P : ℝ) (hP : prev (ix2 0 j) = ((P : ℝ) : EReal)) :
    added V c t prev L (ix2 0 j) = ((P + ∑ r, dlogit (s r) (p r) (q r) (timesT (FfnSpec.dnorm ε (f r) g (d r)) O) j : ℝ) : EReal) := by
  have ha := pay11_apply C (iblk2 V c 0 t) (iblk2 V c 1 t) (iblk2 V c 2 t) f d g h0 h1 h2
  unfold added
  rw [(same (iblk2 V c 3 t) (k2_pay9 (F := Ideal)) (din V c t) (right V c t) (iblk2 V c 6 t) (iblk2 V c 0 t)).2.1]
  obtain ⟨l, rfl⟩ | ⟨l, rfl⟩ := lo_or_hi j
  · refine (halves _ _ _ _ _ 0 l).2.trans ((pay2_apply _ _ _ (pay17_apply _ O _ _ _ _ _ _ ha h3 (left_apply h4) h5) l P ?_).trans ?_)
    · exact (MixForward.ld_cols prev 0 (by decide) _ 0 l).trans ((congrArg (fun j => prev (ix2 0 j)) (Fin.ext (Nat.zero_add _))).trans hP)
    · unfold dlogit
      simp only [both_lo]
  · refine (halves _ _ _ _ _ 0 l).1.trans (((congrFun (same (iblk2 V c 3 t) _ (din V c t) (right V c t) (iblk2 V c 6 t) _).2.2.2.2.2 _).trans
      (pay2_apply _ _ _ (pay17_apply _ O _ _ _ _ _ _ ha h3 (right_apply h4) h6) l P ?_)).trans ?_)
    · exact (MixForward.ld_cols prev 1024 (by decide) _ 0 l).trans hP
    · unfold dlogit
      simp only [both_hi]

include C in
/-- The gradients for a block's two attention outputs. -/
theorem left_out_apply (h0 : ∀ r l, iblk2 V c 0 t (ix2 r l) = ((f r l : ℝ) : EReal)) (h1 : ∀ r l, iblk2 V c 1 t (ix2 r l) = ((d r l : ℝ) : EReal))
    (h2 : ∀ l, iblk2 V c 2 t (ix2 0 l) = ((g l : ℝ) : EReal)) (h3 : ∀ k l, iblk2 V c 3 t (ix2 k l) = ((O k l : ℝ) : EReal))
    (h4 : ∀ r j, iblk2 V c 4 t (ix2 r j) = ((s r j : ℝ) : EReal)) (h7 : ∀ k l, iblk2 V c 7 t (ix2 k l) = ((A k l : ℝ) : EReal)) (r : Fin 512) (k : Fin 1024) :
    (outsAt2 V c t.val t.isLt).2.2.2.2.1 (ix2 r k) = ((timesT (fun l => timesT (FfnSpec.dnorm ε (f r) g (d r)) O l * s r (lo l)) A k : ℝ) : EReal) := by
  have ha := pay11_apply C (iblk2 V c 0 t) (iblk2 V c 1 t) (iblk2 V c 2 t) f d g h0 h1 h2
  rw [left_out]
  exact pay4_apply _ A _ _ (pay15_apply _ O _ _ _ _ ha h3 (left_apply h4)) h7 r k

include C in
theorem right_out_apply (h0 : ∀ r l, iblk2 V c 0 t (ix2 r l) = ((f r l : ℝ) : EReal)) (h1 : ∀ r l, iblk2 V c 1 t (ix2 r l) = ((d r l : ℝ) : EReal))
    (h2 : ∀ l, iblk2 V c 2 t (ix2 0 l) = ((g l : ℝ) : EReal)) (h3 : ∀ k l, iblk2 V c 3 t (ix2 k l) = ((O k l : ℝ) : EReal))
    (h4 : ∀ r j, iblk2 V c 4 t (ix2 r j) = ((s r j : ℝ) : EReal)) (h8 : ∀ k l, iblk2 V c 8 t (ix2 k l) = ((B k l : ℝ) : EReal)) (r : Fin 512) (k : Fin 1024) :
    (outsAt2 V c t.val t.isLt).2.2.2.2.2.1 (ix2 r k) = ((timesT (fun l => timesT (FfnSpec.dnorm ε (f r) g (d r)) O l * s r (hi l)) B k : ℝ) : EReal) := by
  have ha := pay11_apply C (iblk2 V c 0 t) (iblk2 V c 1 t) (iblk2 V c 2 t) f d g h0 h1 h2
  rw [right_out, (same (iblk2 V c 3 t) (k2_pay9 (F := Ideal)) (din V c t) (right V c t) (iblk2 V c 6 t) (iblk2 V c 0 t)).1,
    (same (iblk2 V c 8 t) (k2_pay9 (F := Ideal)) (k2_pay15 (din V c t) (iblk2 V c 3 t) (right V c t)) (right V c t) (iblk2 V c 6 t) (iblk2 V c 0 t)).2.2.2.2.1]
  exact pay4_apply _ B _ _ (pay15_apply _ O _ _ _ _ ha h3 (right_apply h4)) h8 r k

end Merge

section Project

variable (V : (c : Dev nD) → (b : Ref sig .tc) → Buf (Elt Ideal) ((c : Thread nD τ).loc b)) (c : Dev nD) (t : Fin cfg3.N)

theorem gain3_first (h0 : t.val % 16 = 0) : (outsAt3 V c t.val t.isLt).2 =
    k3_pay2 (k3_pay7 (iblk3 V c 0 t) (iblk3 V c 2 t) (iblk3 V c 1 t) (iblk3 V c 3 t) (iblk3 V c 4 t)) (k3_pay1 (F := Ideal)) := by
  rw [outsAt3_A V c t h0]
  frame_out

theorem gain3_next (h0 : ¬ t.val % 16 = 0) : (outsAt3 V c t.val t.isLt).2 =
    k3_pay2 (k3_pay7 (iblk3 V c 0 t) (iblk3 V c 2 t) (iblk3 V c 1 t) (iblk3 V c 3 t) (iblk3 V c 4 t))
      (outsAt3 V c (t.val - 1) (Nat.lt_of_le_of_lt (Nat.sub_le _ _) t.isLt)).2 := by
  rw [outsAt3_B V c t h0]
  frame_out

/-- A block's rows are stored whole. -/
theorem rows_out : (outsAt3 V c t.val t.isLt).1 =
    k3_pay3 (k3_pay8 (iblk3 V c 0 t) (iblk3 V c 2 t) (iblk3 V c 1 t) (iblk3 V c 3 t) (iblk3 V c 4 t) (iblk3 V c 5 t)) (iblk3 V c 6 t) := by
  by_cases h0 : t.val % 16 = 0
  · rw [outsAt3_A V c t h0]
    frame_out
  · rw [outsAt3_B V c t h0]
    frame_out

end Project

end MixBackward

end
-- ==== Proof.MixBackArrays.lean ====
module

public import proofs.«01_k».proof.Proof.FfnArrays
public import proofs.«01_k».proof.Proof.MixBackward

@[expose] public section

/-!
# What the two backward calls of the gated merge leave in their arrays

Each call goes over sixteen blocks of 512 rows.
-/

noncomputable section

open Idealize.ShloMosaic Idealize.ShloMosaic.TcCoe Idealize.SL.Sem
open Cert.Kernel5Ideal Cert.Kernel5Ideal.Gen

namespace MixBackArrays
open MixSpec
open FfnArrays (mat gain mat_at gain_at row row_val run_sum sum_rows)

theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![t.val, 0] := (by decide +kernel : ∀ t : Fin grid2.N, _)
theorem idx2_5 : ∀ t : Fin cfg2.N, win2_5.index t = ![t.val, 0] := (by decide +kernel : ∀ t : Fin grid2.N, _)
theorem idx2_6 : ∀ t : Fin cfg2.N, win2_6.index t = ![t.val, 0] := (by decide +kernel : ∀ t : Fin grid2.N, _)
theorem idx2_7 : ∀ t : Fin cfg2.N, win2_7.index t = ![0, 0] := (by decide +kernel : ∀ t : Fin grid2.N, _)
theorem idx2_8 : ∀ t : Fin cfg2.N, win2_8.index t = ![0, 0] := (by decide +kernel : ∀ t : Fin grid2.N, _)
theorem idx2_12 : ∀ t : Fin cfg2.N, win2_12.index t = ![t.val, 0] := (by decide +kernel : ∀ t : Fin grid2.N, _)
theorem idx2_13 : ∀ t : Fin cfg2.N, win2_13.index t = ![t.val, 0] := (by decide +kernel : ∀ t : Fin grid2.N, _)
theorem idx2_14 : ∀ t : Fin cfg2.N, win2_14.index t = ![t.val, 0] := (by decide +kernel : ∀ t : Fin grid2.N, _)
theorem idx2_15 : ∀ t : Fin cfg2.N, win2_15.index t = ![0, 0] := (by decide +kernel : ∀ t : Fin grid2.N, _)
theorem idx2_16 : ∀ t : Fin cfg2.N, win2_16.index t = ![0, 0] := (by decide +kernel : ∀ t : Fin grid2.N, _)
theorem lt2 (t : Fin cfg2.N) : t.val < 16 := (by decide : grid2.N = 16) ▸ t.isLt
theorem idx3_0 : ∀ t : Fin cfg3.N, win3_0.index t = ![t.val, 0] := (by decide +kernel : ∀ t : Fin grid3.N, _)
theorem idx3_1 : ∀ t : Fin cfg3.N, win3_1.index t = ![t.val, 0] := (by decide +kernel : ∀ t : Fin grid3.N, _)
theorem idx3_2 : ∀ t : Fin cfg3.N, win3_2.index t = ![0, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![t.val, 0] := (by decide +kernel : ∀ t : Fin grid3.N, _)
theorem idx3_5 : ∀ t : Fin cfg3.N, win3_5.index t = ![0, 0] := (by decide +kernel : ∀ t : Fin grid3.N, _)
theorem idx3_6 : ∀ t : Fin cfg3.N, win3_6.index t = ![t.val, 0] := (by decide +kernel : ∀ t : Fin grid3.N, _)
theorem idx3_7 : ∀ t : Fin cfg3.N, win3_7.index t = ![t.val, 0] := (by decide +kernel : ∀ t : Fin grid3.N, _)
theorem idx3_8 : ∀ t : Fin cfg3.N, win3_8.index t = ![0, 0] := (by decide +kernel : ∀ t : Fin grid3.N, _)
theorem lt3 (t : Fin cfg3.N) : t.val < 16 := (by decide : grid3.N = 16) ▸ t.isLt

variable (V : (c : Dev nD) → (b : Ref sig .tc) → Buf (Elt Ideal) ((c : Thread nD τ).loc b)) (c : Dev nD)

theorem read2_0 {A : Fin 8192 → Fin 1024 → ℝ} (h : V c main_v12_3 = mat A) (t : Fin cfg2.N) (r : Fin 512) (l : Fin 1024) : iblk2 V c 0 t (ix2 r l) = ((A (row t.val r) l : ℝ) : EReal) :=
  (congrFun h _).trans (mat_at A _ _ _ (by blk_simp [idx2_0 t]; exact row_val _ _ (lt2 t)) (by blk_simp [idx2_0 t]))
theorem read2_1 {A : Fin 8192 → Fin 1024 → ℝ} (h : V c main_arg12 = mat A) (t : Fin cfg2.N) (r : Fin 512) (l : Fin 1024) : iblk2 V c 1 t (ix2 r l) = ((A (row t.val r) l : ℝ) : EReal) :=
  (congrFun h _).trans (mat_at A _ _ _ (by blk_simp [idx2_1 t]; exact row_val _ _ (lt2 t)) (by blk_simp [idx2_1 t]))
theorem read2_2 {g : Fin 1024 → ℝ} (h : V c main_v2 = gain g) (t : Fin cfg2.N) (l : Fin 1024) : iblk2 V c 2 t (ix2 0 l) = ((g l : ℝ) : EReal) :=
  (congrFun h _).trans (gain_at g _ _ (by blk_simp [idx2_2 t]))
theorem read2_3 {A : Fin 1024 → Fin 1024 → ℝ} (h : V c main_v7 = mat A) (t : Fin cfg2.N) (k : Fin 1024) (l : Fin 1024) : iblk2 V c 3 t (ix2 k l) = ((A k l : ℝ) : EReal) :=
  (congrFun h _).trans (mat_at A _ _ _ (by blk_simp [idx2_3 t]) (by blk_simp [idx2_3 t]))
theorem read2_4 {A : Fin 8192 → Fin 2048 → ℝ} (h : V c main_v11_2 = mat A) (t : Fin cfg2.N) (r : Fin 512) (l : Fin 2048) : iblk2 V c 4 t (ix2 r l) = ((A (row t.val r) l : ℝ) : EReal) :=
  (congrFun h _).trans (mat_at A _ _ _ (by blk_simp [idx2_4 t]; exact row_val _ _ (lt2 t)) (by blk_simp [idx2_4 t]))
theorem read2_5 {A : Fin 8192 → Fin 1024 → ℝ} (h : V c main_v12_0 = mat A) (t : Fin cfg2.N) (r : Fin 512) (l : Fin 1024) : iblk2 V c 5 t (ix2 r l) = ((A (row t.val r) l : ℝ) : EReal) :=
  (congrFun h _).trans (mat_at A _ _ _ (by blk_simp [idx2_5 t]; exact row_val _ _ (lt2 t)) (by blk_simp [idx2_5 t]))
theorem read2_6 {A : Fin 8192 → Fin 1024 → ℝ} (h : V c main_v12_1 = mat A) (t : Fin cfg2.N) (r : Fin 512) (l : Fin 1024) : iblk2 V c 6 t (ix2 r l) = ((A (row t.val r) l : ℝ) : EReal) :=
  (congrFun h _).trans (mat_at A _ _ _ (by blk_simp [idx2_6 t]; exact row_val _ _ (lt2 t)) (by blk_simp [idx2_6 t]))
theorem read2_7 {A : Fin 1024 → Fin 1024 → ℝ} (h : V c main_v5 = mat A) (t : Fin cfg2.N) (k : Fin 1024) (l : Fin 1024) : iblk2 V c 7 t (ix2 k l) = ((A k l : ℝ) : EReal) :=
  (congrFun h _).trans (mat_at A _ _ _ (by blk_simp [idx2_7 t]) (by blk_simp [idx2_7 t]))
theorem read2_8 {A : Fin 1024 → Fin 1024 → ℝ} (h : V c main_v6 = mat A) (t : Fin cfg2.N) (k : Fin 1024) (l : Fin 1024) : iblk2 V c 8 t (ix2 k l) = ((A k l : ℝ) : EReal) :=
  (congrFun h _).trans (mat_at A _ _ _ (by blk_simp [idx2_8 t]) (by blk_simp [idx2_8 t]))
theorem read3_0 {A : Fin 8192 → Fin 2304 → ℝ} (h : V c main_v10 = mat A) (t : Fin cfg3.N) (r : Fin 512) (l : Fin 2304) : iblk3 V c 0 t (ix2 r l) = ((A (row t.val r) l : ℝ) : EReal) :=
  (congrFun h _).trans (mat_at A _ _ _ (by blk_simp [idx3_0 t]; exact row_val _ _ (lt3 t)) (by blk_simp [idx3_0 t]))
theorem read3_1 {A : Fin 8192 → Fin 2048 → ℝ} (h : V c main_v13_3 = mat A) (t : Fin cfg3.N) (r : Fin 512) (l : Fin 2048) : iblk3 V c 1 t (ix2 r l) = ((A (row t.val r) l : ℝ) : EReal) :=
  (congrFun h _).trans (mat_at A _ _ _ (by blk_simp [idx3_1 t]; exact row_val _ _ (lt3 t)) (by blk_simp [idx3_1 t]))
theorem read3_2 {A : Fin 1024 → Fin 2304 → ℝ} (h : V c main_v3 = mat A) (t : Fin cfg3.N) (k : Fin 1024) (l : Fin 2304) : iblk3 V c 2 t (ix2 k l) = ((A k l : ℝ) : EReal) :=
  (congrFun h _).trans (mat_at A _ _ _ (by blk_simp [idx3_2 t]) (by blk_simp [idx3_2 t]))
theorem read3_3 {A : Fin 1024 → Fin 2048 → ℝ} (h : V c main_v4 = mat A) (t : Fin cfg3.N) (k : Fin 1024) (l : Fin 2048) : iblk3 V c 3 t (ix2 k l) = ((A k l : ℝ) : EReal) :=
  (congrFun h _).trans (mat_at A _ _ _ (by blk_simp [idx3_3 t]) (by blk_simp [idx3_3 t]))
theorem read3_4 {A : Fin 8192 → Fin 1024 → ℝ} (h : V c main_arg0 = mat A) (t : Fin cfg3.N) (r : Fin 512) (l : Fin 1024) : iblk3 V c 4 t (ix2 r l) = ((A (row t.val r) l : ℝ) : EReal) :=
  (congrFun h _).trans (mat_at A _ _ _ (by blk_simp [idx3_4 t]; exact row_val _ _ (lt3 t)) (by blk_simp [idx3_4 t]))
theorem read3_5 {g : Fin 1024 → ℝ} (h : V c main_v0 = gain g) (t : Fin cfg3.N) (l : Fin 1024) : iblk3 V c 5 t (ix2 0 l) = ((g l : ℝ) : EReal) :=
  (congrFun h _).trans (gain_at g _ _ (by blk_simp [idx3_5 t]))
theorem read3_6 {A : Fin 8192 → Fin 1024 → ℝ} (h : V c main_arg12 = mat A) (t : Fin cfg3.N) (r : Fin 512) (l : Fin 1024) : iblk3 V c 6 t (ix2 r l) = ((A (row t.val r) l : ℝ) : EReal) :=
  (congrFun h _).trans (mat_at A _ _ _ (by blk_simp [idx3_6 t]; exact row_val _ _ (lt3 t)) (by blk_simp [idx3_6 t]))

/-- The last point alone writes an accumulated row out. -/
theorem flush2 : ∀ t : Fin cfg2.N, (win2_15.flush t = true → t.val = 15) ∧ (win2_16.flush t = true → t.val = 15) := (by decide +kernel : ∀ t : Fin grid2.N, _)
theorem flush3 : ∀ t : Fin cfg3.N, win3_8.flush t = true → t.val = 15 := (by decide +kernel : ∀ t : Fin grid3.N, _)

/-- A row's index is its column's. -/
theorem one_row {n : ℕ} (y : (⟨2, ![1, n]⟩ : Shape).Idx) : y = ix2 0 (y 1) := by
  rw [eq_ix2 y]
  congr 1
  exact Subsingleton.elim (α := Fin 1) _ _

variable {V c} {ε : ℝ} (C : FfnSpec.Consts ε)
variable {F D P Q X : Fin 8192 → Fin 1024 → ℝ} {g : Fin 1024 → ℝ} {S E : Fin 8192 → Fin 2048 → ℝ} {Z : Fin 8192 → Fin 2304 → ℝ}
  {A B O : Fin 1024 → Fin 1024 → ℝ} {W : Fin 1024 → Fin 2304 → ℝ} {G : Fin 1024 → Fin 2048 → ℝ}

include C

/-- The third call's arrays: the gradients for the gates' logits and for the two attentions' outputs. -/
theorem final2_12 (h0 : V c main_v12_3 = mat F) (h1 : V c main_arg12 = mat D) (h2 : V c main_v2 = gain g) (h3 : V c main_v7 = mat O) (h4 : V c main_v11_2 = mat S) (h5 : V c main_v12_0 = mat P) (h6 : V c main_v12_1 = mat Q) :
    (dat2 V c).arrAt 12 cfg2.N = mat fun r => dlogit (S r) (P r) (Q r) (timesT (FfnSpec.dnorm ε (F r) g (D r)) O) := by
  refine (dat2 V c).arrAt_eq_of_covers 12 _ (by decide +kernel) fun t hf y => ?_
  blk_simp
  rw [after2_12]
  refine Eq.trans ?_ (mat_at _ _ (row t.val (y 0)) (y 1) (by blk_simp [idx2_12 t]; exact row_val _ _ (lt2 t)) (by blk_simp [idx2_12 t])).symm
  have a := MixBackward.logits_apply C (read2_0 V c h0 t) (read2_1 V c h1 t) (read2_2 V c h2 t) (read2_3 V c h3 t) (read2_4 V c h4 t) (read2_5 V c h5 t) (read2_6 V c h6 t) (y 0) (y 1)
  rw [ix2_eta y] at a
  exact a

theorem final2_13 (h0 : V c main_v12_3 = mat F) (h1 : V c main_arg12 = mat D) (h2 : V c main_v2 = gain g) (h3 : V c main_v7 = mat O) (h4 : V c main_v11_2 = mat S) (h7 : V c main_v5 = mat A) :
    (dat2 V c).arrAt 13 cfg2.N = mat fun r => timesT (fun l => timesT (FfnSpec.dnorm ε (F r) g (D r)) O l * S r (lo l)) A := by
  refine (dat2 V c).arrAt_eq_of_covers 13 _ (by decide +kernel) fun t hf y => ?_
  blk_simp
  rw [after2_13]
  refine Eq.trans ?_ (mat_at _ _ (row t.val (y 0)) (y 1) (by blk_simp [idx2_13 t]; exact row_val _ _ (lt2 t)) (by blk_simp [idx2_13 t])).symm
  have a := MixBackward.left_out_apply C (read2_0 V c h0 t) (read2_1 V c h1 t) (read2_2 V c h2 t) (read2_3 V c h3 t) (read2_4 V c h4 t) (read2_7 V c h7 t) (y 0) (y 1)
  rw [ix2_eta y] at a
  exact a

theorem final2_14 (h0 : V c main_v12_3 = mat F) (h1 : V c main_arg12 = mat D) (h2 : V c main_v2 = gain g) (h3 : V c main_v7 = mat O) (h4 : V c main_v11_2 = mat S) (h8 : V c main_v6 = mat B) :
    (dat2 V c).arrAt 14 cfg2.N = mat fun r => timesT (fun l => timesT (FfnSpec.dnorm ε (F r) g (D r)) O l * S r (hi l)) B := by
  refine (dat2 V c).arrAt_eq_of_covers 14 _ (by decide +kernel) fun t hf y => ?_
  blk_simp
  rw [after2_14]
  refine Eq.trans ?_ (mat_at _ _ (row t.val (y 0)) (y 1) (by blk_simp [idx2_14 t]; exact row_val _ _ (lt2 t)) (by blk_simp [idx2_14 t])).symm
  have a := MixBackward.right_out_apply C (read2_0 V c h0 t) (read2_1 V c h1 t) (read2_2 V c h2 t) (read2_3 V c h3 t) (read2_4 V c h4 t) (read2_8 V c h8 t) (y 0) (y 1)
  rw [ix2_eta y] at a
  exact a

/-- The second norm's gain's gradient after a point. -/
theorem gain2_after (h0 : V c main_v12_3 = mat F) (h1 : V c main_arg12 = mat D) (l : Fin 1024) (n : ℕ) (hn : n < cfg2.N) :
    (outsAt2 V c n hn).2.2.2.2.2.2.1 (ix2 0 l) = ((∑ x ∈ Finset.range (n + 1), ∑ r, FfnSpec.dgain ε (F (row x r)) (D (row x r)) l : ℝ) : EReal) := by
  refine run_sum (by decide : grid2.N = 16) (fun n hn => (outsAt2 V c n hn).2.2.2.2.2.2.1 (ix2 0 l)) (fun x => ∑ r, FfnSpec.dgain ε (F (row x r)) (D (row x r)) l) ?_ ?_ n hn
  · intro n hn h
    exact (congrFun (MixBackward.gain_first V c ⟨n, hn⟩ h) _).trans
      (MixPays.pay10_apply C _ _ _ _ _ (read2_0 V c h0 ⟨n, hn⟩) (read2_1 V c h1 ⟨n, hn⟩) l 0 (MixPays.zeros l).1)
  · intro n hn P h hP
    exact (congrFun (MixBackward.gain_next V c ⟨n, hn⟩ h) _).trans
      (MixPays.pay10_apply C _ _ _ _ _ (read2_0 V c h0 ⟨n, hn⟩) (read2_1 V c h1 ⟨n, hn⟩) l P hP)

/-- The third call's row of gradients for the second norm's gain. -/
theorem final2_15 (h0 : V c main_v12_3 = mat F) (h1 : V c main_arg12 = mat D) :
    (dat2 V c).arrAt 15 cfg2.N = gain fun l => ∑ r, FfnSpec.dgain ε (F r) (D r) l := by
  refine (dat2 V c).arrAt_eq_of_covers 15 _ (by decide +kernel) fun t hf y => ?_
  have h15 := (flush2 t).1 hf
  blk_simp
  rw [after2_15]
  refine Eq.trans ?_ (gain_at _ _ (y 1) (by blk_simp [idx2_15 t])).symm
  have e := gain2_after C h0 h1 (y 1) t.val t.isLt
  rw [show t.val + 1 = 15 + 1 by omega, sum_rows fun r => FfnSpec.dgain ε (F r) (D r) (y 1)] at e
  rw [one_row y]
  exact e

/-- The gates' bias's gradient after a point. -/
theorem bias_after (h0 : V c main_v12_3 = mat F) (h1 : V c main_arg12 = mat D) (h2 : V c main_v2 = gain g) (h3 : V c main_v7 = mat O) (h4 : V c main_v11_2 = mat S) (h5 : V c main_v12_0 = mat P) (h6 : V c main_v12_1 = mat Q) (l : Fin 2048) (n : ℕ) (hn : n < cfg2.N) :
    (outsAt2 V c n hn).2.2.2.2.2.2.2 (ix2 0 l) = ((∑ x ∈ Finset.range (n + 1), ∑ r, dlogit (S (row x r)) (P (row x r)) (Q (row x r)) (timesT (FfnSpec.dnorm ε (F (row x r)) g (D (row x r))) O) l : ℝ) : EReal) := by
  refine run_sum (by decide : grid2.N = 16) (fun n hn => (outsAt2 V c n hn).2.2.2.2.2.2.2 (ix2 0 l)) (fun x => ∑ r, dlogit (S (row x r)) (P (row x r)) (Q (row x r)) (timesT (FfnSpec.dnorm ε (F (row x r)) g (D (row x r))) O) l) ?_ ?_ n hn
  · intro n hn h
    obtain ⟨L, e⟩ := MixBackward.bias_first V c ⟨n, hn⟩ h
    exact (congrFun e _).trans (MixBackward.added_apply C (read2_0 V c h0 ⟨n, hn⟩) (read2_1 V c h1 ⟨n, hn⟩) (read2_2 V c h2 ⟨n, hn⟩) (read2_3 V c h3 ⟨n, hn⟩) (read2_4 V c h4 ⟨n, hn⟩) (read2_5 V c h5 ⟨n, hn⟩) (read2_6 V c h6 ⟨n, hn⟩) _ L l 0 (MixPays.zeros_wide l))
  · intro n hn P h hP
    obtain ⟨L, e⟩ := MixBackward.bias_next V c ⟨n, hn⟩ h
    exact (congrFun e _).trans (MixBackward.added_apply C (read2_0 V c h0 ⟨n, hn⟩) (read2_1 V c h1 ⟨n, hn⟩) (read2_2 V c h2 ⟨n, hn⟩) (read2_3 V c h3 ⟨n, hn⟩) (read2_4 V c h4 ⟨n, hn⟩) (read2_5 V c h5 ⟨n, hn⟩) (read2_6 V c h6 ⟨n, hn⟩) _ L l P hP)

/-- The third call's row of gradients for the gates' bias. -/
theorem final2_16 (h0 : V c main_v12_3 = mat F) (h1 : V c main_arg12 = mat D) (h2 : V c main_v2 = gain g) (h3 : V c main_v7 = mat O) (h4 : V c main_v11_2 = mat S) (h5 : V c main_v12_0 = mat P) (h6 : V c main_v12_1 = mat Q) :
    (dat2 V c).arrAt 16 cfg2.N = gain fun l => ∑ r, dlogit (S r) (P r) (Q r) (timesT (FfnSpec.dnorm ε (F r) g (D r)) O) l := by
  refine (dat2 V c).arrAt_eq_of_covers 16 _ (by decide +kernel) fun t hf y => ?_
  have h15 := (flush2 t).2 hf
  blk_simp
  rw [after2_16]
  refine Eq.trans ?_ (gain_at _ _ (y 1) (by blk_simp [idx2_16 t])).symm
  have e := bias_after C h0 h1 h2 h3 h4 h5 h6 (y 1) t.val t.isLt
  rw [show t.val + 1 = 15 + 1 by omega, sum_rows fun r => dlogit (S r) (P r) (Q r) (timesT (FfnSpec.dnorm ε (F r) g (D r)) O) (y 1)] at e
  rw [one_row y]
  exact e

/-- The fourth call's first array: the gradient for the rows. -/
theorem final3_7 (h0 : V c main_v10 = mat Z) (h1 : V c main_v13_3 = mat E) (h2 : V c main_v3 = mat W) (h3 : V c main_v4 = mat G) (h4 : V c main_arg0 = mat X) (h5 : V c main_v0 = gain g) (h6 : V c main_arg12 = mat D) :
    (dat3 V c).arrAt 7 cfg3.N = mat fun r l => D r l + FfnSpec.dnorm ε (X r) g (fun l => timesT (Z r) W l + timesT (E r) G l) l := by
  refine (dat3 V c).arrAt_eq_of_covers 7 _ (by decide +kernel) fun t hf y => ?_
  blk_simp
  rw [after3_7]
  refine Eq.trans ?_ (mat_at _ _ (row t.val (y 0)) (y 1) (by blk_simp [idx3_7 t]; exact row_val _ _ (lt3 t)) (by blk_simp [idx3_7 t])).symm
  rw [MixBackward.rows_out]
  have a := MixPays.pay3_project C _ _ _ _ _ _ _ _ _ _ _ _ _ _ (read3_0 V c h0 t) (read3_1 V c h1 t) (read3_2 V c h2 t) (read3_3 V c h3 t) (read3_4 V c h4 t) (read3_5 V c h5 t) (read3_6 V c h6 t) (y 0) (y 1)
  rw [ix2_eta y] at a
  exact a

/-- The first norm's gain's gradient after a point. -/
theorem gain3_after (h0 : V c main_v10 = mat Z) (h1 : V c main_v13_3 = mat E) (h2 : V c main_v3 = mat W) (h3 : V c main_v4 = mat G) (h4 : V c main_arg0 = mat X) (l : Fin 1024) (n : ℕ) (hn : n < cfg3.N) :
    (outsAt3 V c n hn).2 (ix2 0 l) = ((∑ x ∈ Finset.range (n + 1), ∑ r, FfnSpec.dgain ε (X (row x r)) (fun l => timesT (Z (row x r)) W l + timesT (E (row x r)) G l) l : ℝ) : EReal) := by
  refine run_sum (by decide : grid3.N = 16) (fun n hn => (outsAt3 V c n hn).2 (ix2 0 l)) (fun x => ∑ r, FfnSpec.dgain ε (X (row x r)) (fun l => timesT (Z (row x r)) W l + timesT (E (row x r)) G l) l) ?_ ?_ n hn
  · intro n hn h
    exact (congrFun (MixBackward.gain3_first V c ⟨n, hn⟩ h) _).trans
      (MixPays.pay2_project C _ _ _ _ _ _ _ _ _ _ _ (read3_0 V c h0 ⟨n, hn⟩) (read3_1 V c h1 ⟨n, hn⟩) (read3_2 V c h2 ⟨n, hn⟩) (read3_3 V c h3 ⟨n, hn⟩) (read3_4 V c h4 ⟨n, hn⟩) l 0 (MixPays.zeros l).2)
  · intro n hn P h hP
    exact (congrFun (MixBackward.gain3_next V c ⟨n, hn⟩ h) _).trans
      (MixPays.pay2_project C _ _ _ _ _ _ _ _ _ _ _ (read3_0 V c h0 ⟨n, hn⟩) (read3_1 V c h1 ⟨n, hn⟩) (read3_2 V c h2 ⟨n, hn⟩) (read3_3 V c h3 ⟨n, hn⟩) (read3_4 V c h4 ⟨n, hn⟩) l P hP)

/-- The fourth call's second array: the gradient for the first norm's gain. -/
theorem final3_8 (h0 : V c main_v10 = mat Z) (h1 : V c main_v13_3 = mat E) (h2 : V c main_v3 = mat W) (h3 : V c main_v4 = mat G) (h4 : V c main_arg0 = mat X) :
    (dat3 V c).arrAt 8 cfg3.N = gain fun l => ∑ r, FfnSpec.dgain ε (X r) (fun l => timesT (Z r) W l + timesT (E r) G l) l := by
  refine (dat3 V c).arrAt_eq_of_covers 8 _ (by decide +kernel) fun t hf y => ?_
  have h15 := flush3 t hf
  blk_simp
  rw [after3_8]
  refine Eq.trans ?_ (gain_at _ _ (y 1) (by blk_simp [idx3_8 t])).symm
  have e := gain3_after C h0 h1 h2 h3 h4 (y 1) t.val t.isLt
  rw [show t.val + 1 = 15 + 1 by omega, sum_rows fun r => FfnSpec.dgain ε (X r) (fun l => timesT (Z r) W l + timesT (E r) G l) (y 1)] at e
  rw [one_row y]
  exact e

end MixBackArrays

end
-- ==== Proof.MixHost.lean ====
module

public import proofs.«01_k».proof.Proof.FfnHost
public import proofs.«01_k».proof.Proof.MixArrays
public import proofs.«01_k».proof.Proof.MixBackArrays
public import proofs.«01_k».proof.Proof.Gen.Kernel5Ideal.Frame.Fold0

@[expose] public section

/-!
# The arrays the four kernels of the gated merge pass to one another, and the layer's results
-/

noncomputable section

open Idealize.ShloMosaic Idealize.ShloMosaic.TcCoe Idealize.SL.Sem
open Cert.Kernel5Ideal Cert.Kernel5Ideal.Gen

namespace MixHost
open FfnArrays (mat gain)
open FfnHost (vec row_of_vec vec_of_row)
open MixSpec MixArrays MixBackArrays

variable (m : (ℓ : Loc nD τ sig) → Buf (Elt Ideal) ℓ) (ρ : Dev nD → PrngReg) (c : Dev nD)

/-- The arguments are real. -/
structure Args (X : Fin 8192 → Fin 1024 → ℝ) (g1 : Fin 1024 → ℝ) (W : Fin 1024 → Fin 2304 → ℝ) (G : Fin 1024 → Fin 2048 → ℝ) (b : Fin 2048 → ℝ)
    (P Q : Fin 8192 → Fin 1024 → ℝ) (A B O : Fin 1024 → Fin 1024 → ℝ) (g2 : Fin 1024 → ℝ) (Z : Fin 8192 → Fin 2304 → ℝ)
    (D : Fin 8192 → Fin 1024 → ℝ) : Prop where
  x : m ((c : Thread nD τ).loc main_arg0) = mat X
  g1 : m ((c : Thread nD τ).loc main_arg1) = vec g1
  w : m ((c : Thread nD τ).loc main_arg2) = mat W
  g : m ((c : Thread nD τ).loc main_arg3) = mat G
  b : m ((c : Thread nD τ).loc main_arg4) = vec b
  ya : m ((c : Thread nD τ).loc main_arg5) = mat P
  yb : m ((c : Thread nD τ).loc main_arg6) = mat Q
  wa : m ((c : Thread nD τ).loc main_arg7) = mat A
  wb : m ((c : Thread nD τ).loc main_arg8) = mat B
  wo : m ((c : Thread nD τ).loc main_arg9) = mat O
  g2 : m ((c : Thread nD τ).loc main_arg10) = vec g2
  dz : m ((c : Thread nD τ).loc main_arg11) = mat Z
  d : m ((c : Thread nD τ).loc main_arg12) = mat D

variable {m c} {X : Fin 8192 → Fin 1024 → ℝ} {g1 : Fin 1024 → ℝ} {W : Fin 1024 → Fin 2304 → ℝ} {G : Fin 1024 → Fin 2048 → ℝ} {b : Fin 2048 → ℝ}
  {P Q : Fin 8192 → Fin 1024 → ℝ} {A B O : Fin 1024 → Fin 1024 → ℝ} {g2 : Fin 1024 → ℝ} {Z : Fin 8192 → Fin 2304 → ℝ}
  {D : Fin 8192 → Fin 1024 → ℝ} {ε : ℝ}

/-- A vector of 2048 reals laid out as one row, and read back. -/
theorem wide_row (h : S2048.ShapeCasts S1x2048) (x : FVec Ideal S2048 .f32) (g : Fin 2048 → ℝ) (hx : x = vec g) : shapeCast S1x2048 x h = gain g := by
  funext i
  obtain ⟨r, j, rfl⟩ : ∃ (r : Fin 1) (j : Fin 2048), i = ix2 r j := ⟨_, _, eq_ix2 i⟩
  subst hx
  pointwise
  rfl

theorem wide_vec (h : S1x2048.ShapeCasts S2048) (x : FVec Ideal S1x2048 .f32) (g : Fin 2048 → ℝ) (hx : x = gain g) : shapeCast S2048 x h = vec g := by
  funext i
  obtain ⟨j, rfl⟩ : ∃ (j : Fin 2048), i = ix1 j := ⟨_, eq_ix1 i⟩
  subst hx
  pointwise
  rfl

/-! ## What a kernel does not write stays -/

variable {r : Ref sig .tc} {x : Buf (Elt Ideal) ((c : Thread nD τ).loc r)}

theorem stays1 (h : r ∉ hostOps0_W) (e : m ((c : Thread nD τ).loc r) = x) : V1 m ρ c r = x := (W1_of m ρ c r h).trans e

theorem stays2 (h : ∀ w : Fin cfg0.W, Pipeline.arrRef spec0 w = r → (cfg0.win w).isOut = false) (e : V1 m ρ c r = x) : V2 m ρ c r = x :=
  (W2_of m ρ c r h).trans e

theorem stays3 (h : ∀ w : Fin cfg1.W, Pipeline.arrRef spec1 w = r → (cfg1.win w).isOut = false) (e : V2 m ρ c r = x) : V3 m ρ c r = x :=
  (W3_of m ρ c r h).trans e

theorem stays4 (h : ∀ w : Fin cfg2.W, Pipeline.arrRef spec2 w = r → (cfg2.win w).isOut = false) (e : V3 m ρ c r = x) : V4 m ρ c r = x :=
  (W4_of m ρ c r h).trans e

theorem stays5 (h : ∀ w : Fin cfg3.W, Pipeline.arrRef spec3 w = r → (cfg3.win w).isOut = false) (e : V4 m ρ c r = x) :
    W5 m ρ c (Proc.devRef .tc r) = x := (W5_of m ρ c r h).trans e

theorem stays6 (h : r ∉ hostOps4_W) (e : W5 m ρ c (Proc.devRef .tc r) = x) : W6 m ρ c (Proc.devRef .tc r) = x := (W6_of m ρ c r h).trans e

variable (C : FfnSpec.Consts ε) (H : Args m c X g1 W G b P Q A B O g2 Z D)

/-! ## Before the first kernel -/

include H

theorem one_x : V1 m ρ c main_arg0 = mat X := stays1 ρ (by decide +kernel) H.x

theorem one_d : V1 m ρ c main_arg12 = mat D := stays1 ρ (by decide +kernel) H.d

theorem one_g1 : V1 m ρ c main_v0 = gain g1 := by
  have e : V1 m ρ c main_v0 = shapeCast S1x1024 (m ((c : Thread nD τ).loc main_arg1)) shapeCasts_S1024_S1x1024 := by
    show StableHlo.after hostOps0 (W0 m ρ c) (Proc.devRef .tc main_v0) = _
    after_results_simp
    rfl
  exact e.trans (row_of_vec _ _ _ H.g1)

theorem one_b : V1 m ρ c main_v1 = gain b := by
  have e : V1 m ρ c main_v1 = shapeCast S1x2048 (m ((c : Thread nD τ).loc main_arg4)) shapeCasts_S2048_S1x2048 := by
    show StableHlo.after hostOps0 (W0 m ρ c) (Proc.devRef .tc main_v1) = _
    after_results_simp
    rfl
  exact e.trans (wide_row _ _ _ H.b)

theorem one_g2 : V1 m ρ c main_v2 = gain g2 := by
  have e : V1 m ρ c main_v2 = shapeCast S1x1024 (m ((c : Thread nD τ).loc main_arg10)) shapeCasts_S1024_S1x1024 := by
    show StableHlo.after hostOps0 (W0 m ρ c) (Proc.devRef .tc main_v2) = _
    after_results_simp
    rfl
  exact e.trans (row_of_vec _ _ _ H.g2)

theorem one_w : V1 m ρ c main_v3 = mat W := by
  have e : V1 m ρ c main_v3 = truncf (F := Ideal) .bf16 (m ((c : Thread nD τ).loc main_arg2)) bitsLt_bf16_f32 := by
    show StableHlo.after hostOps0 (W0 m ρ c) (Proc.devRef .tc main_v3) = _
    after_results_simp
  exact e.trans H.w

theorem one_g : V1 m ρ c main_v4 = mat G := by
  have e : V1 m ρ c main_v4 = truncf (F := Ideal) .bf16 (m ((c : Thread nD τ).loc main_arg3)) bitsLt_bf16_f32 := by
    show StableHlo.after hostOps0 (W0 m ρ c) (Proc.devRef .tc main_v4) = _
    after_results_simp
  exact e.trans H.g

theorem one_wa : V1 m ρ c main_v5 = mat A := by
  have e : V1 m ρ c main_v5 = truncf (F := Ideal) .bf16 (m ((c : Thread nD τ).loc main_arg7)) bitsLt_bf16_f32 := by
    show StableHlo.after hostOps0 (W0 m ρ c) (Proc.devRef .tc main_v5) = _
    after_results_simp
  exact e.trans H.wa

theorem one_wb : V1 m ρ c main_v6 = mat B := by
  have e : V1 m ρ c main_v6 = truncf (F := Ideal) .bf16 (m ((c : Thread nD τ).loc main_arg8)) bitsLt_bf16_f32 := by
    show StableHlo.after hostOps0 (W0 m ρ c) (Proc.devRef .tc main_v6) = _
    after_results_simp
  exact e.trans H.wb

theorem one_wo : V1 m ρ c main_v7 = mat O := by
  have e : V1 m ρ c main_v7 = truncf (F := Ideal) .bf16 (m ((c : Thread nD τ).loc main_arg9)) bitsLt_bf16_f32 := by
    show StableHlo.after hostOps0 (W0 m ρ c) (Proc.devRef .tc main_v7) = _
    after_results_simp
  exact e.trans H.wo

theorem one_ya : V1 m ρ c main_v8 = mat P := by
  have e : V1 m ρ c main_v8 = truncf (F := Ideal) .bf16 (m ((c : Thread nD τ).loc main_arg5)) bitsLt_bf16_f32 := by
    show StableHlo.after hostOps0 (W0 m ρ c) (Proc.devRef .tc main_v8) = _
    after_results_simp
  exact e.trans H.ya

theorem one_yb : V1 m ρ c main_v9 = mat Q := by
  have e : V1 m ρ c main_v9 = truncf (F := Ideal) .bf16 (m ((c : Thread nD τ).loc main_arg6)) bitsLt_bf16_f32 := by
    show StableHlo.after hostOps0 (W0 m ρ c) (Proc.devRef .tc main_v9) = _
    after_results_simp
  exact e.trans H.yb

theorem one_dz : V1 m ρ c main_v10 = mat Z := by
  have e : V1 m ρ c main_v10 = truncf (F := Ideal) .bf16 (m ((c : Thread nD τ).loc main_arg11)) bitsLt_bf16_f32 := by
    show StableHlo.after hostOps0 (W0 m ρ c) (Proc.devRef .tc main_v10) = _
    after_results_simp
  exact e.trans H.dz

/-! ## Between the kernels -/

include C

theorem two_z : V2 m ρ c main_v11_1 = mat fun r => times (FfnSpec.norm ε (X r) g1) W :=
  (W2_arr m ρ c 6).trans (final0_6 C (one_x ρ H) (one_g1 ρ H) (one_w ρ H) (one_g ρ H) (one_b ρ H))

theorem two_s : V2 m ρ c main_v11_2 = mat fun r => gate ε (X r) g1 G b :=
  (W2_arr m ρ c 7).trans (final0_7 C (one_x ρ H) (one_g1 ρ H) (one_w ρ H) (one_g ρ H) (one_b ρ H))

theorem three_a : V3 m ρ c main_v12_0 = mat fun r => times (P r) A :=
  (W3_arr m ρ c 8).trans (final1_8 C (stays2 ρ (by decide +kernel) (one_ya ρ H)) (stays2 ρ (by decide +kernel) (one_yb ρ H)) (two_s ρ C H) (stays2 ρ (by decide +kernel) (one_wa ρ H)) (stays2 ρ (by decide +kernel) (one_wb ρ H))
    (stays2 ρ (by decide +kernel) (one_wo ρ H)) (stays2 ρ (by decide +kernel) (one_x ρ H)) (stays2 ρ (by decide +kernel) (one_g2 ρ H)))

theorem three_b : V3 m ρ c main_v12_1 = mat fun r => times (Q r) B :=
  (W3_arr m ρ c 9).trans (final1_9 C (stays2 ρ (by decide +kernel) (one_ya ρ H)) (stays2 ρ (by decide +kernel) (one_yb ρ H)) (two_s ρ C H) (stays2 ρ (by decide +kernel) (one_wa ρ H)) (stays2 ρ (by decide +kernel) (one_wb ρ H))
    (stays2 ρ (by decide +kernel) (one_wo ρ H)) (stays2 ρ (by decide +kernel) (one_x ρ H)) (stays2 ρ (by decide +kernel) (one_g2 ρ H)))

theorem three_f : V3 m ρ c main_v12_3 = mat fun r => prod ε (X r) g1 G b (P r) (Q r) A B O :=
  (W3_arr m ρ c 11).trans (final1_11 C (stays2 ρ (by decide +kernel) (one_ya ρ H)) (stays2 ρ (by decide +kernel) (one_yb ρ H)) (two_s ρ C H) (stays2 ρ (by decide +kernel) (one_wa ρ H)) (stays2 ρ (by decide +kernel) (one_wb ρ H))
    (stays2 ρ (by decide +kernel) (one_wo ρ H)) (stays2 ρ (by decide +kernel) (one_x ρ H)) (stays2 ρ (by decide +kernel) (one_g2 ρ H)))

theorem three_y : V3 m ρ c main_v12_4 = mat fun r => out ε (X r) g1 G b (P r) (Q r) A B O g2 :=
  (W3_arr m ρ c 12).trans (final1_12 C (stays2 ρ (by decide +kernel) (one_ya ρ H)) (stays2 ρ (by decide +kernel) (one_yb ρ H)) (two_s ρ C H) (stays2 ρ (by decide +kernel) (one_wa ρ H)) (stays2 ρ (by decide +kernel) (one_wb ρ H))
    (stays2 ρ (by decide +kernel) (one_wo ρ H)) (stays2 ρ (by decide +kernel) (one_x ρ H)) (stays2 ρ (by decide +kernel) (one_g2 ρ H)))

theorem three_s : V3 m ρ c main_v11_2 = mat fun r => gate ε (X r) g1 G b := stays3 ρ (by decide +kernel) (two_s ρ C H)

theorem four_e : V4 m ρ c main_v13_3 = mat fun r => dgate ε (X r) g1 G b (P r) (Q r) A B O g2 (D r) :=
  (W4_arr m ρ c 12).trans (final2_12 C (three_f ρ C H) (stays3 ρ (by decide +kernel) (stays2 ρ (by decide +kernel) (one_d ρ H))) (stays3 ρ (by decide +kernel) (stays2 ρ (by decide +kernel) (one_g2 ρ H)))
    (stays3 ρ (by decide +kernel) (stays2 ρ (by decide +kernel) (one_wo ρ H))) (three_s ρ C H) (three_a ρ C H) (three_b ρ C H))

theorem four_a : V4 m ρ c main_v13_4 = mat fun r => timesT (dpa ε (X r) g1 G b (P r) (Q r) A B O g2 (D r)) A :=
  (W4_arr m ρ c 13).trans (final2_13 C (three_f ρ C H) (stays3 ρ (by decide +kernel) (stays2 ρ (by decide +kernel) (one_d ρ H))) (stays3 ρ (by decide +kernel) (stays2 ρ (by decide +kernel) (one_g2 ρ H)))
    (stays3 ρ (by decide +kernel) (stays2 ρ (by decide +kernel) (one_wo ρ H))) (three_s ρ C H) (stays3 ρ (by decide +kernel) (stays2 ρ (by decide +kernel) (one_wa ρ H))))

theorem four_b : V4 m ρ c main_v13_5 = mat fun r => timesT (dpb ε (X r) g1 G b (P r) (Q r) A B O g2 (D r)) B :=
  (W4_arr m ρ c 14).trans (final2_14 C (three_f ρ C H) (stays3 ρ (by decide +kernel) (stays2 ρ (by decide +kernel) (one_d ρ H))) (stays3 ρ (by decide +kernel) (stays2 ρ (by decide +kernel) (one_g2 ρ H)))
    (stays3 ρ (by decide +kernel) (stays2 ρ (by decide +kernel) (one_wo ρ H))) (three_s ρ C H) (stays3 ρ (by decide +kernel) (stays2 ρ (by decide +kernel) (one_wb ρ H))))

theorem four_g : V4 m ρ c main_v13_6 = gain fun l => ∑ r, FfnSpec.dgain ε (prod ε (X r) g1 G b (P r) (Q r) A B O) (D r) l :=
  (W4_arr m ρ c 15).trans (final2_15 C (three_f ρ C H) (stays3 ρ (by decide +kernel) (stays2 ρ (by decide +kernel) (one_d ρ H))))

theorem four_c : V4 m ρ c main_v13_7 = gain fun l => ∑ r, dgate ε (X r) g1 G b (P r) (Q r) A B O g2 (D r) l :=
  (W4_arr m ρ c 16).trans (final2_16 C (three_f ρ C H) (stays3 ρ (by decide +kernel) (stays2 ρ (by decide +kernel) (one_d ρ H))) (stays3 ρ (by decide +kernel) (stays2 ρ (by decide +kernel) (one_g2 ρ H)))
    (stays3 ρ (by decide +kernel) (stays2 ρ (by decide +kernel) (one_wo ρ H))) (three_s ρ C H) (three_a ρ C H) (three_b ρ C H))

theorem five_x : W5 m ρ c (Proc.devRef .tc main_v14_0) = mat fun r => dx ε (X r) g1 W G b (P r) (Q r) A B O g2 (Z r) (D r) :=
  (W5_arr m ρ c 7).trans (final3_7 C (stays4 ρ (by decide +kernel) (stays3 ρ (by decide +kernel) (stays2 ρ (by decide +kernel) (one_dz ρ H)))) (four_e ρ C H) (stays4 ρ (by decide +kernel) (stays3 ρ (by decide +kernel) (stays2 ρ (by decide +kernel) (one_w ρ H))))
    (stays4 ρ (by decide +kernel) (stays3 ρ (by decide +kernel) (stays2 ρ (by decide +kernel) (one_g ρ H)))) (stays4 ρ (by decide +kernel) (stays3 ρ (by decide +kernel) (stays2 ρ (by decide +kernel) (one_x ρ H))))
    (stays4 ρ (by decide +kernel) (stays3 ρ (by decide +kernel) (stays2 ρ (by decide +kernel) (one_g1 ρ H)))) (stays4 ρ (by decide +kernel) (stays3 ρ (by decide +kernel) (stays2 ρ (by decide +kernel) (one_d ρ H)))))

theorem five_g : W5 m ρ c (Proc.devRef .tc main_v14_1) = gain fun l => ∑ r, FfnSpec.dgain ε (X r) (dnormed ε (X r) g1 W G b (P r) (Q r) A B O g2 (Z r) (D r)) l :=
  (W5_arr m ρ c 8).trans (final3_8 C (stays4 ρ (by decide +kernel) (stays3 ρ (by decide +kernel) (stays2 ρ (by decide +kernel) (one_dz ρ H)))) (four_e ρ C H) (stays4 ρ (by decide +kernel) (stays3 ρ (by decide +kernel) (stays2 ρ (by decide +kernel) (one_w ρ H))))
    (stays4 ρ (by decide +kernel) (stays3 ρ (by decide +kernel) (stays2 ρ (by decide +kernel) (one_g ρ H)))) (stays4 ρ (by decide +kernel) (stays3 ρ (by decide +kernel) (stays2 ρ (by decide +kernel) (one_x ρ H)))))

/-! ## The results -/

/-- The main columns. -/
theorem result_z : W6 m ρ c (Proc.devRef .tc main_v11_1) = mat fun r => times (FfnSpec.norm ε (X r) g1) W :=
  stays6 ρ (by decide +kernel) (stays5 ρ (by decide +kernel) (stays4 ρ (by decide +kernel) (stays3 ρ (by decide +kernel) (two_z ρ C H))))

/-- The layer's rows. -/
theorem result_y : W6 m ρ c (Proc.devRef .tc main_v12_4) = mat fun r => out ε (X r) g1 G b (P r) (Q r) A B O g2 :=
  stays6 ρ (by decide +kernel) (stays5 ρ (by decide +kernel) (stays4 ρ (by decide +kernel) (three_y ρ C H)))

/-- The gradient for the rows. -/
theorem result_dx : W6 m ρ c (Proc.devRef .tc main_v14_0) = mat fun r => dx ε (X r) g1 W G b (P r) (Q r) A B O g2 (Z r) (D r) := stays6 ρ (by decide +kernel) (five_x ρ C H)

/-- The gradients for the two attentions' outputs. -/
theorem result_a : W6 m ρ c (Proc.devRef .tc main_v13_4) = mat fun r => timesT (dpa ε (X r) g1 G b (P r) (Q r) A B O g2 (D r)) A :=
  stays6 ρ (by decide +kernel) (stays5 ρ (by decide +kernel) (four_a ρ C H))

theorem result_b : W6 m ρ c (Proc.devRef .tc main_v13_5) = mat fun r => timesT (dpb ε (X r) g1 G b (P r) (Q r) A B O g2 (D r)) B :=
  stays6 ρ (by decide +kernel) (stays5 ρ (by decide +kernel) (four_b ρ C H))

/-- The gradient for the first norm's gain. -/
theorem result_g1 : W6 m ρ c (Proc.devRef .tc main_v15) = vec fun l => ∑ r, FfnSpec.dgain ε (X r) (dnormed ε (X r) g1 W G b (P r) (Q r) A B O g2 (Z r) (D r)) l := by
  have e : W6 m ρ c (Proc.devRef .tc main_v15) = shapeCast S1024 (W5 m ρ c (Proc.devRef .tc main_v14_1)) shapeCasts_S1x1024_S1024 := by
    show StableHlo.after hostOps4 (W5 m ρ c) (Proc.devRef .tc main_v15) = _
    after_results_simp
    rfl
  exact e.trans (vec_of_row _ _ _ (five_g ρ C H))

/-- The gradient for the gates' bias. -/
theorem result_c : W6 m ρ c (Proc.devRef .tc main_v16) = vec fun l => ∑ r, dgate ε (X r) g1 G b (P r) (Q r) A B O g2 (D r) l := by
  have e : W6 m ρ c (Proc.devRef .tc main_v16) = shapeCast S2048 (W5 m ρ c (Proc.devRef .tc main_v13_7)) shapeCasts_S1x2048_S2048 := by
    show StableHlo.after hostOps4 (W5 m ρ c) (Proc.devRef .tc main_v16) = _
    after_results_simp
    rfl
  exact e.trans (wide_vec _ _ _ (stays5 ρ (by decide +kernel) (four_c ρ C H)))

/-- The gradient for the second norm's gain. -/
theorem result_g2 : W6 m ρ c (Proc.devRef .tc main_v17) = vec fun l => ∑ r, FfnSpec.dgain ε (prod ε (X r) g1 G b (P r) (Q r) A B O) (D r) l := by
  have e : W6 m ρ c (Proc.devRef .tc main_v17) = shapeCast S1024 (W5 m ρ c (Proc.devRef .tc main_v13_6)) shapeCasts_S1x1024_S1024 := by
    show StableHlo.after hostOps4 (W5 m ρ c) (Proc.devRef .tc main_v17) = _
    after_results_simp
    rfl
  exact e.trans (vec_of_row _ _ _ (stays5 ρ (by decide +kernel) (four_g ρ C H)))

end MixHost

end
-- ==== Proof.MixRun.lean ====
module

public import proofs.«01_k».proof.Proof.MixHost
public import proofs.«01_k».proof.Proof.Gen.Kernel5Ideal.Frame

@[expose] public section

/-!
# The run of the gated merge's four kernels, with its results
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

namespace MixRun

local notation "𝕄" => MT nD τ sig Unit (Elt Ideal) ℕ (UR sig nD τ) ℕ

set_option backward.isDefEq.respectTransparency.types false in
/-- The program runs from any memory: its eight results end at what the segments' fold leaves in them, its arguments as
    they were. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v11_1) = W6 m ρ c (Proc.devRef .tc main_v11_1)
      ∧ r.2.mem ((c.tc : Thread nD τ).loc main_v12_4) = W6 m ρ c (Proc.devRef .tc main_v12_4)
      ∧ r.2.mem ((c.tc : Thread nD τ).loc main_v14_0) = W6 m ρ c (Proc.devRef .tc main_v14_0)
      ∧ r.2.mem ((c.tc : Thread nD τ).loc main_v15) = W6 m ρ c (Proc.devRef .tc main_v15)
      ∧ r.2.mem ((c.tc : Thread nD τ).loc main_v16) = W6 m ρ c (Proc.devRef .tc main_v16)
      ∧ r.2.mem ((c.tc : Thread nD τ).loc main_v13_4) = W6 m ρ c (Proc.devRef .tc main_v13_4)
      ∧ r.2.mem ((c.tc : Thread nD τ).loc main_v13_5) = W6 m ρ c (Proc.devRef .tc main_v13_5)
      ∧ r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v11_1 (by decide)),
       h c _ (mem_uc main_v12_4 (by decide)),
       h c _ (mem_uc main_v14_0 (by decide)),
       h c _ (mem_uc main_v15 (by decide)),
       h c _ (mem_uc main_v16 (by decide)),
       h c _ (mem_uc main_v13_4 (by decide)),
       h c _ (mem_uc main_v13_5 (by decide)),
       h c _ (mem_uc main_v17 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end MixRun

end
-- ==== Proof.MixFinite.lean ====
module

public import proofs.«01_k».proof.Proof.Finite
public import proofs.«01_k».proof.Proof.MixRef
public import proofs.«01_k».proof.Proof.Gen.Pre_finite5

@[expose] public section

/-!
# What the merge's precondition says: every entry of every argument is a real number
-/

noncomputable section

open Idealize.ShloMosaic
open Cert.Pre_finite5

namespace MixFinite

/-- The real entries of a matrix and of a vector. -/
def matOf {a b : ℕ} (x : (⟨2, ![a, b]⟩ : Shape).Idx → EReal) (r : Fin a) (l : Fin b) : ℝ := (x (ix2 r l)).toReal
def vecOf {a : ℕ} (x : (⟨1, ![a]⟩ : Shape).Idx → EReal) (l : Fin a) : ℝ := (x (ix1 l)).toReal

theorem mat_real {a b : ℕ} {x : (⟨2, ![a, b]⟩ : Shape).Idx → EReal} (h : ∀ i, x i = (((x i).toReal : ℝ) : EReal)) (i : (⟨2, ![a, b]⟩ : Shape).Idx) :
    x i = ((matOf x (i 0) (i 1) : ℝ) : EReal) := (h i).trans (congrArg (fun k => (((x k).toReal : ℝ) : EReal)) (eq_ix2 i))

theorem vec_real {a : ℕ} {x : (⟨1, ![a]⟩ : Shape).Idx → EReal} (h : ∀ i, x i = (((x i).toReal : ℝ) : EReal)) (i : (⟨1, ![a]⟩ : Shape).Idx) :
    x i = ((vecOf x (i 0) : ℝ) : EReal) := (h i).trans (congrArg (fun k => (((x k).toReal : ℝ) : EReal)) (eq_ix1 i))

/-- All thirteen arguments are real where the precondition holds. -/
theorem args (x0 : FVec Ideal S8192x1024 .f32) (x1 : FVec Ideal S1024 .f32) (x2 : FVec Ideal S1024x2304 .f32) (x3 : FVec Ideal S1024x2048 .f32)
    (x4 : FVec Ideal S2048 .f32) (x5 : FVec Ideal S8192x1024 .f32) (x6 : FVec Ideal S8192x1024 .f32) (x7 : FVec Ideal S1024x1024 .f32)
    (x8 : FVec Ideal S1024x1024 .f32) (x9 : FVec Ideal S1024x1024 .f32) (x10 : FVec Ideal S1024 .f32) (x11 : FVec Ideal S8192x2304 .f32) (x12 : FVec Ideal S8192x1024 .f32)
    (h : fn (F := Ideal) x0 x1 x2 x3 x4 x5 x6 x7 x8 x9 x10 x11 x12 = fun _ => 1#1) :
    MixRef.Args x0 x1 x2 x3 x4 x5 x6 x7 x8 x9 x10 x11 x12 (matOf x0) (vecOf x1) (matOf x2) (matOf x3) (vecOf x4) (matOf x5) (matOf x6)
      (matOf x7) (matOf x8) (matOf x9) (vecOf x10) (matOf x11) (matOf x12) := by
  have e := congrFun h (fun k => k.elim0)
  obtain ⟨e, e12⟩ := AttentionFinite.both e
  obtain ⟨e, e11⟩ := AttentionFinite.both e
  obtain ⟨e, e10⟩ := AttentionFinite.both e
  obtain ⟨e, e9⟩ := AttentionFinite.both e
  obtain ⟨e, e8⟩ := AttentionFinite.both e
  obtain ⟨e, e7⟩ := AttentionFinite.both e
  obtain ⟨e, e6⟩ := AttentionFinite.both e
  obtain ⟨e, e5⟩ := AttentionFinite.both e
  obtain ⟨e, e4⟩ := AttentionFinite.both e
  obtain ⟨e, e3⟩ := AttentionFinite.both e
  obtain ⟨e, e2⟩ := AttentionFinite.both e
  obtain ⟨e0, e1⟩ := AttentionFinite.both e
  exact ⟨mat_real (AttentionFinite.entries_real x0 _ _ _ _ _ e0),
    vec_real (AttentionFinite.entries_real x1 _ _ _ _ _ e1),
    mat_real (AttentionFinite.entries_real x2 _ _ _ _ _ e2),
    mat_real (AttentionFinite.entries_real x3 _ _ _ _ _ e3),
    vec_real (AttentionFinite.entries_real x4 _ _ _ _ _ e4),
    mat_real (AttentionFinite.entries_real x5 _ _ _ _ _ e5),
    mat_real (AttentionFinite.entries_real x6 _ _ _ _ _ e6),
    mat_real (AttentionFinite.entries_real x7 _ _ _ _ _ e7),
    mat_real (AttentionFinite.entries_real x8 _ _ _ _ _ e8),
    mat_real (AttentionFinite.entries_real x9 _ _ _ _ _ e9),
    vec_real (AttentionFinite.entries_real x10 _ _ _ _ _ e10),
    mat_real (AttentionFinite.entries_real x11 _ _ _ _ _ e11),
    mat_real (AttentionFinite.entries_real x12 _ _ _ _ _ e12)⟩

end MixFinite

end
-- ==== Proof.WeightMain.lean ====
module

public import proofs.«01_k».proof.Proof.WeightSum
public import proofs.«01_k».proof.Proof.Gen.Kernel6Ideal.Value
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Defs
public import Idealize.ShloMosaic.Lib.Pipeline.ReadBack
public import Idealize.ShloMosaic.Adequacy

@[expose] public section

/-!
# The gradient of the weight of the first part of the input projection

A run of four points goes over the rows, 2048 at a time, and leaves 768 columns of the gradient.
-/

noncomputable section

open Idealize.ShloMosaic Idealize.ShloMosaic.TcCoe Idealize.SL.Sem
open Cert.Kernel6Ideal Cert.Kernel6Ideal.Gen

namespace WeightMain

theorem zeros (i : S1024x768.Idx) : k0_pay1 (F := Ideal) i = 0 := by
  unfold k0_pay1
  pointwise

theorem adds (a : Vec Ideal S1024x768 .f32) (x : Vec Ideal S2048x1024 .bf16) (y : Vec Ideal S2048x768 .bf16) (i : S1024x768.Idx) :
    k0_pay2 a x y i = a i + WeightSum.part x y i := by
  obtain ⟨p, q, rfl⟩ : ∃ (p : Fin 1024) (q : Fin 768), i = ix2 p q := ⟨_, _, eq_ix2 i⟩
  unfold k0_pay2 WeightSum.part
  pointwise

theorem stores (a : Vec Ideal S1024x768 .f32) : k0_pay3 a = a := by
  unfold k0_pay3
  rfl

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 3 := Nat.div_lt_of_lt_mul (lt_of_lt_of_eq t.isLt (by decide : grid0.N = 4 * 3))

abbrev X : FVec Ideal S8192x1024 .f32 := m ((c : Thread nD τ).loc main_arg0)
abbrev Y : FVec Ideal S8192x2304 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 3 ∧ 2304 = 3 * 768 := by decide

/-- A row of a block, and a column of a block of columns. -/
abbrev row (n : ℕ) (r : Fin 2048) : Fin 8192 := WeightSum.row 4 2048 8192 rows n r
abbrev col (n : ℕ) (q : Fin 768) : Fin 2304 := WeightSum.col 4 3 768 2304 cols n q

theorem read_0 (t : Fin cfg0.N) (r : Fin 2048) (l : Fin 1024) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 768) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 3 768 2304 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 3 768 2304 cols _ (y 1) (runs t)

/-! ## The reference -/

open Cert

/-- The reference runs, leaves its arguments as they were and every counter at zero. -/
theorem frame_reference (m : (ℓ : Loc Reference6Ideal.nD Reference6Ideal.τ Reference6Ideal.sig) → Buf (Elt Ideal) ℓ)
    (ρ : Dev Reference6Ideal.nD → PrngReg) :
    θ_run (Reference6Ideal.defs (F := Ideal)) (onTc (τ := Reference6Ideal.τ) (Reference6Ideal.main (F := Ideal))) ⟨m, fun _ => 0, ρ⟩
      (fun r => (∀ c : Dev Reference6Ideal.nD,
        r.2.mem ((c.tc : Thread Reference6Ideal.nD Reference6Ideal.τ).loc Reference6Ideal.main_arg0) = m ((c.tc : Thread Reference6Ideal.nD Reference6Ideal.τ).loc Reference6Ideal.main_arg0)
        ∧ r.2.mem ((c.tc : Thread Reference6Ideal.nD Reference6Ideal.τ).loc Reference6Ideal.main_arg1) = m ((c.tc : Thread Reference6Ideal.nD Reference6Ideal.τ).loc Reference6Ideal.main_arg1))
      ∧ r.2.sem = fun _ => 0) :=
  (θ_run Reference6Ideal.defs _ _).mono (fun r h => ⟨fun c => (h c).2, sem_eq_zero_of_no_sems (by decide) r.2⟩)
    (Reference6Ideal.Value.run (F := Ideal) m ρ)

theorem reference (x : FVec Ideal S8192x1024 .f32) (y : FVec Ideal S8192x2304 .f32) :
    Reference6Ideal.Read.val_main_v4 (F := Ideal) x y = WeightSum.grad x y := by
  funext i
  rw [Reference6Ideal.Read.val_main_v4_apply, Reference6Ideal.Read.val_main_v3_apply, Reference6Ideal.Read.val_main_v2_apply]
  unfold WeightSum.grad
  refine Finset.sum_congr rfl fun k _ => (mul_comm _ _).trans (congrArg₂ (· * ·) ?_ ?_)
  · exact WeightSum.entry _ _ _ _ rfl rfl
  · exact WeightSum.entry _ _ _ _ rfl rfl

/-- The gradient is the reference's. -/
theorem algebraic : algebraic_Kernel6Ideal_Reference6Ideal (hKernel6Ideal := Kernel6Ideal.Gen.facts)
    (hReference6Ideal := Reference6Ideal.Gen.facts) := by
  intro m g m' g' _ ha
  refine ⟨_, (θ_run Kernel6Ideal.defs _ _).mono (fun r h c => ⟨(Kernel6Ideal.Value.post2 m r h c).trans (final m c),
    Kernel6Ideal.Value.kept_main_arg0 m r h c, Kernel6Ideal.Value.kept_main_arg1 m r h c⟩) (Kernel6Ideal.Gen.run_main m g), ?_⟩
  refine (θ_run Reference6Ideal.defs _ _).mono (fun r h c => ?_) (Reference6Ideal.Value.run (F := Ideal) m' g')
  obtain ⟨r0, hargs⟩ := h c
  obtain ⟨a0, a1⟩ := ha c
  refine ⟨r0.trans ?_, hargs⟩
  rw [Reference6Ideal.Read.val_main_v4_eq, a0, a1]
  exact reference _ _

end WeightMain

end

end
-- ==== Proof.WeightGate.lean ====
module

public import proofs.«01_k».proof.Proof.WeightSum
public import proofs.«01_k».proof.Proof.Gen.Kernel7Ideal.Value
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Defs
public import Idealize.ShloMosaic.Lib.Pipeline.ReadBack
public import Idealize.ShloMosaic.Adequacy

@[expose] public section

/-!
# The gradient of the weight of the gates' part of the input projection

A run of four points goes over the rows, 2048 at a time, and leaves 512 columns of the gradient.
-/

noncomputable section

open Idealize.ShloMosaic Idealize.ShloMosaic.TcCoe Idealize.SL.Sem
open Cert.Kernel7Ideal Cert.Kernel7Ideal.Gen

namespace WeightGate

theorem zeros (i : S1024x512.Idx) : k0_pay1 (F := Ideal) i = 0 := by
  unfold k0_pay1
  pointwise

theorem adds (a : Vec Ideal S1024x512 .f32) (x : Vec Ideal S2048x1024 .bf16) (y : Vec Ideal S2048x512 .bf16) (i : S1024x512.Idx) :
    k0_pay2 a x y i = a i + WeightSum.part x y i := by
  obtain ⟨p, q, rfl⟩ : ∃ (p : Fin 1024) (q : Fin 512), i = ix2 p q := ⟨_, _, eq_ix2 i⟩
  unfold k0_pay2 WeightSum.part
  pointwise

theorem stores (a : Vec Ideal S1024x512 .f32) : k0_pay3 a = a := by
  unfold k0_pay3
  rfl

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 4 := Nat.div_lt_of_lt_mul (lt_of_lt_of_eq t.isLt (by decide : grid0.N = 4 * 4))

abbrev X : FVec Ideal S8192x1024 .f32 := m ((c : Thread nD τ).loc main_arg0)
abbrev Y : FVec Ideal S8192x2048 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 4 ∧ 2048 = 4 * 512 := by decide

/-- A row of a block, and a column of a block of columns. -/
abbrev row (n : ℕ) (r : Fin 2048) : Fin 8192 := WeightSum.row 4 2048 8192 rows n r
abbrev col (n : ℕ) (q : Fin 512) : Fin 2048 := WeightSum.col 4 4 512 2048 cols n q

theorem read_0 (t : Fin cfg0.N) (r : Fin 2048) (l : Fin 1024) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 4 512 2048 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 4 512 2048 cols _ (y 1) (runs t)

/-! ## The reference -/

open Cert

/-- The reference runs, leaves its arguments as they were and every counter at zero. -/
theorem frame_reference (m : (ℓ : Loc Reference7Ideal.nD Reference7Ideal.τ Reference7Ideal.sig) → Buf (Elt Ideal) ℓ)
    (ρ : Dev Reference7Ideal.nD → PrngReg) :
    θ_run (Reference7Ideal.defs (F := Ideal)) (onTc (τ := Reference7Ideal.τ) (Reference7Ideal.main (F := Ideal))) ⟨m, fun _ => 0, ρ⟩
      (fun r => (∀ c : Dev Reference7Ideal.nD,
        r.2.mem ((c.tc : Thread Reference7Ideal.nD Reference7Ideal.τ).loc Reference7Ideal.main_arg0) = m ((c.tc : Thread Reference7Ideal.nD Reference7Ideal.τ).loc Reference7Ideal.main_arg0)
        ∧ r.2.mem ((c.tc : Thread Reference7Ideal.nD Reference7Ideal.τ).loc Reference7Ideal.main_arg1) = m ((c.tc : Thread Reference7Ideal.nD Reference7Ideal.τ).loc Reference7Ideal.main_arg1))
      ∧ r.2.sem = fun _ => 0) :=
  (θ_run Reference7Ideal.defs _ _).mono (fun r h => ⟨fun c => (h c).2, sem_eq_zero_of_no_sems (by decide) r.2⟩)
    (Reference7Ideal.Value.run (F := Ideal) m ρ)

theorem reference (x : FVec Ideal S8192x1024 .f32) (y : FVec Ideal S8192x2048 .f32) :
    Reference7Ideal.Read.val_main_v4 (F := Ideal) x y = WeightSum.grad x y := by
  funext i
  rw [Reference7Ideal.Read.val_main_v4_apply, Reference7Ideal.Read.val_main_v3_apply, Reference7Ideal.Read.val_main_v2_apply]
  unfold WeightSum.grad
  refine Finset.sum_congr rfl fun k _ => (mul_comm _ _).trans (congrArg₂ (· * ·) ?_ ?_)
  · exact WeightSum.entry _ _ _ _ rfl rfl
  · exact WeightSum.entry _ _ _ _ rfl rfl

/-- The gradient is the reference's. -/
theorem algebraic : algebraic_Kernel7Ideal_Reference7Ideal (hKernel7Ideal := Kernel7Ideal.Gen.facts)
    (hReference7Ideal := Reference7Ideal.Gen.facts) := by
  intro m g m' g' _ ha
  refine ⟨_, (θ_run Kernel7Ideal.defs _ _).mono (fun r h c => ⟨(Kernel7Ideal.Value.post2 m r h c).trans (final m c),
    Kernel7Ideal.Value.kept_main_arg0 m r h c, Kernel7Ideal.Value.kept_main_arg1 m r h c⟩) (Kernel7Ideal.Gen.run_main m g), ?_⟩
  refine (θ_run Reference7Ideal.defs _ _).mono (fun r h c => ?_) (Reference7Ideal.Value.run (F := Ideal) m' g')
  obtain ⟨r0, hargs⟩ := h c
  obtain ⟨a0, a1⟩ := ha c
  refine ⟨r0.trans ?_, hargs⟩
  rw [Reference7Ideal.Read.val_main_v4_eq, a0, a1]
  exact reference _ _

end WeightGate

end

end
-- ==== Proof.WeightOut.lean ====
module

public import proofs.«01_k».proof.Proof.WeightSum
public import proofs.«01_k».proof.Proof.Gen.Kernel8Ideal.Value
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Defs
public import Idealize.ShloMosaic.Lib.Pipeline.ReadBack
public import Idealize.ShloMosaic.Adequacy

@[expose] public section

/-!
# The gradient of the weight of the output projection

A run of four points goes over the rows, 2048 at a time, and leaves 512 columns of the gradient.
-/

noncomputable section

open Idealize.ShloMosaic Idealize.ShloMosaic.TcCoe Idealize.SL.Sem
open Cert.Kernel8Ideal Cert.Kernel8Ideal.Gen

namespace WeightOut

theorem zeros (i : S1024x512.Idx) : k0_pay1 (F := Ideal) i = 0 := by
  unfold k0_pay1
  pointwise

theorem adds (a : Vec Ideal S1024x512 .f32) (x : Vec Ideal S2048x1024 .bf16) (y : Vec Ideal S2048x512 .bf16) (i : S1024x512.Idx) :
    k0_pay2 a x y i = a i + WeightSum.part x y i := by
  obtain ⟨p, q, rfl⟩ : ∃ (p : Fin 1024) (q : Fin 512), i = ix2 p q := ⟨_, _, eq_ix2 i⟩
  unfold k0_pay2 WeightSum.part
  pointwise

theorem stores (a : Vec Ideal S1024x512 .f32) : k0_pay3 a = a := by
  unfold k0_pay3
  rfl

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 2 := Nat.div_lt_of_lt_mul (lt_of_lt_of_eq t.isLt (by decide : grid0.N = 4 * 2))

abbrev X : FVec Ideal S8192x1024 .f32 := m ((c : Thread nD τ).loc main_arg0)
abbrev Y : FVec Ideal S8192x1024 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 2 ∧ 1024 = 2 * 512 := by decide

/-- A row of a block, and a column of a block of columns. -/
abbrev row (n : ℕ) (r : Fin 2048) : Fin 8192 := WeightSum.row 4 2048 8192 rows n r
abbrev col (n : ℕ) (q : Fin 512) : Fin 1024 := WeightSum.col 4 2 512 1024 cols n q

theorem read_0 (t : Fin cfg0.N) (r : Fin 2048) (l : Fin 1024) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 2 512 1024 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 2 512 1024 cols _ (y 1) (runs t)

/-! ## The reference -/

open Cert

/-- The reference runs, leaves its arguments as they were and every counter at zero. -/
theorem frame_reference (m : (ℓ : Loc Reference8Ideal.nD Reference8Ideal.τ Reference8Ideal.sig) → Buf (Elt Ideal) ℓ)
    (ρ : Dev Reference8Ideal.nD → PrngReg) :
    θ_run (Reference8Ideal.defs (F := Ideal)) (onTc (τ := Reference8Ideal.τ) (Reference8Ideal.main (F := Ideal))) ⟨m, fun _ => 0, ρ⟩
      (fun r => (∀ c : Dev Reference8Ideal.nD,
        r.2.mem ((c.tc : Thread Reference8Ideal.nD Reference8Ideal.τ).loc Reference8Ideal.main_arg0) = m ((c.tc : Thread Reference8Ideal.nD Reference8Ideal.τ).loc Reference8Ideal.main_arg0)
        ∧ r.2.mem ((c.tc : Thread Reference8Ideal.nD Reference8Ideal.τ).loc Reference8Ideal.main_arg1) = m ((c.tc : Thread Reference8Ideal.nD Reference8Ideal.τ).loc Reference8Ideal.main_arg1))
      ∧ r.2.sem = fun _ => 0) :=
  (θ_run Reference8Ideal.defs _ _).mono (fun r h => ⟨fun c => (h c).2, sem_eq_zero_of_no_sems (by decide) r.2⟩)
    (Reference8Ideal.Value.run (F := Ideal) m ρ)

theorem reference (x : FVec Ideal S8192x1024 .f32) (y : FVec Ideal S8192x1024 .f32) :
    Reference8Ideal.Read.val_main_v4 (F := Ideal) x y = WeightSum.grad x y := by
  funext i
  rw [Reference8Ideal.Read.val_main_v4_apply, Reference8Ideal.Read.val_main_v3_apply, Reference8Ideal.Read.val_main_v2_apply]
  unfold WeightSum.grad
  refine Finset.sum_congr rfl fun k _ => (mul_comm _ _).trans (congrArg₂ (· * ·) ?_ ?_)
  · exact WeightSum.entry _ _ _ _ rfl rfl
  · exact WeightSum.entry _ _ _ _ rfl rfl

/-- The gradient is the reference's. -/
theorem algebraic : algebraic_Kernel8Ideal_Reference8Ideal (hKernel8Ideal := Kernel8Ideal.Gen.facts)
    (hReference8Ideal := Reference8Ideal.Gen.facts) := by
  intro m g m' g' _ ha
  refine ⟨_, (θ_run Kernel8Ideal.defs _ _).mono (fun r h c => ⟨(Kernel8Ideal.Value.post2 m r h c).trans (final m c),
    Kernel8Ideal.Value.kept_main_arg0 m r h c, Kernel8Ideal.Value.kept_main_arg1 m r h c⟩) (Kernel8Ideal.Gen.run_main m g), ?_⟩
  refine (θ_run Reference8Ideal.defs _ _).mono (fun r h c => ?_) (Reference8Ideal.Value.run (F := Ideal) m' g')
  obtain ⟨r0, hargs⟩ := h c
  obtain ⟨a0, a1⟩ := ha c
  refine ⟨r0.trans ?_, hargs⟩
  rw [Reference8Ideal.Read.val_main_v4_eq, a0, a1]
  exact reference _ _

end WeightOut

end

end
-- ==== Proof.LossHead.lean ====
module

public import proofs.«01_k».proof.Proof.WeightSum
public import proofs.«01_k».proof.Proof.Gen.Kernel9Ideal.Value
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.FfnRef
public import proofs.«01_k».proof.Defs
public import Idealize.ShloMosaic.Lib.Pipeline.ReadBack
public import Idealize.ShloMosaic.Adequacy

@[expose] public section

/-!
# The loss and its gradient

Sixteen points go over the rows, 512 at a time. Each writes its rows of the gradient, and adds half its rows' mean
squares to the loss. The arguments may be infinite: half a sum is the sum of the halves all the same, because half is
neither negative nor infinite.
-/

noncomputable section

open Idealize.ShloMosaic Idealize.ShloMosaic.TcCoe Idealize.SL.Sem
open Cert.Kernel9Ideal Cert.Kernel9Ideal.Gen

namespace LossHead

/-! ## The constants -/

theorem half_bits : Ideal.ofBits .f32 0x3F000000#32 = ((1 / 2 : ℝ) : EReal) := by
  simp [Ideal.ofBits, Ideal.ieee]
  rw [← EReal.coe_mul]
  norm_num

theorem one_bits : Ideal.ofBits .f32 0x3F800000#32 = ((1 : ℝ) : EReal) := by
  simp [Ideal.ofBits, Ideal.ieee]
  rw [← EReal.coe_mul]
  norm_num

theorem nth_bits : Ideal.ofBits .f32 0x3A800000#32 = ((1 / 1024 : ℝ) : EReal) := FfnSpec.consts.choose_spec.nth

theorem width_bits : Ideal.ofBits .f32 0x44800000#32 = ((1024 : ℝ) : EReal) := FfnRef.width_bits

theorem two_bits : Ideal.ofBits .f32 0x40000000#32 = ((2 : ℝ) : EReal) := FfnSpec.consts.choose_spec.two

/-- A real that is not negative times a sum. -/
theorem mul_sum {ι : Type} (s : Finset ι) (f : ι → EReal) (a : ℝ) (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-! ## What is computed -/

section Rows

variable {T : ℕ} (X Y : (⟨2, ![T, 1024]⟩ : Shape).Idx → EReal)

/-- The mean square of a row of the difference. -/
def mean (r : Fin T) : EReal := (∑ l : Fin 1024, (X (ix2 r l) - Y (ix2 r l)) * (X (ix2 r l) - Y (ix2 r l))) * ((1 / 1024 : ℝ) : EReal)

/-- The gradient for an entry. -/
def grad (i : (⟨2, ![T, 1024]⟩ : Shape).Idx) : EReal := (X i - Y i) * ((1 / 1024 : ℝ) : EReal)

end Rows

/-! ## The kernel -/

theorem zeros (i : S8x128.Idx) : k0_pay3 (F := Ideal) i = 0 := by
  unfold k0_pay3
  pointwise

theorem rows_out (x y : Vec Ideal S512x1024 .f32) (i : S512x1024.Idx) : k0_pay2 x y i = grad x y i := by
  unfold k0_pay2 k0_pay1 grad
  rw [← nth_bits]
  rfl

theorem adds (x y : Vec Ideal S512x1024 .f32) (a : Vec Ideal S8x128 .f32) (i : S8x128.Idx) :
    k0_pay4 x y a i = a i + ((1 / 2 : ℝ) : EReal) * ∑ r : Fin 512, mean x y r := by
  obtain ⟨p, q, rfl⟩ : ∃ (p : Fin 8) (q : Fin 128), i = ix2 p q := ⟨_, _, eq_ix2 i⟩
  unfold k0_pay4 k0_pay1 mean
  rw [← nth_bits, ← half_bits]
  pointwise

variable (m : (ℓ : Loc nD τ sig) → Buf (Elt Ideal) ℓ) (c : Dev nD)

theorem step_rows (t : Fin cfg0.N) : (outsAt0 m c t.val t.isLt).1 = k0_pay2 (iblk m c 0 t) (iblk m c 1 t) := by
  by_cases h : t.val % 16 = 0
  · rw [outsAt0_A m c t h]
    frame_out
  · rw [outsAt0_B m c t h]
    frame_out

theorem first (t : Fin cfg0.N) (h : t.val % 16 = 0) :
    (outsAt0 m c t.val t.isLt).2 = k0_pay4 (iblk m c 0 t) (iblk m c 1 t) (k0_pay3 (F := Ideal)) := by
  rw [outsAt0_A m c t h]
  frame_out

theorem next (t : Fin cfg0.N) (h : ¬ t.val % 16 = 0) :
    (outsAt0 m c t.val t.isLt).2 =
      k0_pay4 (iblk m c 0 t) (iblk m c 1 t) (outsAt0 m c (t.val - 1) (Nat.lt_of_le_of_lt (Nat.sub_le _ _) t.isLt)).2 := by
  rw [outsAt0_B m c t h]
  frame_out

theorem index_0 : ∀ t : Fin cfg0.N, win0_0.index t = ![t.val % 16, 0] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![t.val % 16, 0] := (by decide +kernel : ∀ t : Fin grid0.N, _)
theorem index_3 : ∀ t : Fin cfg0.N, win0_3.index t = ![0, 0] := (by decide +kernel : ∀ t : Fin grid0.N, _)

abbrev X : FVec Ideal S8192x1024 .f32 := m ((c : Thread nD τ).loc main_arg0)
abbrev Y : FVec Ideal S8192x1024 .f32 := m ((c : Thread nD τ).loc main_arg1)

theorem rows : 0 < 16 ∧ 8192 = 16 * 512 := by decide

/-- A row of a block. -/
abbrev row (n : ℕ) (r : Fin 512) : Fin 8192 := WeightSum.row 16 512 8192 rows n r

theorem read_0 (t : Fin cfg0.N) (r : Fin 512) (l : Fin 1024) : iblk m c 0 t (ix2 r l) = X m c (ix2 (row t.val r) l) := by
  refine WeightSum.entry (X m c) _ _ _ ?_ ?_
  · blk_simp [index_0 t]; rfl
  · blk_simp [index_0 t]

theorem read_1 (t : Fin cfg0.N) (r : Fin 512) (l : Fin 1024) : iblk m c 1 t (ix2 r l) = Y m c (ix2 (row t.val r) l) := by
  refine WeightSum.entry (Y m c) _ _ _ ?_ ?_
  · blk_simp [index_1 t]; rfl
  · blk_simp [index_1 t]

theorem final_rows : (dats m 0 c).arrAt 2 cfg0.N = grad (X m c) (Y m c) := by
  refine (dats m 0 c).arrAt_eq_of_covers 2 _ (by decide +kernel) fun t hf y => ?_
  blk_simp
  rw [after0_2, step_rows]
  refine (rows_out _ _ y).trans ?_
  obtain ⟨r, l, rfl⟩ : ∃ (r : Fin 512) (l : Fin 1024), y = ix2 r l := ⟨_, _, eq_ix2 y⟩
  refine Eq.trans ?_ (WeightSum.entry (grad (X m c) (Y m c)) _ (row t.val r) l (by blk_simp [index_2 t]; rfl) (by blk_simp [index_2 t])).symm
  unfold grad
  rw [read_0, read_1]

/-- Where the loss stands after a point. -/
theorem reached (i : S8x128.Idx) (n : ℕ) (hn : n < cfg0.N) : (outsAt0 m c n hn).2 i =
    ∑ x ∈ Finset.range (n % 16 + 1), ((1 / 2 : ℝ) : EReal) * ∑ r, mean (X m c) (Y m c) (row (n / 16 * 16 + x) r) := by
  have e : ∀ (t : Fin cfg0.N), ((1 / 2 : ℝ) : EReal) * ∑ r, mean (iblk m c 0 t) (iblk m c 1 t) r =
      ((1 / 2 : ℝ) : EReal) * ∑ r, mean (X m c) (Y m c) (row t.val r) := fun t => by
    simp only [mean, read_0, read_1]
  refine WeightSum.run_sum (by decide) (fun n hn => (outsAt0 m c n hn).2 i)
    (fun n => ((1 / 2 : ℝ) : EReal) * ∑ r, mean (X m c) (Y m c) (row n r)) ?_ ?_ n hn
  · intro n hn h
    refine (congrFun (first m c ⟨n, hn⟩ h) i).trans ((adds _ _ _ i).trans ?_)
    rw [zeros, e]
  · intro n hn h
    refine (congrFun (next m c ⟨n, hn⟩ h) i).trans ((adds _ _ _ i).trans ?_)
    rw [e]

theorem final_loss : (dats m 0 c).arrAt 3 cfg0.N = fun _ => ((1 / 2 : ℝ) : EReal) * ∑ r, mean (X m c) (Y m c) r := by
  refine (dats m 0 c).arrAt_eq_of_covers 3 _ (by decide +kernel) fun t hf y => ?_
  have h := (flush0_3 t).mp hf
  blk_simp
  rw [after0_3]
  refine (reached m c y t.val t.isLt).trans ?_
  rw [h, ← mul_sum _ _ _ (by norm_num), WeightSum.sum_rows rows (t.val / 16) fun r => mean (X m c) (Y m c) r]

/-! ## The reference -/

open Cert Reference9Ideal.Read

variable (x y : FVec Ideal S8192x1024 .f32)

theorem reference_rows : val_main_v14 (F := Ideal) x y = grad x y := by
  funext i
  rw [val_main_v14_apply, val_main_v13_apply, val_main_v12_apply, val_main_v10_apply, val_main_v9_apply, val_main_v11_apply, val_main_v3_apply,
    val_main_v2_apply, val_main_v0_apply]
  refine (congrArg (· * _) (FfnRef.div_real (FfnRef.mul_real half_bits one_bits) width_bits (by norm_num))).trans ?_
  show _ * (Ideal.ofBits .f32 0x40000000#32 * (x i - y i)) = (x i - y i) * _
  rw [two_bits, ← mul_assoc, ← EReal.coe_mul, mul_comm]
  norm_num

/-- The mean square of a row, as the reference takes it. -/
theorem reference_mean (r : Fin 8192) : val_main_v6 (F := Ideal) x y (ix1 r) = mean x y r := by
  rw [val_main_v6_apply, val_main_v4_apply, val_main_v5_apply]
  show Ideal.div (_ + _) (Ideal.ofBits .f32 0x44800000#32) = _
  rw [width_bits, Ideal.div_coe (by norm_num), val_main_cst_0_apply, FfnRef.zero_bits, EReal.coe_zero, zero_add]
  refine congrArg (· * _) (Finset.sum_congr rfl fun l _ => ?_)
  have e : idx_main_v4 (ix1 r) l = ix2 r l := eq_ix2 _
  rw [val_main_v1_apply, val_main_v0_apply, e]
  rfl

theorem reference_loss : val_main_v15 (F := Ideal) x y = fun _ => ((1 / 2 : ℝ) : EReal) * ∑ r, mean x y r := by
  funext i
  rw [val_main_v15_apply, val_main_v8_apply, val_main_v7_apply, sum_idx1, val_main_cst_2_apply, FfnRef.zero_bits, EReal.coe_zero, zero_add]
  exact congrArg₂ (· * ·) half_bits (Finset.sum_congr rfl fun r _ => reference_mean x y r)

/-- The reference runs, leaves its arguments as they were and every counter at zero. -/
theorem frame_reference (m : (ℓ : Loc Reference9Ideal.nD Reference9Ideal.τ Reference9Ideal.sig) → Buf (Elt Ideal) ℓ)
    (ρ : Dev Reference9Ideal.nD → PrngReg) :
    θ_run (Reference9Ideal.defs (F := Ideal)) (onTc (τ := Reference9Ideal.τ) (Reference9Ideal.main (F := Ideal))) ⟨m, fun _ => 0, ρ⟩
      (fun r => (∀ c : Dev Reference9Ideal.nD,
        r.2.mem ((c.tc : Thread Reference9Ideal.nD Reference9Ideal.τ).loc Reference9Ideal.main_arg0) = m ((c.tc : Thread Reference9Ideal.nD Reference9Ideal.τ).loc Reference9Ideal.main_arg0)
        ∧ r.2.mem ((c.tc : Thread Reference9Ideal.nD Reference9Ideal.τ).loc Reference9Ideal.main_arg1) = m ((c.tc : Thread Reference9Ideal.nD Reference9Ideal.τ).loc Reference9Ideal.main_arg1))
      ∧ r.2.sem = fun _ => 0) :=
  (θ_run Reference9Ideal.defs _ _).mono (fun r h => ⟨fun c => (h c).2.2, sem_eq_zero_of_no_sems (by decide) r.2⟩)
    (Reference9Ideal.Value.run (F := Ideal) m ρ)

/-- The gradient and the loss are the reference's. -/
theorem algebraic : algebraic_Kernel9Ideal_Reference9Ideal (hKernel9Ideal := Kernel9Ideal.Gen.facts)
    (hReference9Ideal := Reference9Ideal.Gen.facts) := by
  intro m g m' g' _ ha
  refine ⟨_, _, (θ_run Kernel9Ideal.defs _ _).mono (fun r h c => ⟨(h c).1.trans (final_rows m c), (h c).2.1.trans (final_loss m c),
    (h c).2.2⟩) (Kernel9Ideal.Value.run_blocks (F := Ideal) m g), ?_⟩
  refine (θ_run Reference9Ideal.defs _ _).mono (fun r h c => ?_) (Reference9Ideal.Value.run (F := Ideal) m' g')
  obtain ⟨r0, r1, hargs⟩ := h c
  obtain ⟨a0, a1⟩ := ha c
  refine ⟨r0.trans ?_, r1.trans ?_, hargs⟩
  · rw [Reference9Ideal.Read.val_main_v14_eq, a0, a1]
    exact reference_rows _ _
  · rw [Reference9Ideal.Read.val_main_v15_eq, a0, a1]
    exact reference_loss _ _

end LossHead

end

end
-- ==== Proof.StepWeight.lean ====
module

public import proofs.«01_k».proof.Proof.Gen.Kernel10Ideal.Value
public import proofs.«01_k».proof.Proof.Gen.Reference10Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Defs
public import Idealize.ShloMosaic.Adequacy

@[expose] public section

/-!
# The step of a large weight

The kernel goes over the weight block by block. Each entry of its results depends on one entry of each argument, as
in the reference, and the two write the same expression for it: the arrays that their runs leave unfold to the same terms.
-/

noncomputable section

open Idealize.ShloMosaic Idealize.ShloMosaic.TcCoe Idealize.SL.Sem Cert

namespace StepWeight

/-! ## The references run, leave their arguments as they were and every counter at zero -/

theorem frame_ffn_up : quiescent_Reference10Ideal (hReference10Ideal := Reference10Ideal.Gen.facts) := fun m ρ _ =>
  (θ_run Reference10Ideal.defs _ _).mono (fun r h => ⟨fun c => (h c).2.2.2.2, sem_eq_zero_of_no_sems (by decide) r.2⟩)
    (Reference10Ideal.Value.run (F := Ideal) m ρ)

theorem frame_in : quiescent_Reference12Ideal (hReference12Ideal := Reference12Ideal.Gen.facts) := fun m ρ _ =>
  (θ_run Reference12Ideal.defs _ _).mono (fun r h => ⟨fun c => (h c).2.2.2.2, sem_eq_zero_of_no_sems (by decide) r.2⟩)
    (Reference12Ideal.Value.run (F := Ideal) m ρ)

theorem frame_q_up : quiescent_Reference13Ideal (hReference13Ideal := Reference13Ideal.Gen.facts) := fun m ρ _ =>
  (θ_run Reference13Ideal.defs _ _).mono (fun r h => ⟨fun c => (h c).2.2.2.2, sem_eq_zero_of_no_sems (by decide) r.2⟩)
    (Reference13Ideal.Value.run (F := Ideal) m ρ)

theorem frame_kv_up : quiescent_Reference14Ideal (hReference14Ideal := Reference14Ideal.Gen.facts) := fun m ρ _ =>
  (θ_run Reference14Ideal.defs _ _).mono (fun r h => ⟨fun c => (h c).2.2.2.2, sem_eq_zero_of_no_sems (by decide) r.2⟩)
    (Reference14Ideal.Value.run (F := Ideal) m ρ)

theorem frame_branch_a : quiescent_Reference15Ideal (hReference15Ideal := Reference15Ideal.Gen.facts) := fun m ρ _ =>
  (θ_run Reference15Ideal.defs _ _).mono (fun r h => ⟨fun c => (h c).2.2.2.2, sem_eq_zero_of_no_sems (by decide) r.2⟩)
    (Reference15Ideal.Value.run (F := Ideal) m ρ)

theorem frame_branch_b : quiescent_Reference16Ideal (hReference16Ideal := Reference16Ideal.Gen.facts) := fun m ρ _ =>
  (θ_run Reference16Ideal.defs _ _).mono (fun r h => ⟨fun c => (h c).2.2.2.2, sem_eq_zero_of_no_sems (by decide) r.2⟩)
    (Reference16Ideal.Value.run (F := Ideal) m ρ)

theorem frame_o : quiescent_Reference17Ideal (hReference17Ideal := Reference17Ideal.Gen.facts) := fun m ρ _ =>
  (θ_run Reference17Ideal.defs _ _).mono (fun r h => ⟨fun c => (h c).2.2.2.2, sem_eq_zero_of_no_sems (by decide) r.2⟩)
    (Reference17Ideal.Value.run (F := Ideal) m ρ)

theorem frame_ffn_down : quiescent_Reference18Ideal (hReference18Ideal := Reference18Ideal.Gen.facts) := fun m ρ _ =>
  (θ_run Reference18Ideal.defs _ _).mono (fun r h => ⟨fun c => (h c).2.2.2.2, sem_eq_zero_of_no_sems (by decide) r.2⟩)
    (Reference18Ideal.Value.run (F := Ideal) m ρ)

/-! ## The gradient, the change and both moments are the reference's -/

theorem step_ffn_up : algebraic_Kernel10Ideal_Reference10Ideal (hKernel10Ideal := Kernel10Ideal.Gen.facts)
    (hReference10Ideal := Reference10Ideal.Gen.facts) := by
  intro m g m' g' _ ha
  refine ⟨_, _, _, _, Kernel10Ideal.Value.run (F := Ideal) m g,
    (θ_run Reference10Ideal.defs _ _).mono (fun r h c => ?_) (Reference10Ideal.Value.run (F := Ideal) m' g')⟩
  obtain ⟨r0, r1, r2, r3, hargs⟩ := h c
  obtain ⟨a0, a1, a2, a3, a4⟩ := ha c
  simp only [a0, a1, a2, a3, a4] at r0 r1 r2 r3
  exact ⟨r0, r1, r2, r3, hargs⟩

theorem step_in : algebraic_Kernel12Ideal_Reference12Ideal (hKernel12Ideal := Kernel12Ideal.Gen.facts)
    (hReference12Ideal := Reference12Ideal.Gen.facts) := by
  intro m g m' g' _ ha
  refine ⟨_, _, _, _, Kernel12Ideal.Value.run (F := Ideal) m g,
    (θ_run Reference12Ideal.defs _ _).mono (fun r h c => ?_) (Reference12Ideal.Value.run (F := Ideal) m' g')⟩
  obtain ⟨r0, r1, r2, r3, hargs⟩ := h c
  obtain ⟨a0, a1, a2, a3, a4⟩ := ha c
  simp only [a0, a1, a2, a3, a4] at r0 r1 r2 r3
  exact ⟨r0, r1, r2, r3, hargs⟩

theorem step_q_up : algebraic_Kernel13Ideal_Reference13Ideal (hKernel13Ideal := Kernel13Ideal.Gen.facts)
    (hReference13Ideal := Reference13Ideal.Gen.facts) := by
  intro m g m' g' _ ha
  refine ⟨_, _, _, _, Kernel13Ideal.Value.run (F := Ideal) m g,
    (θ_run Reference13Ideal.defs _ _).mono (fun r h c => ?_) (Reference13Ideal.Value.run (F := Ideal) m' g')⟩
  obtain ⟨r0, r1, r2, r3, hargs⟩ := h c
  obtain ⟨a0, a1, a2, a3, a4⟩ := ha c
  simp only [a0, a1, a2, a3, a4] at r0 r1 r2 r3
  exact ⟨r0, r1, r2, r3, hargs⟩

theorem step_kv_up : algebraic_Kernel14Ideal_Reference14Ideal (hKernel14Ideal := Kernel14Ideal.Gen.facts)
    (hReference14Ideal := Reference14Ideal.Gen.facts) := by
  intro m g m' g' _ ha
  refine ⟨_, _, _, _, Kernel14Ideal.Value.run (F := Ideal) m g,
    (θ_run Reference14Ideal.defs _ _).mono (fun r h c => ?_) (Reference14Ideal.Value.run (F := Ideal) m' g')⟩
  obtain ⟨r0, r1, r2, r3, hargs⟩ := h c
  obtain ⟨a0, a1, a2, a3, a4⟩ := ha c
  simp only [a0, a1, a2, a3, a4] at r0 r1 r2 r3
  exact ⟨r0, r1, r2, r3, hargs⟩

theorem step_branch_a : algebraic_Kernel15Ideal_Reference15Ideal (hKernel15Ideal := Kernel15Ideal.Gen.facts)
    (hReference15Ideal := Reference15Ideal.Gen.facts) := by
  intro m g m' g' _ ha
  refine ⟨_, _, _, _, Kernel15Ideal.Value.run (F := Ideal) m g,
    (θ_run Reference15Ideal.defs _ _).mono (fun r h c => ?_) (Reference15Ideal.Value.run (F := Ideal) m' g')⟩
  obtain ⟨r0, r1, r2, r3, hargs⟩ := h c
  obtain ⟨a0, a1, a2, a3, a4⟩ := ha c
  simp only [a0, a1, a2, a3, a4] at r0 r1 r2 r3
  exact ⟨r0, r1, r2, r3, hargs⟩

theorem step_branch_b : algebraic_Kernel16Ideal_Reference16Ideal (hKernel16Ideal := Kernel16Ideal.Gen.facts)
    (hReference16Ideal := Reference16Ideal.Gen.facts) := by
  intro m g m' g' _ ha
  refine ⟨_, _, _, _, Kernel16Ideal.Value.run (F := Ideal) m g,
    (θ_run Reference16Ideal.defs _ _).mono (fun r h c => ?_) (Reference16Ideal.Value.run (F := Ideal) m' g')⟩
  obtain ⟨r0, r1, r2, r3, hargs⟩ := h c
  obtain ⟨a0, a1, a2, a3, a4⟩ := ha c
  simp only [a0, a1, a2, a3, a4] at r0 r1 r2 r3
  exact ⟨r0, r1, r2, r3, hargs⟩

theorem step_o : algebraic_Kernel17Ideal_Reference17Ideal (hKernel17Ideal := Kernel17Ideal.Gen.facts)
    (hReference17Ideal := Reference17Ideal.Gen.facts) := by
  intro m g m' g' _ ha
  refine ⟨_, _, _, _, Kernel17Ideal.Value.run (F := Ideal) m g,
    (θ_run Reference17Ideal.defs _ _).mono (fun r h c => ?_) (Reference17Ideal.Value.run (F := Ideal) m' g')⟩
  obtain ⟨r0, r1, r2, r3, hargs⟩ := h c
  obtain ⟨a0, a1, a2, a3, a4⟩ := ha c
  simp only [a0, a1, a2, a3, a4] at r0 r1 r2 r3
  exact ⟨r0, r1, r2, r3, hargs⟩

theorem step_ffn_down : algebraic_Kernel18Ideal_Reference18Ideal (hKernel18Ideal := Kernel18Ideal.Gen.facts)
    (hReference18Ideal := Reference18Ideal.Gen.facts) := by
  intro m g m' g' _ ha
  refine ⟨_, _, _, _, Kernel18Ideal.Value.run (F := Ideal) m g,
    (θ_run Reference18Ideal.defs _ _).mono (fun r h c => ?_) (Reference18Ideal.Value.run (F := Ideal) m' g')⟩
  obtain ⟨r0, r1, r2, r3, hargs⟩ := h c
  obtain ⟨a0, a1, a2, a3, a4⟩ := ha c
  simp only [a0, a1, a2, a3, a4] at r0 r1 r2 r3
  exact ⟨r0, r1, r2, r3, hargs⟩

end StepWeight

end

end
-- ==== Proof.StepSmall.lean ====
module

public import proofs.«01_k».proof.Proof.Gen.Kernel11Ideal.Value
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Defs
public import Idealize.ShloMosaic.Adequacy

@[expose] public section

/-!
# The step of the small weights

The weights lie packed in one array, and their gradients come from eight devices. The kernel adds the eight one after
another, and the rest of the step is entry by entry, as in the reference.
-/

noncomputable section

open Idealize.ShloMosaic Idealize.ShloMosaic.TcCoe Idealize.SL.Sem Cert

namespace StepSmall

/-- The reference runs, leaves its arguments as they were and every counter at zero. -/
theorem frame_reference (m : (ℓ : Loc Reference11Ideal.nD Reference11Ideal.τ Reference11Ideal.sig) → Buf (Elt Ideal) ℓ)
    (ρ : Dev Reference11Ideal.nD → PrngReg) :
    θ_run (Reference11Ideal.defs (F := Ideal)) (onTc (τ := Reference11Ideal.τ) (Reference11Ideal.main (F := Ideal))) ⟨m, fun _ => 0, ρ⟩
      (fun r => (∀ c : Dev Reference11Ideal.nD,
        r.2.mem ((c.tc : Thread Reference11Ideal.nD Reference11Ideal.τ).loc Reference11Ideal.main_arg0) = m ((c.tc : Thread Reference11Ideal.nD Reference11Ideal.τ).loc Reference11Ideal.main_arg0)
        ∧ r.2.mem ((c.tc : Thread Reference11Ideal.nD Reference11Ideal.τ).loc Reference11Ideal.main_arg1) = m ((c.tc : Thread Reference11Ideal.nD Reference11Ideal.τ).loc Reference11Ideal.main_arg1)
        ∧ r.2.mem ((c.tc : Thread Reference11Ideal.nD Reference11Ideal.τ).loc Reference11Ideal.main_arg2) = m ((c.tc : Thread Reference11Ideal.nD Reference11Ideal.τ).loc Reference11Ideal.main_arg2)
        ∧ r.2.mem ((c.tc : Thread Reference11Ideal.nD Reference11Ideal.τ).loc Reference11Ideal.main_arg3) = m ((c.tc : Thread Reference11Ideal.nD Reference11Ideal.τ).loc Reference11Ideal.main_arg3))
      ∧ r.2.sem = fun _ => 0) :=
  (θ_run Reference11Ideal.defs _ _).mono (fun r h => ⟨fun c => (h c).2.2.2.2, sem_eq_zero_of_no_sems (by decide) r.2⟩)
    (Reference11Ideal.Value.run (F := Ideal) m ρ)

section Entries

open Kernel11Ideal Kernel11Ideal.Gen Reference11Ideal.Read

variable (w : FVec Ideal S216x128 .f32) (gs : FVec Ideal S8x216x128 .f32) (x v : FVec Ideal S216x128 .f32)

/-- The eight loads, added one after another, are the sum over the devices. -/
theorem gradient : k0_pay7 (F := Ideal) w gs x v = val_main_v0 (F := Ideal) gs := by
  funext i
  rw [val_main_v0_apply, Fin.sum_univ_eight, val_main_cst_apply]
  refine (Kernel11Ideal.Value.piece4_0 _ _ _ _ _ _ _ _ i).trans ?_
  have e : ∀ (r : Rect S8x216x128) (p : r.shape.Idx) (k : Fin 8), (r.idx p 0).val = k.val → (r.idx p 1).val = (i 0).val → (r.idx p 2).val = (i 1).val →
      View.ld (Val := Elt Ideal) (e' := .f32) gs r p = gs (idx_main_v0 i k) := fun r p k h0 h1 h2 => congrArg gs (funext fun a => Fin.ext (by fin_cases a <;> assumption))
  have z : ∀ a : ℕ, 0 + 1 * (0 + 1 * a) = a := fun a => by omega
  unfold Kernel11Ideal.Value.E4
  rw [e r0_0 _ 0, e r0_1 _ 1, e r0_2 _ 2, e r0_3 _ 3, e r0_4 _ 4, e r0_5 _ 5, e r0_6 _ 6, e r0_7 _ 7]
  · exact (congrArg (· + _) Ideal.ofBits_zero_f32).trans (zero_add _) |>.symm
  all_goals first
    | rfl
    | exact z (i 0).val
    | exact z (i 1).val

theorem moment : Kernel11Ideal.Value.G6 w gs x v = val_main_v5 (F := Ideal) gs x := by
  have e : k0_pay9 (F := Ideal) w gs x v = mulf (broadcast S216x128 (Scalar.ofBits .f32 0x3DCCCCCD#32)) (k0_pay7 w gs x v) := rfl
  have h : k0_pay8 (F := Ideal) w gs x v = k0_pay5 x := by
    unfold k0_pay8
    rw [View.ld_unit_zero (by funext a; fin_cases a <;> rfl)]
  unfold Kernel11Ideal.Value.G6
  rw [e, h, gradient]
  funext i
  simp only [val_main_v5_apply, val_main_v2_apply, val_main_v4_apply, val_main_v1_apply, val_main_v3_apply]
  rfl

theorem second : Kernel11Ideal.Value.G7 w gs x v = val_main_v11 (F := Ideal) gs v := by
  unfold Kernel11Ideal.Value.G7
  rw [gradient]
  funext i
  simp only [val_main_v11_apply, val_main_v10_apply, val_main_v9_apply, val_main_v8_apply, val_main_v7_apply, val_main_v6_apply]
  rfl

theorem change : Kernel11Ideal.Value.G5 w gs x v = val_main_v24 (F := Ideal) w gs x v := by
  funext i
  rw [val_main_v24_apply]
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, ← moment w gs x v, ← second w gs x v]
  rfl

end Entries

/-- The gradient, the change and both moments are the reference's. -/
theorem algebraic : algebraic_Kernel11Ideal_Reference11Ideal (hKernel11Ideal := Kernel11Ideal.Gen.facts)
    (hReference11Ideal := Reference11Ideal.Gen.facts) := by
  intro m g m' g' _ ha
  refine ⟨_, _, _, _, Kernel11Ideal.Value.run (F := Ideal) m g, ?_⟩
  refine (θ_run Reference11Ideal.defs _ _).mono (fun r h c => ?_) (Reference11Ideal.Value.run (F := Ideal) m' g')
  obtain ⟨r0, r1, r2, r3, hargs⟩ := h c
  obtain ⟨a0, a1, a2, a3⟩ := ha c
  refine ⟨r0.trans ?_, r1.trans ?_, r2.trans ?_, r3.trans ?_, hargs⟩
  · rw [Reference11Ideal.Read.val_main_v0_eq, a1]
    exact (gradient (m ((c : Thread Kernel11Ideal.nD Kernel11Ideal.τ).loc Kernel11Ideal.main_arg0)) _
      (m ((c : Thread Kernel11Ideal.nD Kernel11Ideal.τ).loc Kernel11Ideal.main_arg2)) (m ((c : Thread Kernel11Ideal.nD Kernel11Ideal.τ).loc Kernel11Ideal.main_arg3))).symm
  · rw [Reference11Ideal.Read.val_main_v24_eq, a0, a1, a2, a3]
    exact (change _ _ _ _).symm
  · rw [Reference11Ideal.Read.val_main_v5_eq, a1, a2]
    exact (moment _ _ _ _).symm
  · rw [Reference11Ideal.Read.val_main_v11_eq, a1, a3]
    exact (second _ _ _ _).symm

end StepSmall

end

end
-- ==== Proof.WeightBranchA.lean ====
module

public import proofs.«01_k».proof.Proof.WeightOut
public import proofs.«01_k».proof.Proof.Gen.Kernel19Ideal.Value
public import proofs.«01_k».proof.Proof.Gen.Kernel19Ideal
public import proofs.«01_k».proof.Proof.Gen.Reference19Ideal
public import proofs.«01_k».proof.Proof.Gen.Reference19Ideal.Run
public import proofs.«01_k».proof.Proof.Gen.Reference19Ideal.Read
public import proofs.«01_k».proof.Defs
public import Idealize.ShloMosaic.Lib.Pipeline.ReadBack
public import Idealize.ShloMosaic.Adequacy

@[expose] public section

/-!
# The gradient of the first branch's weight

A run of four points goes over the rows, 2048 at a time, and leaves 512 columns of the gradient.
-/

noncomputable section

open Idealize.ShloMosaic Idealize.ShloMosaic.TcCoe Idealize.SL.Sem
open Cert.Kernel19Ideal Cert.Kernel19Ideal.Gen

namespace WeightBranchA

theorem zeros (i : S1024x512.Idx) : k0_pay1 (F := Ideal) i = 0 := WeightOut.zeros i

theorem adds (a : Vec Ideal S1024x512 .f32) (x : Vec Ideal S2048x1024 .bf16) (y : Vec Ideal S2048x512 .bf16) (i : S1024x512.Idx) :
    k0_pay2 a x y i = a i + WeightSum.part x y i := WeightOut.adds a x y i

theorem stores (a : Vec Ideal S1024x512 .f32) : k0_pay3 a = a := WeightOut.stores a

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 2 := Nat.div_lt_of_lt_mul (lt_of_lt_of_eq t.isLt (by decide : grid0.N = 4 * 2))

abbrev X : FVec Ideal S8192x1024 .f32 := m ((c : Thread nD τ).loc main_arg0)
abbrev Y : FVec Ideal S8192x1024 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 2 ∧ 1024 = 2 * 512 := by decide

/-- A row of a block, and a column of a block of columns. -/
abbrev row (n : ℕ) (r : Fin 2048) : Fin 8192 := WeightSum.row 4 2048 8192 rows n r
abbrev col (n : ℕ) (q : Fin 512) : Fin 1024 := WeightSum.col 4 2 512 1024 cols n q

theorem read_0 (t : Fin cfg0.N) (r : Fin 2048) (l : Fin 1024) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 2 512 1024 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 2 512 1024 cols _ (y 1) (runs t)

/-! ## The reference -/

open Cert

/-- The reference runs, leaves its arguments as they were and every counter at zero. -/
theorem frame_reference : quiescent_Reference19Ideal (hReference19Ideal := Reference19Ideal.Gen.facts) := fun m ρ _ =>
  (θ_run Reference19Ideal.defs _ _).mono (fun r h => ⟨fun c => (h c).2, sem_eq_zero_of_no_sems (by decide) r.2⟩)
    (Reference19Ideal.Value.run (F := Ideal) m ρ)

theorem reference (x : FVec Ideal S8192x1024 .f32) (y : FVec Ideal S8192x1024 .f32) :
    Reference19Ideal.Read.val_main_v4 (F := Ideal) x y = WeightSum.grad x y := WeightOut.reference x y

/-- The gradient is the reference's. -/
theorem algebraic : algebraic_Kernel19Ideal_Reference19Ideal (hKernel19Ideal := Kernel19Ideal.Gen.facts)
    (hReference19Ideal := Reference19Ideal.Gen.facts) := by
  intro m g m' g' _ ha
  refine ⟨_, (θ_run Kernel19Ideal.defs _ _).mono (fun r h c => ⟨(Kernel19Ideal.Value.post2 m r h c).trans (final m c),
    Kernel19Ideal.Value.kept_main_arg0 m r h c, Kernel19Ideal.Value.kept_main_arg1 m r h c⟩) (Kernel19Ideal.Gen.run_main m g), ?_⟩
  refine (θ_run Reference19Ideal.defs _ _).mono (fun r h c => ?_) (Reference19Ideal.Value.run (F := Ideal) m' g')
  obtain ⟨r0, hargs⟩ := h c
  obtain ⟨a0, a1⟩ := ha c
  refine ⟨r0.trans ?_, hargs⟩
  rw [Reference19Ideal.Read.val_main_v4_eq, a0, a1]
  exact reference _ _

end WeightBranchA

end

end
-- ==== Proof.WeightBranchB.lean ====
module

public import proofs.«01_k».proof.Proof.WeightOut
public import proofs.«01_k».proof.Proof.Gen.Kernel20Ideal.Value
public import proofs.«01_k».proof.Proof.Gen.Kernel20Ideal
public import proofs.«01_k».proof.Proof.Gen.Reference20Ideal
public import proofs.«01_k».proof.Proof.Gen.Reference20Ideal.Run
public import proofs.«01_k».proof.Proof.Gen.Reference20Ideal.Read
public import proofs.«01_k».proof.Defs
public import Idealize.ShloMosaic.Lib.Pipeline.ReadBack
public import Idealize.ShloMosaic.Adequacy

@[expose] public section

/-!
# The gradient of the second branch's weight

A run of four points goes over the rows, 2048 at a time, and leaves 512 columns of the gradient.
-/

noncomputable section

open Idealize.ShloMosaic Idealize.ShloMosaic.TcCoe Idealize.SL.Sem
open Cert.Kernel20Ideal Cert.Kernel20Ideal.Gen

namespace WeightBranchB

theorem zeros (i : S1024x512.Idx) : k0_pay1 (F := Ideal) i = 0 := WeightOut.zeros i

theorem adds (a : Vec Ideal S1024x512 .f32) (x : Vec Ideal S2048x1024 .bf16) (y : Vec Ideal S2048x512 .bf16) (i : S1024x512.Idx) :
    k0_pay2 a x y i = a i + WeightSum.part x y i := WeightOut.adds a x y i

theorem stores (a : Vec Ideal S1024x512 .f32) : k0_pay3 a = a := WeightOut.stores a

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 2 := Nat.div_lt_of_lt_mul (lt_of_lt_of_eq t.isLt (by decide : grid0.N = 4 * 2))

abbrev X : FVec Ideal S8192x1024 .f32 := m ((c : Thread nD τ).loc main_arg0)
abbrev Y : FVec Ideal S8192x1024 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 2 ∧ 1024 = 2 * 512 := by decide

/-- A row of a block, and a column of a block of columns. -/
abbrev row (n : ℕ) (r : Fin 2048) : Fin 8192 := WeightSum.row 4 2048 8192 rows n r
abbrev col (n : ℕ) (q : Fin 512) : Fin 1024 := WeightSum.col 4 2 512 1024 cols n q

theorem read_0 (t : Fin cfg0.N) (r : Fin 2048) (l : Fin 1024) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 2 512 1024 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 2 512 1024 cols _ (y 1) (runs t)

/-! ## The reference -/

open Cert

/-- The reference runs, leaves its arguments as they were and every counter at zero. -/
theorem frame_reference : quiescent_Reference20Ideal (hReference20Ideal := Reference20Ideal.Gen.facts) := fun m ρ _ =>
  (θ_run Reference20Ideal.defs _ _).mono (fun r h => ⟨fun c => (h c).2, sem_eq_zero_of_no_sems (by decide) r.2⟩)
    (Reference20Ideal.Value.run (F := Ideal) m ρ)

theorem reference (x : FVec Ideal S8192x1024 .f32) (y : FVec Ideal S8192x1024 .f32) :
    Reference20Ideal.Read.val_main_v4 (F := Ideal) x y = WeightSum.grad x y := WeightOut.reference x y

/-- The gradient is the reference's. -/
theorem algebraic : algebraic_Kernel20Ideal_Reference20Ideal (hKernel20Ideal := Kernel20Ideal.Gen.facts)
    (hReference20Ideal := Reference20Ideal.Gen.facts) := by
  intro m g m' g' _ ha
  refine ⟨_, (θ_run Kernel20Ideal.defs _ _).mono (fun r h c => ⟨(Kernel20Ideal.Value.post2 m r h c).trans (final m c),
    Kernel20Ideal.Value.kept_main_arg0 m r h c, Kernel20Ideal.Value.kept_main_arg1 m r h c⟩) (Kernel20Ideal.Gen.run_main m g), ?_⟩
  refine (θ_run Reference20Ideal.defs _ _).mono (fun r h c => ?_) (Reference20Ideal.Value.run (F := Ideal) m' g')
  obtain ⟨r0, hargs⟩ := h c
  obtain ⟨a0, a1⟩ := ha c
  refine ⟨r0.trans ?_, hargs⟩
  rw [Reference20Ideal.Read.val_main_v4_eq, a0, a1]
  exact reference _ _

end WeightBranchB

end

end
-- ==== Proof.WeightQUp.lean ====
module

public import proofs.«01_k».proof.Proof.WeightSum
public import proofs.«01_k».proof.Proof.Gen.Kernel21Ideal.Value
public import proofs.«01_k».proof.Proof.Gen.Kernel21Ideal
public import proofs.«01_k».proof.Proof.Gen.Reference21Ideal
public import proofs.«01_k».proof.Proof.Gen.Reference21Ideal.Run
public import proofs.«01_k».proof.Proof.Gen.Reference21Ideal.Read
public import proofs.«01_k».proof.Defs
public import Idealize.ShloMosaic.Lib.Pipeline.ReadBack
public import Idealize.ShloMosaic.Adequacy

@[expose] public section

/-!
# The gradient of the weight from the queries' latent

A run of four points goes over the rows, 2048 at a time, and leaves 512 columns of the gradient.
-/

noncomputable section

open Idealize.ShloMosaic Idealize.ShloMosaic.TcCoe Idealize.SL.Sem
open Cert.Kernel21Ideal Cert.Kernel21Ideal.Gen

namespace WeightQUp

theorem zeros (i : S384x512.Idx) : k0_pay1 (F := Ideal) i = 0 := by
  unfold k0_pay1
  pointwise

theorem adds (a : Vec Ideal S384x512 .f32) (x : Vec Ideal S2048x384 .bf16) (y : Vec Ideal S2048x512 .bf16) (i : S384x512.Idx) :
    k0_pay2 a x y i = a i + WeightSum.part x y i := by
  obtain ⟨p, q, rfl⟩ : ∃ (p : Fin 384) (q : Fin 512), i = ix2 p q := ⟨_, _, eq_ix2 i⟩
  unfold k0_pay2 WeightSum.part
  pointwise

theorem stores (a : Vec Ideal S384x512 .f32) : k0_pay3 a = a := by
  unfold k0_pay3
  rfl

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 2 := Nat.div_lt_of_lt_mul (lt_of_lt_of_eq t.isLt (by decide : grid0.N = 4 * 2))

abbrev X : FVec Ideal S8192x384 .f32 := m ((c : Thread nD τ).loc main_arg0)
abbrev Y : FVec Ideal S8192x1024 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 2 ∧ 1024 = 2 * 512 := by decide

/-- A row of a block, and a column of a block of columns. -/
abbrev row (n : ℕ) (r : Fin 2048) : Fin 8192 := WeightSum.row 4 2048 8192 rows n r
abbrev col (n : ℕ) (q : Fin 512) : Fin 1024 := WeightSum.col 4 2 512 1024 cols n q

theorem read_0 (t : Fin cfg0.N) (r : Fin 2048) (l : Fin 384) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 2 512 1024 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 2 512 1024 cols _ (y 1) (runs t)

/-! ## The reference -/

open Cert

/-- The reference runs, leaves its arguments as they were and every counter at zero. -/
theorem frame_reference : quiescent_Reference21Ideal (hReference21Ideal := Reference21Ideal.Gen.facts) := fun m ρ _ =>
  (θ_run Reference21Ideal.defs _ _).mono (fun r h => ⟨fun c => (h c).2, sem_eq_zero_of_no_sems (by decide) r.2⟩)
    (Reference21Ideal.Value.run (F := Ideal) m ρ)

theorem reference (x : FVec Ideal S8192x384 .f32) (y : FVec Ideal S8192x1024 .f32) :
    Reference21Ideal.Read.val_main_v4 (F := Ideal) x y = WeightSum.grad x y := by
  funext i
  rw [Reference21Ideal.Read.val_main_v4_apply, Reference21Ideal.Read.val_main_v3_apply, Reference21Ideal.Read.val_main_v2_apply]
  unfold WeightSum.grad
  refine Finset.sum_congr rfl fun k _ => (mul_comm _ _).trans (congrArg₂ (· * ·) ?_ ?_)
  · exact WeightSum.entry _ _ _ _ rfl rfl
  · exact WeightSum.entry _ _ _ _ rfl rfl

/-- The gradient is the reference's. -/
theorem algebraic : algebraic_Kernel21Ideal_Reference21Ideal (hKernel21Ideal := Kernel21Ideal.Gen.facts)
    (hReference21Ideal := Reference21Ideal.Gen.facts) := by
  intro m g m' g' _ ha
  refine ⟨_, (θ_run Kernel21Ideal.defs _ _).mono (fun r h c => ⟨(Kernel21Ideal.Value.post2 m r h c).trans (final m c),
    Kernel21Ideal.Value.kept_main_arg0 m r h c, Kernel21Ideal.Value.kept_main_arg1 m r h c⟩) (Kernel21Ideal.Gen.run_main m g), ?_⟩
  refine (θ_run Reference21Ideal.defs _ _).mono (fun r h c => ?_) (Reference21Ideal.Value.run (F := Ideal) m' g')
  obtain ⟨r0, hargs⟩ := h c
  obtain ⟨a0, a1⟩ := ha c
  refine ⟨r0.trans ?_, hargs⟩
  rw [Reference21Ideal.Read.val_main_v4_eq, a0, a1]
  exact reference _ _

end WeightQUp

end

end
-- ==== Proof.WeightKUp.lean ====
module

public import proofs.«01_k».proof.Proof.WeightSum
public import proofs.«01_k».proof.Proof.Gen.Kernel22Ideal.Value
public import proofs.«01_k».proof.Proof.Gen.Kernel22Ideal
public import proofs.«01_k».proof.Proof.Gen.Reference22Ideal
public import proofs.«01_k».proof.Proof.Gen.Reference22Ideal.Run
public import proofs.«01_k».proof.Proof.Gen.Reference22Ideal.Read
public import proofs.«01_k».proof.Defs
public import Idealize.ShloMosaic.Lib.Pipeline.ReadBack
public import Idealize.ShloMosaic.Adequacy

@[expose] public section

/-!
# The gradient of the keys' weight from the latent

A run of four points goes over the rows, 2048 at a time, and leaves 512 columns of the gradient.
-/

noncomputable section

open Idealize.ShloMosaic Idealize.ShloMosaic.TcCoe Idealize.SL.Sem
open Cert.Kernel22Ideal Cert.Kernel22Ideal.Gen

namespace WeightKUp

theorem zeros (i : S256x512.Idx) : k0_pay1 (F := Ideal) i = 0 := by
  unfold k0_pay1
  pointwise

theorem adds (a : Vec Ideal S256x512 .f32) (x : Vec Ideal S2048x256 .bf16) (y : Vec Ideal S2048x512 .bf16) (i : S256x512.Idx) :
    k0_pay2 a x y i = a i + WeightSum.part x y i := by
  obtain ⟨p, q, rfl⟩ : ∃ (p : Fin 256) (q : Fin 512), i = ix2 p q := ⟨_, _, eq_ix2 i⟩
  unfold k0_pay2 WeightSum.part
  pointwise

theorem stores (a : Vec Ideal S256x512 .f32) : k0_pay3 a = a := by
  unfold k0_pay3
  rfl

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 2 := Nat.div_lt_of_lt_mul (lt_of_lt_of_eq t.isLt (by decide : grid0.N = 4 * 2))

abbrev X : FVec Ideal S8192x256 .f32 := m ((c : Thread nD τ).loc main_arg0)
abbrev Y : FVec Ideal S8192x1024 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 2 ∧ 1024 = 2 * 512 := by decide

/-- A row of a block, and a column of a block of columns. -/
abbrev row (n : ℕ) (r : Fin 2048) : Fin 8192 := WeightSum.row 4 2048 8192 rows n r
abbrev col (n : ℕ) (q : Fin 512) : Fin 1024 := WeightSum.col 4 2 512 1024 cols n q

theorem read_0 (t : Fin cfg0.N) (r : Fin 2048) (l : Fin 256) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 2 512 1024 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 2 512 1024 cols _ (y 1) (runs t)

/-! ## The reference -/

open Cert

/-- The reference runs, leaves its arguments as they were and every counter at zero. -/
theorem frame_reference : quiescent_Reference22Ideal (hReference22Ideal := Reference22Ideal.Gen.facts) := fun m ρ _ =>
  (θ_run Reference22Ideal.defs _ _).mono (fun r h => ⟨fun c => (h c).2, sem_eq_zero_of_no_sems (by decide) r.2⟩)
    (Reference22Ideal.Value.run (F := Ideal) m ρ)

theorem reference (x : FVec Ideal S8192x256 .f32) (y : FVec Ideal S8192x1024 .f32) :
    Reference22Ideal.Read.val_main_v4 (F := Ideal) x y = WeightSum.grad x y := by
  funext i
  rw [Reference22Ideal.Read.val_main_v4_apply, Reference22Ideal.Read.val_main_v3_apply, Reference22Ideal.Read.val_main_v2_apply]
  unfold WeightSum.grad
  refine Finset.sum_congr rfl fun k _ => (mul_comm _ _).trans (congrArg₂ (· * ·) ?_ ?_)
  · exact WeightSum.entry _ _ _ _ rfl rfl
  · exact WeightSum.entry _ _ _ _ rfl rfl

/-- The gradient is the reference's. -/
theorem algebraic : algebraic_Kernel22Ideal_Reference22Ideal (hKernel22Ideal := Kernel22Ideal.Gen.facts)
    (hReference22Ideal := Reference22Ideal.Gen.facts) := by
  intro m g m' g' _ ha
  refine ⟨_, (θ_run Kernel22Ideal.defs _ _).mono (fun r h c => ⟨(Kernel22Ideal.Value.post2 m r h c).trans (final m c),
    Kernel22Ideal.Value.kept_main_arg0 m r h c, Kernel22Ideal.Value.kept_main_arg1 m r h c⟩) (Kernel22Ideal.Gen.run_main m g), ?_⟩
  refine (θ_run Reference22Ideal.defs _ _).mono (fun r h c => ?_) (Reference22Ideal.Value.run (F := Ideal) m' g')
  obtain ⟨r0, hargs⟩ := h c
  obtain ⟨a0, a1⟩ := ha c
  refine ⟨r0.trans ?_, hargs⟩
  rw [Reference22Ideal.Read.val_main_v4_eq, a0, a1]
  exact reference _ _

end WeightKUp

end

end
-- ==== Proof.WeightVUp.lean ====
module

public import proofs.«01_k».proof.Proof.WeightKUp
public import proofs.«01_k».proof.Proof.Gen.Kernel23Ideal.Value
public import proofs.«01_k».proof.Proof.Gen.Kernel23Ideal
public import proofs.«01_k».proof.Proof.Gen.Reference23Ideal
public import proofs.«01_k».proof.Proof.Gen.Reference23Ideal.Run
public import proofs.«01_k».proof.Proof.Gen.Reference23Ideal.Read
public import proofs.«01_k».proof.Defs
public import Idealize.ShloMosaic.Lib.Pipeline.ReadBack
public import Idealize.ShloMosaic.Adequacy

@[expose] public section

/-!
# The gradient of the values' weight from the latent

A run of four points goes over the rows, 2048 at a time, and leaves 512 columns of the gradient.
-/

noncomputable section

open Idealize.ShloMosaic Idealize.ShloMosaic.TcCoe Idealize.SL.Sem
open Cert.Kernel23Ideal Cert.Kernel23Ideal.Gen

namespace WeightVUp

theorem zeros (i : S256x512.Idx) : k0_pay1 (F := Ideal) i = 0 := WeightKUp.zeros i

theorem adds (a : Vec Ideal S256x512 .f32) (x : Vec Ideal S2048x256 .bf16) (y : Vec Ideal S2048x512 .bf16) (i : S256x512.Idx) :
    k0_pay2 a x y i = a i + WeightSum.part x y i := WeightKUp.adds a x y i

theorem stores (a : Vec Ideal S256x512 .f32) : k0_pay3 a = a := WeightKUp.stores a

variable (m : (ℓ : Loc nD τ sig) → Buf (Elt Ideal) ℓ) (c : Dev nD)

theorem first (t : Fin cfg0.N) (h : t.val % 4 = 0) :
    (outsAt0 m c t.val t.isLt).2 = k0_pay2 (k0_pay1 (F := Ideal)) (iblk m c 0 t) (iblk m c 1 t) := by
  rw [outsAt0_A m c t h (by omega)]
  frame_out

theorem next (t : Fin cfg0.N) (h : ¬ t.val % 4 = 0) :
    (outsAt0 m c t.val t.isLt).2 =
      k0_pay2 (outsAt0 m c (t.val - 1) (Nat.lt_of_le_of_lt (Nat.sub_le _ _) t.isLt)).2 (iblk m c 0 t) (iblk m c 1 t) := by
  by_cases h3 : t.val % 4 = 3
  · rw [outsAt0_C m c t h h3]
    frame_out
    rw [read_unread_whole]
  · rw [outsAt0_B m c t h h3]
    frame_out
    rw [read_unread_whole]

/-- A run's last point stores the sum it has reached. -/
theorem last (t : Fin cfg0.N) (h : t.val % 4 = 3) : (outsAt0 m c t.val t.isLt).1 = (outsAt0 m c t.val t.isLt).2 := by
  rw [next m c t (by omega), outsAt0_C m c t (by omega) h]
  refine Eq.trans ?_ (stores _)
  frame_out
  rw [read_unread_whole]

theorem index_0 : ∀ t : Fin cfg0.N, win0_0.index t = ![t.val % 4, 0] := (by decide +kernel : ∀ t : Fin grid0.N, _)
theorem index_1 : ∀ t : Fin cfg0.N, win0_1.index t = ![t.val % 4, t.val / 4] := (by decide +kernel : ∀ t : Fin grid0.N, _)
theorem index_2 : ∀ t : Fin cfg0.N, win0_2.index t = ![0, t.val / 4] := (by decide +kernel : ∀ t : Fin grid0.N, _)
theorem runs (t : Fin cfg0.N) : t.val / 4 < 2 := Nat.div_lt_of_lt_mul (lt_of_lt_of_eq t.isLt (by decide : grid0.N = 4 * 2))

abbrev X : FVec Ideal S8192x256 .f32 := m ((c : Thread nD τ).loc main_arg0)
abbrev Y : FVec Ideal S8192x1024 .f32 := m ((c : Thread nD τ).loc main_arg1)

/-- The casts before the call change nothing. -/
theorem held_0 : V m c main_v0 = X m c := by
  show StableHlo.after hostOps0 (fun b => m (c, b)) (Proc.devRef .tc main_v0) = _
  after_results_simp
  rfl

theorem held_1 : V m c main_v1 = Y m c := by
  show StableHlo.after hostOps0 (fun b => m (c, b)) (Proc.devRef .tc main_v1) = _
  after_results_simp
  rfl

theorem rows : 0 < 4 ∧ 8192 = 4 * 2048 := by decide
theorem cols : 0 < 2 ∧ 1024 = 2 * 512 := by decide

/-- A row of a block, and a column of a block of columns. -/
abbrev row (n : ℕ) (r : Fin 2048) : Fin 8192 := WeightSum.row 4 2048 8192 rows n r
abbrev col (n : ℕ) (q : Fin 512) : Fin 1024 := WeightSum.col 4 2 512 1024 cols n q

theorem read_0 (t : Fin cfg0.N) (r : Fin 2048) (l : Fin 256) : iblk m c 0 t (ix2 r l) = X m c (ix2 (row t.val r) l) := by
  refine (congrFun (held_0 m c) _).trans (WeightSum.entry _ _ _ _ ?_ ?_)
  · blk_simp [index_0 t]; rfl
  · blk_simp [index_0 t]

theorem read_1 (t : Fin cfg0.N) (r : Fin 2048) (q : Fin 512) : iblk m c 1 t (ix2 r q) = Y m c (ix2 (row t.val r) (col t.val q)) := by
  refine (congrFun (held_1 m c) _).trans (WeightSum.entry _ _ _ _ ?_ ?_)
  · blk_simp [index_1 t]; rfl
  · blk_simp [index_1 t]; exact WeightSum.col_val 4 2 512 1024 cols _ q (runs t)

theorem final : (dats m 0 c).arrAt 2 cfg0.N = WeightSum.grad (X m c) (Y m c) := by
  refine (dats m 0 c).arrAt_eq_of_covers 2 _ (by decide +kernel) fun t hf y => ?_
  have h3 := (flush0_2 t).mp hf
  blk_simp
  rw [after0_2, last m c t h3]
  refine WeightSum.reached rows cols (X m c) (Y m c) (fun n hn => (outsAt0 m c n hn).2) (fun n hn => iblk m c 0 ⟨n, hn⟩)
    (fun n hn => iblk m c 1 ⟨n, hn⟩) ?_ ?_ (fun n hn => read_0 m c ⟨n, hn⟩) (fun n hn => read_1 m c ⟨n, hn⟩) t.val t.isLt (by omega) y _ ?_ ?_
  · exact fun n hn i h => (congrFun (first m c ⟨n, hn⟩ h) i).trans ((adds _ _ _ i).trans (congrArg (· + _) (zeros i)))
  · exact fun n hn i h => (congrFun (next m c ⟨n, hn⟩ h) i).trans (adds _ _ _ i)
  · blk_simp [index_2 t]
  · blk_simp [index_2 t]; exact WeightSum.col_val 4 2 512 1024 cols _ (y 1) (runs t)

/-! ## The reference -/

open Cert

/-- The reference runs, leaves its arguments as they were and every counter at zero. -/
theorem frame_reference : quiescent_Reference23Ideal (hReference23Ideal := Reference23Ideal.Gen.facts) := fun m ρ _ =>
  (θ_run Reference23Ideal.defs _ _).mono (fun r h => ⟨fun c => (h c).2, sem_eq_zero_of_no_sems (by decide) r.2⟩)
    (Reference23Ideal.Value.run (F := Ideal) m ρ)

theorem reference (x : FVec Ideal S8192x256 .f32) (y : FVec Ideal S8192x1024 .f32) :
    Reference23Ideal.Read.val_main_v4 (F := Ideal) x y = WeightSum.grad x y := WeightKUp.reference x y

/-- The gradient is the reference's. -/
theorem algebraic : algebraic_Kernel23Ideal_Reference23Ideal (hKernel23Ideal := Kernel23Ideal.Gen.facts)
    (hReference23Ideal := Reference23Ideal.Gen.facts) := by
  intro m g m' g' _ ha
  refine ⟨_, (θ_run Kernel23Ideal.defs _ _).mono (fun r h c => ⟨(Kernel23Ideal.Value.post2 m r h c).trans (final m c),
    Kernel23Ideal.Value.kept_main_arg0 m r h c, Kernel23Ideal.Value.kept_main_arg1 m r h c⟩) (Kernel23Ideal.Gen.run_main m g), ?_⟩
  refine (θ_run Reference23Ideal.defs _ _).mono (fun r h c => ?_) (Reference23Ideal.Value.run (F := Ideal) m' g')
  obtain ⟨r0, hargs⟩ := h c
  obtain ⟨a0, a1⟩ := ha c
  refine ⟨r0.trans ?_, hargs⟩
  rw [Reference23Ideal.Read.val_main_v4_eq, a0, a1]
  exact reference _ _

end WeightVUp

end

end
-- ==== Proof.ChipSum.lean ====
module

public import proofs.«01_k».proof.Proof.WeightSum
public import Idealize.ShloMosaic.Lib.ValueIdx
public import Idealize.ShloMosaic.Lib.Pipeline.ReadBack
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31Ideal.Value
public import proofs.«01_k».proof.Proof.Gen.Reference31Ideal.Run
public import proofs.«01_k».proof.Proof.Gen.Reference31Ideal.Read
public import proofs.«01_k».proof.Defs
public import Idealize.ShloMosaic.Adequacy

@[expose] public section

/-!
# The sum of a gradient over the chips

The kernel takes 512 rows of the four chips' arrays at a time and adds them one after another. What is true of any
sizes comes first; then, for each weight, where a block lies in its arrays.
-/

noncomputable section

open Idealize.ShloMosaic Idealize.ShloMosaic.TcCoe Idealize.SL.Sem Cert

namespace ChipSum

section Sizes

variable {R C : ℕ} (a : FVec Ideal ⟨3, ![4, R, C]⟩ .bf16) (i : Shape.Idx ⟨2, ![R, C]⟩)

/-- The sum of four arrays that lie one after another. -/
def total : FVec Ideal ⟨2, ![R, C]⟩ .f32 := fun i => ∑ k : Fin 4, a (ix3 k (i 0) (i 1))

/-- Four entries added one after another are an entry of the sum. -/
theorem four (p : Fin 4 → EReal) (h : ∀ k, p k = a (ix3 k (i 0) (i 1))) : p 0 + p 1 + p 2 + p 3 = total a i := by
  unfold total
  rw [Fin.sum_univ_four, h, h, h, h]

/-- So is their sum that starts from zero. -/
theorem host (p : Fin 4 → EReal) (h : ∀ k, p k = a (ix3 k (i 0) (i 1))) :
    (FloatOps.ofBits (F := Ideal) .f32 0x00000000#32 : EReal) + ∑ k, p k = total a i :=
  ((congrArg (· + _) Ideal.ofBits_zero_f32).trans (zero_add _)).trans (Finset.sum_congr rfl fun k _ => h k)

/-- An entry of an array of `b` rows, `n` rows down in the four arrays, is theirs. -/
theorem place {b : ℕ} (e : Shape.Idx ⟨3, ![4, R, C]⟩) (j : Shape.Idx ⟨3, ![4, b, C]⟩) (k : Fin 4) (y : Shape.Idx ⟨2, ![b, C]⟩) (n : ℕ)
    (e0 : (e 0).val = (j 0).val) (e1 : (e 1).val = n + (j 1).val) (e2 : (e 2).val = (j 2).val) (i0 : (i 0).val = n + (y 0).val) (i1 : (i 1).val = (y 1).val)
    (h : (j 0).val = k.val ∧ (j 1).val = (y 0).val ∧ (j 2).val = (y 1).val) : a e = a (ix3 k (i 0) (i 1)) := by
  refine congrArg a (funext fun x => Fin.ext ?_)
  fin_cases x
  · exact e0.trans h.1
  · exact e1.trans ((congrArg (n + ·) h.2.1).trans i0.symm)
  · exact e2.trans (h.2.2.trans i1.symm)

theorem step (n : ℕ) : 0 + 1 * n = n := by omega

end Sizes

/-! ## Of the input projection -/

namespace In

open Kernel24Ideal Kernel24Ideal.Gen

variable (m : (ℓ : Loc nD τ sig) → Buf (Elt Ideal) ℓ) (c : Dev nD)

theorem final : (dats m 0 c).arrAt 1 cfg0.N = total (R := 4096) (C := 872) (m ((c : Thread nD τ).loc main_arg0)) := by
  refine (dats m 0 c).arrAt_eq_of_covers 1 _ (by decide +kernel) fun t hf y => ?_
  have w0 := (by decide +kernel : ∀ t : Fin grid0.N, win0_0.index t = ![0, t.val, 0]) t
  have w1 := (by decide +kernel : ∀ t : Fin grid0.N, win0_1.index t = ![t.val, 0]) t
  have read : ∀ (j : S4x512x872.Idx) (k : Fin 4), (j 0).val = k.val ∧ (j 1).val = (y 0).val ∧ (j 2).val = (y 1).val →
      iblk m c 0 t j = m ((c : Thread nD τ).loc main_arg0) (ix3 k (((cfg0.win 1).blk t).view.emb y 0) (((cfg0.win 1).blk t).view.emb y 1)) :=
    fun j k => (congrFun (V_main_arg0 m c) _).trans ∘ place _ _ _ j k y (t.val * 512) (by blk_simp [w0]) (by blk_simp [w0]) (by blk_simp [w0])
      (by blk_simp [w1]) (by blk_simp [w1])
  blk_simp
  rw [after0_1]
  unfold out0_1
  rw [Value.canon1_eq]
  refine four _ _ ![_, _, _, _] fun k => ?_
  fin_cases k <;> exact read _ _ ⟨rfl, step _, step _⟩

theorem frame : quiescent_Reference24Ideal (hReference24Ideal := Reference24Ideal.Gen.facts) := fun m ρ _ =>
  (θ_run Reference24Ideal.defs _ _).mono (fun r h => ⟨fun c => (h c).2, sem_eq_zero_of_no_sems (by decide) r.2⟩)
    (Reference24Ideal.Value.run (F := Ideal) m ρ)

theorem algebraic : algebraic_Kernel24Ideal_Reference24Ideal (hKernel24Ideal := Kernel24Ideal.Gen.facts)
    (hReference24Ideal := Reference24Ideal.Gen.facts) := by
  intro m g m' g' _ ha
  refine ⟨_, (θ_run Kernel24Ideal.defs _ _).mono (fun r h c => ⟨(h c).1.trans (final m c), (h c).2⟩) (Kernel24Ideal.Value.run_blocks (F := Ideal) m g),
    (θ_run Reference24Ideal.defs _ _).mono (fun r h c => ?_) (Reference24Ideal.Value.run (F := Ideal) m' g')⟩
  have r0 := (h c).1
  rw [Reference24Ideal.Read.val_main_v1_eq, ha c] at r0
  exact ⟨r0.trans (funext fun i => (Reference24Ideal.Read.val_main_v1_apply _ i).trans (host _ i _ fun k => congrArg _ (eq_ix3 _))), (h c).2⟩

end In

/-! ## Of the queries' weight -/

namespace QUp

open Kernel25Ideal Kernel25Ideal.Gen

variable (m : (ℓ : Loc nD τ sig) → Buf (Elt Ideal) ℓ) (c : Dev nD)

theorem final : (dats m 0 c).arrAt 1 cfg0.N = total (R := 1536) (C := 192) (m ((c : Thread nD τ).loc main_arg0)) := by
  refine (dats m 0 c).arrAt_eq_of_covers 1 _ (by decide +kernel) fun t hf y => ?_
  have w0 := (by decide +kernel : ∀ t : Fin grid0.N, win0_0.index t = ![0, t.val, 0]) t
  have w1 := (by decide +kernel : ∀ t : Fin grid0.N, win0_1.index t = ![t.val, 0]) t
  have read : ∀ (j : S4x512x192.Idx) (k : Fin 4), (j 0).val = k.val ∧ (j 1).val = (y 0).val ∧ (j 2).val = (y 1).val →
      iblk m c 0 t j = m ((c : Thread nD τ).loc main_arg0) (ix3 k (((cfg0.win 1).blk t).view.emb y 0) (((cfg0.win 1).blk t).view.emb y 1)) :=
    fun j k => (congrFun (V_main_arg0 m c) _).trans ∘ place _ _ _ j k y (t.val * 512) (by blk_simp [w0]) (by blk_simp [w0]) (by blk_simp [w0])
      (by blk_simp [w1]) (by blk_simp [w1])
  blk_simp
  rw [after0_1]
  unfold out0_1
  rw [Value.canon1_eq]
  refine four _ _ ![_, _, _, _] fun k => ?_
  fin_cases k <;> exact read _ _ ⟨rfl, step _, step _⟩

theorem frame : quiescent_Reference25Ideal (hReference25Ideal := Reference25Ideal.Gen.facts) := fun m ρ _ =>
  (θ_run Reference25Ideal.defs _ _).mono (fun r h => ⟨fun c => (h c).2, sem_eq_zero_of_no_sems (by decide) r.2⟩)
    (Reference25Ideal.Value.run (F := Ideal) m ρ)

theorem algebraic : algebraic_Kernel25Ideal_Reference25Ideal (hKernel25Ideal := Kernel25Ideal.Gen.facts)
    (hReference25Ideal := Reference25Ideal.Gen.facts) := by
  intro m g m' g' _ ha
  refine ⟨_, (θ_run Kernel25Ideal.defs _ _).mono (fun r h c => ⟨(h c).1.trans (final m c), (h c).2⟩) (Kernel25Ideal.Value.run_blocks (F := Ideal) m g),
    (θ_run Reference25Ideal.defs _ _).mono (fun r h c => ?_) (Reference25Ideal.Value.run (F := Ideal) m' g')⟩
  have r0 := (h c).1
  rw [Reference25Ideal.Read.val_main_v1_eq, ha c] at r0
  exact ⟨r0.trans (funext fun i => (Reference25Ideal.Read.val_main_v1_apply _ i).trans (host _ i _ fun k => congrArg _ (eq_ix3 _))), (h c).2⟩

end QUp

/-! ## Of the keys' and values' weight -/

namespace KvUp

open Kernel26Ideal Kernel26Ideal.Gen

variable (m : (ℓ : Loc nD τ sig) → Buf (Elt Ideal) ℓ) (c : Dev nD)

theorem final : (dats m 0 c).arrAt 1 cfg0.N = total (R := 1024) (C := 256) (m ((c : Thread nD τ).loc main_arg0)) := by
  refine (dats m 0 c).arrAt_eq_of_covers 1 _ (by decide +kernel) fun t hf y => ?_
  have w0 := (by decide +kernel : ∀ t : Fin grid0.N, win0_0.index t = ![0, t.val, 0]) t
  have w1 := (by decide +kernel : ∀ t : Fin grid0.N, win0_1.index t = ![t.val, 0]) t
  have read : ∀ (j : S4x512x256.Idx) (k : Fin 4), (j 0).val = k.val ∧ (j 1).val = (y 0).val ∧ (j 2).val = (y 1).val →
      iblk m c 0 t j = m ((c : Thread nD τ).loc main_arg0) (ix3 k (((cfg0.win 1).blk t).view.emb y 0) (((cfg0.win 1).blk t).view.emb y 1)) :=
    fun j k => (congrFun (V_main_arg0 m c) _).trans ∘ place _ _ _ j k y (t.val * 512) (by blk_simp [w0]) (by blk_simp [w0]) (by blk_simp [w0])
      (by blk_simp [w1]) (by blk_simp [w1])
  blk_simp
  rw [after0_1]
  unfold out0_1
  rw [Value.canon1_eq]
  refine four _ _ ![_, _, _, _] fun k => ?_
  fin_cases k <;> exact read _ _ ⟨rfl, step _, step _⟩

theorem frame : quiescent_Reference26Ideal (hReference26Ideal := Reference26Ideal.Gen.facts) := fun m ρ _ =>
  (θ_run Reference26Ideal.defs _ _).mono (fun r h => ⟨fun c => (h c).2, sem_eq_zero_of_no_sems (by decide) r.2⟩)
    (Reference26Ideal.Value.run (F := Ideal) m ρ)

theorem algebraic : algebraic_Kernel26Ideal_Reference26Ideal (hKernel26Ideal := Kernel26Ideal.Gen.facts)
    (hReference26Ideal := Reference26Ideal.Gen.facts) := by
  intro m g m' g' _ ha
  refine ⟨_, (θ_run Kernel26Ideal.defs _ _).mono (fun r h c => ⟨(h c).1.trans (final m c), (h c).2⟩) (Kernel26Ideal.Value.run_blocks (F := Ideal) m g),
    (θ_run Reference26Ideal.defs _ _).mono (fun r h c => ?_) (Reference26Ideal.Value.run (F := Ideal) m' g')⟩
  have r0 := (h c).1
  rw [Reference26Ideal.Read.val_main_v1_eq, ha c] at r0
  exact ⟨r0.trans (funext fun i => (Reference26Ideal.Read.val_main_v1_apply _ i).trans (host _ i _ fun k => congrArg _ (eq_ix3 _))), (h c).2⟩

end KvUp

/-! ## Of the first branch -/

namespace BranchA

open Kernel27Ideal Kernel27Ideal.Gen

variable (m : (ℓ : Loc nD τ sig) → Buf (Elt Ideal) ℓ) (c : Dev nD)

theorem final : (dats m 0 c).arrAt 1 cfg0.N = total (R := 2048) (C := 256) (m ((c : Thread nD τ).loc main_arg0)) := by
  refine (dats m 0 c).arrAt_eq_of_covers 1 _ (by decide +kernel) fun t hf y => ?_
  have w0 := (by decide +kernel : ∀ t : Fin grid0.N, win0_0.index t = ![0, t.val, 0]) t
  have w1 := (by decide +kernel : ∀ t : Fin grid0.N, win0_1.index t = ![t.val, 0]) t
  have read : ∀ (j : S4x512x256.Idx) (k : Fin 4), (j 0).val = k.val ∧ (j 1).val = (y 0).val ∧ (j 2).val = (y 1).val →
      iblk m c 0 t j = m ((c : Thread nD τ).loc main_arg0) (ix3 k (((cfg0.win 1).blk t).view.emb y 0) (((cfg0.win 1).blk t).view.emb y 1)) :=
    fun j k => (congrFun (V_main_arg0 m c) _).trans ∘ place _ _ _ j k y (t.val * 512) (by blk_simp [w0]) (by blk_simp [w0]) (by blk_simp [w0])
      (by blk_simp [w1]) (by blk_simp [w1])
  blk_simp
  rw [after0_1]
  unfold out0_1
  rw [Value.canon1_eq]
  refine four _ _ ![_, _, _, _] fun k => ?_
  fin_cases k <;> exact read _ _ ⟨rfl, step _, step _⟩

theorem frame : quiescent_Reference27Ideal (hReference27Ideal := Reference27Ideal.Gen.facts) := fun m ρ _ =>
  (θ_run Reference27Ideal.defs _ _).mono (fun r h => ⟨fun c => (h c).2, sem_eq_zero_of_no_sems (by decide) r.2⟩)
    (Reference27Ideal.Value.run (F := Ideal) m ρ)

theorem algebraic : algebraic_Kernel27Ideal_Reference27Ideal (hKernel27Ideal := Kernel27Ideal.Gen.facts)
    (hReference27Ideal := Reference27Ideal.Gen.facts) := by
  intro m g m' g' _ ha
  refine ⟨_, (θ_run Kernel27Ideal.defs _ _).mono (fun r h c => ⟨(h c).1.trans (final m c), (h c).2⟩) (Kernel27Ideal.Value.run_blocks (F := Ideal) m g),
    (θ_run Reference27Ideal.defs _ _).mono (fun r h c => ?_) (Reference27Ideal.Value.run (F := Ideal) m' g')⟩
  have r0 := (h c).1
  rw [Reference27Ideal.Read.val_main_v1_eq, ha c] at r0
  exact ⟨r0.trans (funext fun i => (Reference27Ideal.Read.val_main_v1_apply _ i).trans (host _ i _ fun k => congrArg _ (eq_ix3 _))), (h c).2⟩

end BranchA

/-! ## Of the second branch -/

namespace BranchB

open Kernel28Ideal Kernel28Ideal.Gen

variable (m : (ℓ : Loc nD τ sig) → Buf (Elt Ideal) ℓ) (c : Dev nD)

theorem final : (dats m 0 c).arrAt 1 cfg0.N = total (R := 2048) (C := 256) (m ((c : Thread nD τ).loc main_arg0)) := by
  refine (dats m 0 c).arrAt_eq_of_covers 1 _ (by decide +kernel) fun t hf y => ?_
  have w0 := (by decide +kernel : ∀ t : Fin grid0.N, win0_0.index t = ![0, t.val, 0]) t
  have w1 := (by decide +kernel : ∀ t : Fin grid0.N, win0_1.index t = ![t.val, 0]) t
  have read : ∀ (j : S4x512x256.Idx) (k : Fin 4), (j 0).val = k.val ∧ (j 1).val = (y 0).val ∧ (j 2).val = (y 1).val →
      iblk m c 0 t j = m ((c : Thread nD τ).loc main_arg0) (ix3 k (((cfg0.win 1).blk t).view.emb y 0) (((cfg0.win 1).blk t).view.emb y 1)) :=
    fun j k => (congrFun (V_main_arg0 m c) _).trans ∘ place _ _ _ j k y (t.val * 512) (by blk_simp [w0]) (by blk_simp [w0]) (by blk_simp [w0])
      (by blk_simp [w1]) (by blk_simp [w1])
  blk_simp
  rw [after0_1]
  unfold out0_1
  rw [Value.canon1_eq]
  refine four _ _ ![_, _, _, _] fun k => ?_
  fin_cases k <;> exact read _ _ ⟨rfl, step _, step _⟩

theorem frame : quiescent_Reference28Ideal (hReference28Ideal := Reference28Ideal.Gen.facts) := fun m ρ _ =>
  (θ_run Reference28Ideal.defs _ _).mono (fun r h => ⟨fun c => (h c).2, sem_eq_zero_of_no_sems (by decide) r.2⟩)
    (Reference28Ideal.Value.run (F := Ideal) m ρ)

theorem algebraic : algebraic_Kernel28Ideal_Reference28Ideal (hKernel28Ideal := Kernel28Ideal.Gen.facts)
    (hReference28Ideal := Reference28Ideal.Gen.facts) := by
  intro m g m' g' _ ha
  refine ⟨_, (θ_run Kernel28Ideal.defs _ _).mono (fun r h c => ⟨(h c).1.trans (final m c), (h c).2⟩) (Kernel28Ideal.Value.run_blocks (F := Ideal) m g),
    (θ_run Reference28Ideal.defs _ _).mono (fun r h c => ?_) (Reference28Ideal.Value.run (F := Ideal) m' g')⟩
  have r0 := (h c).1
  rw [Reference28Ideal.Read.val_main_v1_eq, ha c] at r0
  exact ⟨r0.trans (funext fun i => (Reference28Ideal.Read.val_main_v1_apply _ i).trans (host _ i _ fun k => congrArg _ (eq_ix3 _))), (h c).2⟩

end BranchB

/-! ## Of the output projection -/

namespace Out

open Kernel29Ideal Kernel29Ideal.Gen

variable (m : (ℓ : Loc nD τ sig) → Buf (Elt Ideal) ℓ) (c : Dev nD)

theorem final : (dats m 0 c).arrAt 1 cfg0.N = total (R := 1024) (C := 1024) (m ((c : Thread nD τ).loc main_arg0)) := by
  refine (dats m 0 c).arrAt_eq_of_covers 1 _ (by decide +kernel) fun t hf y => ?_
  have w0 := (by decide +kernel : ∀ t : Fin grid0.N, win0_0.index t = ![0, t.val, 0]) t
  have w1 := (by decide +kernel : ∀ t : Fin grid0.N, win0_1.index t = ![t.val, 0]) t
  have read : ∀ (j : S4x512x1024.Idx) (k : Fin 4), (j 0).val = k.val ∧ (j 1).val = (y 0).val ∧ (j 2).val = (y 1).val →
      iblk m c 0 t j = m ((c : Thread nD τ).loc main_arg0) (ix3 k (((cfg0.win 1).blk t).view.emb y 0) (((cfg0.win 1).blk t).view.emb y 1)) :=
    fun j k => (congrFun (V_main_arg0 m c) _).trans ∘ place _ _ _ j k y (t.val * 512) (by blk_simp [w0]) (by blk_simp [w0]) (by blk_simp [w0])
      (by blk_simp [w1]) (by blk_simp [w1])
  blk_simp
  rw [after0_1]
  unfold out0_1
  rw [Value.canon1_eq]
  refine four _ _ ![_, _, _, _] fun k => ?_
  fin_cases k <;> exact read _ _ ⟨rfl, step _, step _⟩

theorem frame : quiescent_Reference29Ideal (hReference29Ideal := Reference29Ideal.Gen.facts) := fun m ρ _ =>
  (θ_run Reference29Ideal.defs _ _).mono (fun r h => ⟨fun c => (h c).2, sem_eq_zero_of_no_sems (by decide) r.2⟩)
    (Reference29Ideal.Value.run (F := Ideal) m ρ)

theorem algebraic : algebraic_Kernel29Ideal_Reference29Ideal (hKernel29Ideal := Kernel29Ideal.Gen.facts)
    (hReference29Ideal := Reference29Ideal.Gen.facts) := by
  intro m g m' g' _ ha
  refine ⟨_, (θ_run Kernel29Ideal.defs _ _).mono (fun r h c => ⟨(h c).1.trans (final m c), (h c).2⟩) (Kernel29Ideal.Value.run_blocks (F := Ideal) m g),
    (θ_run Reference29Ideal.defs _ _).mono (fun r h c => ?_) (Reference29Ideal.Value.run (F := Ideal) m' g')⟩
  have r0 := (h c).1
  rw [Reference29Ideal.Read.val_main_v1_eq, ha c] at r0
  exact ⟨r0.trans (funext fun i => (Reference29Ideal.Read.val_main_v1_apply _ i).trans (host _ i _ fun k => congrArg _ (eq_ix3 _))), (h c).2⟩

end Out

/-! ## Of the first weight of the feed-forward part -/

namespace FfnUp

open Kernel30Ideal Kernel30Ideal.Gen

variable (m : (ℓ : Loc nD τ sig) → Buf (Elt Ideal) ℓ) (c : Dev nD)

theorem final : (dats m 0 c).arrAt 1 cfg0.N = total (R := 4096) (C := 1024) (m ((c : Thread nD τ).loc main_arg0)) := by
  refine (dats m 0 c).arrAt_eq_of_covers 1 _ (by decide +kernel) fun t hf y => ?_
  have w0 := (by decide +kernel : ∀ t : Fin grid0.N, win0_0.index t = ![0, t.val, 0]) t
  have w1 := (by decide +kernel : ∀ t : Fin grid0.N, win0_1.index t = ![t.val, 0]) t
  have read : ∀ (j : S4x512x1024.Idx) (k : Fin 4), (j 0).val = k.val ∧ (j 1).val = (y 0).val ∧ (j 2).val = (y 1).val →
      iblk m c 0 t j = m ((c : Thread nD τ).loc main_arg0) (ix3 k (((cfg0.win 1).blk t).view.emb y 0) (((cfg0.win 1).blk t).view.emb y 1)) :=
    fun j k => (congrFun (V_main_arg0 m c) _).trans ∘ place _ _ _ j k y (t.val * 512) (by blk_simp [w0]) (by blk_simp [w0]) (by blk_simp [w0])
      (by blk_simp [w1]) (by blk_simp [w1])
  blk_simp
  rw [after0_1]
  unfold out0_1
  rw [Value.canon1_eq]
  refine four _ _ ![_, _, _, _] fun k => ?_
  fin_cases k <;> exact read _ _ ⟨rfl, step _, step _⟩

theorem frame : quiescent_Reference30Ideal (hReference30Ideal := Reference30Ideal.Gen.facts) := fun m ρ _ =>
  (θ_run Reference30Ideal.defs _ _).mono (fun r h => ⟨fun c => (h c).2, sem_eq_zero_of_no_sems (by decide) r.2⟩)
    (Reference30Ideal.Value.run (F := Ideal) m ρ)

theorem algebraic : algebraic_Kernel30Ideal_Reference30Ideal (hKernel30Ideal := Kernel30Ideal.Gen.facts)
    (hReference30Ideal := Reference30Ideal.Gen.facts) := by
  intro m g m' g' _ ha
  refine ⟨_, (θ_run Kernel30Ideal.defs _ _).mono (fun r h c => ⟨(h c).1.trans (final m c), (h c).2⟩) (Kernel30Ideal.Value.run_blocks (F := Ideal) m g),
    (θ_run Reference30Ideal.defs _ _).mono (fun r h c => ?_) (Reference30Ideal.Value.run (F := Ideal) m' g')⟩
  have r0 := (h c).1
  rw [Reference30Ideal.Read.val_main_v1_eq, ha c] at r0
  exact ⟨r0.trans (funext fun i => (Reference30Ideal.Read.val_main_v1_apply _ i).trans (host _ i _ fun k => congrArg _ (eq_ix3 _))), (h c).2⟩

end FfnUp

/-! ## Of the second weight of the feed-forward part -/

namespace FfnDown

open Kernel31Ideal Kernel31Ideal.Gen

variable (m : (ℓ : Loc nD τ sig) → Buf (Elt Ideal) ℓ) (c : Dev nD)

theorem final : (dats m 0 c).arrAt 1 cfg0.N = total (R := 4096) (C := 1024) (m ((c : Thread nD τ).loc main_arg0)) := by
  refine (dats m 0 c).arrAt_eq_of_covers 1 _ (by decide +kernel) fun t hf y => ?_
  have w0 := (by decide +kernel : ∀ t : Fin grid0.N, win0_0.index t = ![0, t.val, 0]) t
  have w1 := (by decide +kernel : ∀ t : Fin grid0.N, win0_1.index t = ![t.val, 0]) t
  have read : ∀ (j : S4x512x1024.Idx) (k : Fin 4), (j 0).val = k.val ∧ (j 1).val = (y 0).val ∧ (j 2).val = (y 1).val →
      iblk m c 0 t j = m ((c : Thread nD τ).loc main_arg0) (ix3 k (((cfg0.win 1).blk t).view.emb y 0) (((cfg0.win 1).blk t).view.emb y 1)) :=
    fun j k => (congrFun (V_main_arg0 m c) _).trans ∘ place _ _ _ j k y (t.val * 512) (by blk_simp [w0]) (by blk_simp [w0]) (by blk_simp [w0])
      (by blk_simp [w1]) (by blk_simp [w1])
  blk_simp
  rw [after0_1]
  unfold out0_1
  rw [Value.canon1_eq]
  refine four _ _ ![_, _, _, _] fun k => ?_
  fin_cases k <;> exact read _ _ ⟨rfl, step _, step _⟩

theorem frame : quiescent_Reference31Ideal (hReference31Ideal := Reference31Ideal.Gen.facts) := fun m ρ _ =>
  (θ_run Reference31Ideal.defs _ _).mono (fun r h => ⟨fun c => (h c).2, sem_eq_zero_of_no_sems (by decide) r.2⟩)
    (Reference31Ideal.Value.run (F := Ideal) m ρ)

theorem algebraic : algebraic_Kernel31Ideal_Reference31Ideal (hKernel31Ideal := Kernel31Ideal.Gen.facts)
    (hReference31Ideal := Reference31Ideal.Gen.facts) := by
  intro m g m' g' _ ha
  refine ⟨_, (θ_run Kernel31Ideal.defs _ _).mono (fun r h c => ⟨(h c).1.trans (final m c), (h c).2⟩) (Kernel31Ideal.Value.run_blocks (F := Ideal) m g),
    (θ_run Reference31Ideal.defs _ _).mono (fun r h c => ?_) (Reference31Ideal.Value.run (F := Ideal) m' g')⟩
  have r0 := (h c).1
  rw [Reference31Ideal.Read.val_main_v1_eq, ha c] at r0
  exact ⟨r0.trans (funext fun i => (Reference31Ideal.Read.val_main_v1_apply _ i).trans (host _ i _ fun k => congrArg _ (eq_ix3 _))), (h c).2⟩

end FfnDown

end ChipSum

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Ref
public import proofs.«01_k».proof.Proof.Run
public import proofs.«01_k».proof.Proof.Finite
public import proofs.«01_k».proof.Proof.FfnRef
public import proofs.«01_k».proof.Proof.FfnRun
public import proofs.«01_k».proof.Proof.FfnFinite
public import proofs.«01_k».proof.Proof.WeightUp
public import proofs.«01_k».proof.Proof.WeightDown
public import proofs.«01_k».proof.Proof.MixRef
public import proofs.«01_k».proof.Proof.MixRun
public import proofs.«01_k».proof.Proof.MixFinite
public import proofs.«01_k».proof.Proof.WeightMain
public import proofs.«01_k».proof.Proof.WeightGate
public import proofs.«01_k».proof.Proof.WeightOut
public import proofs.«01_k».proof.Proof.LossHead
public import proofs.«01_k».proof.Proof.StepWeight
public import proofs.«01_k».proof.Proof.StepSmall
public import proofs.«01_k».proof.Proof.WeightBranchA
public import proofs.«01_k».proof.Proof.WeightBranchB
public import proofs.«01_k».proof.Proof.WeightQUp
public import proofs.«01_k».proof.Proof.WeightKUp
public import proofs.«01_k».proof.Proof.WeightVUp
public import proofs.«01_k».proof.Proof.ChipSum
public import Idealize.ShloMosaic.Adequacy
public import Idealize.ShloMosaic.Init
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read

@[expose] public section

noncomputable section

namespace Cert.Proof

open Idealize.ShloMosaic Idealize.ShloMosaic.TcCoe Idealize.SL.Sem

/-- The reference runs, leaves its arguments as they were and every counter at zero. -/
theorem frame_ri (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => (h c).2.2.2.2,
      Idealize.ShloMosaic.sem_eq_zero_of_no_sems (by decide) r.2⟩)
    (ReferenceIdeal.Value.run (F := Ideal) m ρ)

section Values

variable (m : (ℓ : Loc KernelIdeal.nD KernelIdeal.τ KernelIdeal.sig) → Buf (Elt Ideal) ℓ) (c : Dev KernelIdeal.nD)

/-- Head `h` of the queries, keys, values and upstream gradients, as real matrices. -/
def headQ (h : Fin 8) (r : Fin 8192) (d : Fin 96) : ℝ :=
  EReal.toReal (m ((c : Thread KernelIdeal.nD KernelIdeal.τ).loc KernelIdeal.main_arg0) (ix3 r h d))
def headK (h : Fin 8) (r : Fin 8192) (d : Fin 96) : ℝ :=
  EReal.toReal (m ((c : Thread KernelIdeal.nD KernelIdeal.τ).loc KernelIdeal.main_arg1) (ix3 r h d))
def headV (h : Fin 8) (r : Fin 8192) (d : Fin 64) : ℝ :=
  EReal.toReal (m ((c : Thread KernelIdeal.nD KernelIdeal.τ).loc KernelIdeal.main_arg2) (ix3 r h d))
def headG (h : Fin 8) (r : Fin 8192) (d : Fin 64) : ℝ :=
  EReal.toReal (m ((c : Thread KernelIdeal.nD KernelIdeal.τ).loc KernelIdeal.main_arg3) (ix3 r h d))

/-- Under the precondition the kernels' arguments are the real matrices of the eight heads. -/
theorem kernel_args (hp : Pre_KernelIdeal_finite m) {s : ℝ} (hs : Ideal.ofBits .f32 0x3DD105EC#32 = (s : EReal)) :
    AttentionHost.Args m c s (headQ m c) (headK m c) (headV m c) (headG m c) := by
  obtain ⟨h0, h1, h2, h3⟩ := AttentionFinite.reals _ _ _ _ (hp c)
  exact ⟨fun r h d => h0 _, fun r h d => h1 _, fun r h d => h2 _, fun r h d => h3 _, hs⟩

/-- The same of the reference's arguments. -/
theorem reference_args (hp : Pre_KernelIdeal_finite m) {s : ℝ} (hs : Ideal.ofBits .f32 0x3DD105EC#32 = (s : EReal)) :
    AttentionRef.Args (m ((c : Thread KernelIdeal.nD KernelIdeal.τ).loc KernelIdeal.main_arg0))
      (m ((c : Thread KernelIdeal.nD KernelIdeal.τ).loc KernelIdeal.main_arg1))
      (m ((c : Thread KernelIdeal.nD KernelIdeal.τ).loc KernelIdeal.main_arg2))
      (m ((c : Thread KernelIdeal.nD KernelIdeal.τ).loc KernelIdeal.main_arg3))
      (headQ m c) (headK m c) (headV m c) (headG m c) s := by
  obtain ⟨h0, h1, h2, h3⟩ := AttentionFinite.reals _ _ _ _ (hp c)
  refine ⟨fun i => ?_, fun i => ?_, fun i => ?_, fun i => ?_, hs⟩
  · obtain ⟨r, h, d, rfl⟩ : ∃ (r : Fin 8192) (h : Fin 8) (d : Fin 96), i = ix3 r h d := ⟨_, _, _, eq_ix3 i⟩
    exact h0 _
  · obtain ⟨r, h, d, rfl⟩ : ∃ (r : Fin 8192) (h : Fin 8) (d : Fin 96), i = ix3 r h d := ⟨_, _, _, eq_ix3 i⟩
    exact h1 _
  · obtain ⟨r, h, d, rfl⟩ : ∃ (r : Fin 8192) (h : Fin 8) (d : Fin 64), i = ix3 r h d := ⟨_, _, _, eq_ix3 i⟩
    exact h2 _
  · obtain ⟨r, h, d, rfl⟩ : ∃ (r : Fin 8192) (h : Fin 8) (d : Fin 64), i = ix3 r h d := ⟨_, _, _, eq_ix3 i⟩
    exact h3 _

end Values

/-- Two arrays of three axes are equal if they are equal at every row, head and entry. -/
theorem ext3 {n0 n1 n2 : ℕ} {α : Type} {f g : (⟨3, ![n0, n1, n2]⟩ : Shape).Idx → α}
    (h : ∀ (r : Fin n0) (h : Fin n1) (d : Fin n2), f (ix3 r h d) = g (ix3 r h d)) : f = g := by
  funext i
  rw [eq_ix3 i]
  exact h _ _ _

/-- The kernels' output and gradients are the reference's, from the same finite arguments. -/
theorem algebraic : algebraic_KernelIdeal_ReferenceIdeal_pre_finite (hKernelIdeal := KernelIdeal.Gen.facts)
    (hReferenceIdeal := ReferenceIdeal.Gen.facts) (hPre_finite := Pre_finite.Gen.facts) := by
  intro m g m' g' hp ha
  obtain ⟨s, hs⟩ := AttentionFinite.scale_real
  refine ⟨_, _, _, _, AttentionRun.run m g, ?_⟩
  refine (θ_run ReferenceIdeal.defs _ _).mono (fun r h c => ?_) (ReferenceIdeal.Value.run (F := Ideal) m' g')
  obtain ⟨r0, r1, r2, r3, hargs⟩ := h c
  obtain ⟨a0, a1, a2, a3⟩ := ha c
  have HK := kernel_args m c hp hs
  have HR := reference_args m c hp hs
  refine ⟨r0.trans ?_, r1.trans ?_, r2.trans ?_, r3.trans ?_, hargs⟩
  · rw [ReferenceIdeal.Read.val_main_v32_eq, a0, a1, a2]
    exact ext3 fun r h d => (AttentionRef.output HR _).trans (AttentionHost.result_y HK r h d).symm
  · rw [ReferenceIdeal.Read.val_main_v54_eq, a0, a1, a2, a3]
    exact ext3 fun r h d => (AttentionRef.queries HR _).trans (AttentionHost.result_dq HK r h d).symm
  · rw [ReferenceIdeal.Read.val_main_v52_eq, a0, a1, a2, a3]
    exact ext3 fun r h d => (AttentionRef.keys HR _).trans (AttentionHost.result_dk HK r h d).symm
  · rw [ReferenceIdeal.Read.val_main_v36_eq, a0, a1, a3]
    exact ext3 fun r h d => (AttentionRef.values HR _).trans (AttentionHost.result_dv HK r h d).symm

/-- The layer's reference runs, leaves its arguments as they were and every counter at zero. -/
theorem frame_ri2 (m : (ℓ : Loc Reference2Ideal.nD Reference2Ideal.τ Reference2Ideal.sig) → Buf (Elt Ideal) ℓ)
    (ρ : Dev Reference2Ideal.nD → PrngReg) :
    θ_run (Reference2Ideal.defs (F := Ideal)) (onTc (τ := Reference2Ideal.τ) (Reference2Ideal.main (F := Ideal))) ⟨m, fun _ => 0, ρ⟩
      (fun r => (∀ c : Dev Reference2Ideal.nD,
        r.2.mem ((c.tc : Thread Reference2Ideal.nD Reference2Ideal.τ).loc Reference2Ideal.main_arg0) = m ((c.tc : Thread Reference2Ideal.nD Reference2Ideal.τ).loc Reference2Ideal.main_arg0)
        ∧ r.2.mem ((c.tc : Thread Reference2Ideal.nD Reference2Ideal.τ).loc Reference2Ideal.main_arg1) = m ((c.tc : Thread Reference2Ideal.nD Reference2Ideal.τ).loc Reference2Ideal.main_arg1)
        ∧ r.2.mem ((c.tc : Thread Reference2Ideal.nD Reference2Ideal.τ).loc Reference2Ideal.main_arg2) = m ((c.tc : Thread Reference2Ideal.nD Reference2Ideal.τ).loc Reference2Ideal.main_arg2)
        ∧ r.2.mem ((c.tc : Thread Reference2Ideal.nD Reference2Ideal.τ).loc Reference2Ideal.main_arg3) = m ((c.tc : Thread Reference2Ideal.nD Reference2Ideal.τ).loc Reference2Ideal.main_arg3)
        ∧ r.2.mem ((c.tc : Thread Reference2Ideal.nD Reference2Ideal.τ).loc Reference2Ideal.main_arg4) = m ((c.tc : Thread Reference2Ideal.nD Reference2Ideal.τ).loc Reference2Ideal.main_arg4)
        ∧ r.2.mem ((c.tc : Thread Reference2Ideal.nD Reference2Ideal.τ).loc Reference2Ideal.main_arg5) = m ((c.tc : Thread Reference2Ideal.nD Reference2Ideal.τ).loc Reference2Ideal.main_arg5))
      ∧ r.2.sem = fun _ => 0) :=
  (θ_run Reference2Ideal.defs _ _).mono (fun r h => ⟨fun c => (h c).2.2.2.2,
      Idealize.ShloMosaic.sem_eq_zero_of_no_sems (by decide) r.2⟩)
    (Reference2Ideal.Value.run (F := Ideal) m ρ)

section Layer

variable (m : (ℓ : Loc Kernel2Ideal.nD Kernel2Ideal.τ Kernel2Ideal.sig) → Buf (Elt Ideal) ℓ) (c : Dev Kernel2Ideal.nD)

/-- The layer's arguments as real matrices and vectors. -/
def rowsX (r : Fin 8192) (l : Fin 1024) : ℝ := EReal.toReal (m ((c : Thread Kernel2Ideal.nD Kernel2Ideal.τ).loc Kernel2Ideal.main_arg0) (ix2 r l))
def gainIn (l : Fin 1024) : ℝ := EReal.toReal (m ((c : Thread Kernel2Ideal.nD Kernel2Ideal.τ).loc Kernel2Ideal.main_arg1) (ix1 l))
def weightUp (l : Fin 1024) (j : Fin 4096) : ℝ := EReal.toReal (m ((c : Thread Kernel2Ideal.nD Kernel2Ideal.τ).loc Kernel2Ideal.main_arg2) (ix2 l j))
def weightDown (j : Fin 4096) (l : Fin 1024) : ℝ := EReal.toReal (m ((c : Thread Kernel2Ideal.nD Kernel2Ideal.τ).loc Kernel2Ideal.main_arg3) (ix2 j l))
def gainOut (l : Fin 1024) : ℝ := EReal.toReal (m ((c : Thread Kernel2Ideal.nD Kernel2Ideal.τ).loc Kernel2Ideal.main_arg4) (ix1 l))
def rowsD (r : Fin 8192) (l : Fin 1024) : ℝ := EReal.toReal (m ((c : Thread Kernel2Ideal.nD Kernel2Ideal.τ).loc Kernel2Ideal.main_arg5) (ix2 r l))

/-- A matrix is read at the two parts of its place. -/
theorem at_pair {a b : ℕ} (x : (⟨2, ![a, b]⟩ : Shape).Idx → EReal) (h : ∀ i, x i = (((x i).toReal : ℝ) : EReal)) (i : (⟨2, ![a, b]⟩ : Shape).Idx) :
    x i = (((x (ix2 (n0 := a) (n1 := b) (i 0) (i 1))).toReal : ℝ) : EReal) := (h i).trans (by rw [← eq_ix2 i])

theorem at_single {a : ℕ} (x : (⟨1, ![a]⟩ : Shape).Idx → EReal) (h : ∀ i, x i = (((x i).toReal : ℝ) : EReal)) (i : (⟨1, ![a]⟩ : Shape).Idx) :
    x i = (((x (ix1 (n0 := a) (i 0))).toReal : ℝ) : EReal) := (h i).trans (by rw [← eq_ix1 i])

/-- Under the precondition the layer's arguments are those reals. -/
theorem layer_args (hp : Pre_Kernel2Ideal_finite2 m) :
    FfnHost.Args m c (rowsX m c) (gainIn m c) (weightUp m c) (weightDown m c) (gainOut m c) (rowsD m c) := by
  obtain ⟨h0, h1, h2, h3, h4, h5⟩ := FfnFinite.reals _ _ _ _ _ _ (hp c)
  exact ⟨funext (at_pair _ h0), funext (at_single _ h1), funext (at_pair _ h2), funext (at_pair _ h3), funext (at_single _ h4), funext (at_pair _ h5)⟩

/-- The same of the reference's arguments. -/
theorem layer_reference_args (hp : Pre_Kernel2Ideal_finite2 m) :
    FfnRef.Args (m ((c : Thread Kernel2Ideal.nD Kernel2Ideal.τ).loc Kernel2Ideal.main_arg0))
      (m ((c : Thread Kernel2Ideal.nD Kernel2Ideal.τ).loc Kernel2Ideal.main_arg1))
      (m ((c : Thread Kernel2Ideal.nD Kernel2Ideal.τ).loc Kernel2Ideal.main_arg2))
      (m ((c : Thread Kernel2Ideal.nD Kernel2Ideal.τ).loc Kernel2Ideal.main_arg3))
      (m ((c : Thread Kernel2Ideal.nD Kernel2Ideal.τ).loc Kernel2Ideal.main_arg4))
      (m ((c : Thread Kernel2Ideal.nD Kernel2Ideal.τ).loc Kernel2Ideal.main_arg5))
      (rowsX m c) (gainIn m c) (weightUp m c) (weightDown m c) (gainOut m c) (rowsD m c) := by
  obtain ⟨h0, h1, h2, h3, h4, h5⟩ := FfnFinite.reals _ _ _ _ _ _ (hp c)
  exact ⟨at_pair _ h0, at_single _ h1, at_pair _ h2, at_pair _ h3, at_single _ h4, at_pair _ h5⟩

end Layer

/-- The layer's output and gradients are the reference's, from the same finite arguments. -/
theorem algebraic2 : algebraic_Kernel2Ideal_Reference2Ideal_pre_finite2 (hKernel2Ideal := Kernel2Ideal.Gen.facts)
    (hReference2Ideal := Reference2Ideal.Gen.facts) (hPre_finite2 := Pre_finite2.Gen.facts) := by
  intro m g m' g' hp ha
  obtain ⟨ε, C⟩ := FfnSpec.consts
  refine ⟨_, _, _, _, FfnRun.run m g, ?_⟩
  refine (θ_run Reference2Ideal.defs _ _).mono (fun r h c => ?_) (Reference2Ideal.Value.run (F := Ideal) m' g')
  obtain ⟨r0, r1, r2, r3, hargs⟩ := h c
  obtain ⟨a0, a1, a2, a3, a4, a5⟩ := ha c
  have HK := layer_args m c hp
  have HR : FfnRef.Args (m' ((c : Thread Reference2Ideal.nD Reference2Ideal.τ).loc Reference2Ideal.main_arg0))
      (m' ((c : Thread Reference2Ideal.nD Reference2Ideal.τ).loc Reference2Ideal.main_arg1))
      (m' ((c : Thread Reference2Ideal.nD Reference2Ideal.τ).loc Reference2Ideal.main_arg2))
      (m' ((c : Thread Reference2Ideal.nD Reference2Ideal.τ).loc Reference2Ideal.main_arg3))
      (m' ((c : Thread Reference2Ideal.nD Reference2Ideal.τ).loc Reference2Ideal.main_arg4))
      (m' ((c : Thread Reference2Ideal.nD Reference2Ideal.τ).loc Reference2Ideal.main_arg5))
      (rowsX m c) (gainIn m c) (weightUp m c) (weightDown m c) (gainOut m c) (rowsD m c) := by
    rw [a0, a1, a2, a3, a4, a5]
    exact layer_reference_args m c hp
  refine ⟨r0.trans ?_, r1.trans ?_, r2.trans ?_, r3.trans ?_, hargs⟩
  · refine (Reference2Ideal.Read.val_main_v41_eq (StableHlo.launchContents m' c)).trans ?_
    exact (funext fun i => FfnRef.rows C HR i).trans (FfnHost.result_y g C HK).symm
  · refine (Reference2Ideal.Read.val_main_v88_eq (StableHlo.launchContents m' c)).trans ?_
    exact (funext fun i => FfnRef.grads C HR i).trans (FfnHost.result_dx g C HK).symm
  · refine (Reference2Ideal.Read.val_main_v73_eq (StableHlo.launchContents m' c)).trans ?_
    exact (funext fun i => FfnRef.gain3 C HR i).trans (FfnHost.result_g3 g C HK).symm
  · refine (Reference2Ideal.Read.val_main_v48_eq (StableHlo.launchContents m' c)).trans ?_
    exact (funext fun i => FfnRef.gain4 C HR i).trans (FfnHost.result_g4 g C HK).symm

/-- The merge's reference runs, leaves its arguments as they were and every counter at zero. -/
theorem frame_ri5 (m : (ℓ : Loc Reference5Ideal.nD Reference5Ideal.τ Reference5Ideal.sig) → Buf (Elt Ideal) ℓ)
    (ρ : Dev Reference5Ideal.nD → PrngReg) :
    θ_run (Reference5Ideal.defs (F := Ideal)) (onTc (τ := Reference5Ideal.τ) (Reference5Ideal.main (F := Ideal))) ⟨m, fun _ => 0, ρ⟩
      (fun r => (∀ c : Dev Reference5Ideal.nD,
        r.2.mem ((c.tc : Thread Reference5Ideal.nD Reference5Ideal.τ).loc Reference5Ideal.main_arg0) = m ((c.tc : Thread Reference5Ideal.nD Reference5Ideal.τ).loc Reference5Ideal.main_arg0)
        ∧ r.2.mem ((c.tc : Thread Reference5Ideal.nD Reference5Ideal.τ).loc Reference5Ideal.main_arg1) = m ((c.tc : Thread Reference5Ideal.nD Reference5Ideal.τ).loc Reference5Ideal.main_arg1)
        ∧ r.2.mem ((c.tc : Thread Reference5Ideal.nD Reference5Ideal.τ).loc Reference5Ideal.main_arg2) = m ((c.tc : Thread Reference5Ideal.nD Reference5Ideal.τ).loc Reference5Ideal.main_arg2)
        ∧ r.2.mem ((c.tc : Thread Reference5Ideal.nD Reference5Ideal.τ).loc Reference5Ideal.main_arg3) = m ((c.tc : Thread Reference5Ideal.nD Reference5Ideal.τ).loc Reference5Ideal.main_arg3)
        ∧ r.2.mem ((c.tc : Thread Reference5Ideal.nD Reference5Ideal.τ).loc Reference5Ideal.main_arg4) = m ((c.tc : Thread Reference5Ideal.nD Reference5Ideal.τ).loc Reference5Ideal.main_arg4)
        ∧ r.2.mem ((c.tc : Thread Reference5Ideal.nD Reference5Ideal.τ).loc Reference5Ideal.main_arg5) = m ((c.tc : Thread Reference5Ideal.nD Reference5Ideal.τ).loc Reference5Ideal.main_arg5)
        ∧ r.2.mem ((c.tc : Thread Reference5Ideal.nD Reference5Ideal.τ).loc Reference5Ideal.main_arg6) = m ((c.tc : Thread Reference5Ideal.nD Reference5Ideal.τ).loc Reference5Ideal.main_arg6)
        ∧ r.2.mem ((c.tc : Thread Reference5Ideal.nD Reference5Ideal.τ).loc Reference5Ideal.main_arg7) = m ((c.tc : Thread Reference5Ideal.nD Reference5Ideal.τ).loc Reference5Ideal.main_arg7)
        ∧ r.2.mem ((c.tc : Thread Reference5Ideal.nD Reference5Ideal.τ).loc Reference5Ideal.main_arg8) = m ((c.tc : Thread Reference5Ideal.nD Reference5Ideal.τ).loc Reference5Ideal.main_arg8)
        ∧ r.2.mem ((c.tc : Thread Reference5Ideal.nD Reference5Ideal.τ).loc Reference5Ideal.main_arg9) = m ((c.tc : Thread Reference5Ideal.nD Reference5Ideal.τ).loc Reference5Ideal.main_arg9)
        ∧ r.2.mem ((c.tc : Thread Reference5Ideal.nD Reference5Ideal.τ).loc Reference5Ideal.main_arg10) = m ((c.tc : Thread Reference5Ideal.nD Reference5Ideal.τ).loc Reference5Ideal.main_arg10)
        ∧ r.2.mem ((c.tc : Thread Reference5Ideal.nD Reference5Ideal.τ).loc Reference5Ideal.main_arg11) = m ((c.tc : Thread Reference5Ideal.nD Reference5Ideal.τ).loc Reference5Ideal.main_arg11)
        ∧ r.2.mem ((c.tc : Thread Reference5Ideal.nD Reference5Ideal.τ).loc Reference5Ideal.main_arg12) = m ((c.tc : Thread Reference5Ideal.nD Reference5Ideal.τ).loc Reference5Ideal.main_arg12))
      ∧ r.2.sem = fun _ => 0) :=
  (θ_run Reference5Ideal.defs _ _).mono (fun r h => ⟨fun c => (h c).2.2.2.2.2.2.2.2,
      Idealize.ShloMosaic.sem_eq_zero_of_no_sems (by decide) r.2⟩)
    (Reference5Ideal.Value.run (F := Ideal) m ρ)

/-- The merge's output and gradients are the reference's, from the same finite arguments. -/
theorem algebraic5 : algebraic_Kernel5Ideal_Reference5Ideal_pre_finite5 (hKernel5Ideal := Kernel5Ideal.Gen.facts)
    (hReference5Ideal := Reference5Ideal.Gen.facts) (hPre_finite5 := Pre_finite5.Gen.facts) := by
  intro m g m' g' hp ha
  obtain ⟨ε, C⟩ := FfnSpec.consts
  refine ⟨_, _, _, _, _, _, _, _, MixRun.run m g, ?_⟩
  refine (θ_run Reference5Ideal.defs _ _).mono (fun r h c => ?_) (Reference5Ideal.Value.run (F := Ideal) m' g')
  obtain ⟨r0, r1, r2, r3, r4, r5, r6, r7, hargs⟩ := h c
  obtain ⟨a0, a1, a2, a3, a4, a5, a6, a7, a8, a9, a10, a11, a12⟩ := ha c
  have H := MixFinite.args _ _ _ _ _ _ _ _ _ _ _ _ _ (hp c)
  have HK : MixHost.Args m c (MixFinite.matOf (m ((c : Thread Kernel5Ideal.nD Kernel5Ideal.τ).loc Kernel5Ideal.main_arg0)))
      (MixFinite.vecOf (m ((c : Thread Kernel5Ideal.nD Kernel5Ideal.τ).loc Kernel5Ideal.main_arg1)))
      (MixFinite.matOf (m ((c : Thread Kernel5Ideal.nD Kernel5Ideal.τ).loc Kernel5Ideal.main_arg2)))
      (MixFinite.matOf (m ((c : Thread Kernel5Ideal.nD Kernel5Ideal.τ).loc Kernel5Ideal.main_arg3)))
      (MixFinite.vecOf (m ((c : Thread Kernel5Ideal.nD Kernel5Ideal.τ).loc Kernel5Ideal.main_arg4)))
      (MixFinite.matOf (m ((c : Thread Kernel5Ideal.nD Kernel5Ideal.τ).loc Kernel5Ideal.main_arg5)))
      (MixFinite.matOf (m ((c : Thread Kernel5Ideal.nD Kernel5Ideal.τ).loc Kernel5Ideal.main_arg6)))
      (MixFinite.matOf (m ((c : Thread Kernel5Ideal.nD Kernel5Ideal.τ).loc Kernel5Ideal.main_arg7)))
      (MixFinite.matOf (m ((c : Thread Kernel5Ideal.nD Kernel5Ideal.τ).loc Kernel5Ideal.main_arg8)))
      (MixFinite.matOf (m ((c : Thread Kernel5Ideal.nD Kernel5Ideal.τ).loc Kernel5Ideal.main_arg9)))
      (MixFinite.vecOf (m ((c : Thread Kernel5Ideal.nD Kernel5Ideal.τ).loc Kernel5Ideal.main_arg10)))
      (MixFinite.matOf (m ((c : Thread Kernel5Ideal.nD Kernel5Ideal.τ).loc Kernel5Ideal.main_arg11)))
      (MixFinite.matOf (m ((c : Thread Kernel5Ideal.nD Kernel5Ideal.τ).loc Kernel5Ideal.main_arg12))) :=
    ⟨funext H.x, funext H.g1, funext H.w, funext H.g, funext H.b, funext H.ya, funext H.yb, funext H.wa, funext H.wb, funext H.wo,
      funext H.g2, funext H.dz, funext H.d⟩
  have HR : MixRef.Args (m' ((c : Thread Reference5Ideal.nD Reference5Ideal.τ).loc Reference5Ideal.main_arg0)) (m' ((c : Thread Reference5Ideal.nD Reference5Ideal.τ).loc Reference5Ideal.main_arg1))
      (m' ((c : Thread Reference5Ideal.nD Reference5Ideal.τ).loc Reference5Ideal.main_arg2)) (m' ((c : Thread Reference5Ideal.nD Reference5Ideal.τ).loc Reference5Ideal.main_arg3))
      (m' ((c : Thread Reference5Ideal.nD Reference5Ideal.τ).loc Reference5Ideal.main_arg4)) (m' ((c : Thread Reference5Ideal.nD Reference5Ideal.τ).loc Reference5Ideal.main_arg5))
      (m' ((c : Thread Reference5Ideal.nD Reference5Ideal.τ).loc Reference5Ideal.main_arg6)) (m' ((c : Thread Reference5Ideal.nD Reference5Ideal.τ).loc Reference5Ideal.main_arg7))
      (m' ((c : Thread Reference5Ideal.nD Reference5Ideal.τ).loc Reference5Ideal.main_arg8)) (m' ((c : Thread Reference5Ideal.nD Reference5Ideal.τ).loc Reference5Ideal.main_arg9))
      (m' ((c : Thread Reference5Ideal.nD Reference5Ideal.τ).loc Reference5Ideal.main_arg10)) (m' ((c : Thread Reference5Ideal.nD Reference5Ideal.τ).loc Reference5Ideal.main_arg11)) (m' ((c : Thread Reference5Ideal.nD Reference5Ideal.τ).loc Reference5Ideal.main_arg12))
      (MixFinite.matOf (m ((c : Thread Kernel5Ideal.nD Kernel5Ideal.τ).loc Kernel5Ideal.main_arg0)))
      (MixFinite.vecOf (m ((c : Thread Kernel5Ideal.nD Kernel5Ideal.τ).loc Kernel5Ideal.main_arg1)))
      (MixFinite.matOf (m ((c : Thread Kernel5Ideal.nD Kernel5Ideal.τ).loc Kernel5Ideal.main_arg2)))
      (MixFinite.matOf (m ((c : Thread Kernel5Ideal.nD Kernel5Ideal.τ).loc Kernel5Ideal.main_arg3)))
      (MixFinite.vecOf (m ((c : Thread Kernel5Ideal.nD Kernel5Ideal.τ).loc Kernel5Ideal.main_arg4)))
      (MixFinite.matOf (m ((c : Thread Kernel5Ideal.nD Kernel5Ideal.τ).loc Kernel5Ideal.main_arg5)))
      (MixFinite.matOf (m ((c : Thread Kernel5Ideal.nD Kernel5Ideal.τ).loc Kernel5Ideal.main_arg6)))
      (MixFinite.matOf (m ((c : Thread Kernel5Ideal.nD Kernel5Ideal.τ).loc Kernel5Ideal.main_arg7)))
      (MixFinite.matOf (m ((c : Thread Kernel5Ideal.nD Kernel5Ideal.τ).loc Kernel5Ideal.main_arg8)))
      (MixFinite.matOf (m ((c : Thread Kernel5Ideal.nD Kernel5Ideal.τ).loc Kernel5Ideal.main_arg9)))
      (MixFinite.vecOf (m ((c : Thread Kernel5Ideal.nD Kernel5Ideal.τ).loc Kernel5Ideal.main_arg10)))
      (MixFinite.matOf (m ((c : Thread Kernel5Ideal.nD Kernel5Ideal.τ).loc Kernel5Ideal.main_arg11)))
      (MixFinite.matOf (m ((c : Thread Kernel5Ideal.nD Kernel5Ideal.τ).loc Kernel5Ideal.main_arg12))) := by
    rw [a0, a1, a2, a3, a4, a5, a6, a7, a8, a9, a10, a11, a12]
    exact H
  refine ⟨r0.trans ?_, r1.trans ?_, r2.trans ?_, r3.trans ?_, r4.trans ?_, r5.trans ?_, r6.trans ?_, r7.trans ?_, hargs⟩
  · refine (Reference5Ideal.Read.val_main_v36_eq (StableHlo.launchContents m' c)).trans ?_
    exact (funext fun i => MixRef.main C HR i).trans (MixHost.result_z g C HK).symm
  · refine (Reference5Ideal.Read.val_main_v54_eq (StableHlo.launchContents m' c)).trans ?_
    exact (funext fun i => MixRef.rows C HR i).trans (MixHost.result_y g C HK).symm
  · refine (Reference5Ideal.Read.val_main_v113_eq (StableHlo.launchContents m' c)).trans ?_
    exact (funext fun i => MixRef.grads C HR i).trans (MixHost.result_dx g C HK).symm
  · refine (Reference5Ideal.Read.val_main_v98_eq (StableHlo.launchContents m' c)).trans ?_
    exact (funext fun i => MixRef.gain1 C HR i).trans (MixHost.result_g1 g C HK).symm
  · refine (Reference5Ideal.Read.val_main_v90_eq (StableHlo.launchContents m' c)).trans ?_
    exact (funext fun i => MixRef.bias C HR i).trans (MixHost.result_c g C HK).symm
  · refine (Reference5Ideal.Read.val_main_v114_eq (StableHlo.launchContents m' c)).trans ?_
    exact (funext fun i => MixRef.grada C HR i).trans (MixHost.result_a g C HK).symm
  · refine (Reference5Ideal.Read.val_main_v115_eq (StableHlo.launchContents m' c)).trans ?_
    exact (funext fun i => MixRef.gradb C HR i).trans (MixHost.result_b g C HK).symm
  · refine (Reference5Ideal.Read.val_main_v61_eq (StableHlo.launchContents m' c)).trans ?_
    exact (funext fun i => MixRef.gain2 C HR i).trans (MixHost.result_g2 g C HK).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Kernel20.Gen.facts,
    Cert.Kernel20Ideal.Gen.facts, Cert.Reference20Ideal.Gen.facts, Cert.Kernel21.Gen.facts,
    Cert.Kernel21Ideal.Gen.facts, Cert.Reference21Ideal.Gen.facts, Cert.Kernel22.Gen.facts,
    Cert.Kernel22Ideal.Gen.facts, Cert.Reference22Ideal.Gen.facts, Cert.Kernel23.Gen.facts,
    Cert.Kernel23Ideal.Gen.facts, Cert.Reference23Ideal.Gen.facts, Cert.Kernel24.Gen.facts,
    Cert.Kernel24Ideal.Gen.facts, Cert.Reference24Ideal.Gen.facts, Cert.Kernel25.Gen.facts,
    Cert.Kernel25Ideal.Gen.facts, Cert.Reference25Ideal.Gen.facts, Cert.Kernel26.Gen.facts,
    Cert.Kernel26Ideal.Gen.facts, Cert.Reference26Ideal.Gen.facts, Cert.Kernel27.Gen.facts,
    Cert.Kernel27Ideal.Gen.facts, Cert.Reference27Ideal.Gen.facts, Cert.Kernel28.Gen.facts,
    Cert.Kernel28Ideal.Gen.facts, Cert.Reference28Ideal.Gen.facts, Cert.Kernel29.Gen.facts,
    Cert.Kernel29Ideal.Gen.facts, Cert.Reference29Ideal.Gen.facts, Cert.Kernel30.Gen.facts,
    Cert.Kernel30Ideal.Gen.facts, Cert.Reference30Ideal.Gen.facts, Cert.Kernel31.Gen.facts,
    Cert.Kernel31Ideal.Gen.facts, Cert.Reference31Ideal.Gen.facts, Cert.Pre_finite.Gen.facts, Cert.Pre_finite2.Gen.facts, Cert.Pre_finite5.Gen.facts,
    fun m ρ _ => Cert.Kernel.Gen.frame m ρ, fun m ρ _ => Cert.KernelIdeal.Gen.frame m ρ,
    fun m ρ _ => Cert.KernelIdeal.Gen.frame m ρ, fun m ρ _ => frame_ri m ρ, fun m ρ _ => frame_ri m ρ,
    fun m ρ _ => Cert.Kernel2.Gen.frame m ρ, fun m ρ _ => Cert.Kernel2Ideal.Gen.frame m ρ,
    fun m ρ _ => Cert.Kernel2Ideal.Gen.frame m ρ, fun m ρ _ => frame_ri2 m ρ, fun m ρ _ => frame_ri2 m ρ,
    fun m ρ _ => Cert.Kernel3.Gen.frame m ρ, fun m ρ _ => Cert.Kernel3Ideal.Gen.frame m ρ, fun m ρ _ => WeightUp.frame_reference m ρ,
    fun m ρ _ => Cert.Kernel4.Gen.frame m ρ, fun m ρ _ => Cert.Kernel4Ideal.Gen.frame m ρ, fun m ρ _ => WeightDown.frame_reference m ρ,
    fun m ρ _ => Cert.Kernel5.Gen.frame m ρ, fun m ρ _ => Cert.Kernel5Ideal.Gen.frame m ρ,
    fun m ρ _ => Cert.Kernel5Ideal.Gen.frame m ρ, fun m ρ _ => frame_ri5 m ρ, fun m ρ _ => frame_ri5 m ρ,
    fun m ρ _ => Cert.Kernel6.Gen.frame m ρ, fun m ρ _ => Cert.Kernel6Ideal.Gen.frame m ρ, fun m ρ _ => WeightMain.frame_reference m ρ,
    fun m ρ _ => Cert.Kernel7.Gen.frame m ρ, fun m ρ _ => Cert.Kernel7Ideal.Gen.frame m ρ, fun m ρ _ => WeightGate.frame_reference m ρ,
    fun m ρ _ => Cert.Kernel8.Gen.frame m ρ, fun m ρ _ => Cert.Kernel8Ideal.Gen.frame m ρ, fun m ρ _ => WeightOut.frame_reference m ρ,
    fun m ρ _ => Cert.Kernel9.Gen.frame m ρ, fun m ρ _ => Cert.Kernel9Ideal.Gen.frame m ρ, fun m ρ _ => LossHead.frame_reference m ρ,
    fun m ρ _ => Cert.Kernel10.Gen.frame m ρ, fun m ρ _ => Cert.Kernel10Ideal.Gen.frame m ρ, StepWeight.frame_ffn_up,
    fun m ρ _ => Cert.Kernel11.Gen.frame m ρ, fun m ρ _ => Cert.Kernel11Ideal.Gen.frame m ρ, fun m ρ _ => StepSmall.frame_reference m ρ,
    fun m ρ _ => Cert.Kernel12.Gen.frame m ρ, fun m ρ _ => Cert.Kernel12Ideal.Gen.frame m ρ, StepWeight.frame_in,
    fun m ρ _ => Cert.Kernel13.Gen.frame m ρ, fun m ρ _ => Cert.Kernel13Ideal.Gen.frame m ρ, StepWeight.frame_q_up,
    fun m ρ _ => Cert.Kernel14.Gen.frame m ρ, fun m ρ _ => Cert.Kernel14Ideal.Gen.frame m ρ, StepWeight.frame_kv_up,
    fun m ρ _ => Cert.Kernel15.Gen.frame m ρ, fun m ρ _ => Cert.Kernel15Ideal.Gen.frame m ρ, StepWeight.frame_branch_a,
    fun m ρ _ => Cert.Kernel16.Gen.frame m ρ, fun m ρ _ => Cert.Kernel16Ideal.Gen.frame m ρ, StepWeight.frame_branch_b,
    fun m ρ _ => Cert.Kernel17.Gen.frame m ρ, fun m ρ _ => Cert.Kernel17Ideal.Gen.frame m ρ, StepWeight.frame_o,
    fun m ρ _ => Cert.Kernel18.Gen.frame m ρ, fun m ρ _ => Cert.Kernel18Ideal.Gen.frame m ρ, StepWeight.frame_ffn_down,
    fun m ρ _ => Cert.Kernel19.Gen.frame m ρ, fun m ρ _ => Cert.Kernel19Ideal.Gen.frame m ρ, WeightBranchA.frame_reference,
    fun m ρ _ => Cert.Kernel20.Gen.frame m ρ, fun m ρ _ => Cert.Kernel20Ideal.Gen.frame m ρ, WeightBranchB.frame_reference,
    fun m ρ _ => Cert.Kernel21.Gen.frame m ρ, fun m ρ _ => Cert.Kernel21Ideal.Gen.frame m ρ, WeightQUp.frame_reference,
    fun m ρ _ => Cert.Kernel22.Gen.frame m ρ, fun m ρ _ => Cert.Kernel22Ideal.Gen.frame m ρ, WeightKUp.frame_reference,
    fun m ρ _ => Cert.Kernel23.Gen.frame m ρ, fun m ρ _ => Cert.Kernel23Ideal.Gen.frame m ρ, WeightVUp.frame_reference,
    fun m ρ _ => Cert.Kernel24.Gen.frame m ρ, fun m ρ _ => Cert.Kernel24Ideal.Gen.frame m ρ, ChipSum.In.frame,
    fun m ρ _ => Cert.Kernel25.Gen.frame m ρ, fun m ρ _ => Cert.Kernel25Ideal.Gen.frame m ρ, ChipSum.QUp.frame,
    fun m ρ _ => Cert.Kernel26.Gen.frame m ρ, fun m ρ _ => Cert.Kernel26Ideal.Gen.frame m ρ, ChipSum.KvUp.frame,
    fun m ρ _ => Cert.Kernel27.Gen.frame m ρ, fun m ρ _ => Cert.Kernel27Ideal.Gen.frame m ρ, ChipSum.BranchA.frame,
    fun m ρ _ => Cert.Kernel28.Gen.frame m ρ, fun m ρ _ => Cert.Kernel28Ideal.Gen.frame m ρ, ChipSum.BranchB.frame,
    fun m ρ _ => Cert.Kernel29.Gen.frame m ρ, fun m ρ _ => Cert.Kernel29Ideal.Gen.frame m ρ, ChipSum.Out.frame,
    fun m ρ _ => Cert.Kernel30.Gen.frame m ρ, fun m ρ _ => Cert.Kernel30Ideal.Gen.frame m ρ, ChipSum.FfnUp.frame,
    fun m ρ _ => Cert.Kernel31.Gen.frame m ρ, fun m ρ _ => Cert.Kernel31Ideal.Gen.frame m ρ, ChipSum.FfnDown.frame,
    ⟨IdealRules.named_const.statement Cert.KernelIdeal.κ "inv_ln2" .f32 0x3FB8AA3B#32 _ rfl,
      IdealRules.named_const.statement Cert.KernelIdeal.κ "ln2" .f32 0x3F317218#32 _ rfl⟩,
    algebraic, trivial, algebraic2, trivial, WeightUp.algebraic, trivial, WeightDown.algebraic, trivial, algebraic5,
    trivial, WeightMain.algebraic, trivial, WeightGate.algebraic, trivial, WeightOut.algebraic,
    trivial, LossHead.algebraic, trivial, StepWeight.step_ffn_up, trivial, StepSmall.algebraic,
    trivial, StepWeight.step_in, trivial, StepWeight.step_q_up, trivial, StepWeight.step_kv_up, trivial, StepWeight.step_branch_a,
    trivial, StepWeight.step_branch_b, trivial, StepWeight.step_o, trivial, StepWeight.step_ffn_down, trivial, WeightBranchA.algebraic,
    trivial, WeightBranchB.algebraic, trivial, WeightQUp.algebraic, trivial, WeightKUp.algebraic, trivial, WeightVUp.algebraic,
    trivial, ChipSum.In.algebraic, trivial, ChipSum.QUp.algebraic, trivial, ChipSum.KvUp.algebraic, trivial, ChipSum.BranchA.algebraic,
    trivial, ChipSum.BranchB.algebraic, trivial, ChipSum.Out.algebraic, trivial, ChipSum.FfnUp.algebraic, trivial, ChipSum.FfnDown.algebraic⟩

end Cert.Proof

end
